-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjReferenceIdeal (m : (ℓ : Loc Cert.InProjReferenceIdeal.nD Cert.InProjReferenceIdeal.τ Cert.InProjReferenceIdeal.sig) → Buf (Elt Ideal) ℓ) : Prop :=
  True

def Pre_InProjSample (m : (ℓ : Loc Cert.InProjSample.nD Cert.InProjSample.τ Cert.InProjSample.sig) → Buf (Elt Bits) ℓ) : Prop :=
  True

def Pre_InProjSampleIdeal (m : (ℓ : Loc Cert.InProjSampleIdeal.nD Cert.InProjSampleIdeal.τ Cert.InProjSampleIdeal.sig) → Buf (Elt Ideal) ℓ) : Prop :=
  True

def Pre_InProjSampleReferenceIdeal (m : (ℓ : Loc Cert.InProjSampleReferenceIdeal.nD Cert.InProjSampleReferenceIdeal.τ Cert.InProjSampleReferenceIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleReferenceIdeal (m : (ℓ : Loc Cert.FfnSampleReferenceIdeal.nD Cert.FfnSampleReferenceIdeal.τ Cert.FfnSampleReferenceIdeal.sig) → Buf (Elt Ideal) ℓ) : Prop :=
  True

def Pre_RetSample (m : (ℓ : Loc Cert.RetSample.nD Cert.RetSample.τ Cert.RetSample.sig) → Buf (Elt Bits) ℓ) : Prop :=
  True

def Pre_RetSampleIdeal (m : (ℓ : Loc Cert.RetSampleIdeal.nD Cert.RetSampleIdeal.τ Cert.RetSampleIdeal.sig) → Buf (Elt Ideal) ℓ) : Prop :=
  True

def Pre_RetSampleReferenceIdeal (m : (ℓ : Loc Cert.RetSampleReferenceIdeal.nD Cert.RetSampleReferenceIdeal.τ Cert.RetSampleReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7)
      ∧ r.2.mem ((c.tc : Thread Cert.FfnReferenceIdeal.nD Cert.FfnReferenceIdeal.τ).loc Cert.FfnReferenceIdeal.main_arg8) = m ((c.tc : Thread Cert.FfnReferenceIdeal.nD Cert.FfnReferenceIdeal.τ).loc Cert.FfnReferenceIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjReferenceIdeal [hInProjReferenceIdeal : Cert.InProjReferenceIdeal.Facts] : Prop :=
  ∀ (m : (ℓ : Loc Cert.InProjReferenceIdeal.nD Cert.InProjReferenceIdeal.τ Cert.InProjReferenceIdeal.sig) → Buf (Elt Ideal) ℓ) (g : Dev Cert.InProjReferenceIdeal.nD → PrngReg), Pre_InProjReferenceIdeal m →
    θ_run (Cert.InProjReferenceIdeal.defs (F := Ideal)) (onTc (τ := Cert.InProjReferenceIdeal.τ) (Cert.InProjReferenceIdeal.main (F := Ideal))) ⟨m, fun _ => 0, g⟩ (fun r => (∀ c : Dev Cert.InProjReferenceIdeal.nD,
      r.2.mem ((c.tc : Thread Cert.InProjReferenceIdeal.nD Cert.InProjReferenceIdeal.τ).loc Cert.InProjReferenceIdeal.main_arg0) = m ((c.tc : Thread Cert.InProjReferenceIdeal.nD Cert.InProjReferenceIdeal.τ).loc Cert.InProjReferenceIdeal.main_arg0)
      ∧ r.2.mem ((c.tc : Thread Cert.InProjReferenceIdeal.nD Cert.InProjReferenceIdeal.τ).loc Cert.InProjReferenceIdeal.main_arg1) = m ((c.tc : Thread Cert.InProjReferenceIdeal.nD Cert.InProjReferenceIdeal.τ).loc Cert.InProjReferenceIdeal.main_arg1)
      ∧ r.2.mem ((c.tc : Thread Cert.InProjReferenceIdeal.nD Cert.InProjReferenceIdeal.τ).loc Cert.InProjReferenceIdeal.main_arg2) = m ((c.tc : Thread Cert.InProjReferenceIdeal.nD Cert.InProjReferenceIdeal.τ).loc Cert.InProjReferenceIdeal.main_arg2))
      ∧ r.2.sem = fun _ => 0)

def quiescent_InProjSample [hInProjSample : Cert.InProjSample.Facts] : Prop :=
  ∀ (m : (ℓ : Loc Cert.InProjSample.nD Cert.InProjSample.τ Cert.InProjSample.sig) → Buf (Elt Bits) ℓ) (g : Dev Cert.InProjSample.nD → PrngReg), Pre_InProjSample m →
    θ_run (Cert.InProjSample.defs (F := Bits)) (onTc (τ := Cert.InProjSample.τ) (Cert.InProjSample.main (F := Bits))) ⟨m, fun _ => 0, g⟩ (fun r => (∀ c : Dev Cert.InProjSample.nD,
      r.2.mem ((c.tc : Thread Cert.InProjSample.nD Cert.InProjSample.τ).loc Cert.InProjSample.main_arg0) = m ((c.tc : Thread Cert.InProjSample.nD Cert.InProjSample.τ).loc Cert.InProjSample.main_arg0)
      ∧ r.2.mem ((c.tc : Thread Cert.InProjSample.nD Cert.InProjSample.τ).loc Cert.InProjSample.main_arg1) = m ((c.tc : Thread Cert.InProjSample.nD Cert.InProjSample.τ).loc Cert.InProjSample.main_arg1)
      ∧ r.2.mem ((c.tc : Thread Cert.InProjSample.nD Cert.InProjSample.τ).loc Cert.InProjSample.main_arg2) = m ((c.tc : Thread Cert.InProjSample.nD Cert.InProjSample.τ).loc Cert.InProjSample.main_arg2))
      ∧ r.2.sem = fun _ => 0)

def quiescent_InProjSampleIdeal [hInProjSampleIdeal : Cert.InProjSampleIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg), Pre_InProjSampleIdeal m →
    θ_run (Cert.InProjSampleIdeal.defs (F := Ideal)) (onTc (τ := Cert.InProjSampleIdeal.τ) (Cert.InProjSampleIdeal.main (F := Ideal))) ⟨m, fun _ => 0, g⟩ (fun r => (∀ c : Dev Cert.InProjSampleIdeal.nD,
      r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
      ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
      ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2))
      ∧ r.2.sem = fun _ => 0)

def quiescent_InProjSampleReferenceIdeal [hInProjSampleReferenceIdeal : Cert.InProjSampleReferenceIdeal.Facts] : Prop :=
  ∀ (m : (ℓ : Loc Cert.InProjSampleReferenceIdeal.nD Cert.InProjSampleReferenceIdeal.τ Cert.InProjSampleReferenceIdeal.sig) → Buf (Elt Ideal) ℓ) (g : Dev Cert.InProjSampleReferenceIdeal.nD → PrngReg), Pre_InProjSampleReferenceIdeal m →
    θ_run (Cert.InProjSampleReferenceIdeal.defs (F := Ideal)) (onTc (τ := Cert.InProjSampleReferenceIdeal.τ) (Cert.InProjSampleReferenceIdeal.main (F := Ideal))) ⟨m, fun _ => 0, g⟩ (fun r => (∀ c : Dev Cert.InProjSampleReferenceIdeal.nD,
      r.2.mem ((c.tc : Thread Cert.InProjSampleReferenceIdeal.nD Cert.InProjSampleReferenceIdeal.τ).loc Cert.InProjSampleReferenceIdeal.main_arg0) = m ((c.tc : Thread Cert.InProjSampleReferenceIdeal.nD Cert.InProjSampleReferenceIdeal.τ).loc Cert.InProjSampleReferenceIdeal.main_arg0)
      ∧ r.2.mem ((c.tc : Thread Cert.InProjSampleReferenceIdeal.nD Cert.InProjSampleReferenceIdeal.τ).loc Cert.InProjSampleReferenceIdeal.main_arg1) = m ((c.tc : Thread Cert.InProjSampleReferenceIdeal.nD Cert.InProjSampleReferenceIdeal.τ).loc Cert.InProjSampleReferenceIdeal.main_arg1)
      ∧ r.2.mem ((c.tc : Thread Cert.InProjSampleReferenceIdeal.nD Cert.InProjSampleReferenceIdeal.τ).loc Cert.InProjSampleReferenceIdeal.main_arg2) = m ((c.tc : Thread Cert.InProjSampleReferenceIdeal.nD Cert.InProjSampleReferenceIdeal.τ).loc Cert.InProjSampleReferenceIdeal.main_arg2))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5)
      ∧ r.2.mem ((c.tc : Thread Cert.FfnSample.nD Cert.FfnSample.τ).loc Cert.FfnSample.main_arg6) = m ((c.tc : Thread Cert.FfnSample.nD Cert.FfnSample.τ).loc Cert.FfnSample.main_arg6)
      ∧ r.2.mem ((c.tc : Thread Cert.FfnSample.nD Cert.FfnSample.τ).loc Cert.FfnSample.main_arg7) = m ((c.tc : Thread Cert.FfnSample.nD Cert.FfnSample.τ).loc Cert.FfnSample.main_arg7)
      ∧ r.2.mem ((c.tc : Thread Cert.FfnSample.nD Cert.FfnSample.τ).loc Cert.FfnSample.main_arg8) = m ((c.tc : Thread Cert.FfnSample.nD Cert.FfnSample.τ).loc Cert.FfnSample.main_arg8))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
      ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
      ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
      ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8))
      ∧ r.2.sem = fun _ => 0)

def quiescent_FfnSampleReferenceIdeal [hFfnSampleReferenceIdeal : Cert.FfnSampleReferenceIdeal.Facts] : Prop :=
  ∀ (m : (ℓ : Loc Cert.FfnSampleReferenceIdeal.nD Cert.FfnSampleReferenceIdeal.τ Cert.FfnSampleReferenceIdeal.sig) → Buf (Elt Ideal) ℓ) (g : Dev Cert.FfnSampleReferenceIdeal.nD → PrngReg), Pre_FfnSampleReferenceIdeal m →
    θ_run (Cert.FfnSampleReferenceIdeal.defs (F := Ideal)) (onTc (τ := Cert.FfnSampleReferenceIdeal.τ) (Cert.FfnSampleReferenceIdeal.main (F := Ideal))) ⟨m, fun _ => 0, g⟩ (fun r => (∀ c : Dev Cert.FfnSampleReferenceIdeal.nD,
      r.2.mem ((c.tc : Thread Cert.FfnSampleReferenceIdeal.nD Cert.FfnSampleReferenceIdeal.τ).loc Cert.FfnSampleReferenceIdeal.main_arg0) = m ((c.tc : Thread Cert.FfnSampleReferenceIdeal.nD Cert.FfnSampleReferenceIdeal.τ).loc Cert.FfnSampleReferenceIdeal.main_arg0)
      ∧ r.2.mem ((c.tc : Thread Cert.FfnSampleReferenceIdeal.nD Cert.FfnSampleReferenceIdeal.τ).loc Cert.FfnSampleReferenceIdeal.main_arg1) = m ((c.tc : Thread Cert.FfnSampleReferenceIdeal.nD Cert.FfnSampleReferenceIdeal.τ).loc Cert.FfnSampleReferenceIdeal.main_arg1)
      ∧ r.2.mem ((c.tc : Thread Cert.FfnSampleReferenceIdeal.nD Cert.FfnSampleReferenceIdeal.τ).loc Cert.FfnSampleReferenceIdeal.main_arg2) = m ((c.tc : Thread Cert.FfnSampleReferenceIdeal.nD Cert.FfnSampleReferenceIdeal.τ).loc Cert.FfnSampleReferenceIdeal.main_arg2)
      ∧ r.2.mem ((c.tc : Thread Cert.FfnSampleReferenceIdeal.nD Cert.FfnSampleReferenceIdeal.τ).loc Cert.FfnSampleReferenceIdeal.main_arg3) = m ((c.tc : Thread Cert.FfnSampleReferenceIdeal.nD Cert.FfnSampleReferenceIdeal.τ).loc Cert.FfnSampleReferenceIdeal.main_arg3)
      ∧ r.2.mem ((c.tc : Thread Cert.FfnSampleReferenceIdeal.nD Cert.FfnSampleReferenceIdeal.τ).loc Cert.FfnSampleReferenceIdeal.main_arg4) = m ((c.tc : Thread Cert.FfnSampleReferenceIdeal.nD Cert.FfnSampleReferenceIdeal.τ).loc Cert.FfnSampleReferenceIdeal.main_arg4)
      ∧ r.2.mem ((c.tc : Thread Cert.FfnSampleReferenceIdeal.nD Cert.FfnSampleReferenceIdeal.τ).loc Cert.FfnSampleReferenceIdeal.main_arg5) = m ((c.tc : Thread Cert.FfnSampleReferenceIdeal.nD Cert.FfnSampleReferenceIdeal.τ).loc Cert.FfnSampleReferenceIdeal.main_arg5)
      ∧ r.2.mem ((c.tc : Thread Cert.FfnSampleReferenceIdeal.nD Cert.FfnSampleReferenceIdeal.τ).loc Cert.FfnSampleReferenceIdeal.main_arg6) = m ((c.tc : Thread Cert.FfnSampleReferenceIdeal.nD Cert.FfnSampleReferenceIdeal.τ).loc Cert.FfnSampleReferenceIdeal.main_arg6)
      ∧ r.2.mem ((c.tc : Thread Cert.FfnSampleReferenceIdeal.nD Cert.FfnSampleReferenceIdeal.τ).loc Cert.FfnSampleReferenceIdeal.main_arg7) = m ((c.tc : Thread Cert.FfnSampleReferenceIdeal.nD Cert.FfnSampleReferenceIdeal.τ).loc Cert.FfnSampleReferenceIdeal.main_arg7)
      ∧ r.2.mem ((c.tc : Thread Cert.FfnSampleReferenceIdeal.nD Cert.FfnSampleReferenceIdeal.τ).loc Cert.FfnSampleReferenceIdeal.main_arg8) = m ((c.tc : Thread Cert.FfnSampleReferenceIdeal.nD Cert.FfnSampleReferenceIdeal.τ).loc Cert.FfnSampleReferenceIdeal.main_arg8))
      ∧ r.2.sem = fun _ => 0)

def quiescent_RetSample [hRetSample : Cert.RetSample.Facts] : Prop :=
  ∀ (m : (ℓ : Loc Cert.RetSample.nD Cert.RetSample.τ Cert.RetSample.sig) → Buf (Elt Bits) ℓ) (g : Dev Cert.RetSample.nD → PrngReg), Pre_RetSample m →
    θ_run (Cert.RetSample.defs (F := Bits)) (onTc (τ := Cert.RetSample.τ) (Cert.RetSample.main (F := Bits))) ⟨m, fun _ => 0, g⟩ (fun r => (∀ c : Dev Cert.RetSample.nD,
      r.2.mem ((c.tc : Thread Cert.RetSample.nD Cert.RetSample.τ).loc Cert.RetSample.main_arg0) = m ((c.tc : Thread Cert.RetSample.nD Cert.RetSample.τ).loc Cert.RetSample.main_arg0)
      ∧ r.2.mem ((c.tc : Thread Cert.RetSample.nD Cert.RetSample.τ).loc Cert.RetSample.main_arg1) = m ((c.tc : Thread Cert.RetSample.nD Cert.RetSample.τ).loc Cert.RetSample.main_arg1))
      ∧ r.2.sem = fun _ => 0)

def quiescent_RetSampleIdeal [hRetSampleIdeal : Cert.RetSampleIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg), Pre_RetSampleIdeal m →
    θ_run (Cert.RetSampleIdeal.defs (F := Ideal)) (onTc (τ := Cert.RetSampleIdeal.τ) (Cert.RetSampleIdeal.main (F := Ideal))) ⟨m, fun _ => 0, g⟩ (fun r => (∀ c : Dev Cert.RetSampleIdeal.nD,
      r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
      ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1))
      ∧ r.2.sem = fun _ => 0)

def quiescent_RetSampleReferenceIdeal [hRetSampleReferenceIdeal : Cert.RetSampleReferenceIdeal.Facts] : Prop :=
  ∀ (m : (ℓ : Loc Cert.RetSampleReferenceIdeal.nD Cert.RetSampleReferenceIdeal.τ Cert.RetSampleReferenceIdeal.sig) → Buf (Elt Ideal) ℓ) (g : Dev Cert.RetSampleReferenceIdeal.nD → PrngReg), Pre_RetSampleReferenceIdeal m →
    θ_run (Cert.RetSampleReferenceIdeal.defs (F := Ideal)) (onTc (τ := Cert.RetSampleReferenceIdeal.τ) (Cert.RetSampleReferenceIdeal.main (F := Ideal))) ⟨m, fun _ => 0, g⟩ (fun r => (∀ c : Dev Cert.RetSampleReferenceIdeal.nD,
      r.2.mem ((c.tc : Thread Cert.RetSampleReferenceIdeal.nD Cert.RetSampleReferenceIdeal.τ).loc Cert.RetSampleReferenceIdeal.main_arg0) = m ((c.tc : Thread Cert.RetSampleReferenceIdeal.nD Cert.RetSampleReferenceIdeal.τ).loc Cert.RetSampleReferenceIdeal.main_arg0)
      ∧ r.2.mem ((c.tc : Thread Cert.RetSampleReferenceIdeal.nD Cert.RetSampleReferenceIdeal.τ).loc Cert.RetSampleReferenceIdeal.main_arg1) = m ((c.tc : Thread Cert.RetSampleReferenceIdeal.nD Cert.RetSampleReferenceIdeal.τ).loc Cert.RetSampleReferenceIdeal.main_arg1))
      ∧ r.2.sem = fun _ => 0)

def preserves_Kernel_KernelIdeal : Prop :=
  IdealRules.named_const.Statement Cert.KernelIdeal.κ "g0" .f32 0x33BB35AB#32 ((37773501373587895264561025281863094466978322863250082155056197047714197993620357069462566843251141571815151509518310006938108851221805528875384735491918787987993007026673217297684350189260329533443500752237702397882867800472239741801018068025710521276376920054106347317369170879956285518344534043017584487970014275003121885415024692223611928229555180012063629119385814923462407514649370698028478003077284206879157442661924961962496906798906289722020904167557393854423634351272073157329444358426257475496763769833535044716482939223140353788667801596443076750100019227022529972107862684832884884953616549356032737737560624277786244888885640776979303991888709970576020492391819718718022540913110645906048622371363024999152764514494346409046802940547223374264991989761 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  ∧ IdealRules.named_const.Statement Cert.KernelIdeal.κ "g1" .f32 0x39A51D40#32 ((1829621774605758272681815819484683697681150539469011454438616122872366586877961375423552938964897463581109311319808945929321298231222196853224309380553356598527187733647566956679876664510406200387532239098866763910735103693757864325685201781028709572541054704230147228901626173617845623866755028773487006228196871956399293777844670844588890365947840179218366401379809504532746346887953865832195191206213754527293556396076242770833333424859408089492408707363104206318131240193034555251174707300516911335616652311290870865347642390409969838803258688702995862359971782715471732239812296945161529682875118411479993770111929053328666562411048451820999794871863883648685446514936239708945819761126851454994246472415681218954364540036877875237307371399305121518243006867940085660711723331808878467596848695632021577955375324082707777555176893790414740944947537790853234120367235299976717295550925400882608856085946429027356999681 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)
  ∧ IdealRules.named_const.Statement Cert.KernelIdeal.κ "g2" .f32 0x3C93B415#32 ((1404446271387748490991100751544441416500050300583111850106297445761924979898824020252629019508656514869654924263160394274298526494841742808089592506924696822065104347690187843030595438316417714600761377522809495063977068799898120017030725733509352799438726555671667253019781735949865820679186967706658305802624047706122378875802774137941142204600702153393013250422058032066442262543774044082163695495396960829949594646939266482017469777673732527829511618772798737574783702810777504185793071952212259952420398015608838414365618600684563300554270564144757059601105334104440451451503119524170492445584099364250966818507715079225370021816812537114137141734153221017217708940430101039483382996521634099251395732985737880090843089470161642390778363523012009209705024717668555696048942912207090503662275263094243617304431537642065704769846014295462350881954984154152995597063243216506885941184166713897620223768749011634915213056620578338092475557901514134844722255531178520698446431977629547872397858804700513496351353376208959542001545890447396386704893880348789257703729454966046721 / 77894081334563378764508707451908598634363875792546106220991280972045090113143756247350828053674522774404165906274379945792494917548310574063247841644081929897178637546129401264215614159952590061562154920415452396586835739484982091767625288759481559848471677444112808287056706983922605030201811478361890468927498235629942743709470298595236463543790410896095163738073479981402477878246455235112829189027769705658237222594837250410596602457047413758430150029851731582921543526442245527917224855827827816621485551057937401676948938343002233871424814483269902707836173007455043074627168642672708601404181510388085656853057668361672906095700421037654202545940344737030366578366357572799593982155560321323484375285391015752337555589179864820742955048320397684982749773202572245522578129312632534144771795735226370030108952558937781899103282137065731057232138475034306548038575468027244771033983289060691556811292977131791103945007556626409018279457155155668381388949742836902985341946964734897090584115806967893331511501620481794544357260889558504863310391891382713164805617024097058816 : ℝ) : EReal)
  ∧ IdealRules.named_const.Statement Cert.KernelIdeal.κ "g3" .f32 0x3E0A0AA9#32 ((140790185837792199441034568834759689661961914255409783776507730514854051007709415813883556603916373715574609136622656266685437371240367102594306883990627058503595731196218539952498937154304868900451168465638684310150100849641435841139217062156438276896626062062198647086055077575162638489964162577757745791360359602594152663967581007128020183983475616184060291020280954283680281674917836880158513873602360456989017509319939290584160385503386612259448606518762697158261848012807333889519148168749022803256593164455574302209211629222893563391051638927501110961756902904355953180126361779417692843008682740196572759446217716395263378965738984268986873937434316610747487819328925728597617546673206661697068531366810303423451995144891700992319420217886417615624695907128294136584386588241909336794326419068629630654654884474138368393842951923487338404952757338269210791423057520833932043960455320073315147460070596891191382346173068760307712728401170686699888726822189521347886230198239556599370583636884951718768971453231066747582338011063460026539119389458194710451140772448483717780321604240950362368894604426083886127596429268830858032089081938717329656187417957254785835822222695699852540993958494031090822318219579756259918212890625 / 1044388881413152506691752710716624382579964249047383780384233483283953907971557456848826811934997558340890106714439262837987573438185793607263236087851365277945956976543709998340361590134383718314428070011855946226376318839397712745672334684344586617496807908705803704071284048740118609114467977783598029006686938976881787785946905630190260940599579453432823469303026696443059025015972399867714215541693835559885291486318237914434496734087811872639496475100189041349008417061675093668333850551032972088269550769983616369411933015213796825837188091833656751221318492846368125550225998300412344784862595674492194617023806505913245610825731835380087608622102834270197698202313169017678006675195485079921636419370285375124784014907159135459982790513399611551794271106831134090584272884279791554849782954323534517065223269061394905987693002122963395687782878948440616007412945674919823050571642377154816321380631045902916136926708342856440730447899971901781465763473223850267253059899795996090799469201774624817718449867455659250178329070473119433165550807568221846571746373296884912819520317457002440926616910874148385078411929804522981857338977648103126085903001302413467189726673216491511131602920781738033436090243804708340403154190336 : ℝ) : EReal)
  ∧ IdealRules.named_const.Statement Cert.KernelIdeal.κ "g4" .f32 0x3EBC2B91#32 ((5146368367413549436884595993438468806315897994491751435868282600913256797915945033696893354486008724075125016422655377975211807426094880784049861231035389513020083947482756787120411444100029425526995978906727834032841108602161446004962211570831806846107660145831235051812776331512742254571753089549116675151276851027440285481440604694647998291608334418858147588944974982312922787171262838076918978827972624884517660706701495905789743586056583498322685890143380186601461851853505997153630725607669929438663450927051947693604043281067738675867851769737232324506014402219239231367670287359222482472064206143961277077775732091342523426388424840569152535581674905942867999006337022326382757165943772826355713262841916849203073334998926780593481941412910387381011835807209607950586516886496724660414957378998575345333342037526533575889259477157258334176009764183589353653233306999065239641758419940400125028872837119568773976419295226942609998759273964100191744766210192467692047310228458735614255640565767054553121543790599823219190633081742649956289501214417232278108919888985760299173806603684151607629056503113186869765372398086933088405890993811438295762759602667164434408319018893706167277647951324145549712623150588024152772587284872546821700941392557039850391352768262591598115782873819959939236198200949895552493801749103046489380056480925631030880088320582517971028867830855566622721 / 14002965526155144834555305452685214372866082888911214819410098563166364393430339704954316846760882417420604004588805172709668950479443731801102542528740113036510299444061547747539391052523594629678962987431385091951024344687624116958504831353788456858187662249641364321767348607606502983077596886259472559892509340453479591701669341690610010199752681859969642725277394461284724377187107117253177142493474639946364494226253006015222273057859996893954087112388911638079340740307953400728723420436588952155758688261952181120583722524183166457598150762152371703020012995588938072866897073390632452049784351496937636259712515524623518773707258808280520421766533723982678808205124377338390350147232981694928107493357143336100099345127583310326317513361407701585332291704561598012157109134338690845941606929566579109845648752432227530123144780633008215865200107064955296873959439674874263446726724444594593399440980900885790456007303431910585281124234213951629658205321241942054284455065419268372128178209253142263303100509032020839738717162419633361923319257010022504665335926405622345740884671364959272460376791398153022984421227494300704089333484168581053903671324229299871114933203089732015328195933736811542888636618070746229101551946063862190952517481681820714828448743184805157114555460571190275103234955695251063616575057295286339621140306864204977859618146869750759448354484860806496256 : ℝ) : EReal)
  ∧ IdealRules.named_const.Statement Cert.KernelIdeal.κ "g5" .f32 0x3F1B3BE2#32 ((113847752268739718334782180278749151435771268218817722788635975426299638572474755995991326632360213243991230033215406675715344034009041676770603103391425851762066234066752694737890092007688550359157744696833146667849892271978448280878630952416361145444077356495729219039035204327050882828089585754422111391081314773114390675829006353244436660611825909350642073507328469101033900535515637608985327848765365110941594999138567634183293187717560557364703511119548861756362121645850348921412185856144196848808886487005224154287371380261572156519641034635980898495909103192815036459886854459220063567724575471220497121052987137126006322284595703723016985421999089293161306936696404702027759709282352099524758713251837704820889747809346521572936088576911024389620200093895149863866770191486164755208402660822638024356488705036128388735151815591196230098671771250043917122509099375428781517568088552028447940161540145974203590901183455430880769096514361542478426109949392183330495725779386776301938084269436035102555375606940348064237590201449938677252709961984731618469701375489457538547372990378930175325021984044310699739736716991802209519976395444453896145537709677416429447492285396467375671114695895192926773578161144813814950493696818267099162453509163622890862630478075100364958240608496422900337515365056967411810859008019225472342110578643844551188997654433414853514545306030690633209021059573383353470903684588284227128870356784377691631003547140900328711069357737773261586588530000162841860494166173002212097260152840692130564942077624321 / 187749072224295762487282918043534149672470009810028327446062532949263717368127024576140841104973120370273487261876951083004001413137204173750956938653211788724190430095984469913776932431963546640404661377521170242454281393564883698042160362597493239676179542430408230026967675408244369534225406182334053860953190851410763968250231766966368150031479733532494389362263966829774739549874576217702802049949175044144226916408271128525427622225198410553089064349578703883506197408833728032937541363391644479638264014861396658218947068985826257384271858030352807755971277360363293570350006795256116943835609813348656451703942739615910726879627516589755942615059584953695158906776349078531641699376974783981966272485654732492263213186492225477260675547523932337061020406120250964136034529347299464072163800076187742576595379686343865722042219212538664133431405598476618632378694390016986508065484388368263534489462021091442580691883449258543148763819608108278025227630151849488163230271017209333339572098874097605709683555074986308074644075465524908758151061239207358632374820522302308593867486159699800255775718113162926434961209248394655996108849613488899817872188299520363081282737595469502189721561285889897515363929727744544447417526634383587059070293805996935707713490568437981961300034126756863201261849257039580831538344714324593879688126002780304484145068997028656541324271928440299730361243738276658036052139964707237167826208674384719689501485461459019092511353744510977179559894717372061260467912691621997768268855590726394611504645144576 : ℝ) : EReal)
  ∧ IdealRules.named_const.Statement Cert.KernelIdeal.κ "g6" .f32 0x3F475C5F#32 ((1960358243178883760215005073038127189153431904434251656515942118111719013695557474961357605831972108320059077207073323618648569534233269086950032066250609971223049179279185304016578276259059712681585433409637324078490523118915193320453939769332525008549099363815613752744601657742423733827759113641763203106103303085316599506387049681560419345133014063655262435308401056843410804090396786021778654240812095113747147202924017903854278567694660696185524929952413947274010278481690765487364865051541740887490066245072926452076881160420322803409771605601090716830065462202440740548073289905413584229585571939444335362598436995150245975660498073855707434690392431776383281554020108984592113852190528412757811942884298981824690769007380214030032742868155411111998967164413190989967605527303324316703340678464342474480681342316436484813925046137799840672144870332701854661759083382158535306121507942298608852700239993813728990797480002429310005740241249717239472213021520643001340572855791176386167358664767664325178511681111549498077969718842279982352545899739791947841581140007564927649920770113161141490568818241466388943008702488363165261204097276574941406803931156808997495785323753771666363841083216898716074241770827346743665163215040964956869255122231760909153030018763337227749410792974704485349593622106645566854425533080899916796489854032632108611653858991635463378812653795480261007891732440506035723555428522417086802038012547504546273456753869436907386277332258826438949882153828181515688202040037438300733679144194883747151418851102177999634846558269791630209251686974939126649229252439262831775939534621069443364644987541385592338811324971697442108493459520824816653608643337505068810241 / 2517303499408278121644427994095560892169292293872460622635208085326616387361402746767765673156032996431118464385205631358374584514559678106921769707862268846648496688836250509471816406267409955559656201169979661005920173399525173806462452788672938758818876356844648546231459876959255499792996105276538220900129553834663519469165752988492662344251557126354244460459644460248909808535295963570210038393893890325049751001797574638698448901396743973988244358295640779149931782955713223275425799341777342157865501429572853739349865824733694557425612881285182971108696092523686871868460250483830769397229183172989292278641673196909149077055371857027926536817735640059267033387821432018937378262844877154190539982889444190839214780904551249809649508764598174028903026927655107634644468650804480588848262401979470155925720951172839932250414065037622750034367371277079245587470109504449908688383375267556890564335283454577679455184149179967019365876563286723080014009273396309523641824957341013432194788082490241966865584669017407989561284431517542640863810847914612399026363984049046653582749027571699901781921364272232602801411660744758130029120960128265295511610562102375345030842017925865243915765178710500031708079927346879123513776821352285387923386818523185790895491980532109301901794620432045637260229727368307928340621315168343653198899554489149987950286250134545282906376461299476368160519494028963005708167274176953415265076985940677809015726965641778498005128091950214257014842155320148183376781310657746512174717138930472364613332383276199216213688928190642675936063411388356610005544695366118561631308538444680055718388945051664843846258645559982390180484661480737386938925473203329534263296 : ℝ) : EReal)
  ∧ IdealRules.named_const.Statement Cert.KernelIdeal.κ "g7" .f32 0x3F61EA6F#32 ((29785158902024647658922298295205754754624844888866637922514628020055565184236615035177882131664644300321674386171529456085716438497154796631848677968233148819637352252828764566276052457464907682715636825541401450191854499052622253085971923782498270333993467074676075453791623035130678616776277907091490241683956549307539098180929847748862496283154084288263074485232724764054330635963645369926410988904908528205624447544944726054133865886661982822348233538458106770325748991871706802606361706539718806353456864654232383782545270566464670515800405248468121791830218180123464208697183016507663602306440261362796786129799380851645849883255065896602690284755967588251716130030573335879560247342990567093178230786591000203785422605845057069128627731336011267015641092395799327354110377799452324803501085030863938099892867885265619427645658858467030934339878131456467838608595625490468678901460649255584870066675365038070238396408189637085582526947591487743330344834536556009684147181530347586999438245597612455339067390989605588090664048148958695445623360540006562918182681885392829342642929793544557748107018410253529494411885703513595695322943564296085806877183338966079792245530799482375658659227800936805811375575496561813865799178926359544173878508247119450441233781193780867189928406121986303247140599973895143149271073971219769473992738164288051574792302911893162252762388045403290248084188405360514186724873330488338858649240723437791234176649016863474311162939219996101391576947640365218894539499541158562593607818481879067204733828658180446779202581620777075400012014577048961624509221398374361100452924451207633877232158103666903322532338793658140796080695994730110802583166070773011045523260794362917587144506913648901703495280662668633356370169687509756708178283155352915429550810523793875338145615270547816866297807791852392256259918212890625 / 33751521821438561184911174488682640477482452690613543789987115108466500378467413241650309823759915214613546295086352135117206072620702805213786429827261190495295209725036214861444552245271001884442331336463841183659029156587178439044751051570054376203776342097110897640119327918012337424313355919359639652567871781286769270711026709157352924348777515574512579207430124960745017713811475633560361746240231372186987633281890003975124517410436232751786053258030904248989784343373580020429064399723981629210039686199812017059962040894145649613141899373457990136110124033082268445299759214270557020697837444729628470445553597383435232465858124331879290922696980222735667332393561216312300622989828829648566839376565747897273836250008772899562390160189852318683176499778475449534897302151083448535288367133592198444410244012903070619538476023121087011821602727130342062360292694196915030753475571047187621577677734015971061286266240776000199761459471444940463293093653202098729357658867135004032110599475307618336429187822239334863636668860337516076025023807524328879162142149805154128179503405390710994373783501948211730722860359837750090335272615847907847124069141199334722262055534377699054381370861337337471574548468743992660475775028572280267994135704993835355977695442635432946193561821017089736627379071131483930684532622952398897715491344942216169944540811346628089421863683937920456996873353908785220590722518585909106605811532117238941679346587984132366957891357781759795220034581173473479726235700321529495539776440692644558284469348870671055995987203062730525276396026962916718358629845520556495152513597870927982785774674929765072485149682462794408926127267616060623923370839359058434846610501532154221129624066335698266050975882792155955005954460099419877138745992453542401993667168494168245722096801075794308992327588609520244453197182140416 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v54_0)) (v1 : (c : Dev Cert.KernelIdeal.nD) → Buf (Elt Ideal) ((c.tc : Thread Cert.KernelIdeal.nD Cert.KernelIdeal.τ).loc Cert.KernelIdeal.main_v54_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54_0) = v0 c
          ∧ r.2.mem ((c.tc : Thread Cert.KernelIdeal.nD Cert.KernelIdeal.τ).loc Cert.KernelIdeal.main_v54_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v91) = v0 c
          ∧ r.2.mem ((c.tc : Thread Cert.ReferenceIdeal.nD Cert.ReferenceIdeal.τ).loc Cert.ReferenceIdeal.main_v27_2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)
      ∧ m' ((c.tc : Thread Cert.FfnReferenceIdeal.nD Cert.FfnReferenceIdeal.τ).loc Cert.FfnReferenceIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v47) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7)
          ∧ r.2.mem ((c.tc : Thread Cert.FfnReferenceIdeal.nD Cert.FfnReferenceIdeal.τ).loc Cert.FfnReferenceIdeal.main_arg8) = m' ((c.tc : Thread Cert.FfnReferenceIdeal.nD Cert.FfnReferenceIdeal.τ).loc Cert.FfnReferenceIdeal.main_arg8))

def preserves_InProj_InProjIdeal : Prop :=
  True

def algebraic_InProjIdeal_InProjReferenceIdeal [hInProjIdeal : Cert.InProjIdeal.Facts] [hInProjReferenceIdeal : Cert.InProjReferenceIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjReferenceIdeal.nD Cert.InProjReferenceIdeal.τ Cert.InProjReferenceIdeal.sig) → Buf (Elt Ideal) ℓ) (g' : Dev Cert.InProjReferenceIdeal.nD → PrngReg), Pre_InProjIdeal m →
    (∀ c : Dev Cert.InProjIdeal.nD,
      m' ((c.tc : Thread Cert.InProjReferenceIdeal.nD Cert.InProjReferenceIdeal.τ).loc Cert.InProjReferenceIdeal.main_arg0) = m ((c.tc : Thread Cert.InProjIdeal.nD Cert.InProjIdeal.τ).loc Cert.InProjIdeal.main_arg0)
      ∧ m' ((c.tc : Thread Cert.InProjReferenceIdeal.nD Cert.InProjReferenceIdeal.τ).loc Cert.InProjReferenceIdeal.main_arg1) = m ((c.tc : Thread Cert.InProjIdeal.nD Cert.InProjIdeal.τ).loc Cert.InProjIdeal.main_arg1)
      ∧ m' ((c.tc : Thread Cert.InProjReferenceIdeal.nD Cert.InProjReferenceIdeal.τ).loc Cert.InProjReferenceIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v38_0)) (v1 : (c : Dev Cert.InProjIdeal.nD) → Buf (Elt Ideal) ((c.tc : Thread Cert.InProjIdeal.nD Cert.InProjIdeal.τ).loc Cert.InProjIdeal.main_v38_1)) (v2 : (c : Dev Cert.InProjIdeal.nD) → Buf (Elt Ideal) ((c.tc : Thread Cert.InProjIdeal.nD Cert.InProjIdeal.τ).loc Cert.InProjIdeal.main_v38_2)) (v3 : (c : Dev Cert.InProjIdeal.nD) → Buf (Elt Ideal) ((c.tc : Thread Cert.InProjIdeal.nD Cert.InProjIdeal.τ).loc Cert.InProjIdeal.main_v38_3)) (v4 : (c : Dev Cert.InProjIdeal.nD) → Buf (Elt Ideal) ((c.tc : Thread Cert.InProjIdeal.nD Cert.InProjIdeal.τ).loc Cert.InProjIdeal.main_v38_4)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v38_0) = v0 c
          ∧ r.2.mem ((c.tc : Thread Cert.InProjIdeal.nD Cert.InProjIdeal.τ).loc Cert.InProjIdeal.main_v38_1) = v1 c
          ∧ r.2.mem ((c.tc : Thread Cert.InProjIdeal.nD Cert.InProjIdeal.τ).loc Cert.InProjIdeal.main_v38_2) = v2 c
          ∧ r.2.mem ((c.tc : Thread Cert.InProjIdeal.nD Cert.InProjIdeal.τ).loc Cert.InProjIdeal.main_v38_3) = v3 c
          ∧ r.2.mem ((c.tc : Thread Cert.InProjIdeal.nD Cert.InProjIdeal.τ).loc Cert.InProjIdeal.main_v38_4) = v4 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjReferenceIdeal.defs (F := Ideal)) (onTc (τ := Cert.InProjReferenceIdeal.τ) (Cert.InProjReferenceIdeal.main (F := Ideal))) ⟨m', fun _ => 0, g'⟩ (fun r => ∀ c : Dev Cert.InProjReferenceIdeal.nD,
          r.2.mem ((c.tc : Thread Cert.InProjReferenceIdeal.nD Cert.InProjReferenceIdeal.τ).loc Cert.InProjReferenceIdeal.main_v97) = v0 c
          ∧ r.2.mem ((c.tc : Thread Cert.InProjReferenceIdeal.nD Cert.InProjReferenceIdeal.τ).loc Cert.InProjReferenceIdeal.main_v98) = v1 c
          ∧ r.2.mem ((c.tc : Thread Cert.InProjReferenceIdeal.nD Cert.InProjReferenceIdeal.τ).loc Cert.InProjReferenceIdeal.main_v99) = v2 c
          ∧ r.2.mem ((c.tc : Thread Cert.InProjReferenceIdeal.nD Cert.InProjReferenceIdeal.τ).loc Cert.InProjReferenceIdeal.main_v23) = v3 c
          ∧ r.2.mem ((c.tc : Thread Cert.InProjReferenceIdeal.nD Cert.InProjReferenceIdeal.τ).loc Cert.InProjReferenceIdeal.main_v101) = v4 c
          ∧ r.2.mem ((c.tc : Thread Cert.InProjReferenceIdeal.nD Cert.InProjReferenceIdeal.τ).loc Cert.InProjReferenceIdeal.main_arg0) = m' ((c.tc : Thread Cert.InProjReferenceIdeal.nD Cert.InProjReferenceIdeal.τ).loc Cert.InProjReferenceIdeal.main_arg0)
          ∧ r.2.mem ((c.tc : Thread Cert.InProjReferenceIdeal.nD Cert.InProjReferenceIdeal.τ).loc Cert.InProjReferenceIdeal.main_arg1) = m' ((c.tc : Thread Cert.InProjReferenceIdeal.nD Cert.InProjReferenceIdeal.τ).loc Cert.InProjReferenceIdeal.main_arg1)
          ∧ r.2.mem ((c.tc : Thread Cert.InProjReferenceIdeal.nD Cert.InProjReferenceIdeal.τ).loc Cert.InProjReferenceIdeal.main_arg2) = m' ((c.tc : Thread Cert.InProjReferenceIdeal.nD Cert.InProjReferenceIdeal.τ).loc Cert.InProjReferenceIdeal.main_arg2))

def preserves_InProjSample_InProjSampleIdeal : Prop :=
  True

def algebraic_InProjSampleIdeal_InProjSampleReferenceIdeal [hInProjSampleIdeal : Cert.InProjSampleIdeal.Facts] [hInProjSampleReferenceIdeal : Cert.InProjSampleReferenceIdeal.Facts] : Prop :=
  ∀ (m : (ℓ : Loc Cert.InProjSampleIdeal.nD Cert.InProjSampleIdeal.τ Cert.InProjSampleIdeal.sig) → Buf (Elt Ideal) ℓ) (g : Dev Cert.InProjSampleIdeal.nD → PrngReg)
    (m' : (ℓ : Loc Cert.InProjSampleReferenceIdeal.nD Cert.InProjSampleReferenceIdeal.τ Cert.InProjSampleReferenceIdeal.sig) → Buf (Elt Ideal) ℓ) (g' : Dev Cert.InProjSampleReferenceIdeal.nD → PrngReg), Pre_InProjSampleIdeal m →
    (∀ c : Dev Cert.InProjSampleIdeal.nD,
      m' ((c.tc : Thread Cert.InProjSampleReferenceIdeal.nD Cert.InProjSampleReferenceIdeal.τ).loc Cert.InProjSampleReferenceIdeal.main_arg0) = m ((c.tc : Thread Cert.InProjSampleIdeal.nD Cert.InProjSampleIdeal.τ).loc Cert.InProjSampleIdeal.main_arg0)
      ∧ m' ((c.tc : Thread Cert.InProjSampleReferenceIdeal.nD Cert.InProjSampleReferenceIdeal.τ).loc Cert.InProjSampleReferenceIdeal.main_arg1) = m ((c.tc : Thread Cert.InProjSampleIdeal.nD Cert.InProjSampleIdeal.τ).loc Cert.InProjSampleIdeal.main_arg1)
      ∧ m' ((c.tc : Thread Cert.InProjSampleReferenceIdeal.nD Cert.InProjSampleReferenceIdeal.τ).loc Cert.InProjSampleReferenceIdeal.main_arg2) = m ((c.tc : Thread Cert.InProjSampleIdeal.nD Cert.InProjSampleIdeal.τ).loc Cert.InProjSampleIdeal.main_arg2)) →
    ∃ (v0 : (c : Dev Cert.InProjSampleIdeal.nD) → Buf (Elt Ideal) ((c.tc : Thread Cert.InProjSampleIdeal.nD Cert.InProjSampleIdeal.τ).loc Cert.InProjSampleIdeal.main_v46_1)) (v1 : (c : Dev Cert.InProjSampleIdeal.nD) → Buf (Elt Ideal) ((c.tc : Thread Cert.InProjSampleIdeal.nD Cert.InProjSampleIdeal.τ).loc Cert.InProjSampleIdeal.main_v46_2)) (v2 : (c : Dev Cert.InProjSampleIdeal.nD) → Buf (Elt Ideal) ((c.tc : Thread Cert.InProjSampleIdeal.nD Cert.InProjSampleIdeal.τ).loc Cert.InProjSampleIdeal.main_v46_3)),
      θ_run (Cert.InProjSampleIdeal.defs (F := Ideal)) (onTc (τ := Cert.InProjSampleIdeal.τ) (Cert.InProjSampleIdeal.main (F := Ideal))) ⟨m, fun _ => 0, g⟩ (fun r => ∀ c : Dev Cert.InProjSampleIdeal.nD,
          r.2.mem ((c.tc : Thread Cert.InProjSampleIdeal.nD Cert.InProjSampleIdeal.τ).loc Cert.InProjSampleIdeal.main_v46_1) = v0 c
          ∧ r.2.mem ((c.tc : Thread Cert.InProjSampleIdeal.nD Cert.InProjSampleIdeal.τ).loc Cert.InProjSampleIdeal.main_v46_2) = v1 c
          ∧ r.2.mem ((c.tc : Thread Cert.InProjSampleIdeal.nD Cert.InProjSampleIdeal.τ).loc Cert.InProjSampleIdeal.main_v46_3) = v2 c
          ∧ r.2.mem ((c.tc : Thread Cert.InProjSampleIdeal.nD Cert.InProjSampleIdeal.τ).loc Cert.InProjSampleIdeal.main_arg0) = m ((c.tc : Thread Cert.InProjSampleIdeal.nD Cert.InProjSampleIdeal.τ).loc Cert.InProjSampleIdeal.main_arg0)
          ∧ r.2.mem ((c.tc : Thread Cert.InProjSampleIdeal.nD Cert.InProjSampleIdeal.τ).loc Cert.InProjSampleIdeal.main_arg1) = m ((c.tc : Thread Cert.InProjSampleIdeal.nD Cert.InProjSampleIdeal.τ).loc Cert.InProjSampleIdeal.main_arg1)
          ∧ r.2.mem ((c.tc : Thread Cert.InProjSampleIdeal.nD Cert.InProjSampleIdeal.τ).loc Cert.InProjSampleIdeal.main_arg2) = m ((c.tc : Thread Cert.InProjSampleIdeal.nD Cert.InProjSampleIdeal.τ).loc Cert.InProjSampleIdeal.main_arg2))
      ∧ θ_run (Cert.InProjSampleReferenceIdeal.defs (F := Ideal)) (onTc (τ := Cert.InProjSampleReferenceIdeal.τ) (Cert.InProjSampleReferenceIdeal.main (F := Ideal))) ⟨m', fun _ => 0, g'⟩ (fun r => ∀ c : Dev Cert.InProjSampleReferenceIdeal.nD,
          r.2.mem ((c.tc : Thread Cert.InProjSampleReferenceIdeal.nD Cert.InProjSampleReferenceIdeal.τ).loc Cert.InProjSampleReferenceIdeal.main_v24) = v0 c
          ∧ r.2.mem ((c.tc : Thread Cert.InProjSampleReferenceIdeal.nD Cert.InProjSampleReferenceIdeal.τ).loc Cert.InProjSampleReferenceIdeal.main_v25) = v1 c
          ∧ r.2.mem ((c.tc : Thread Cert.InProjSampleReferenceIdeal.nD Cert.InProjSampleReferenceIdeal.τ).loc Cert.InProjSampleReferenceIdeal.main_v22) = v2 c
          ∧ r.2.mem ((c.tc : Thread Cert.InProjSampleReferenceIdeal.nD Cert.InProjSampleReferenceIdeal.τ).loc Cert.InProjSampleReferenceIdeal.main_arg0) = m' ((c.tc : Thread Cert.InProjSampleReferenceIdeal.nD Cert.InProjSampleReferenceIdeal.τ).loc Cert.InProjSampleReferenceIdeal.main_arg0)
          ∧ r.2.mem ((c.tc : Thread Cert.InProjSampleReferenceIdeal.nD Cert.InProjSampleReferenceIdeal.τ).loc Cert.InProjSampleReferenceIdeal.main_arg1) = m' ((c.tc : Thread Cert.InProjSampleReferenceIdeal.nD Cert.InProjSampleReferenceIdeal.τ).loc Cert.InProjSampleReferenceIdeal.main_arg1)
          ∧ r.2.mem ((c.tc : Thread Cert.InProjSampleReferenceIdeal.nD Cert.InProjSampleReferenceIdeal.τ).loc Cert.InProjSampleReferenceIdeal.main_arg2) = m' ((c.tc : Thread Cert.InProjSampleReferenceIdeal.nD Cert.InProjSampleReferenceIdeal.τ).loc Cert.InProjSampleReferenceIdeal.main_arg2))

def preserves_FfnSample_FfnSampleIdeal : Prop :=
  True

def algebraic_FfnSampleIdeal_FfnSampleReferenceIdeal [hFfnSampleIdeal : Cert.FfnSampleIdeal.Facts] [hFfnSampleReferenceIdeal : Cert.FfnSampleReferenceIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleReferenceIdeal.nD Cert.FfnSampleReferenceIdeal.τ Cert.FfnSampleReferenceIdeal.sig) → Buf (Elt Ideal) ℓ) (g' : Dev Cert.FfnSampleReferenceIdeal.nD → PrngReg), Pre_FfnSampleIdeal m →
    (∀ c : Dev Cert.FfnSampleIdeal.nD,
      m' ((c.tc : Thread Cert.FfnSampleReferenceIdeal.nD Cert.FfnSampleReferenceIdeal.τ).loc Cert.FfnSampleReferenceIdeal.main_arg0) = m ((c.tc : Thread Cert.FfnSampleIdeal.nD Cert.FfnSampleIdeal.τ).loc Cert.FfnSampleIdeal.main_arg0)
      ∧ m' ((c.tc : Thread Cert.FfnSampleReferenceIdeal.nD Cert.FfnSampleReferenceIdeal.τ).loc Cert.FfnSampleReferenceIdeal.main_arg1) = m ((c.tc : Thread Cert.FfnSampleIdeal.nD Cert.FfnSampleIdeal.τ).loc Cert.FfnSampleIdeal.main_arg1)
      ∧ m' ((c.tc : Thread Cert.FfnSampleReferenceIdeal.nD Cert.FfnSampleReferenceIdeal.τ).loc Cert.FfnSampleReferenceIdeal.main_arg2) = m ((c.tc : Thread Cert.FfnSampleIdeal.nD Cert.FfnSampleIdeal.τ).loc Cert.FfnSampleIdeal.main_arg2)
      ∧ m' ((c.tc : Thread Cert.FfnSampleReferenceIdeal.nD Cert.FfnSampleReferenceIdeal.τ).loc Cert.FfnSampleReferenceIdeal.main_arg3) = m ((c.tc : Thread Cert.FfnSampleIdeal.nD Cert.FfnSampleIdeal.τ).loc Cert.FfnSampleIdeal.main_arg3)
      ∧ m' ((c.tc : Thread Cert.FfnSampleReferenceIdeal.nD Cert.FfnSampleReferenceIdeal.τ).loc Cert.FfnSampleReferenceIdeal.main_arg4) = m ((c.tc : Thread Cert.FfnSampleIdeal.nD Cert.FfnSampleIdeal.τ).loc Cert.FfnSampleIdeal.main_arg4)
      ∧ m' ((c.tc : Thread Cert.FfnSampleReferenceIdeal.nD Cert.FfnSampleReferenceIdeal.τ).loc Cert.FfnSampleReferenceIdeal.main_arg5) = m ((c.tc : Thread Cert.FfnSampleIdeal.nD Cert.FfnSampleIdeal.τ).loc Cert.FfnSampleIdeal.main_arg5)
      ∧ m' ((c.tc : Thread Cert.FfnSampleReferenceIdeal.nD Cert.FfnSampleReferenceIdeal.τ).loc Cert.FfnSampleReferenceIdeal.main_arg6) = m ((c.tc : Thread Cert.FfnSampleIdeal.nD Cert.FfnSampleIdeal.τ).loc Cert.FfnSampleIdeal.main_arg6)
      ∧ m' ((c.tc : Thread Cert.FfnSampleReferenceIdeal.nD Cert.FfnSampleReferenceIdeal.τ).loc Cert.FfnSampleReferenceIdeal.main_arg7) = m ((c.tc : Thread Cert.FfnSampleIdeal.nD Cert.FfnSampleIdeal.τ).loc Cert.FfnSampleIdeal.main_arg7)
      ∧ m' ((c.tc : Thread Cert.FfnSampleReferenceIdeal.nD Cert.FfnSampleReferenceIdeal.τ).loc Cert.FfnSampleReferenceIdeal.main_arg8) = m ((c.tc : Thread Cert.FfnSampleIdeal.nD Cert.FfnSampleIdeal.τ).loc Cert.FfnSampleIdeal.main_arg8)) →
    ∃ (v0 : (c : Dev Cert.FfnSampleIdeal.nD) → Buf (Elt Ideal) ((c.tc : Thread Cert.FfnSampleIdeal.nD Cert.FfnSampleIdeal.τ).loc Cert.FfnSampleIdeal.main_v6)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v6) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5)
          ∧ r.2.mem ((c.tc : Thread Cert.FfnSampleIdeal.nD Cert.FfnSampleIdeal.τ).loc Cert.FfnSampleIdeal.main_arg6) = m ((c.tc : Thread Cert.FfnSampleIdeal.nD Cert.FfnSampleIdeal.τ).loc Cert.FfnSampleIdeal.main_arg6)
          ∧ r.2.mem ((c.tc : Thread Cert.FfnSampleIdeal.nD Cert.FfnSampleIdeal.τ).loc Cert.FfnSampleIdeal.main_arg7) = m ((c.tc : Thread Cert.FfnSampleIdeal.nD Cert.FfnSampleIdeal.τ).loc Cert.FfnSampleIdeal.main_arg7)
          ∧ r.2.mem ((c.tc : Thread Cert.FfnSampleIdeal.nD Cert.FfnSampleIdeal.τ).loc Cert.FfnSampleIdeal.main_arg8) = m ((c.tc : Thread Cert.FfnSampleIdeal.nD Cert.FfnSampleIdeal.τ).loc Cert.FfnSampleIdeal.main_arg8))
      ∧ θ_run (Cert.FfnSampleReferenceIdeal.defs (F := Ideal)) (onTc (τ := Cert.FfnSampleReferenceIdeal.τ) (Cert.FfnSampleReferenceIdeal.main (F := Ideal))) ⟨m', fun _ => 0, g'⟩ (fun r => ∀ c : Dev Cert.FfnSampleReferenceIdeal.nD,
          r.2.mem ((c.tc : Thread Cert.FfnSampleReferenceIdeal.nD Cert.FfnSampleReferenceIdeal.τ).loc Cert.FfnSampleReferenceIdeal.main_v47) = v0 c
          ∧ r.2.mem ((c.tc : Thread Cert.FfnSampleReferenceIdeal.nD Cert.FfnSampleReferenceIdeal.τ).loc Cert.FfnSampleReferenceIdeal.main_arg0) = m' ((c.tc : Thread Cert.FfnSampleReferenceIdeal.nD Cert.FfnSampleReferenceIdeal.τ).loc Cert.FfnSampleReferenceIdeal.main_arg0)
          ∧ r.2.mem ((c.tc : Thread Cert.FfnSampleReferenceIdeal.nD Cert.FfnSampleReferenceIdeal.τ).loc Cert.FfnSampleReferenceIdeal.main_arg1) = m' ((c.tc : Thread Cert.FfnSampleReferenceIdeal.nD Cert.FfnSampleReferenceIdeal.τ).loc Cert.FfnSampleReferenceIdeal.main_arg1)
          ∧ r.2.mem ((c.tc : Thread Cert.FfnSampleReferenceIdeal.nD Cert.FfnSampleReferenceIdeal.τ).loc Cert.FfnSampleReferenceIdeal.main_arg2) = m' ((c.tc : Thread Cert.FfnSampleReferenceIdeal.nD Cert.FfnSampleReferenceIdeal.τ).loc Cert.FfnSampleReferenceIdeal.main_arg2)
          ∧ r.2.mem ((c.tc : Thread Cert.FfnSampleReferenceIdeal.nD Cert.FfnSampleReferenceIdeal.τ).loc Cert.FfnSampleReferenceIdeal.main_arg3) = m' ((c.tc : Thread Cert.FfnSampleReferenceIdeal.nD Cert.FfnSampleReferenceIdeal.τ).loc Cert.FfnSampleReferenceIdeal.main_arg3)
          ∧ r.2.mem ((c.tc : Thread Cert.FfnSampleReferenceIdeal.nD Cert.FfnSampleReferenceIdeal.τ).loc Cert.FfnSampleReferenceIdeal.main_arg4) = m' ((c.tc : Thread Cert.FfnSampleReferenceIdeal.nD Cert.FfnSampleReferenceIdeal.τ).loc Cert.FfnSampleReferenceIdeal.main_arg4)
          ∧ r.2.mem ((c.tc : Thread Cert.FfnSampleReferenceIdeal.nD Cert.FfnSampleReferenceIdeal.τ).loc Cert.FfnSampleReferenceIdeal.main_arg5) = m' ((c.tc : Thread Cert.FfnSampleReferenceIdeal.nD Cert.FfnSampleReferenceIdeal.τ).loc Cert.FfnSampleReferenceIdeal.main_arg5)
          ∧ r.2.mem ((c.tc : Thread Cert.FfnSampleReferenceIdeal.nD Cert.FfnSampleReferenceIdeal.τ).loc Cert.FfnSampleReferenceIdeal.main_arg6) = m' ((c.tc : Thread Cert.FfnSampleReferenceIdeal.nD Cert.FfnSampleReferenceIdeal.τ).loc Cert.FfnSampleReferenceIdeal.main_arg6)
          ∧ r.2.mem ((c.tc : Thread Cert.FfnSampleReferenceIdeal.nD Cert.FfnSampleReferenceIdeal.τ).loc Cert.FfnSampleReferenceIdeal.main_arg7) = m' ((c.tc : Thread Cert.FfnSampleReferenceIdeal.nD Cert.FfnSampleReferenceIdeal.τ).loc Cert.FfnSampleReferenceIdeal.main_arg7)
          ∧ r.2.mem ((c.tc : Thread Cert.FfnSampleReferenceIdeal.nD Cert.FfnSampleReferenceIdeal.τ).loc Cert.FfnSampleReferenceIdeal.main_arg8) = m' ((c.tc : Thread Cert.FfnSampleReferenceIdeal.nD Cert.FfnSampleReferenceIdeal.τ).loc Cert.FfnSampleReferenceIdeal.main_arg8))

def preserves_RetSample_RetSampleIdeal : Prop :=
  IdealRules.named_const.Statement Cert.RetSampleIdeal.κ "g0" .f32 0x3F1A09B0#32 ((727423121747185263828481 / 1208925819614629174706176 : ℝ) : EReal)
  ∧ IdealRules.named_const.Statement Cert.RetSampleIdeal.κ "g1" .f32 0x3F46FADA#32 ((61581291280182164914327485441 / 79228162514264337593543950336 : ℝ) : EReal)
  ∧ IdealRules.named_const.Statement Cert.RetSampleIdeal.κ "g2" .f32 0x3F61CEF0#32 ((4579937329576774398276408998492161 / 5192296858534827628530496329220096 : ℝ) : EReal)
  ∧ IdealRules.named_const.Statement Cert.RetSampleIdeal.κ "g3" .f32 0x3F7075D7#32 ((319626579315078487616775634918212890625 / 340282366920938463463374607431768211456 : ℝ) : EReal)
  ∧ IdealRules.named_const.Statement Cert.RetSampleIdeal.κ "g4" .f32 0x3F781DBA#32 ((21613962923989568949877044687531502418780161 / 22300745198530623141535718272648361505980416 : ℝ) : EReal)
  ∧ IdealRules.named_const.Statement Cert.RetSampleIdeal.κ "g5" .f32 0x3F7C0777#32 ((1438832170017629738236700430841864450398008360961 / 1461501637330902918203684832716283019655932542976 : ℝ) : EReal)
  ∧ IdealRules.named_const.Statement Cert.RetSampleIdeal.κ "g6" .f32 0x3F7E01DF#32 ((95035416547063391984371436569914242237166403230597121 / 95780971304118053647396689196894323976171195136475136 : ℝ) : EReal)
  ∧ IdealRules.named_const.Statement Cert.RetSampleIdeal.κ "g7" .f32 0x3F7F0078#32 ((6252626652951131626106113631849575343934966259918212890625 / 6277101735386680763835789423207666416102355444464034512896 : ℝ) : EReal)

def algebraic_RetSampleIdeal_RetSampleReferenceIdeal [hRetSampleIdeal : Cert.RetSampleIdeal.Facts] [hRetSampleReferenceIdeal : Cert.RetSampleReferenceIdeal.Facts] : Prop :=
  ∀ (m : (ℓ : Loc Cert.RetSampleIdeal.nD Cert.RetSampleIdeal.τ Cert.RetSampleIdeal.sig) → Buf (Elt Ideal) ℓ) (g : Dev Cert.RetSampleIdeal.nD → PrngReg)
    (m' : (ℓ : Loc Cert.RetSampleReferenceIdeal.nD Cert.RetSampleReferenceIdeal.τ Cert.RetSampleReferenceIdeal.sig) → Buf (Elt Ideal) ℓ) (g' : Dev Cert.RetSampleReferenceIdeal.nD → PrngReg), Pre_RetSampleIdeal m →
    (∀ c : Dev Cert.RetSampleIdeal.nD,
      m' ((c.tc : Thread Cert.RetSampleReferenceIdeal.nD Cert.RetSampleReferenceIdeal.τ).loc Cert.RetSampleReferenceIdeal.main_arg0) = m ((c.tc : Thread Cert.RetSampleIdeal.nD Cert.RetSampleIdeal.τ).loc Cert.RetSampleIdeal.main_arg0)
      ∧ m' ((c.tc : Thread Cert.RetSampleReferenceIdeal.nD Cert.RetSampleReferenceIdeal.τ).loc Cert.RetSampleReferenceIdeal.main_arg1) = m ((c.tc : Thread Cert.RetSampleIdeal.nD Cert.RetSampleIdeal.τ).loc Cert.RetSampleIdeal.main_arg1)) →
    ∃ (v0 : (c : Dev Cert.RetSampleIdeal.nD) → Buf (Elt Ideal) ((c.tc : Thread Cert.RetSampleIdeal.nD Cert.RetSampleIdeal.τ).loc Cert.RetSampleIdeal.main_v54_1)),
      θ_run (Cert.RetSampleIdeal.defs (F := Ideal)) (onTc (τ := Cert.RetSampleIdeal.τ) (Cert.RetSampleIdeal.main (F := Ideal))) ⟨m, fun _ => 0, g⟩ (fun r => ∀ c : Dev Cert.RetSampleIdeal.nD,
          r.2.mem ((c.tc : Thread Cert.RetSampleIdeal.nD Cert.RetSampleIdeal.τ).loc Cert.RetSampleIdeal.main_v54_1) = v0 c
          ∧ r.2.mem ((c.tc : Thread Cert.RetSampleIdeal.nD Cert.RetSampleIdeal.τ).loc Cert.RetSampleIdeal.main_arg0) = m ((c.tc : Thread Cert.RetSampleIdeal.nD Cert.RetSampleIdeal.τ).loc Cert.RetSampleIdeal.main_arg0)
          ∧ r.2.mem ((c.tc : Thread Cert.RetSampleIdeal.nD Cert.RetSampleIdeal.τ).loc Cert.RetSampleIdeal.main_arg1) = m ((c.tc : Thread Cert.RetSampleIdeal.nD Cert.RetSampleIdeal.τ).loc Cert.RetSampleIdeal.main_arg1))
      ∧ θ_run (Cert.RetSampleReferenceIdeal.defs (F := Ideal)) (onTc (τ := Cert.RetSampleReferenceIdeal.τ) (Cert.RetSampleReferenceIdeal.main (F := Ideal))) ⟨m', fun _ => 0, g'⟩ (fun r => ∀ c : Dev Cert.RetSampleReferenceIdeal.nD,
          r.2.mem ((c.tc : Thread Cert.RetSampleReferenceIdeal.nD Cert.RetSampleReferenceIdeal.τ).loc Cert.RetSampleReferenceIdeal.main_v41) = v0 c
          ∧ r.2.mem ((c.tc : Thread Cert.RetSampleReferenceIdeal.nD Cert.RetSampleReferenceIdeal.τ).loc Cert.RetSampleReferenceIdeal.main_arg0) = m' ((c.tc : Thread Cert.RetSampleReferenceIdeal.nD Cert.RetSampleReferenceIdeal.τ).loc Cert.RetSampleReferenceIdeal.main_arg0)
          ∧ r.2.mem ((c.tc : Thread Cert.RetSampleReferenceIdeal.nD Cert.RetSampleReferenceIdeal.τ).loc Cert.RetSampleReferenceIdeal.main_arg1) = m' ((c.tc : Thread Cert.RetSampleReferenceIdeal.nD Cert.RetSampleReferenceIdeal.τ).loc Cert.RetSampleReferenceIdeal.main_arg1))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hInProj : Cert.InProj.Facts) (hInProjIdeal : Cert.InProjIdeal.Facts) (hInProjReferenceIdeal : Cert.InProjReferenceIdeal.Facts) (hInProjSample : Cert.InProjSample.Facts) (hInProjSampleIdeal : Cert.InProjSampleIdeal.Facts) (hInProjSampleReferenceIdeal : Cert.InProjSampleReferenceIdeal.Facts) (hFfnSample : Cert.FfnSample.Facts) (hFfnSampleIdeal : Cert.FfnSampleIdeal.Facts) (hFfnSampleReferenceIdeal : Cert.FfnSampleReferenceIdeal.Facts) (hRetSample : Cert.RetSample.Facts) (hRetSampleIdeal : Cert.RetSampleIdeal.Facts) (hRetSampleReferenceIdeal : Cert.RetSampleReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnReferenceIdeal (hFfnReferenceIdeal := hFfnReferenceIdeal)
    ∧ quiescent_InProj (hInProj := hInProj)
    ∧ quiescent_InProjIdeal (hInProjIdeal := hInProjIdeal)
    ∧ quiescent_InProjReferenceIdeal (hInProjReferenceIdeal := hInProjReferenceIdeal)
    ∧ quiescent_InProjSample (hInProjSample := hInProjSample)
    ∧ quiescent_InProjSampleIdeal (hInProjSampleIdeal := hInProjSampleIdeal)
    ∧ quiescent_InProjSampleReferenceIdeal (hInProjSampleReferenceIdeal := hInProjSampleReferenceIdeal)
    ∧ quiescent_FfnSample (hFfnSample := hFfnSample)
    ∧ quiescent_FfnSampleIdeal (hFfnSampleIdeal := hFfnSampleIdeal)
    ∧ quiescent_FfnSampleReferenceIdeal (hFfnSampleReferenceIdeal := hFfnSampleReferenceIdeal)
    ∧ quiescent_RetSample (hRetSample := hRetSample)
    ∧ quiescent_RetSampleIdeal (hRetSampleIdeal := hRetSampleIdeal)
    ∧ quiescent_RetSampleReferenceIdeal (hRetSampleReferenceIdeal := hRetSampleReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnReferenceIdeal (hFfnIdeal := hFfnIdeal) (hFfnReferenceIdeal := hFfnReferenceIdeal)
    ∧ preserves_InProj_InProjIdeal
    ∧ algebraic_InProjIdeal_InProjReferenceIdeal (hInProjIdeal := hInProjIdeal) (hInProjReferenceIdeal := hInProjReferenceIdeal)
    ∧ preserves_InProjSample_InProjSampleIdeal
    ∧ algebraic_InProjSampleIdeal_InProjSampleReferenceIdeal (hInProjSampleIdeal := hInProjSampleIdeal) (hInProjSampleReferenceIdeal := hInProjSampleReferenceIdeal)
    ∧ preserves_FfnSample_FfnSampleIdeal
    ∧ algebraic_FfnSampleIdeal_FfnSampleReferenceIdeal (hFfnSampleIdeal := hFfnSampleIdeal) (hFfnSampleReferenceIdeal := hFfnSampleReferenceIdeal)
    ∧ preserves_RetSample_RetSampleIdeal
    ∧ algebraic_RetSampleIdeal_RetSampleReferenceIdeal (hRetSampleIdeal := hRetSampleIdeal) (hRetSampleReferenceIdeal := hRetSampleReferenceIdeal)
-- ==== Pre_finite.lean ====
abbrev S32768x3072 : Shape := ⟨2, ![32768, 3072]⟩
abbrev S4x8x64x64 : Shape := ⟨4, ![4, 8, 64, 64]⟩
abbrev S32768x512 : Shape := ⟨2, ![32768, 512]⟩
abbrev S_ : Shape := ⟨0, ![]⟩

class Facts : Prop where
  slices_S32768x3072_S32768x512_0_0 : S32768x3072.Slices ![0, 0] S32768x512
  bcast_S_S32768x512 : S_.BroadcastsInDim S32768x512 (![] : Fin 0 → Fin S32768x512.rank)
  slices_S32768x3072_S32768x512_0_1024 : S32768x3072.Slices ![0, 1024] S32768x512

variable [Facts]

def fn {F : FTy → Type} [FloatOps F] (main_arg0 : FVec F S32768x3072 .f32) (main_arg1 : FVec F S4x8x64x64 .f32) : IVec S32768x512 1 × IVec S32768x512 1 :=
  let main_v0 : FVec F S32768x512 .f32 := (extractStridedSlice S32768x512 ![0, 0] · slices_S32768x3072_S32768x512_0_0) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  let main_v4 : FVec F S32768x512 .f32 := (extractStridedSlice S32768x512 ![0, 1024] · slices_S32768x3072_S32768x512_0_1024) main_arg0
  let main_v5 : FVec F S32768x512 .f32 := Host.absf main_v4
  let main_cst_0 : FVec F S_ .f32 := constant S_ .f32 0x7F800000#32
  let main_v6 : FVec F S32768x512 .f32 := broadcastInDim S32768x512 ![] bcast_S_S32768x512 main_cst_0
  let main_v7 : IVec S32768x512 1 := cmpf .olt main_v5 main_v6
  (main_v3, main_v7)
-- ==== Kernel.lean ====
abbrev S32768x3072 : Shape := ⟨2, ![32768, 3072]⟩
abbrev S4x8x64x64 : Shape := ⟨4, ![4, 8, 64, 64]⟩
abbrev S8 : Shape := ⟨1, ![8]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S8x1x1 : Shape := ⟨3, ![8, 1, 1]⟩
abbrev S1x512x512 : Shape := ⟨3, ![1, 512, 512]⟩
abbrev S8x512x512 : Shape := ⟨3, ![8, 512, 512]⟩
abbrev S1x8 : Shape := ⟨2, ![1, 8]⟩
abbrev S512x8 : Shape := ⟨2, ![512, 8]⟩
abbrev S512x8x64 : Shape := ⟨3, ![512, 8, 64]⟩
abbrev S32768x512 : Shape := ⟨2, ![32768, 512]⟩
abbrev S1x8x64x64 : Shape := ⟨4, ![1, 8, 64, 64]⟩
abbrev S8x64x64 : Shape := ⟨3, ![8, 64, 64]⟩
abbrev S512x64 : Shape := ⟨2, ![512, 64]⟩
abbrev S1x64x64 : Shape := ⟨3, ![1, 64, 64]⟩
abbrev S64x64 : Shape := ⟨2, ![64, 64]⟩

abbrev nBuf : Space → Nat
  | .hbm => 81
  | .vmem => 18
  | .smem => 0
  | _ => 0

abbrev bufTy : (tb : Table) → Fin (tcTables nBuf tb) → BufTy
  | .hbm, ⟨0, _⟩ => ⟨S32768x3072, .f32⟩
  | .hbm, ⟨1, _⟩ => ⟨S4x8x64x64, .f32⟩
  | .hbm, ⟨2, _⟩ => ⟨S8, .f32⟩
  | .hbm, ⟨3, _⟩ => ⟨S8, .f32⟩
  | .hbm, ⟨4, _⟩ => ⟨S512, .i32⟩
  | .hbm, ⟨5, _⟩ => ⟨S_, .i32⟩
  | .hbm, ⟨6, _⟩ => ⟨S_, .i32⟩
  | .hbm, ⟨7, _⟩ => ⟨S512, .i32⟩
  | .hbm, ⟨8, _⟩ => ⟨S512, .i32⟩
  | .hbm, ⟨9, _⟩ => ⟨S512, .i32⟩
  | .hbm, ⟨10, _⟩ => ⟨S_, .i32⟩
  | .hbm, ⟨11, _⟩ => ⟨S512, .i32⟩
  | .hbm, ⟨12, _⟩ => ⟨S512, .i1⟩
  | .hbm, ⟨13, _⟩ => ⟨S512, .i32⟩
  | .hbm, ⟨14, _⟩ => ⟨S512, .i32⟩
  | .hbm, ⟨15, _⟩ => ⟨S_, .i32⟩
  | .hbm, ⟨16, _⟩ => ⟨S512, .i32⟩
  | .hbm, ⟨17, _⟩ => ⟨S512, .i1⟩
  | .hbm, ⟨18, _⟩ => ⟨S512, .i1⟩
  | .hbm, ⟨19, _⟩ => ⟨S_, .i32⟩
  | .hbm, ⟨20, _⟩ => ⟨S512, .i32⟩
  | .hbm, ⟨21, _⟩ => ⟨S512, .i32⟩
  | .hbm, ⟨22, _⟩ => ⟨S512, .i32⟩
  | .hbm, ⟨23, _⟩ => ⟨S512x1, .i32⟩
  | .hbm, ⟨24, _⟩ => ⟨S1x512, .i32⟩
  | .hbm, ⟨25, _⟩ => ⟨S512x512, .i32⟩
  | .hbm, ⟨26, _⟩ => ⟨S512x512, .i32⟩
  | .hbm, ⟨27, _⟩ => ⟨S512x512, .i32⟩
  | .hbm, ⟨28, _⟩ => ⟨S512x1, .i32⟩
  | .hbm, ⟨29, _⟩ => ⟨S1x512, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S1x512, .i32⟩
  | .hbm, ⟨34, _⟩ => ⟨S512x1, .i32⟩
  | .hbm, ⟨35, _⟩ => ⟨S512x512, .i32⟩
  | .hbm, ⟨36, _⟩ => ⟨S512x512, .i32⟩
  | .hbm, ⟨37, _⟩ => ⟨S512x512, .i1⟩
  | .hbm, ⟨38, _⟩ => ⟨S512x512, .i32⟩
  | .hbm, ⟨39, _⟩ => ⟨S_, .i32⟩
  | .hbm, ⟨40, _⟩ => ⟨S_, .i32⟩
  | .hbm, ⟨41, _⟩ => ⟨S512x512, .i32⟩
  | .hbm, ⟨42, _⟩ => ⟨S512x512, .i32⟩
  | .hbm, ⟨43, _⟩ => ⟨S512x512, .i32⟩
  | .hbm, ⟨44, _⟩ => ⟨S512x512, .f32⟩
  | .hbm, ⟨45, _⟩ => ⟨S8x1x1, .f32⟩
  | .hbm, ⟨46, _⟩ => ⟨S1x512x512, .f32⟩
  | .hbm, ⟨47, _⟩ => ⟨S8x512x512, .f32⟩
  | .hbm, ⟨48, _⟩ => ⟨S8x512x512, .f32⟩
  | .hbm, ⟨49, _⟩ => ⟨S8x512x512, .f32⟩
  | .hbm, ⟨50, _⟩ => ⟨S8x512x512, .f32⟩
  | .hbm, ⟨51, _⟩ => ⟨S512x512, .i1⟩
  | .hbm, ⟨52, _⟩ => ⟨S1x512x512, .i1⟩
  | .hbm, ⟨53, _⟩ => ⟨S1x512x512, .f32⟩
  | .hbm, ⟨54, _⟩ => ⟨S8x512x512, .f32⟩
  | .hbm, ⟨55, _⟩ => ⟨S8x512x512, .f32⟩
  | .hbm, ⟨56, _⟩ => ⟨S512, .f32⟩
  | .hbm, ⟨57, _⟩ => ⟨S1x8, .f32⟩
  | .hbm, ⟨58, _⟩ => ⟨S_, .f32⟩
  | .hbm, ⟨59, _⟩ => ⟨S512, .f32⟩
  | .hbm, ⟨60, _⟩ => ⟨S512, .f32⟩
  | .hbm, ⟨61, _⟩ => ⟨S512x1, .f32⟩
  | .hbm, ⟨62, _⟩ => ⟨S512x8, .f32⟩
  | .hbm, ⟨63, _⟩ => ⟨S512x8, .f32⟩
  | .hbm, ⟨64, _⟩ => ⟨S512x8, .f32⟩
  | .hbm, ⟨65, _⟩ => ⟨S512x8, .f32⟩
  | .hbm, ⟨66, _⟩ => ⟨S1x8, .f32⟩
  | .hbm, ⟨67, _⟩ => ⟨S_, .f32⟩
  | .hbm, ⟨68, _⟩ => ⟨S512, .f32⟩
  | .hbm, ⟨69, _⟩ => ⟨S512, .f32⟩
  | .hbm, ⟨70, _⟩ => ⟨S512x1, .f32⟩
  | .hbm, ⟨71, _⟩ => ⟨S512x8, .f32⟩
  | .hbm, ⟨72, _⟩ => ⟨S512x8, .f32⟩
  | .hbm, ⟨73, _⟩ => ⟨S512x8, .f32⟩
  | .hbm, ⟨74, _⟩ => ⟨S512x8, .f32⟩
  | .hbm, ⟨75, _⟩ => ⟨S512x8x64, .f32⟩
  | .hbm, ⟨76, _⟩ => ⟨S512x512, .f32⟩
  | .hbm, ⟨77, _⟩ => ⟨S512x8x64, .f32⟩
  | .hbm, ⟨78, _⟩ => ⟨S512x512, .f32⟩
  | .hbm, ⟨79, _⟩ => ⟨S32768x512, .f32⟩
  | .hbm, ⟨80, _⟩ => ⟨S4x8x64x64, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S8x512x512, .f32⟩
  | .local _ .vmem, ⟨9, _⟩ => ⟨S512x512, .f32⟩
  | .local _ .vmem, ⟨10, _⟩ => ⟨S512x512, .f32⟩
  | .local _ .vmem, ⟨11, _⟩ => ⟨S1x8x64x64, .f32⟩
  | .local _ .vmem, ⟨12, _⟩ => ⟨S1x8x64x64, .f32⟩
  | .local _ .vmem, ⟨13, _⟩ => ⟨S512x512, .f32⟩
  | .local _ .vmem, ⟨14, _⟩ => ⟨S512x512, .f32⟩
  | .local _ .vmem, ⟨15, _⟩ => ⟨S1x8x64x64, .f32⟩
  | .local _ .vmem, ⟨16, _⟩ => ⟨S1x8x64x64, .f32⟩
  | .local _ .vmem, ⟨17, _⟩ => ⟨S8x64x64, .f32⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_1 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54_0 : Ref sig .tc := ⟨.hbm, 79, rfl⟩
abbrev main_v54_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v301 : BitVec 1 := Scalar.cmpi .eq arg1 c15_i32
  let v302 : BitVec 32 := Scalar.extui v301
  let c0_i32_145 : BitVec 32 := 0#32
  let v303 : BitVec 1 := Scalar.cmpi .ne v302 c0_i32_145
  v303

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c3_i32 : BitVec 32 := 3#32
  let c0_i32 : BitVec 32 := 0#32
  ![v1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== KernelIdeal.lean ====
variable {F : FTy → Type} [FloatOps F] [Named F]
def κ : String → Option EReal := fun
  | "g0" => some ((37773501373587895264561025281863094466978322863250082155056197047714197993620357069462566843251141571815151509518310006938108851221805528875384735491918787987993007026673217297684350189260329533443500752237702397882867800472239741801018068025710521276376920054106347317369170879956285518344534043017584487970014275003121885415024692223611928229555180012063629119385814923462407514649370698028478003077284206879157442661924961962496906798906289722020904167557393854423634351272073157329444358426257475496763769833535044716482939223140353788667801596443076750100019227022529972107862684832884884953616549356032737737560624277786244888885640776979303991888709970576020492391819718718022540913110645906048622371363024999152764514494346409046802940547223374264991989761 / 433300210274926779301235722995130529126851924312253566276831366547097655953268278873591999368453759375352459120642109169274240110620843517970102311224458427564046616227161115801662152359395451958893835480905010246703239443701925453743683726938789767940577524555724362397039358587448248740993955708382317083531851133758531532844694304737183093418571190053292997716413815714417740434254315670267335553209606545389900958653541702218767662872949109999460596999125719155768466778443229719919179735890978537026576050107500869340314188887101095263339865901080787145771915722368720844521851040375582291274824574444462419841916186875058374404329003250698574832235855871168399140082282900718430116575617097058691735266917705341386171618452673063526784039252631042036988932549246976 : ℝ) : EReal)
  | "g1" => some ((1829621774605758272681815819484683697681150539469011454438616122872366586877961375423552938964897463581109311319808945929321298231222196853224309380553356598527187733647566956679876664510406200387532239098866763910735103693757864325685201781028709572541054704230147228901626173617845623866755028773487006228196871956399293777844670844588890365947840179218366401379809504532746346887953865832195191206213754527293556396076242770833333424859408089492408707363104206318131240193034555251174707300516911335616652311290870865347642390409969838803258688702995862359971782715471732239812296945161529682875118411479993770111929053328666562411048451820999794871863883648685446514936239708945819761126851454994246472415681218954364540036877875237307371399305121518243006867940085660711723331808878467596848695632021577955375324082707777555176893790414740944947537790853234120367235299976717295550925400882608856085946429027356999681 / 5809605995369958062859502533304574370686975176362895236661486152287203730997110225737336044533118407251326157754980517443990529594540047121662885672187032401032111639706440498844049850989051627200244765807041812394729680540024104827976584369381522292361208779044769892743225751738076979568811309579125511333093243519553784816306381580161860200247492568448150242515304449577187604136428738580990172551573934146255830366405915000869643732053218566832545291107903722831634138599586406690325959725187447169059540805012310209639011750748760017095360734234945757416272994856013308616958529958304677637019181594088528345061285863898271763457294883546638879554311615446446330199254382340016292057090751175533888161918987295591531536698701292267685465517437915790823154844634780260102891718032495396075041899485513811126977307478969074857043710716150121315922024556759241239013152919710956468406379442914941614357107914462567329693696 : ℝ) : EReal)
  | "g2" => some ((1404446271387748490991100751544441416500050300583111850106297445761924979898824020252629019508656514869654924263160394274298526494841742808089592506924696822065104347690187843030595438316417714600761377522809495063977068799898120017030725733509352799438726555671667253019781735949865820679186967706658305802624047706122378875802774137941142204600702153393013250422058032066442262543774044082163695495396960829949594646939266482017469777673732527829511618772798737574783702810777504185793071952212259952420398015608838414365618600684563300554270564144757059601105334104440451451503119524170492445584099364250966818507715079225370021816812537114137141734153221017217708940430101039483382996521634099251395732985737880090843089470161642390778363523012009209705024717668555696048942912207090503662275263094243617304431537642065704769846014295462350881954984154152995597063243216506885941184166713897620223768749011634915213056620578338092475557901514134844722255531178520698446431977629547872397858804700513496351353376208959542001545890447396386704893880348789257703729454966046721 / 77894081334563378764508707451908598634363875792546106220991280972045090113143756247350828053674522774404165906274379945792494917548310574063247841644081929897178637546129401264215614159952590061562154920415452396586835739484982091767625288759481559848471677444112808287056706983922605030201811478361890468927498235629942743709470298595236463543790410896095163738073479981402477878246455235112829189027769705658237222594837250410596602457047413758430150029851731582921543526442245527917224855827827816621485551057937401676948938343002233871424814483269902707836173007455043074627168642672708601404181510388085656853057668361672906095700421037654202545940344737030366578366357572799593982155560321323484375285391015752337555589179864820742955048320397684982749773202572245522578129312632534144771795735226370030108952558937781899103282137065731057232138475034306548038575468027244771033983289060691556811292977131791103945007556626409018279457155155668381388949742836902985341946964734897090584115806967893331511501620481794544357260889558504863310391891382713164805617024097058816 : ℝ) : EReal)
  | "g3" => some ((140790185837792199441034568834759689661961914255409783776507730514854051007709415813883556603916373715574609136622656266685437371240367102594306883990627058503595731196218539952498937154304868900451168465638684310150100849641435841139217062156438276896626062062198647086055077575162638489964162577757745791360359602594152663967581007128020183983475616184060291020280954283680281674917836880158513873602360456989017509319939290584160385503386612259448606518762697158261848012807333889519148168749022803256593164455574302209211629222893563391051638927501110961756902904355953180126361779417692843008682740196572759446217716395263378965738984268986873937434316610747487819328925728597617546673206661697068531366810303423451995144891700992319420217886417615624695907128294136584386588241909336794326419068629630654654884474138368393842951923487338404952757338269210791423057520833932043960455320073315147460070596891191382346173068760307712728401170686699888726822189521347886230198239556599370583636884951718768971453231066747582338011063460026539119389458194710451140772448483717780321604240950362368894604426083886127596429268830858032089081938717329656187417957254785835822222695699852540993958494031090822318219579756259918212890625 / 1044388881413152506691752710716624382579964249047383780384233483283953907971557456848826811934997558340890106714439262837987573438185793607263236087851365277945956976543709998340361590134383718314428070011855946226376318839397712745672334684344586617496807908705803704071284048740118609114467977783598029006686938976881787785946905630190260940599579453432823469303026696443059025015972399867714215541693835559885291486318237914434496734087811872639496475100189041349008417061675093668333850551032972088269550769983616369411933015213796825837188091833656751221318492846368125550225998300412344784862595674492194617023806505913245610825731835380087608622102834270197698202313169017678006675195485079921636419370285375124784014907159135459982790513399611551794271106831134090584272884279791554849782954323534517065223269061394905987693002122963395687782878948440616007412945674919823050571642377154816321380631045902916136926708342856440730447899971901781465763473223850267253059899795996090799469201774624817718449867455659250178329070473119433165550807568221846571746373296884912819520317457002440926616910874148385078411929804522981857338977648103126085903001302413467189726673216491511131602920781738033436090243804708340403154190336 : ℝ) : EReal)
  | "g4" => some ((5146368367413549436884595993438468806315897994491751435868282600913256797915945033696893354486008724075125016422655377975211807426094880784049861231035389513020083947482756787120411444100029425526995978906727834032841108602161446004962211570831806846107660145831235051812776331512742254571753089549116675151276851027440285481440604694647998291608334418858147588944974982312922787171262838076918978827972624884517660706701495905789743586056583498322685890143380186601461851853505997153630725607669929438663450927051947693604043281067738675867851769737232324506014402219239231367670287359222482472064206143961277077775732091342523426388424840569152535581674905942867999006337022326382757165943772826355713262841916849203073334998926780593481941412910387381011835807209607950586516886496724660414957378998575345333342037526533575889259477157258334176009764183589353653233306999065239641758419940400125028872837119568773976419295226942609998759273964100191744766210192467692047310228458735614255640565767054553121543790599823219190633081742649956289501214417232278108919888985760299173806603684151607629056503113186869765372398086933088405890993811438295762759602667164434408319018893706167277647951324145549712623150588024152772587284872546821700941392557039850391352768262591598115782873819959939236198200949895552493801749103046489380056480925631030880088320582517971028867830855566622721 / 14002965526155144834555305452685214372866082888911214819410098563166364393430339704954316846760882417420604004588805172709668950479443731801102542528740113036510299444061547747539391052523594629678962987431385091951024344687624116958504831353788456858187662249641364321767348607606502983077596886259472559892509340453479591701669341690610010199752681859969642725277394461284724377187107117253177142493474639946364494226253006015222273057859996893954087112388911638079340740307953400728723420436588952155758688261952181120583722524183166457598150762152371703020012995588938072866897073390632452049784351496937636259712515524623518773707258808280520421766533723982678808205124377338390350147232981694928107493357143336100099345127583310326317513361407701585332291704561598012157109134338690845941606929566579109845648752432227530123144780633008215865200107064955296873959439674874263446726724444594593399440980900885790456007303431910585281124234213951629658205321241942054284455065419268372128178209253142263303100509032020839738717162419633361923319257010022504665335926405622345740884671364959272460376791398153022984421227494300704089333484168581053903671324229299871114933203089732015328195933736811542888636618070746229101551946063862190952517481681820714828448743184805157114555460571190275103234955695251063616575057295286339621140306864204977859618146869750759448354484860806496256 : ℝ) : EReal)
  | "g5" => some ((113847752268739718334782180278749151435771268218817722788635975426299638572474755995991326632360213243991230033215406675715344034009041676770603103391425851762066234066752694737890092007688550359157744696833146667849892271978448280878630952416361145444077356495729219039035204327050882828089585754422111391081314773114390675829006353244436660611825909350642073507328469101033900535515637608985327848765365110941594999138567634183293187717560557364703511119548861756362121645850348921412185856144196848808886487005224154287371380261572156519641034635980898495909103192815036459886854459220063567724575471220497121052987137126006322284595703723016985421999089293161306936696404702027759709282352099524758713251837704820889747809346521572936088576911024389620200093895149863866770191486164755208402660822638024356488705036128388735151815591196230098671771250043917122509099375428781517568088552028447940161540145974203590901183455430880769096514361542478426109949392183330495725779386776301938084269436035102555375606940348064237590201449938677252709961984731618469701375489457538547372990378930175325021984044310699739736716991802209519976395444453896145537709677416429447492285396467375671114695895192926773578161144813814950493696818267099162453509163622890862630478075100364958240608496422900337515365056967411810859008019225472342110578643844551188997654433414853514545306030690633209021059573383353470903684588284227128870356784377691631003547140900328711069357737773261586588530000162841860494166173002212097260152840692130564942077624321 / 187749072224295762487282918043534149672470009810028327446062532949263717368127024576140841104973120370273487261876951083004001413137204173750956938653211788724190430095984469913776932431963546640404661377521170242454281393564883698042160362597493239676179542430408230026967675408244369534225406182334053860953190851410763968250231766966368150031479733532494389362263966829774739549874576217702802049949175044144226916408271128525427622225198410553089064349578703883506197408833728032937541363391644479638264014861396658218947068985826257384271858030352807755971277360363293570350006795256116943835609813348656451703942739615910726879627516589755942615059584953695158906776349078531641699376974783981966272485654732492263213186492225477260675547523932337061020406120250964136034529347299464072163800076187742576595379686343865722042219212538664133431405598476618632378694390016986508065484388368263534489462021091442580691883449258543148763819608108278025227630151849488163230271017209333339572098874097605709683555074986308074644075465524908758151061239207358632374820522302308593867486159699800255775718113162926434961209248394655996108849613488899817872188299520363081282737595469502189721561285889897515363929727744544447417526634383587059070293805996935707713490568437981961300034126756863201261849257039580831538344714324593879688126002780304484145068997028656541324271928440299730361243738276658036052139964707237167826208674384719689501485461459019092511353744510977179559894717372061260467912691621997768268855590726394611504645144576 : ℝ) : EReal)
  | "g6" => some ((1960358243178883760215005073038127189153431904434251656515942118111719013695557474961357605831972108320059077207073323618648569534233269086950032066250609971223049179279185304016578276259059712681585433409637324078490523118915193320453939769332525008549099363815613752744601657742423733827759113641763203106103303085316599506387049681560419345133014063655262435308401056843410804090396786021778654240812095113747147202924017903854278567694660696185524929952413947274010278481690765487364865051541740887490066245072926452076881160420322803409771605601090716830065462202440740548073289905413584229585571939444335362598436995150245975660498073855707434690392431776383281554020108984592113852190528412757811942884298981824690769007380214030032742868155411111998967164413190989967605527303324316703340678464342474480681342316436484813925046137799840672144870332701854661759083382158535306121507942298608852700239993813728990797480002429310005740241249717239472213021520643001340572855791176386167358664767664325178511681111549498077969718842279982352545899739791947841581140007564927649920770113161141490568818241466388943008702488363165261204097276574941406803931156808997495785323753771666363841083216898716074241770827346743665163215040964956869255122231760909153030018763337227749410792974704485349593622106645566854425533080899916796489854032632108611653858991635463378812653795480261007891732440506035723555428522417086802038012547504546273456753869436907386277332258826438949882153828181515688202040037438300733679144194883747151418851102177999634846558269791630209251686974939126649229252439262831775939534621069443364644987541385592338811324971697442108493459520824816653608643337505068810241 / 2517303499408278121644427994095560892169292293872460622635208085326616387361402746767765673156032996431118464385205631358374584514559678106921769707862268846648496688836250509471816406267409955559656201169979661005920173399525173806462452788672938758818876356844648546231459876959255499792996105276538220900129553834663519469165752988492662344251557126354244460459644460248909808535295963570210038393893890325049751001797574638698448901396743973988244358295640779149931782955713223275425799341777342157865501429572853739349865824733694557425612881285182971108696092523686871868460250483830769397229183172989292278641673196909149077055371857027926536817735640059267033387821432018937378262844877154190539982889444190839214780904551249809649508764598174028903026927655107634644468650804480588848262401979470155925720951172839932250414065037622750034367371277079245587470109504449908688383375267556890564335283454577679455184149179967019365876563286723080014009273396309523641824957341013432194788082490241966865584669017407989561284431517542640863810847914612399026363984049046653582749027571699901781921364272232602801411660744758130029120960128265295511610562102375345030842017925865243915765178710500031708079927346879123513776821352285387923386818523185790895491980532109301901794620432045637260229727368307928340621315168343653198899554489149987950286250134545282906376461299476368160519494028963005708167274176953415265076985940677809015726965641778498005128091950214257014842155320148183376781310657746512174717138930472364613332383276199216213688928190642675936063411388356610005544695366118561631308538444680055718388945051664843846258645559982390180484661480737386938925473203329534263296 : ℝ) : EReal)
  | "g7" => some ((29785158902024647658922298295205754754624844888866637922514628020055565184236615035177882131664644300321674386171529456085716438497154796631848677968233148819637352252828764566276052457464907682715636825541401450191854499052622253085971923782498270333993467074676075453791623035130678616776277907091490241683956549307539098180929847748862496283154084288263074485232724764054330635963645369926410988904908528205624447544944726054133865886661982822348233538458106770325748991871706802606361706539718806353456864654232383782545270566464670515800405248468121791830218180123464208697183016507663602306440261362796786129799380851645849883255065896602690284755967588251716130030573335879560247342990567093178230786591000203785422605845057069128627731336011267015641092395799327354110377799452324803501085030863938099892867885265619427645658858467030934339878131456467838608595625490468678901460649255584870066675365038070238396408189637085582526947591487743330344834536556009684147181530347586999438245597612455339067390989605588090664048148958695445623360540006562918182681885392829342642929793544557748107018410253529494411885703513595695322943564296085806877183338966079792245530799482375658659227800936805811375575496561813865799178926359544173878508247119450441233781193780867189928406121986303247140599973895143149271073971219769473992738164288051574792302911893162252762388045403290248084188405360514186724873330488338858649240723437791234176649016863474311162939219996101391576947640365218894539499541158562593607818481879067204733828658180446779202581620777075400012014577048961624509221398374361100452924451207633877232158103666903322532338793658140796080695994730110802583166070773011045523260794362917587144506913648901703495280662668633356370169687509756708178283155352915429550810523793875338145615270547816866297807791852392256259918212890625 / 33751521821438561184911174488682640477482452690613543789987115108466500378467413241650309823759915214613546295086352135117206072620702805213786429827261190495295209725036214861444552245271001884442331336463841183659029156587178439044751051570054376203776342097110897640119327918012337424313355919359639652567871781286769270711026709157352924348777515574512579207430124960745017713811475633560361746240231372186987633281890003975124517410436232751786053258030904248989784343373580020429064399723981629210039686199812017059962040894145649613141899373457990136110124033082268445299759214270557020697837444729628470445553597383435232465858124331879290922696980222735667332393561216312300622989828829648566839376565747897273836250008772899562390160189852318683176499778475449534897302151083448535288367133592198444410244012903070619538476023121087011821602727130342062360292694196915030753475571047187621577677734015971061286266240776000199761459471444940463293093653202098729357658867135004032110599475307618336429187822239334863636668860337516076025023807524328879162142149805154128179503405390710994373783501948211730722860359837750090335272615847907847124069141199334722262055534377699054381370861337337471574548468743992660475775028572280267994135704993835355977695442635432946193561821017089736627379071131483930684532622952398897715491344942216169944540811346628089421863683937920456996873353908785220590722518585909106605811532117238941679346587984132366957891357781759795220034581173473479726235700321529495539776440692644558284469348870671055995987203062730525276396026962916718358629845520556495152513597870927982785774674929765072485149682462794408926127267616060623923370839359058434846610501532154221129624066335698266050975882792155955005954460099419877138745992453542401993667168494168245722096801075794308992327588609520244453197182140416 : ℝ) : EReal)
  | _ => none
-- ==== ReferenceIdeal.lean ====
abbrev S32768x3072 : Shape := ⟨2, ![32768, 3072]⟩
abbrev S4x8x64x64 : Shape := ⟨4, ![4, 8, 64, 64]⟩
abbrev S64 : Shape := ⟨1, ![64]⟩
abbrev S8 : Shape := ⟨1, ![8]⟩
abbrev S_ : Shape := ⟨0, ![]⟩
abbrev S1x8 : Shape := ⟨2, ![1, 8]⟩
abbrev S64x1 : Shape := ⟨2, ![64, 1]⟩
abbrev S64x8 : Shape := ⟨2, ![64, 8]⟩
abbrev S32768x512 : Shape := ⟨2, ![32768, 512]⟩
abbrev S4x128x64x8x64 : Shape := ⟨5, ![4, 128, 64, 8, 64]⟩
abbrev S64x8x1 : Shape := ⟨3, ![64, 8, 1]⟩
abbrev S1x1x64x8x1 : Shape := ⟨5, ![1, 1, 64, 8, 1]⟩
abbrev S128x4x8x64x64 : Shape := ⟨5, ![128, 4, 8, 64, 64]⟩
abbrev S1x4x8x64x64 : Shape := ⟨5, ![1, 4, 8, 64, 64]⟩
abbrev S1x8x1x1 : Shape := ⟨4, ![1, 8, 1, 1]⟩
abbrev S1x64 : Shape := ⟨2, ![1, 64]⟩
abbrev S64x64 : Shape := ⟨2, ![64, 64]⟩
abbrev S8x1x1 : Shape := ⟨3, ![8, 1, 1]⟩
abbrev S1x64x64 : Shape := ⟨3, ![1, 64, 64]⟩
abbrev S8x64x64 : Shape := ⟨3, ![8, 64, 64]⟩
abbrev S4x128x8x64x64 : Shape := ⟨5, ![4, 128, 8, 64, 64]⟩
abbrev S1x1x8x64x64 : Shape := ⟨5, ![1, 1, 8, 64, 64]⟩
abbrev S4x8192x8x64 : Shape := ⟨4, ![4, 8192, 8, 64]⟩
abbrev S4x8192x8 : Shape := ⟨3, ![4, 8192, 8]⟩
abbrev S4x8192x8x1 : Shape := ⟨4, ![4, 8192, 8, 1]⟩

abbrev nBuf : Space → Nat
  | .hbm => 153
  | .vmem => 0
  | .smem => 0
  | _ => 0

abbrev hbmTy0_0 (i : Nat) : BufTy := match i % 128 with
  | 0 => ⟨S32768x3072, .f32⟩
  | 1 => ⟨S4x8x64x64, .f32⟩
  | 2 => ⟨S64, .f32⟩
  | 3 => ⟨S8, .f32⟩
  | 4 => ⟨S_, .f32⟩
  | 5 => ⟨S8, .f32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S1x8, .f32⟩
  | 15 => ⟨S_, .f32⟩
  | 16 => ⟨S64, .f32⟩
  | 17 => ⟨S64, .f32⟩
  | 18 => ⟨S64x1, .f32⟩
  | 19 => ⟨S64x8, .f32⟩
  | 20 => ⟨S64x8, .f32⟩
  | 21 => ⟨S64x8, .f32⟩
  | 22 => ⟨S64x8, .f32⟩
  | 23 => ⟨S32768x512, .f32⟩
  | 24 => ⟨S4x128x64x8x64, .f32⟩
  | 25 => ⟨S64x8x1, .f32⟩
  | 26 => ⟨S1x1x64x8x1, .f32⟩
  | 27 => ⟨S4x128x64x8x64, .f32⟩
  | 28 => ⟨S4x128x64x8x64, .f32⟩
  | 29 => ⟨S32768x512, .f32⟩
  | 30 => ⟨S4x128x64x8x64, .f32⟩
  | 31 => ⟨S128x4x8x64x64, .f32⟩
  | 32 => ⟨S_, .f32⟩
  | 33 => ⟨S128x4x8x64x64, .f32⟩
  | 34 => ⟨S_, .i32⟩
  | 35 => ⟨S128x4x8x64x64, .f32⟩
  | 36 => ⟨S_, .i32⟩
  | 37 => ⟨S4x8x64x64, .f32⟩
  | 38 => ⟨S128x4x8x64x64, .f32⟩
  | 39 => ⟨S_, .i32⟩
  | 40 => ⟨S_, .i1⟩
  | 41 => ⟨S_, .i32⟩
  | 42 => ⟨S_, .i32⟩
  | 43 => ⟨S_, .i32⟩
  | 44 => ⟨S_, .i32⟩
  | 45 => ⟨S1x4x8x64x64, .f32⟩
  | 46 => ⟨S4x8x64x64, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S8, .f32⟩
  | 58 => ⟨S_, .f32⟩
  | 59 => ⟨S8, .f32⟩
  | 60 => ⟨S8, .f32⟩
  | 61 => ⟨S8, .f32⟩
  | 62 => ⟨S1x8x1x1, .f32⟩
  | 63 => ⟨S4x8x64x64, .f32⟩
  | 64 => ⟨S4x8x64x64, .f32⟩
  | 65 => ⟨S4x8x64x64, .f32⟩
  | 66 => ⟨S1x4x8x64x64, .f32⟩
  | 67 => ⟨S_, .i32⟩
  | 68 => ⟨S_, .i32⟩
  | 69 => ⟨S_, .i32⟩
  | 70 => ⟨S_, .i32⟩
  | 71 => ⟨S128x4x8x64x64, .f32⟩
  | 72 => ⟨S_, .i32⟩
  | 73 => ⟨S_, .i32⟩
  | 74 => ⟨S32768x512, .f32⟩
  | 75 => ⟨S4x128x64x8x64, .f32⟩
  | 76 => ⟨S32768x512, .f32⟩
  | 77 => ⟨S4x128x64x8x64, .f32⟩
  | 78 => ⟨S32768x512, .f32⟩
  | 79 => ⟨S4x128x64x8x64, .f32⟩
  | 80 => ⟨S8, .f32⟩
  | 81 => ⟨S_, .f32⟩
  | 82 => ⟨S8, .f32⟩
  | 83 => ⟨S8, .f32⟩
  | 84 => ⟨S_, .f32⟩
  | 85 => ⟨S8, .f32⟩
  | 86 => ⟨S8, .f32⟩
  | 87 => ⟨S_, .f32⟩
  | 88 => ⟨S8, .f32⟩
  | 89 => ⟨S8, .f32⟩
  | 90 => ⟨S8, .f32⟩
  | 91 => ⟨S64, .f32⟩
  | 92 => ⟨S64x1, .f32⟩
  | 93 => ⟨S1x64, .f32⟩
  | 94 => ⟨S64x64, .f32⟩
  | 95 => ⟨S64x64, .f32⟩
  | 96 => ⟨S64x64, .f32⟩
  | 97 => ⟨S64x64, .f32⟩
  | 98 => ⟨S8x1x1, .f32⟩
  | 99 => ⟨S1x64x64, .f32⟩
  | 100 => ⟨S8x64x64, .f32⟩
  | 101 => ⟨S8x64x64, .f32⟩
  | 102 => ⟨S8x64x64, .f32⟩
  | 103 => ⟨S8x64x64, .f32⟩
  | 104 => ⟨S4x128x8x64x64, .f32⟩
  | 105 => ⟨S1x1x8x64x64, .f32⟩
  | 106 => ⟨S4x128x8x64x64, .f32⟩
  | 107 => ⟨S4x128x8x64x64, .f32⟩
  | 108 => ⟨S4x128x8x64x64, .f32⟩
  | 109 => ⟨S4x128x64x8x64, .f32⟩
  | 110 => ⟨S1x8, .f32⟩
  | 111 => ⟨S_, .f32⟩
  | 112 => ⟨S64, .f32⟩
  | 113 => ⟨S64, .f32⟩
  | 114 => ⟨S64x1, .f32⟩
  | 115 => ⟨S64x8, .f32⟩
  | 116 => ⟨S64x8, .f32⟩
  | 117 => ⟨S64x8, .f32⟩
  | 118 => ⟨S64x8, .f32⟩
  | 119 => ⟨S64x8x1, .f32⟩
  | 120 => ⟨S1x1x64x8x1, .f32⟩
  | 121 => ⟨S4x128x64x8x64, .f32⟩
  | 122 => ⟨S4x128x64x8x64, .f32⟩
  | 123 => ⟨S4x128x8x64x64, .f32⟩
  | 124 => ⟨S4x128x64x8x64, .f32⟩
  | 125 => ⟨S4x128x64x8x64, .f32⟩
  | 126 => ⟨S4x8192x8x64, .f32⟩
  | 127 => ⟨S4x8192x8x64, .f32⟩
  | _ => ⟨S32768x3072, .f32⟩

abbrev hbmTy0_1 (i : Nat) : BufTy := match i % 128 with
  | 0 => ⟨S_, .f32⟩
  | 1 => ⟨S4x8192x8, .f32⟩
  | 2 => ⟨S4x8192x8x1, .f32⟩
  | 3 => ⟨S_, .f32⟩
  | 4 => ⟨S4x8192x8x1, .f32⟩
  | 5 => ⟨S4x8192x8x1, .f32⟩
  | 6 => ⟨S_, .f32⟩
  | 7 => ⟨S4x8192x8x1, .f32⟩
  | 8 => ⟨S4x8192x8x1, .f32⟩
  | 9 => ⟨S4x8192x8x1, .f32⟩
  | 10 => ⟨S4x8192x8x64, .f32⟩
  | 11 => ⟨S4x8192x8x64, .f32⟩
  | 12 => ⟨S32768x512, .f32⟩
  | 13 => ⟨S4x8192x8x64, .f32⟩
  | 14 => ⟨S4x8192x8x64, .f32⟩
  | 15 => ⟨S4x8192x8x64, .f32⟩
  | 16 => ⟨S_, .f32⟩
  | 17 => ⟨S4x8192x8x64, .f32⟩
  | 18 => ⟨S4x8192x8x64, .f32⟩
  | 19 => ⟨S_, .f32⟩
  | 20 => ⟨S4x8192x8x64, .f32⟩
  | 21 => ⟨S4x8192x8x64, .f32⟩
  | 22 => ⟨S4x8192x8x64, .f32⟩
  | 23 => ⟨S4x8192x8x64, .f32⟩
  | 24 => ⟨S32768x512, .f32⟩
  | _ => ⟨S32768x3072, .f32⟩

abbrev hbmTy (i : Nat) : BufTy := match i / 128 with
  | 0 => hbmTy0_0 i
  | 1 => hbmTy0_1 i
  | _ => ⟨S32768x3072, .f32⟩

abbrev bufTy : (tb : Table) → Fin (tcTables nBuf tb) → BufTy
  | .hbm, ⟨i, _⟩ => hbmTy i
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩
abbrev main_c : Ref sig .tc := ⟨.hbm, 34, rfl⟩
abbrev main_v27_0 : Ref sig .tc := ⟨.hbm, 35, rfl⟩
abbrev main_v27_1 : Ref sig .tc := ⟨.hbm, 36, rfl⟩
abbrev main_v27_2 : Ref sig .tc := ⟨.hbm, 37, rfl⟩
abbrev main_v27_3 : Ref sig .tc := ⟨.hbm, 38, rfl⟩
abbrev main_while0c_c_14 : Ref sig .tc := ⟨.hbm, 39, rfl⟩
abbrev main_while0c_v92 : Ref sig .tc := ⟨.hbm, 40, rfl⟩
abbrev main_while0b_call0_c : Ref sig .tc := ⟨.hbm, 41, rfl⟩
abbrev main_while0b_call0_c_0 : Ref sig .tc := ⟨.hbm, 42, rfl⟩
abbrev main_while0b_call0_c_1 : Ref sig .tc := ⟨.hbm, 43, rfl⟩
abbrev main_while0b_call0_c_2 : Ref sig .tc := ⟨.hbm, 44, rfl⟩
abbrev main_while0b_call0_v0 : Ref sig .tc := ⟨.hbm, 45, rfl⟩
abbrev main_while0b_v92 : Ref sig .tc := ⟨.hbm, 46, rfl⟩
abbrev main_while0b_v93 : Ref sig .tc := ⟨.hbm, 47, rfl⟩
abbrev main_while0b_cst_14 : Ref sig .tc := ⟨.hbm, 48, rfl⟩
abbrev main_while0b_v94 : Ref sig .tc := ⟨.hbm, 49, rfl⟩
abbrev main_while0b_v95 : Ref sig .tc := ⟨.hbm, 50, rfl⟩
abbrev main_while0b_cst_15 : Ref sig .tc := ⟨.hbm, 51, rfl⟩
abbrev main_while0b_v96 : Ref sig .tc := ⟨.hbm, 52, rfl⟩
abbrev main_while0b_v97 : Ref sig .tc := ⟨.hbm, 53, rfl⟩
abbrev main_while0b_cst_16 : Ref sig .tc := ⟨.hbm, 54, rfl⟩
abbrev main_while0b_v98 : Ref sig .tc := ⟨.hbm, 55, rfl⟩
abbrev main_while0b_v99 : Ref sig .tc := ⟨.hbm, 56, rfl⟩
abbrev main_while0b_v100 : Ref sig .tc := ⟨.hbm, 57, rfl⟩
abbrev main_while0b_cst_17 : Ref sig .tc := ⟨.hbm, 58, rfl⟩
abbrev main_while0b_v101 : Ref sig .tc := ⟨.hbm, 59, rfl⟩
abbrev main_while0b_v102 : Ref sig .tc := ⟨.hbm, 60, rfl⟩
abbrev main_while0b_v103 : Ref sig .tc := ⟨.hbm, 61, rfl⟩
abbrev main_while0b_v104 : Ref sig .tc := ⟨.hbm, 62, rfl⟩
abbrev main_while0b_v105 : Ref sig .tc := ⟨.hbm, 63, rfl⟩
abbrev main_while0b_v106 : Ref sig .tc := ⟨.hbm, 64, rfl⟩
abbrev main_while0b_v107 : Ref sig .tc := ⟨.hbm, 65, rfl⟩
abbrev main_while0b_call1_v0 : Ref sig .tc := ⟨.hbm, 66, rfl⟩
abbrev main_while0b_call1_c : Ref sig .tc := ⟨.hbm, 67, rfl⟩
abbrev main_while0b_call1_c_0 : Ref sig .tc := ⟨.hbm, 68, rfl⟩
abbrev main_while0b_call1_c_1 : Ref sig .tc := ⟨.hbm, 69, rfl⟩
abbrev main_while0b_call1_c_2 : Ref sig .tc := ⟨.hbm, 70, rfl⟩
abbrev main_while0b_v108 : Ref sig .tc := ⟨.hbm, 71, rfl⟩
abbrev main_while0b_c_18 : Ref sig .tc := ⟨.hbm, 72, rfl⟩
abbrev main_while0b_v109 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_4 : Ref sig .tc := ⟨.hbm, 81, rfl⟩
abbrev main_v35 : Ref sig .tc := ⟨.hbm, 82, rfl⟩
abbrev main_v36 : Ref sig .tc := ⟨.hbm, 83, rfl⟩
abbrev main_cst_5 : Ref sig .tc := ⟨.hbm, 84, rfl⟩
abbrev main_v37 : Ref sig .tc := ⟨.hbm, 85, rfl⟩
abbrev main_v38 : Ref sig .tc := ⟨.hbm, 86, rfl⟩
abbrev main_cst_6 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_cst_7 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_cst_8 : Ref sig .tc := ⟨.hbm, 128, rfl⟩
abbrev main_v78 : Ref sig .tc := ⟨.hbm, 129, rfl⟩
abbrev main_v79 : Ref sig .tc := ⟨.hbm, 130, rfl⟩
abbrev main_cst_9 : Ref sig .tc := ⟨.hbm, 131, rfl⟩
abbrev main_v80 : Ref sig .tc := ⟨.hbm, 132, rfl⟩
abbrev main_v81 : Ref sig .tc := ⟨.hbm, 133, rfl⟩
abbrev main_cst_10 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_call2_v0 : Ref sig .tc := ⟨.hbm, 142, rfl⟩
abbrev main_call2_v1 : Ref sig .tc := ⟨.hbm, 143, rfl⟩
abbrev main_call2_cst : Ref sig .tc := ⟨.hbm, 144, rfl⟩
abbrev main_call2_v2 : Ref sig .tc := ⟨.hbm, 145, rfl⟩
abbrev main_call2_v3 : Ref sig .tc := ⟨.hbm, 146, rfl⟩
abbrev main_call2_cst_0 : Ref sig .tc := ⟨.hbm, 147, rfl⟩
abbrev main_call2_v4 : Ref sig .tc := ⟨.hbm, 148, rfl⟩
abbrev main_call2_v5 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩

abbrev nD : Nat := 1
abbrev τ : Topo := Topo.v7x

variable {F : FTy → Type} [FloatOps F]

abbrev main_while0_count : Scf.Loop 32 := ⟨0#32, 128#32, 1#32⟩
-- ==== Ffn.lean ====
abbrev S32768x1024 : Shape := ⟨2, ![32768, 1024]⟩
abbrev S32768x512 : Shape := ⟨2, ![32768, 512]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩
abbrev S1024x512 : Shape := ⟨2, ![1024, 512]⟩

abbrev nBuf : Space → Nat
  | .hbm => 16
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1024x4096, .bf16⟩
  | .hbm, ⟨11, _⟩ => ⟨S4096x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1024x4096, .bf16⟩
  | .local _ .vmem, ⟨8, _⟩ => ⟨S4096x1024, .bf16⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnReferenceIdeal.lean ====
abbrev S32768x1024 : Shape := ⟨2, ![32768, 1024]⟩
abbrev S32768x512 : Shape := ⟨2, ![32768, 512]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 67
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768, .f32⟩
  | .hbm, ⟨31, _⟩ => ⟨S32768x1, .f32⟩
  | .hbm, ⟨32, _⟩ => ⟨S_, .f32⟩
  | .hbm, ⟨33, _⟩ => ⟨S32768x1, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1, .f32⟩
  | .hbm, ⟨39, _⟩ => ⟨S32768x1024, .f32⟩
  | .hbm, ⟨40, _⟩ => ⟨S32768x1024, .f32⟩
  | .hbm, ⟨41, _⟩ => ⟨S1x1024, .f32⟩
  | .hbm, ⟨42, _⟩ => ⟨S32768x1024, .f32⟩
  | .hbm, ⟨43, _⟩ => ⟨S32768x1024, .f32⟩
  | .hbm, ⟨44, _⟩ => ⟨S32768x4096, .f32⟩
  | .hbm, ⟨45, _⟩ => ⟨S_, .f32⟩
  | .hbm, ⟨46, _⟩ => ⟨S32768x4096, .f32⟩
  | .hbm, ⟨47, _⟩ => ⟨S32768x4096, .f32⟩
  | .hbm, ⟨48, _⟩ => ⟨S32768x4096, .f32⟩
  | .hbm, ⟨49, _⟩ => ⟨S32768x1024, .f32⟩
  | .hbm, ⟨50, _⟩ => ⟨S32768x1024, .f32⟩
  | .hbm, ⟨51, _⟩ => ⟨S_, .f32⟩
  | .hbm, ⟨52, _⟩ => ⟨S32768, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S_, .f32⟩
  | .hbm, ⟨58, _⟩ => ⟨S32768x1, .f32⟩
  | .hbm, ⟨59, _⟩ => ⟨S32768x1, .f32⟩
  | .hbm, ⟨60, _⟩ => ⟨S32768x1, .f32⟩
  | .hbm, ⟨61, _⟩ => ⟨S32768x1024, .f32⟩
  | .hbm, ⟨62, _⟩ => ⟨S32768x1024, .f32⟩
  | .hbm, ⟨63, _⟩ => ⟨S1x1024, .f32⟩
  | .hbm, ⟨64, _⟩ => ⟨S32768x1024, .f32⟩
  | .hbm, ⟨65, _⟩ => ⟨S32768x1024, .f32⟩
  | .hbm, ⟨66, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== InProj.lean ====
abbrev S32768x1024 : Shape := ⟨2, ![32768, 1024]⟩
abbrev S1024x3400 : Shape := ⟨2, ![1024, 3400]⟩
abbrev S1024 : Shape := ⟨1, ![1024]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S8192x128 : Shape := ⟨2, ![8192, 128]⟩
abbrev S1x1024 : Shape := ⟨2, ![1, 1024]⟩
abbrev S1024x56 : Shape := ⟨2, ![1024, 56]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x3456 : Shape := ⟨2, ![1024, 3456]⟩
abbrev S32768x3072 : Shape := ⟨2, ![32768, 3072]⟩
abbrev S32768x2x64 : Shape := ⟨3, ![32768, 2, 64]⟩
abbrev S32768x64 : Shape := ⟨2, ![32768, 64]⟩
abbrev S32768x128 : Shape := ⟨2, ![32768, 128]⟩
abbrev S128x256x128 : Shape := ⟨3, ![128, 256, 128]⟩
abbrev S128x256x64 : Shape := ⟨3, ![128, 256, 64]⟩
abbrev S128x160x256 : Shape := ⟨3, ![128, 160, 256]⟩
abbrev S512x1024 : Shape := ⟨2, ![512, 1024]⟩
abbrev S512x128 : Shape := ⟨2, ![512, 128]⟩
abbrev S512x3072 : Shape := ⟨2, ![512, 3072]⟩
abbrev S512x2x64 : Shape := ⟨3, ![512, 2, 64]⟩
abbrev S512x64 : Shape := ⟨2, ![512, 64]⟩
abbrev S2x256x128 : Shape := ⟨3, ![2, 256, 128]⟩
abbrev S2x256x64 : Shape := ⟨3, ![2, 256, 64]⟩
abbrev S2x160x256 : Shape := ⟨3, ![2, 160, 256]⟩
abbrev S512 : Shape := ⟨1, ![512]⟩
abbrev S512x1 : Shape := ⟨2, ![512, 1]⟩
abbrev S512x512 : Shape := ⟨2, ![512, 512]⟩
abbrev S1024x384 : Shape := ⟨2, ![1024, 384]⟩
abbrev S512x384 : Shape := ⟨2, ![512, 384]⟩
abbrev S512x1x64 : Shape := ⟨3, ![512, 1, 64]⟩
abbrev S128x512 : Shape := ⟨2, ![128, 512]⟩
abbrev S16x512 : Shape := ⟨2, ![16, 512]⟩
abbrev S64x512 : Shape := ⟨2, ![64, 512]⟩
abbrev S160x512 : Shape := ⟨2, ![160, 512]⟩
abbrev S256x128 : Shape := ⟨2, ![256, 128]⟩
abbrev S1x256x128 : Shape := ⟨3, ![1, 256, 128]⟩
abbrev S256x64 : Shape := ⟨2, ![256, 64]⟩
abbrev S1x256x64 : Shape := ⟨3, ![1, 256, 64]⟩
abbrev S160x256 : Shape := ⟨2, ![160, 256]⟩
abbrev S1x160x256 : Shape := ⟨3, ![1, 160, 256]⟩

abbrev nBuf : Space → Nat
  | .hbm => 52
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S1024x3400, .f32⟩
  | .hbm, ⟨2, _⟩ => ⟨S1024, .f32⟩
  | .hbm, ⟨3, _⟩ => ⟨S8192, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8192, .f32⟩
  | .hbm, ⟨13, _⟩ => ⟨S8192x1, .f32⟩
  | .hbm, ⟨14, _⟩ => ⟨S1x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x64, .f32⟩
  | .hbm, ⟨21, _⟩ => ⟨S8192x32, .f32⟩
  | .hbm, ⟨22, _⟩ => ⟨S8192x64, .f32⟩
  | .hbm, ⟨23, _⟩ => ⟨S1x8192x1x64, .f32⟩
  | .hbm, ⟨24, _⟩ => ⟨S1x8192x2x64, .f32⟩
  | .hbm, ⟨25, _⟩ => ⟨S8192x128, .f32⟩
  | .hbm, ⟨26, _⟩ => ⟨S1x8192x1x64, .f32⟩
  | .hbm, ⟨27, _⟩ => ⟨S1x8192x2x64, .f32⟩
  | .hbm, ⟨28, _⟩ => ⟨S8192x128, .f32⟩
  | .hbm, ⟨29, _⟩ => ⟨S1x1024, .f32⟩
  | .hbm, ⟨30, _⟩ => ⟨S_, .f32⟩
  | .hbm, ⟨31, _⟩ => ⟨S1024x56, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S1024x128, .f32⟩
  | .hbm, ⟨39, _⟩ => ⟨S1024x128, .f32⟩
  | .hbm, ⟨40, _⟩ => ⟨S1024x64, .f32⟩
  | .hbm, ⟨41, _⟩ => ⟨S1024x8, .f32⟩
  | .hbm, ⟨42, _⟩ => ⟨S1024x3456, .f32⟩
  | .hbm, ⟨43, _⟩ => ⟨S1024x3456, .bf16⟩
  | .hbm, ⟨44, _⟩ => ⟨S32768x3072, .f32⟩
  | .hbm, ⟨45, _⟩ => ⟨S32768x2x64, .f32⟩
  | .hbm, ⟨46, _⟩ => ⟨S32768x2x64, .f32⟩
  | .hbm, ⟨47, _⟩ => ⟨S32768x64, .f32⟩
  | .hbm, ⟨48, _⟩ => ⟨S32768x128, .f32⟩
  | .hbm, ⟨49, _⟩ => ⟨S128x256x128, .bf16⟩
  | .hbm, ⟨50, _⟩ => ⟨S128x256x64, .bf16⟩
  | .hbm, ⟨51, _⟩ => ⟨S128x160x256, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3456, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x3072, .f32⟩
  | .local _ .vmem, ⟨9, _⟩ => ⟨S512x3072, .f32⟩
  | .local _ .vmem, ⟨10, _⟩ => ⟨S512x2x64, .f32⟩
  | .local _ .vmem, ⟨11, _⟩ => ⟨S512x2x64, .f32⟩
  | .local _ .vmem, ⟨12, _⟩ => ⟨S512x2x64, .f32⟩
  | .local _ .vmem, ⟨13, _⟩ => ⟨S512x2x64, .f32⟩
  | .local _ .vmem, ⟨14, _⟩ => ⟨S512x64, .f32⟩
  | .local _ .vmem, ⟨15, _⟩ => ⟨S512x64, .f32⟩
  | .local _ .vmem, ⟨16, _⟩ => ⟨S512x128, .f32⟩
  | .local _ .vmem, ⟨17, _⟩ => ⟨S512x128, .f32⟩
  | .local _ .vmem, ⟨18, _⟩ => ⟨S2x256x128, .bf16⟩
  | .local _ .vmem, ⟨19, _⟩ => ⟨S2x256x128, .bf16⟩
  | .local _ .vmem, ⟨20, _⟩ => ⟨S2x256x64, .bf16⟩
  | .local _ .vmem, ⟨21, _⟩ => ⟨S2x256x64, .bf16⟩
  | .local _ .vmem, ⟨22, _⟩ => ⟨S2x160x256, .bf16⟩
  | .local _ .vmem, ⟨23, _⟩ => ⟨S2x160x256, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38_0 : Ref sig .tc := ⟨.hbm, 44, rfl⟩
abbrev main_v38_1 : Ref sig .tc := ⟨.hbm, 45, rfl⟩
abbrev main_v38_2 : Ref sig .tc := ⟨.hbm, 46, rfl⟩
abbrev main_v38_3 : Ref sig .tc := ⟨.hbm, 47, rfl⟩
abbrev main_v38_4 : Ref sig .tc := ⟨.hbm, 48, rfl⟩
abbrev main_v38_5 : Ref sig .tc := ⟨.hbm, 49, rfl⟩
abbrev main_v38_6 : Ref sig .tc := ⟨.hbm, 50, rfl⟩
abbrev main_v38_7 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x256x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x160x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== InProjReferenceIdeal.lean ====
abbrev S32768x1024 : Shape := ⟨2, ![32768, 1024]⟩
abbrev S1024x3400 : Shape := ⟨2, ![1024, 3400]⟩
abbrev S1024 : Shape := ⟨1, ![1024]⟩
abbrev S8192 : Shape := ⟨1, ![8192]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3400 : Shape := ⟨2, ![32768, 3400]⟩
abbrev S32768x512 : Shape := ⟨2, ![32768, 512]⟩
abbrev S32768x128 : Shape := ⟨2, ![32768, 128]⟩
abbrev S32768x64 : Shape := ⟨2, ![32768, 64]⟩
abbrev S32768x8 : Shape := ⟨2, ![32768, 8]⟩
abbrev S4x8192x8x64 : Shape := ⟨4, ![4, 8192, 8, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S4x8192x8x32 : Shape := ⟨4, ![4, 8192, 8, 32]⟩
abbrev S1x8192x1x32 : Shape := ⟨4, ![1, 8192, 1, 32]⟩
abbrev S32768x3072 : Shape := ⟨2, ![32768, 3072]⟩
abbrev S32768x2x64 : Shape := ⟨3, ![32768, 2, 64]⟩
abbrev S32768x56 : Shape := ⟨2, ![32768, 56]⟩

abbrev nBuf : Space → Nat
  | .hbm => 114
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3400, .f32⟩
  | .hbm, ⟨2, _⟩ => ⟨S1024, .f32⟩
  | .hbm, ⟨3, _⟩ => ⟨S8192, .i32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x3400, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x128, .f32⟩
  | .hbm, ⟨27, _⟩ => ⟨S32768x128, .f32⟩
  | .hbm, ⟨28, _⟩ => ⟨S32768x512, .f32⟩
  | .hbm, ⟨29, _⟩ => ⟨S32768x64, .f32⟩
  | .hbm, ⟨30, _⟩ => ⟨S32768x8, .f32⟩
  | .hbm, ⟨31, _⟩ => ⟨S4x8192x8x64, .f32⟩
  | .hbm, ⟨32, _⟩ => ⟨S32, .f32⟩
  | .hbm, ⟨33, _⟩ => ⟨S32, .f32⟩
  | .hbm, ⟨34, _⟩ => ⟨S_, .f32⟩
  | .hbm, ⟨35, _⟩ => ⟨S32, .f32⟩
  | .hbm, ⟨36, _⟩ => ⟨S32, .f32⟩
  | .hbm, ⟨37, _⟩ => ⟨S_, .f32⟩
  | .hbm, ⟨38, _⟩ => ⟨S32, .f32⟩
  | .hbm, ⟨39, _⟩ => ⟨S32, .f32⟩
  | .hbm, ⟨40, _⟩ => ⟨S8192, .f32⟩
  | .hbm, ⟨41, _⟩ => ⟨S8192x1, .f32⟩
  | .hbm, ⟨42, _⟩ => ⟨S1x32, .f32⟩
  | .hbm, ⟨43, _⟩ => ⟨S8192x32, .f32⟩
  | .hbm, ⟨44, _⟩ => ⟨S8192x32, .f32⟩
  | .hbm, ⟨45, _⟩ => ⟨S8192x32, .f32⟩
  | .hbm, ⟨46, _⟩ => ⟨S8192x32, .f32⟩
  | .hbm, ⟨47, _⟩ => ⟨S8192x1x32, .f32⟩
  | .hbm, ⟨48, _⟩ => ⟨S8192x32, .f32⟩
  | .hbm, ⟨49, _⟩ => ⟨S8192x1x32, .f32⟩
  | .hbm, ⟨50, _⟩ => ⟨S4x8192x8x32, .f32⟩
  | .hbm, ⟨51, _⟩ => ⟨S4x8192x8x32, .f32⟩
  | .hbm, ⟨52, _⟩ => ⟨S1x8192x1x32, .f32⟩
  | .hbm, ⟨53, _⟩ => ⟨S4x8192x8x32, .f32⟩
  | .hbm, ⟨54, _⟩ => ⟨S4x8192x8x32, .f32⟩
  | .hbm, ⟨55, _⟩ => ⟨S1x8192x1x32, .f32⟩
  | .hbm, ⟨56, _⟩ => ⟨S4x8192x8x32, .f32⟩
  | .hbm, ⟨57, _⟩ => ⟨S4x8192x8x32, .f32⟩
  | .hbm, ⟨58, _⟩ => ⟨S4x8192x8x32, .f32⟩
  | .hbm, ⟨59, _⟩ => ⟨S1x8192x1x32, .f32⟩
  | .hbm, ⟨60, _⟩ => ⟨S4x8192x8x32, .f32⟩
  | .hbm, ⟨61, _⟩ => ⟨S4x8192x8x32, .f32⟩
  | .hbm, ⟨62, _⟩ => ⟨S1x8192x1x32, .f32⟩
  | .hbm, ⟨63, _⟩ => ⟨S4x8192x8x32, .f32⟩
  | .hbm, ⟨64, _⟩ => ⟨S4x8192x8x32, .f32⟩
  | .hbm, ⟨65, _⟩ => ⟨S4x8192x8x32, .f32⟩
  | .hbm, ⟨66, _⟩ => ⟨S4x8192x8x64, .f32⟩
  | .hbm, ⟨67, _⟩ => ⟨S32768x512, .f32⟩
  | .hbm, ⟨68, _⟩ => ⟨S4x8192x8x64, .f32⟩
  | .hbm, ⟨69, _⟩ => ⟨S32, .f32⟩
  | .hbm, ⟨70, _⟩ => ⟨S32, .f32⟩
  | .hbm, ⟨71, _⟩ => ⟨S_, .f32⟩
  | .hbm, ⟨72, _⟩ => ⟨S32, .f32⟩
  | .hbm, ⟨73, _⟩ => ⟨S32, .f32⟩
  | .hbm, ⟨74, _⟩ => ⟨S_, .f32⟩
  | .hbm, ⟨75, _⟩ => ⟨S32, .f32⟩
  | .hbm, ⟨76, _⟩ => ⟨S32, .f32⟩
  | .hbm, ⟨77, _⟩ => ⟨S8192, .f32⟩
  | .hbm, ⟨78, _⟩ => ⟨S8192x1, .f32⟩
  | .hbm, ⟨79, _⟩ => ⟨S1x32, .f32⟩
  | .hbm, ⟨80, _⟩ => ⟨S8192x32, .f32⟩
  | .hbm, ⟨81, _⟩ => ⟨S8192x32, .f32⟩
  | .hbm, ⟨82, _⟩ => ⟨S8192x32, .f32⟩
  | .hbm, ⟨83, _⟩ => ⟨S8192x32, .f32⟩
  | .hbm, ⟨84, _⟩ => ⟨S8192x1x32, .f32⟩
  | .hbm, ⟨85, _⟩ => ⟨S8192x32, .f32⟩
  | .hbm, ⟨86, _⟩ => ⟨S8192x1x32, .f32⟩
  | .hbm, ⟨87, _⟩ => ⟨S4x8192x8x32, .f32⟩
  | .hbm, ⟨88, _⟩ => ⟨S4x8192x8x32, .f32⟩
  | .hbm, ⟨89, _⟩ => ⟨S1x8192x1x32, .f32⟩
  | .hbm, ⟨90, _⟩ => ⟨S4x8192x8x32, .f32⟩
  | .hbm, ⟨91, _⟩ => ⟨S4x8192x8x32, .f32⟩
  | .hbm, ⟨92, _⟩ => ⟨S1x8192x1x32, .f32⟩
  | .hbm, ⟨93, _⟩ => ⟨S4x8192x8x32, .f32⟩
  | .hbm, ⟨94, _⟩ => ⟨S4x8192x8x32, .f32⟩
  | .hbm, ⟨95, _⟩ => ⟨S4x8192x8x32, .f32⟩
  | .hbm, ⟨96, _⟩ => ⟨S1x8192x1x32, .f32⟩
  | .hbm, ⟨97, _⟩ => ⟨S4x8192x8x32, .f32⟩
  | .hbm, ⟨98, _⟩ => ⟨S4x8192x8x32, .f32⟩
  | .hbm, ⟨99, _⟩ => ⟨S1x8192x1x32, .f32⟩
  | .hbm, ⟨100, _⟩ => ⟨S4x8192x8x32, .f32⟩
  | .hbm, ⟨101, _⟩ => ⟨S4x8192x8x32, .f32⟩
  | .hbm, ⟨102, _⟩ => ⟨S4x8192x8x32, .f32⟩
  | .hbm, ⟨103, _⟩ => ⟨S4x8192x8x64, .f32⟩
  | .hbm, ⟨104, _⟩ => ⟨S_, .f32⟩
  | .hbm, ⟨105, _⟩ => ⟨S4x8192x8x64, .f32⟩
  | .hbm, ⟨106, _⟩ => ⟨S4x8192x8x64, .f32⟩
  | .hbm, ⟨107, _⟩ => ⟨S32768x512, .f32⟩
  | .hbm, ⟨108, _⟩ => ⟨S32768x3072, .f32⟩
  | .hbm, ⟨109, _⟩ => ⟨S32768x2x64, .f32⟩
  | .hbm, ⟨110, _⟩ => ⟨S32768x2x64, .f32⟩
  | .hbm, ⟨111, _⟩ => ⟨S_, .f32⟩
  | .hbm, ⟨112, _⟩ => ⟨S32768x56, .f32⟩
  | .hbm, ⟨113, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_cst_4 : Ref sig .tc := ⟨.hbm, 71, rfl⟩
abbrev main_v63 : Ref sig .tc := ⟨.hbm, 72, rfl⟩
abbrev main_v64 : Ref sig .tc := ⟨.hbm, 73, rfl⟩
abbrev main_cst_5 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_cst_6 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_cst_7 : Ref sig .tc := ⟨.hbm, 111, rfl⟩
abbrev main_v100 : Ref sig .tc := ⟨.hbm, 112, rfl⟩
abbrev main_v101 : Ref sig .tc := ⟨.hbm, 113, rfl⟩

abbrev nD : Nat := 1
abbrev τ : Topo := Topo.v7x

variable {F : FTy → Type} [FloatOps F]
-- ==== InProjSample.lean ====
abbrev S256x1024 : Shape := ⟨2, ![256, 1024]⟩
abbrev S1024x3400 : Shape := ⟨2, ![1024, 3400]⟩
abbrev S1024 : Shape := ⟨1, ![1024]⟩
abbrev S16 : Shape := ⟨1, ![16]⟩
abbrev S_ : Shape := ⟨0, ![]⟩
abbrev S32 : Shape := ⟨1, ![32]⟩
abbrev S16x1 : Shape := ⟨2, ![16, 1]⟩
abbrev S1x32 : Shape := ⟨2, ![1, 32]⟩
abbrev S16x32 : Shape := ⟨2, ![16, 32]⟩
abbrev S16x64 : Shape := ⟨2, ![16, 64]⟩
abbrev S1x16x1x64 : Shape := ⟨4, ![1, 16, 1, 64]⟩
abbrev S1x16x2x64 : Shape := ⟨4, ![1, 16, 2, 64]⟩
abbrev S16x128 : Shape := ⟨2, ![16, 128]⟩
abbrev S1x1024 : Shape := ⟨2, ![1, 1024]⟩
abbrev S1024x56 : Shape := ⟨2, ![1024, 56]⟩
abbrev S1024x512 : Shape := ⟨2, ![1024, 512]⟩
abbrev S1024x128 : Shape := ⟨2, ![1024, 128]⟩
abbrev S1024x64 : Shape := ⟨2, ![1024, 64]⟩
abbrev S1024x8 : Shape := ⟨2, ![1024, 8]⟩
abbrev S1024x3456 : Shape := ⟨2, ![1024, 3456]⟩
abbrev S1x16x1x128 : Shape := ⟨4, ![1, 16, 1, 128]⟩
abbrev S16x16x1x128 : Shape := ⟨4, ![16, 16, 1, 128]⟩
abbrev S256x128 : Shape := ⟨2, ![256, 128]⟩
abbrev S256x3072 : Shape := ⟨2, ![256, 3072]⟩
abbrev S256x2x64 : Shape := ⟨3, ![256, 2, 64]⟩
abbrev S256x64 : Shape := ⟨2, ![256, 64]⟩
abbrev S256 : Shape := ⟨1, ![256]⟩
abbrev S256x1 : Shape := ⟨2, ![256, 1]⟩
abbrev S256x512 : Shape := ⟨2, ![256, 512]⟩
abbrev S1024x384 : Shape := ⟨2, ![1024, 384]⟩
abbrev S256x384 : Shape := ⟨2, ![256, 384]⟩
abbrev S256x1x64 : Shape := ⟨3, ![256, 1, 64]⟩

abbrev nBuf : Space → Nat
  | .hbm => 58
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S1024x3400, .f32⟩
  | .hbm, ⟨2, _⟩ => ⟨S1024, .f32⟩
  | .hbm, ⟨3, _⟩ => ⟨S16, .i32⟩
  | .hbm, ⟨4, _⟩ => ⟨S_, .i32⟩
  | .hbm, ⟨5, _⟩ => ⟨S16, .i32⟩
  | .hbm, ⟨6, _⟩ => ⟨S16, .i32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S16, .f32⟩
  | .hbm, ⟨16, _⟩ => ⟨S16x1, .f32⟩
  | .hbm, ⟨17, _⟩ => ⟨S1x32, .f32⟩
  | .hbm, ⟨18, _⟩ => ⟨S16x32, .f32⟩
  | .hbm, ⟨19, _⟩ => ⟨S16x32, .f32⟩
  | .hbm, ⟨20, _⟩ => ⟨S16x32, .f32⟩
  | .hbm, ⟨21, _⟩ => ⟨S16x32, .f32⟩
  | .hbm, ⟨22, _⟩ => ⟨S16x32, .f32⟩
  | .hbm, ⟨23, _⟩ => ⟨S16x64, .f32⟩
  | .hbm, ⟨24, _⟩ => ⟨S16x32, .f32⟩
  | .hbm, ⟨25, _⟩ => ⟨S16x64, .f32⟩
  | .hbm, ⟨26, _⟩ => ⟨S1x16x1x64, .f32⟩
  | .hbm, ⟨27, _⟩ => ⟨S1x16x2x64, .f32⟩
  | .hbm, ⟨28, _⟩ => ⟨S16x128, .f32⟩
  | .hbm, ⟨29, _⟩ => ⟨S1x16x1x64, .f32⟩
  | .hbm, ⟨30, _⟩ => ⟨S1x16x2x64, .f32⟩
  | .hbm, ⟨31, _⟩ => ⟨S16x128, .f32⟩
  | .hbm, ⟨32, _⟩ => ⟨S1x1024, .f32⟩
  | .hbm, ⟨33, _⟩ => ⟨S_, .f32⟩
  | .hbm, ⟨34, _⟩ => ⟨S1024x56, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S1024x128, .f32⟩
  | .hbm, ⟨42, _⟩ => ⟨S1024x128, .f32⟩
  | .hbm, ⟨43, _⟩ => ⟨S1024x64, .f32⟩
  | .hbm, ⟨44, _⟩ => ⟨S1024x8, .f32⟩
  | .hbm, ⟨45, _⟩ => ⟨S1024x3456, .f32⟩
  | .hbm, ⟨46, _⟩ => ⟨S1024x3456, .bf16⟩
  | .hbm, ⟨47, _⟩ => ⟨S1x16x1x128, .f32⟩
  | .hbm, ⟨48, _⟩ => ⟨S16x16x1x128, .f32⟩
  | .hbm, ⟨49, _⟩ => ⟨S256x128, .f32⟩
  | .hbm, ⟨50, _⟩ => ⟨S1x16x1x128, .f32⟩
  | .hbm, ⟨51, _⟩ => ⟨S16x16x1x128, .f32⟩
  | .hbm, ⟨52, _⟩ => ⟨S256x128, .f32⟩
  | .hbm, ⟨53, _⟩ => ⟨S256x3072, .f32⟩
  | .hbm, ⟨54, _⟩ => ⟨S256x2x64, .f32⟩
  | .hbm, ⟨55, _⟩ => ⟨S256x2x64, .f32⟩
  | .hbm, ⟨56, _⟩ => ⟨S256x64, .f32⟩
  | .hbm, ⟨57, _⟩ => ⟨S256x128, .f32⟩
  | .local _ .vmem, ⟨0, _⟩ => ⟨S256x1024, .f32⟩
  | .local _ .vmem, ⟨1, _⟩ => ⟨S1x1024, .f32⟩
  | .local _ .vmem, ⟨2, _⟩ => ⟨S1024x3456, .bf16⟩
  | .local _ .vmem, ⟨3, _⟩ => ⟨S256x128, .f32⟩
  | .local _ .vmem, ⟨4, _⟩ => ⟨S256x128, .f32⟩
  | .local _ .vmem, ⟨5, _⟩ => ⟨S256x3072, .f32⟩
  | .local _ .vmem, ⟨6, _⟩ => ⟨S256x2x64, .f32⟩
  | .local _ .vmem, ⟨7, _⟩ => ⟨S256x2x64, .f32⟩
  | .local _ .vmem, ⟨8, _⟩ => ⟨S256x64, .f32⟩
  | .local _ .vmem, ⟨9, _⟩ => ⟨S256x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46_0 : Ref sig .tc := ⟨.hbm, 53, rfl⟩
abbrev main_v46_1 : Ref sig .tc := ⟨.hbm, 54, rfl⟩
abbrev main_v46_2 : Ref sig .tc := ⟨.hbm, 55, rfl⟩
abbrev main_v46_3 : Ref sig .tc := ⟨.hbm, 56, rfl⟩
abbrev main_v46_4 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3456 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== InProjSampleReferenceIdeal.lean ====
abbrev S256x1024 : Shape := ⟨2, ![256, 1024]⟩
abbrev S1024x3400 : Shape := ⟨2, ![1024, 3400]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x3400 : Shape := ⟨2, ![256, 3400]⟩
abbrev S256x512 : Shape := ⟨2, ![256, 512]⟩
abbrev S256x128 : Shape := ⟨2, ![256, 128]⟩
abbrev S256x64 : Shape := ⟨2, ![256, 64]⟩
abbrev S256x8 : Shape := ⟨2, ![256, 8]⟩
abbrev S256x2x64 : Shape := ⟨3, ![256, 2, 64]⟩

abbrev nBuf : Space → Nat
  | .hbm => 32
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x3400, .f32⟩
  | .hbm, ⟨2, _⟩ => ⟨S1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x3400, .f32⟩
  | .hbm, ⟨20, _⟩ => ⟨S256x512, .f32⟩
  | .hbm, ⟨21, _⟩ => ⟨S256x512, .f32⟩
  | .hbm, ⟨22, _⟩ => ⟨S256x512, .f32⟩
  | .hbm, ⟨23, _⟩ => ⟨S256x512, .f32⟩
  | .hbm, ⟨24, _⟩ => ⟨S256x512, .f32⟩
  | .hbm, ⟨25, _⟩ => ⟨S256x128, .f32⟩
  | .hbm, ⟨26, _⟩ => ⟨S256x128, .f32⟩
  | .hbm, ⟨27, _⟩ => ⟨S256x512, .f32⟩
  | .hbm, ⟨28, _⟩ => ⟨S256x64, .f32⟩
  | .hbm, ⟨29, _⟩ => ⟨S256x8, .f32⟩
  | .hbm, ⟨30, _⟩ => ⟨S256x2x64, .f32⟩
  | .hbm, ⟨31, _⟩ => ⟨S256x2x64, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== FfnSample.lean ====
abbrev S256x1024 : Shape := ⟨2, ![256, 1024]⟩
abbrev S256x512 : Shape := ⟨2, ![256, 512]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S1x1024 : Shape := ⟨2, ![1, 1024]⟩
abbrev S512x1024 : Shape := ⟨2, ![512, 1024]⟩
abbrev S256 : Shape := ⟨1, ![256]⟩
abbrev S256x1 : Shape := ⟨2, ![256, 1]⟩
abbrev S1024x512 : Shape := ⟨2, ![1024, 512]⟩

abbrev nBuf : Space → Nat
  | .hbm => 16
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x512, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024x1024, .bf16⟩
  | .hbm, ⟨10, _⟩ => ⟨S1024x4096, .bf16⟩
  | .hbm, ⟨11, _⟩ => ⟨S4096x1024, .bf16⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S256x1024, .f32⟩
  | .local _ .vmem, ⟨0, _⟩ => ⟨S256x1024, .f32⟩
  | .local _ .vmem, ⟨1, _⟩ => ⟨S256x512, .f32⟩
  | .local _ .vmem, ⟨2, _⟩ => ⟨S256x512, .f32⟩
  | .local _ .vmem, ⟨3, _⟩ => ⟨S1024x1024, .bf16⟩
  | .local _ .vmem, ⟨4, _⟩ => ⟨S1024x4096, .bf16⟩
  | .local _ .vmem, ⟨5, _⟩ => ⟨S4096x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FfnSampleReferenceIdeal.lean ====
abbrev S256x1024 : Shape := ⟨2, ![256, 1024]⟩
abbrev S256x512 : Shape := ⟨2, ![256, 512]⟩
abbrev S1024x1024 : Shape := ⟨2, ![1024, 1024]⟩
abbrev S1024x4096 : Shape := ⟨2, ![1024, 4096]⟩
abbrev S4096x1024 : Shape := ⟨2, ![4096, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x4096 : Shape := ⟨2, ![256, 4096]⟩

abbrev nBuf : Space → Nat
  | .hbm => 67
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x512, .f32⟩
  | .hbm, ⟨2, _⟩ => ⟨S256x512, .f32⟩
  | .hbm, ⟨3, _⟩ => ⟨S1024x1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x1, .f32⟩
  | .hbm, ⟨22, _⟩ => ⟨S256x1024, .f32⟩
  | .hbm, ⟨23, _⟩ => ⟨S256x1024, .f32⟩
  | .hbm, ⟨24, _⟩ => ⟨S1x1024, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S_, .f32⟩
  | .hbm, ⟨33, _⟩ => ⟨S256x1, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S256x1, .f32⟩
  | .hbm, ⟨39, _⟩ => ⟨S256x1024, .f32⟩
  | .hbm, ⟨40, _⟩ => ⟨S256x1024, .f32⟩
  | .hbm, ⟨41, _⟩ => ⟨S1x1024, .f32⟩
  | .hbm, ⟨42, _⟩ => ⟨S256x1024, .f32⟩
  | .hbm, ⟨43, _⟩ => ⟨S256x1024, .f32⟩
  | .hbm, ⟨44, _⟩ => ⟨S256x4096, .f32⟩
  | .hbm, ⟨45, _⟩ => ⟨S_, .f32⟩
  | .hbm, ⟨46, _⟩ => ⟨S256x4096, .f32⟩
  | .hbm, ⟨47, _⟩ => ⟨S256x4096, .f32⟩
  | .hbm, ⟨48, _⟩ => ⟨S256x4096, .f32⟩
  | .hbm, ⟨49, _⟩ => ⟨S256x1024, .f32⟩
  | .hbm, ⟨50, _⟩ => ⟨S256x1024, .f32⟩
  | .hbm, ⟨51, _⟩ => ⟨S_, .f32⟩
  | .hbm, ⟨52, _⟩ => ⟨S256, .f32⟩
  | .hbm, ⟨53, _⟩ => ⟨S256x1, .f32⟩
  | .hbm, ⟨54, _⟩ => ⟨S_, .f32⟩
  | .hbm, ⟨55, _⟩ => ⟨S256x1, .f32⟩
  | .hbm, ⟨56, _⟩ => ⟨S256x1, .f32⟩
  | .hbm, ⟨57, _⟩ => ⟨S_, .f32⟩
  | .hbm, ⟨58, _⟩ => ⟨S256x1, .f32⟩
  | .hbm, ⟨59, _⟩ => ⟨S256x1, .f32⟩
  | .hbm, ⟨60, _⟩ => ⟨S256x1, .f32⟩
  | .hbm, ⟨61, _⟩ => ⟨S256x1024, .f32⟩
  | .hbm, ⟨62, _⟩ => ⟨S256x1024, .f32⟩
  | .hbm, ⟨63, _⟩ => ⟨S1x1024, .f32⟩
  | .hbm, ⟨64, _⟩ => ⟨S256x1024, .f32⟩
  | .hbm, ⟨65, _⟩ => ⟨S256x1024, .f32⟩
  | .hbm, ⟨66, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]
-- ==== RetSample.lean ====
abbrev S256x3072 : Shape := ⟨2, ![256, 3072]⟩
abbrev S16x8x64x64 : Shape := ⟨4, ![16, 8, 64, 64]⟩
abbrev S8 : Shape := ⟨1, ![8]⟩
abbrev S16 : Shape := ⟨1, ![16]⟩
abbrev S_ : Shape := ⟨0, ![]⟩
abbrev S16x1 : Shape := ⟨2, ![16, 1]⟩
abbrev S1x16 : Shape := ⟨2, ![1, 16]⟩
abbrev S16x16 : Shape := ⟨2, ![16, 16]⟩
abbrev S8x1x1 : Shape := ⟨3, ![8, 1, 1]⟩
abbrev S1x16x16 : Shape := ⟨3, ![1, 16, 16]⟩
abbrev S8x16x16 : Shape := ⟨3, ![8, 16, 16]⟩
abbrev S1x8 : Shape := ⟨2, ![1, 8]⟩
abbrev S16x8 : Shape := ⟨2, ![16, 8]⟩
abbrev S16x8x64 : Shape := ⟨3, ![16, 8, 64]⟩
abbrev S16x512 : Shape := ⟨2, ![16, 512]⟩
abbrev S256x512 : Shape := ⟨2, ![256, 512]⟩
abbrev S1x8x64x64 : Shape := ⟨4, ![1, 8, 64, 64]⟩
abbrev S8x64x64 : Shape := ⟨3, ![8, 64, 64]⟩
abbrev S16x64 : Shape := ⟨2, ![16, 64]⟩
abbrev S1x64x64 : Shape := ⟨3, ![1, 64, 64]⟩
abbrev S64x64 : Shape := ⟨2, ![64, 64]⟩

abbrev nBuf : Space → Nat
  | .hbm => 81
  | .vmem => 18
  | .smem => 0
  | _ => 0

abbrev bufTy : (tb : Table) → Fin (tcTables nBuf tb) → BufTy
  | .hbm, ⟨0, _⟩ => ⟨S256x3072, .f32⟩
  | .hbm, ⟨1, _⟩ => ⟨S16x8x64x64, .f32⟩
  | .hbm, ⟨2, _⟩ => ⟨S8, .f32⟩
  | .hbm, ⟨3, _⟩ => ⟨S8, .f32⟩
  | .hbm, ⟨4, _⟩ => ⟨S16, .i32⟩
  | .hbm, ⟨5, _⟩ => ⟨S_, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i1⟩
  | .hbm, ⟨13, _⟩ => ⟨S16, .i32⟩
  | .hbm, ⟨14, _⟩ => ⟨S16, .i32⟩
  | .hbm, ⟨15, _⟩ => ⟨S_, .i32⟩
  | .hbm, ⟨16, _⟩ => ⟨S16, .i32⟩
  | .hbm, ⟨17, _⟩ => ⟨S16, .i1⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S16, .i32⟩
  | .hbm, ⟨23, _⟩ => ⟨S16x1, .i32⟩
  | .hbm, ⟨24, _⟩ => ⟨S1x16, .i32⟩
  | .hbm, ⟨25, _⟩ => ⟨S16x16, .i32⟩
  | .hbm, ⟨26, _⟩ => ⟨S16x16, .i32⟩
  | .hbm, ⟨27, _⟩ => ⟨S16x16, .i32⟩
  | .hbm, ⟨28, _⟩ => ⟨S16x1, .i32⟩
  | .hbm, ⟨29, _⟩ => ⟨S1x16, .i32⟩
  | .hbm, ⟨30, _⟩ => ⟨S16x16, .i32⟩
  | .hbm, ⟨31, _⟩ => ⟨S16x16, .i32⟩
  | .hbm, ⟨32, _⟩ => ⟨S16x16, .i1⟩
  | .hbm, ⟨33, _⟩ => ⟨S1x16, .i32⟩
  | .hbm, ⟨34, _⟩ => ⟨S16x1, .i32⟩
  | .hbm, ⟨35, _⟩ => ⟨S16x16, .i32⟩
  | .hbm, ⟨36, _⟩ => ⟨S16x16, .i32⟩
  | .hbm, ⟨37, _⟩ => ⟨S16x16, .i1⟩
  | .hbm, ⟨38, _⟩ => ⟨S16x16, .i32⟩
  | .hbm, ⟨39, _⟩ => ⟨S_, .i32⟩
  | .hbm, ⟨40, _⟩ => ⟨S_, .i32⟩
  | .hbm, ⟨41, _⟩ => ⟨S16x16, .i32⟩
  | .hbm, ⟨42, _⟩ => ⟨S16x16, .i32⟩
  | .hbm, ⟨43, _⟩ => ⟨S16x16, .i32⟩
  | .hbm, ⟨44, _⟩ => ⟨S16x16, .f32⟩
  | .hbm, ⟨45, _⟩ => ⟨S8x1x1, .f32⟩
  | .hbm, ⟨46, _⟩ => ⟨S1x16x16, .f32⟩
  | .hbm, ⟨47, _⟩ => ⟨S8x16x16, .f32⟩
  | .hbm, ⟨48, _⟩ => ⟨S8x16x16, .f32⟩
  | .hbm, ⟨49, _⟩ => ⟨S8x16x16, .f32⟩
  | .hbm, ⟨50, _⟩ => ⟨S8x16x16, .f32⟩
  | .hbm, ⟨51, _⟩ => ⟨S16x16, .i1⟩
  | .hbm, ⟨52, _⟩ => ⟨S1x16x16, .i1⟩
  | .hbm, ⟨53, _⟩ => ⟨S1x16x16, .f32⟩
  | .hbm, ⟨54, _⟩ => ⟨S8x16x16, .f32⟩
  | .hbm, ⟨55, _⟩ => ⟨S8x16x16, .f32⟩
  | .hbm, ⟨56, _⟩ => ⟨S16, .f32⟩
  | .hbm, ⟨57, _⟩ => ⟨S1x8, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S16x1, .f32⟩
  | .hbm, ⟨62, _⟩ => ⟨S16x8, .f32⟩
  | .hbm, ⟨63, _⟩ => ⟨S16x8, .f32⟩
  | .hbm, ⟨64, _⟩ => ⟨S16x8, .f32⟩
  | .hbm, ⟨65, _⟩ => ⟨S16x8, .f32⟩
  | .hbm, ⟨66, _⟩ => ⟨S1x8, .f32⟩
  | .hbm, ⟨67, _⟩ => ⟨S_, .f32⟩
  | .hbm, ⟨68, _⟩ => ⟨S16, .f32⟩
  | .hbm, ⟨69, _⟩ => ⟨S16, .f32⟩
  | .hbm, ⟨70, _⟩ => ⟨S16x1, .f32⟩
  | .hbm, ⟨71, _⟩ => ⟨S16x8, .f32⟩
  | .hbm, ⟨72, _⟩ => ⟨S16x8, .f32⟩
  | .hbm, ⟨73, _⟩ => ⟨S16x8, .f32⟩
  | .hbm, ⟨74, _⟩ => ⟨S16x8, .f32⟩
  | .hbm, ⟨75, _⟩ => ⟨S16x8x64, .f32⟩
  | .hbm, ⟨76, _⟩ => ⟨S16x512, .f32⟩
  | .hbm, ⟨77, _⟩ => ⟨S16x8x64, .f32⟩
  | .hbm, ⟨78, _⟩ => ⟨S16x512, .f32⟩
  | .hbm, ⟨79, _⟩ => ⟨S256x512, .f32⟩
  | .hbm, ⟨80, _⟩ => ⟨S16x8x64x64, .f32⟩
  | .local _ .vmem, ⟨0, _⟩ => ⟨S16x512, .f32⟩
  | .local _ .vmem, ⟨1, _⟩ => ⟨S16x512, .f32⟩
  | .local _ .vmem, ⟨2, _⟩ => ⟨S16x512, .f32⟩
  | .local _ .vmem, ⟨3, _⟩ => ⟨S16x512, .f32⟩
  | .local _ .vmem, ⟨4, _⟩ => ⟨S16x512, .f32⟩
  | .local _ .vmem, ⟨5, _⟩ => ⟨S16x512, .f32⟩
  | .local _ .vmem, ⟨6, _⟩ => ⟨S16x512, .f32⟩
  | .local _ .vmem, ⟨7, _⟩ => ⟨S16x512, .f32⟩
  | .local _ .vmem, ⟨8, _⟩ => ⟨S8x16x16, .f32⟩
  | .local _ .vmem, ⟨9, _⟩ => ⟨S16x512, .f32⟩
  | .local _ .vmem, ⟨10, _⟩ => ⟨S16x512, .f32⟩
  | .local _ .vmem, ⟨11, _⟩ => ⟨S1x8x64x64, .f32⟩
  | .local _ .vmem, ⟨12, _⟩ => ⟨S1x8x64x64, .f32⟩
  | .local _ .vmem, ⟨13, _⟩ => ⟨S16x512, .f32⟩
  | .local _ .vmem, ⟨14, _⟩ => ⟨S16x512, .f32⟩
  | .local _ .vmem, ⟨15, _⟩ => ⟨S1x8x64x64, .f32⟩
  | .local _ .vmem, ⟨16, _⟩ => ⟨S1x8x64x64, .f32⟩
  | .local _ .vmem, ⟨17, _⟩ => ⟨S8x64x64, .f32⟩
  | _, _ => ⟨S256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_0 : Ref sig .tc := ⟨.hbm, 39, rfl⟩
abbrev main_call1_v0 : Ref sig .tc := ⟨.hbm, 40, rfl⟩
abbrev main_call1_v1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_1 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_2 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54_0 : Ref sig .tc := ⟨.hbm, 79, rfl⟩
abbrev main_v54_1 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_145 : BitVec 32 := 0#32
  let v301 : BitVec 1 := Scalar.cmpi .eq arg1 c0_i32_145
  let v302 : BitVec 32 := Scalar.extui v301
  let c0_i32_146 : BitVec 32 := 0#32
  let v303 : BitVec 1 := Scalar.cmpi .ne v302 c0_i32_146
  v303

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c3_i32 : BitVec 32 := 3#32
  let c0_i32 : BitVec 32 := 0#32
  ![v1.toNat, c3_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S8x16x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S16x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x8x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S16x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== RetSampleIdeal.lean ====
variable {F : FTy → Type} [FloatOps F] [Named F]
def κ : String → Option EReal := fun
  | "g0" => some ((727423121747185263828481 / 1208925819614629174706176 : ℝ) : EReal)
  | "g1" => some ((61581291280182164914327485441 / 79228162514264337593543950336 : ℝ) : EReal)
  | "g2" => some ((4579937329576774398276408998492161 / 5192296858534827628530496329220096 : ℝ) : EReal)
  | "g3" => some ((319626579315078487616775634918212890625 / 340282366920938463463374607431768211456 : ℝ) : EReal)
  | "g4" => some ((21613962923989568949877044687531502418780161 / 22300745198530623141535718272648361505980416 : ℝ) : EReal)
  | "g5" => some ((1438832170017629738236700430841864450398008360961 / 1461501637330902918203684832716283019655932542976 : ℝ) : EReal)
  | "g6" => some ((95035416547063391984371436569914242237166403230597121 / 95780971304118053647396689196894323976171195136475136 : ℝ) : EReal)
  | "g7" => some ((6252626652951131626106113631849575343934966259918212890625 / 6277101735386680763835789423207666416102355444464034512896 : ℝ) : EReal)
  | _ => none
-- ==== RetSampleReferenceIdeal.lean ====
abbrev S256x3072 : Shape := ⟨2, ![256, 3072]⟩
abbrev S16x8x64x64 : Shape := ⟨4, ![16, 8, 64, 64]⟩
abbrev S16 : Shape := ⟨1, ![16]⟩
abbrev S8 : Shape := ⟨1, ![8]⟩
abbrev S_ : Shape := ⟨0, ![]⟩
abbrev S1x8 : Shape := ⟨2, ![1, 8]⟩
abbrev S16x1 : Shape := ⟨2, ![16, 1]⟩
abbrev S16x8 : Shape := ⟨2, ![16, 8]⟩
abbrev S256x512 : Shape := ⟨2, ![256, 512]⟩
abbrev S16x1x16x8x64 : Shape := ⟨5, ![16, 1, 16, 8, 64]⟩
abbrev S16x8x1 : Shape := ⟨3, ![16, 8, 1]⟩
abbrev S1x1x16x8x1 : Shape := ⟨5, ![1, 1, 16, 8, 1]⟩
abbrev S1x16x8x64x64 : Shape := ⟨5, ![1, 16, 8, 64, 64]⟩
abbrev S1x8x1x1 : Shape := ⟨4, ![1, 8, 1, 1]⟩

abbrev nBuf : Space → Nat
  | .hbm => 52
  | .vmem => 0
  | .smem => 0
  | _ => 0

abbrev bufTy : (tb : Table) → Fin (tcTables nBuf tb) → BufTy
  | .hbm, ⟨0, _⟩ => ⟨S256x3072, .f32⟩
  | .hbm, ⟨1, _⟩ => ⟨S16x8x64x64, .f32⟩
  | .hbm, ⟨2, _⟩ => ⟨S16, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S1x8, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S16x1, .f32⟩
  | .hbm, ⟨19, _⟩ => ⟨S16x8, .f32⟩
  | .hbm, ⟨20, _⟩ => ⟨S16x8, .f32⟩
  | .hbm, ⟨21, _⟩ => ⟨S16x8, .f32⟩
  | .hbm, ⟨22, _⟩ => ⟨S16x8, .f32⟩
  | .hbm, ⟨23, _⟩ => ⟨S256x512, .f32⟩
  | .hbm, ⟨24, _⟩ => ⟨S16x1x16x8x64, .f32⟩
  | .hbm, ⟨25, _⟩ => ⟨S16x8x1, .f32⟩
  | .hbm, ⟨26, _⟩ => ⟨S1x1x16x8x1, .f32⟩
  | .hbm, ⟨27, _⟩ => ⟨S16x1x16x8x64, .f32⟩
  | .hbm, ⟨28, _⟩ => ⟨S16x1x16x8x64, .f32⟩
  | .hbm, ⟨29, _⟩ => ⟨S256x512, .f32⟩
  | .hbm, ⟨30, _⟩ => ⟨S16x1x16x8x64, .f32⟩
  | .hbm, ⟨31, _⟩ => ⟨S1x16x8x64x64, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S8, .f32⟩
  | .hbm, ⟨38, _⟩ => ⟨S8, .f32⟩
  | .hbm, ⟨39, _⟩ => ⟨S_, .f32⟩
  | .hbm, ⟨40, _⟩ => ⟨S8, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8, .f32⟩
  | .hbm, ⟨47, _⟩ => ⟨S1x8x1x1, .f32⟩
  | .hbm, ⟨48, _⟩ => ⟨S16x8x64x64, .f32⟩
  | .hbm, ⟨49, _⟩ => ⟨S16x8x64x64, .f32⟩
  | .hbm, ⟨50, _⟩ => ⟨S16x8x64x64, .f32⟩
  | .hbm, ⟨51, _⟩ => ⟨S16x8x64x64, .f32⟩
  | _, _ => ⟨S256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_3 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_cst_5 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Proof.Common.Index.lean ====
/- Indices with two, three and four axes, told apart by the values of their coordinates. -/
module

public import Idealize.ShloMosaic.Lib.ValueIdx

@[expose] public section

namespace Cert.Layer

open Idealize.ShloMosaic Idealize.ShloMosaic.ValueIdx

theorem ext_ix1 {a : ℕ} (i : (⟨1, ![a]⟩ : Shape).Idx) (p : Fin a) (h0 : (i 0).val = p.val) : i = ix1 p :=
  funext fun x => match x with
    | ⟨0, _⟩ => Fin.ext h0

theorem ext_ix2 {a b : ℕ} (i : (⟨2, ![a, b]⟩ : Shape).Idx) (p : Fin a) (q : Fin b)
    (h0 : (i 0).val = p.val) (h1 : (i 1).val = q.val) : i = ix2 p q :=
  funext fun x => match x with
    | ⟨0, _⟩ => Fin.ext h0
    | ⟨1, _⟩ => Fin.ext h1

theorem ext_ix3 {a b c : ℕ} (i : (⟨3, ![a, b, c]⟩ : Shape).Idx) (p : Fin a) (q : Fin b) (r : Fin c)
    (h0 : (i 0).val = p.val) (h1 : (i 1).val = q.val) (h2 : (i 2).val = r.val) : i = ix3 p q r :=
  funext fun x => match x with
    | ⟨0, _⟩ => Fin.ext h0
    | ⟨1, _⟩ => Fin.ext h1
    | ⟨2, _⟩ => Fin.ext h2

theorem ext_ix4 {a b c d : ℕ} (i : (⟨4, ![a, b, c, d]⟩ : Shape).Idx) (p : Fin a) (q : Fin b) (r : Fin c) (s : Fin d)
    (h0 : (i 0).val = p.val) (h1 : (i 1).val = q.val) (h2 : (i 2).val = r.val) (h3 : (i 3).val = s.val) : i = ix4 p q r s :=
  funext fun x => match x with
    | ⟨0, _⟩ => Fin.ext h0
    | ⟨1, _⟩ => Fin.ext h1
    | ⟨2, _⟩ => Fin.ext h2
    | ⟨3, _⟩ => Fin.ext h3

end Cert.Layer
-- ==== Proof.Common.Norm.lean ====
/- One row of a root-mean-square normalisation over the extended reals, and the reading of the vector operations
   that compute it for a whole block of rows. -/
module

public import Idealize.ShloMosaic.Lib.ValueIdx
public import Idealize.ShloMosaic.Lib.ValueLayout
public import Idealize.ShloMosaic.Lib.ValueLayoutCasts
public import Idealize.ShloMosaic.Lib.MatmulPlain
public import Idealize.ShloMosaic.PureOps.Ideal.Laws
public import Idealize.ShloMosaic.Lib.IdealHost

@[expose] public section

noncomputable section

namespace Cert.Layer

open Idealize.ShloMosaic Idealize.ShloMosaic.ValueIdx
open scoped BigOperators

/-- A row of 1024 numbers. -/
abbrev Row (n : ℕ) := Fin n → EReal

/-- The number added under the root: the printed constant nearest `10⁻⁶`. -/
def eps : EReal := Ideal.ofBits .f32 0x358637BD#32

/-- The factor that normalises a row: one over the root of the mean of the squares (plus `eps`), the mean taken
    as the sum over the printed constant `n`. -/
def invRms {k : ℕ} (n : BitVec 32) (v : Row k) : EReal :=
  Ideal.rsqrt (Ideal.div (∑ j, v j * v j) (Ideal.ofBits .f32 n) + eps)

/-- A row of 1024 normalised and scaled by the gains `g`. -/
def normRow (v g : Row 1024) : Row 1024 := fun j => v j * invRms 0x44800000#32 v * g j

/-- A column of numbers spread along the second axis reads its row's number. -/
theorem spread_col_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p 0) := by
  refine broadcastTo_apply v h (ix2 p q) (ix2 p 0) fun d => ?_
  match d with
  | ⟨0, _⟩ =>
    show p.val = if a = 1 then 0 else p.val
    split
    · have := p.isLt; omega
    · rfl
  | ⟨1, _⟩ => rfl

/-- The sum along the rows of a block, read at a row. -/
theorem row_sum_apply {a b : ℕ} (z : FVec Ideal ⟨2, ![a, b]⟩ .f32)
    (hr : (⟨2, ![a, b]⟩ : Shape).Reduces [1] ⟨1, ![a]⟩) (hφ : FKind.Formats .f32)
    (hacc : 0x00000000#32 = FKind.add.neutral .f32 hφ) (p : Fin a) :
    multiReduction .add [1] ⟨1, ![a]⟩ z 0x00000000#32 hr hφ hacc (ix1 p) = ∑ k : Fin b, z (ix2 p k) := by
  rw [Ideal.multiReduction_add_single]
  refine Finset.sum_congr rfl fun k _ => congrArg z ?_
  funext d
  apply Fin.ext
  match d with
  | ⟨0, _⟩ => rfl
  | ⟨1, _⟩ => rfl

/-- The normalisation of a block of rows, read at an element: that row's `invRms` times the element times the gain. -/
theorem norm_block_apply {a b : ℕ} (n : BitVec 32) (z : FVec Ideal ⟨2, ![a, b]⟩ .f32) (g : FVec Ideal ⟨2, ![1, b]⟩ .f32)
    (hr : (⟨2, ![a, b]⟩ : Shape).Reduces [1] ⟨1, ![a]⟩) (hφ : FKind.Formats .f32)
    (hacc : 0x00000000#32 = FKind.add.neutral .f32 hφ)
    (hc : (⟨1, ![a]⟩ : Shape).ShapeCasts ⟨2, ![a, 1]⟩) (hb : (⟨2, ![a, 1]⟩ : Shape).Broadcasts ⟨2, ![a, b]⟩)
    (hg : (⟨2, ![1, b]⟩ : Shape).Broadcasts ⟨2, ![a, b]⟩) (p : Fin a) (q : Fin b) :
    mulf (mulf z (broadcastTo ⟨2, ![a, b]⟩ (rsqrt (addf (divf
        (shapeCast ⟨2, ![a, 1]⟩ (multiReduction .add [1] ⟨1, ![a]⟩ (mulf z z) 0x00000000#32 hr hφ hacc) hc)
        (broadcast ⟨2, ![a, 1]⟩ (Scalar.ofBits .f32 n))) (broadcast ⟨2, ![a, 1]⟩ (Scalar.ofBits .f32 0x358637BD#32)))) hb))
      (broadcastTo ⟨2, ![a, b]⟩ g hg) (ix2 p q)
      = z (ix2 p q) * invRms n (fun k => z (ix2 p k)) * g (ix2 0 q) := by
  rw [mulf_apply, mulf_apply, spread_col_apply, broadcastTo_1b_ab_apply]
  show _ * Ideal.rsqrt (Ideal.div (shapeCast ⟨2, ![a, 1]⟩ _ hc (ix2 p 0)) _ + _) * _ = _
  rw [shapeCast_a_a1_apply, row_sum_apply]
  rfl

end Cert.Layer

end
-- ==== Proof.Common.Blocks.lean ====
/- Products and loads of a block of rows and arrays set side by side, read at an element, and a sum over a long axis as the sum of the sums over
   its equal pieces. -/
module

public import proofs.«01_k».proof.Proof.Common.Norm
public import Idealize.ShloMosaic.Lib.Pipeline.Value

@[expose] public section

noncomputable section

namespace Cert.Layer

open Idealize.ShloMosaic Idealize.ShloMosaic.ValueIdx
open scoped BigOperators

/-- A product accumulated onto zero, read at an element: the sum over the contracted axis. -/
theorem product_apply {M K N : ℕ} {φ₁ φ₂ : FTy} (D : DotDims ⟨2, ![M, K]⟩ ⟨2, ![K, N]⟩ ⟨2, ![M, N]⟩)
    (hD : D = DotDims.plain M K N) (A : FVec Ideal ⟨2, ![M, K]⟩ φ₁) (B : FVec Ideal ⟨2, ![K, N]⟩ φ₂) (p : Fin M) (q : Fin N) :
    matmul D none A B (constant ⟨2, ![M, N]⟩ .f32 0x00000000#32) (ix2 p q) = ∑ k : Fin K, A (ix2 p k) * B (ix2 k q) := by
  subst hD
  show FloatOps.matmul (DotDims.plain M K N) none A B _ (ix2 p q) = _
  rw [Ideal.matmul_plain_apply, constant_apply, Ideal.ofBits_zero_f32]
  exact zero_add _

section Loads
variable {Val : EltTy → Type} {e : EltTy}

/-- A load of `w` columns from column `o` on, read at an element. -/
theorem load_cols {a b w : ℕ} (X : (⟨2, ![a, b]⟩ : Shape).Idx → Val e) (o : ℕ)
    (inb : ∀ d, (![0, o] : Fin 2 → ℕ) d + (⟨2, ![a, w]⟩ : Shape).size d ≤ (⟨2, ![a, b]⟩ : Shape).size d)
    (p : Fin a) (q : Fin w) (h : o + q.val < b) :
    View.ld X (Rect.unit (s := ⟨2, ![a, b]⟩) ![0, o] (⟨2, ![a, w]⟩ : Shape).size inb) (ix2 p q) = X (ix2 p ⟨o + q.val, h⟩) := by
  show X _ = X _
  congr 1
  funext d
  apply Fin.ext
  match d with
  | ⟨0, _⟩ => show 0 + 1 * p.val = p.val; omega
  | ⟨1, _⟩ => show o + 1 * q.val = o + q.val; omega

/-- A load of `w` rows from row `o` on, read at an element. -/
theorem load_rows {a b w : ℕ} (X : (⟨2, ![a, b]⟩ : Shape).Idx → Val e) (o : ℕ)
    (inb : ∀ d, (![o, 0] : Fin 2 → ℕ) d + (⟨2, ![w, b]⟩ : Shape).size d ≤ (⟨2, ![a, b]⟩ : Shape).size d)
    (p : Fin w) (q : Fin b) (h : o + p.val < a) :
    View.ld X (Rect.unit (s := ⟨2, ![a, b]⟩) ![o, 0] (⟨2, ![w, b]⟩ : Shape).size inb) (ix2 p q) = X (ix2 ⟨o + p.val, h⟩ q) := by
  show X _ = X _
  congr 1
  funext d
  apply Fin.ext
  match d with
  | ⟨0, _⟩ => show o + 1 * p.val = o + p.val; omega
  | ⟨1, _⟩ => show 0 + 1 * q.val = q.val; omega

/-- A load of the whole block is the block. -/
theorem load_whole {a b : ℕ} (X : (⟨2, ![a, b]⟩ : Shape).Idx → Val e)
    (inb : ∀ d, (![0, 0] : Fin 2 → ℕ) d + (⟨2, ![a, b]⟩ : Shape).size d ≤ (⟨2, ![a, b]⟩ : Shape).size d) :
    View.ld X (Rect.unit (s := ⟨2, ![a, b]⟩) ![0, 0] (⟨2, ![a, b]⟩ : Shape).size inb) = X :=
  View.ld_unit_zero (S := ⟨2, ![a, b]⟩) (funext fun d => by fin_cases d <;> rfl) inb X

end Loads

/-- Arrays side by side, read inside the `i`-th of them, which is `w` columns wide and starts at column `o`. -/
theorem beside_apply {α : Type} {R C : ℕ} (xs : List ((s : Shape) × (s.Idx → α)))
    (h : Shape.Concatenates (xs.map (·.1)) ⟨2, ![R, C]⟩ 1) (i : ℕ) (hi : i < xs.length) (w o : ℕ) (X : (⟨2, ![R, w]⟩ : Shape).Idx → α)
    (hp : xs[i]'hi = ⟨⟨2, ![R, w]⟩, X⟩)
    (hpre : (((xs.take i).map (·.1)).map fun s => if h : s.rank = (⟨2, ![R, C]⟩ : Shape).rank then s.size ((1 : Fin (⟨2, ![R, C]⟩ : Shape).rank).cast h.symm) else 0).sum = o)
    (r : Fin R) (n : Fin C) (j : Fin w) (hn : o + j.val = n.val) : concatenate ⟨2, ![R, C]⟩ 1 xs h (ix2 r n) = X (ix2 r j) := by
  refine concatenate_apply_piece (t := ⟨2, ![R, C]⟩) 1 xs h (ix2 r n) i hi ⟨2, ![R, w]⟩ X hp rfl o hpre (ix2 r j) (fun b hb => ?_) hn
  match b with
  | ⟨0, _⟩ => rfl
  | ⟨1, _⟩ => exact absurd rfl hb

/-- A sum over 4096 places is the eight sums over 512 places each, added first to last. -/
theorem sum_eight {M : Type*} [AddCommMonoid M] (f : Fin 4096 → M) :
    ∑ k, f k = ∑ i : Fin 8, ∑ k : Fin 512, f ⟨512 * i.val + k.val, by omega⟩ := by
  rw [← Fintype.sum_prod_type', ← Equiv.sum_comp (finProdFinEquiv (m := 8) (n := 512)) f]
  refine Finset.sum_congr rfl fun x _ => congrArg f (Fin.ext ?_)
  show x.2.val + 512 * x.1.val = 512 * x.1.val + x.2.val
  omega

/-- A sum over 1024 places is the sum over the first 512 plus the sum over the last 512. -/
theorem sum_halves {M : Type*} [AddCommMonoid M] (f : Fin 1024 → M) :
    ∑ k, f k = (∑ k : Fin 512, f ⟨k.val, by omega⟩) + ∑ k : Fin 512, f ⟨512 + k.val, by omega⟩ := by
  exact Fin.sum_univ_add (a := 512) (b := 512) f

end Cert.Layer

end
-- ==== Proof.Ffn.Spec.lean ====
/- What the layer's last call computes for one row, as mathematics over the extended reals: the output projection of
   the two heads' outputs, its normalisation added to the residual, and the feed-forward block with the squared
   rectifier, normalised and added again. -/
module

public import proofs.«01_k».proof.Proof.Common.Blocks

@[expose] public section

noncomputable section

namespace Cert.Layer

open Idealize.ShloMosaic
open scoped BigOperators

/-- The output projection of the row `a` (retention) beside the row `b` (attention): the first 512 rows of the weight
    meet `a`, the last 512 meet `b`. -/
def mixRow (a b : Row 512) (wo : Fin 1024 → Row 1024) : Row 1024 := fun q =>
  (∑ k : Fin 512, a k * wo ⟨k.val, by omega⟩ q) + ∑ k : Fin 512, b k * wo ⟨512 + k.val, by omega⟩ q

/-- The residual stream after the mixing half of the layer. -/
def midRow (x : Row 1024) (a b : Row 512) (wo : Fin 1024 → Row 1024) (g : Row 1024) : Row 1024 := fun q =>
  x q + normRow (mixRow a b wo) g q

/-- The rectifier, squared. -/
def sqRelu (z : EReal) : EReal := max z 0 * max z 0

/-- The hidden row: the squared rectifier of the up projection of the normalised row. -/
def hiddenRow (m g : Row 1024) (wu : Fin 1024 → Row 4096) : Row 4096 := fun f =>
  sqRelu (∑ k : Fin 1024, normRow m g k * wu k f)

/-- The down projection of the hidden row. -/
def downRow (u : Row 4096) (wd : Fin 4096 → Row 1024) : Row 1024 := fun q => ∑ f : Fin 4096, u f * wd f q

/-- The whole call on one row. -/
def ffnRow (x : Row 1024) (a b : Row 512) (wo : Fin 1024 → Row 1024) (wu : Fin 1024 → Row 4096)
    (wd : Fin 4096 → Row 1024) (g1 g2 g3 : Row 1024) : Row 1024 := fun q =>
  midRow x a b wo g1 q + normRow (downRow (hiddenRow (midRow x a b wo g1) g2 wu) wd) g3 q

end Cert.Layer

end
-- ==== Proof.Ffn.Rows.lean ====
/- The vector operations of the last call on a block of any number of rows, read at an element: the mixing half, the
   normalisations, and the feed-forward block in its eight pieces. -/
module

public import proofs.«01_k».proof.Proof.Ffn.Spec

@[expose] public section

noncomputable section

namespace Cert.Layer.FfnRows

open Idealize.ShloMosaic Idealize.ShloMosaic.ValueIdx
open scoped BigOperators

/-- A shape of two axes. -/
abbrev Sh (a b : ℕ) : Shape := ⟨2, ![a, b]⟩

/-- Row `p` of a two-axis array. -/
abbrev row {a b : ℕ} (X : (Sh a b).Idx → EReal) (p : Fin a) : Row b := fun k => X (ix2 p k)

/-- What the shapes of a block of `n` rows have to satisfy for a normalisation. -/
structure Fits (n : ℕ) : Prop where
  reduces : (Sh n 1024).Reduces [1] ⟨1, ![n]⟩
  casts : (⟨1, ![n]⟩ : Shape).ShapeCasts (Sh n 1)
  spreads : (Sh n 1).Broadcasts (Sh n 1024)
  gains : (Sh 1 1024).Broadcasts (Sh n 1024)

/-- A product onto zero. -/
abbrev times {a b c : ℕ} {φ₁ φ₂ : FTy} (A : FVec Ideal (Sh a b) φ₁) (B : FVec Ideal (Sh b c) φ₂) : FVec Ideal (Sh a c) .f32 :=
  matmul (DotDims.plain a b c) none A B (constant (Sh a c) .f32 0x00000000#32)

theorem times_apply {a b c : ℕ} {φ₁ φ₂ : FTy} (A : FVec Ideal (Sh a b) φ₁) (B : FVec Ideal (Sh b c) φ₂) (p : Fin a) (q : Fin c) :
    times A B (ix2 p q) = ∑ k : Fin b, A (ix2 p k) * B (ix2 k q) := product_apply _ rfl A B p q

variable {n : ℕ}

/-- The normalisation of the block `d` with gains `g`. -/
def normBlock (F : Fits n) (d : FVec Ideal (Sh n 1024) .f32) (g : FVec Ideal (Sh 1 1024) .f32) : FVec Ideal (Sh n 1024) .f32 :=
  mulf (mulf d (broadcastTo (Sh n 1024) (rsqrt (addf (divf
    (shapeCast (Sh n 1) (multiReduction .add [1] ⟨1, ![n]⟩ (mulf d d) 0x00000000#32 F.reduces (.inl rfl) rfl) F.casts)
    (broadcast (Sh n 1) (Scalar.ofBits .f32 0x44800000#32))) (broadcast (Sh n 1) (Scalar.ofBits .f32 0x358637BD#32)))) F.spreads))
    (broadcastTo (Sh n 1024) g F.gains)

theorem normBlock_apply (F : Fits n) (d : FVec Ideal (Sh n 1024) .f32) (g : FVec Ideal (Sh 1 1024) .f32) (p : Fin n) (q : Fin 1024) :
    normBlock F d g (ix2 p q) = normRow (row d p) (row g 0) q :=
  norm_block_apply _ _ _ _ _ _ _ _ _ p q

/-- The residual after the mixing half. -/
def midBlock (F : Fits n) (v0 : FVec Ideal (Sh n 512) .f32) (v2 : FVec Ideal (Sh 512 1024) .bf16) (v5 : FVec Ideal (Sh n 512) .f32)
    (v7 : FVec Ideal (Sh 512 1024) .bf16) (v11 : FVec Ideal (Sh n 1024) .f32) (v12 : FVec Ideal (Sh 1 1024) .f32) : FVec Ideal (Sh n 1024) .f32 :=
  addf v11 (normBlock F (addf (times (truncf .bf16 v0 (by decide)) v2) (times (truncf .bf16 v5 (by decide)) v7)) v12)

theorem midBlock_apply (F : Fits n) (v0 : FVec Ideal (Sh n 512) .f32) (v2 : FVec Ideal (Sh 512 1024) .bf16) (v5 : FVec Ideal (Sh n 512) .f32)
    (v7 : FVec Ideal (Sh 512 1024) .bf16) (v11 : FVec Ideal (Sh n 1024) .f32) (v12 : FVec Ideal (Sh 1 1024) .f32)
    (wo : Fin 1024 → Row 1024) (h2 : ∀ (k : Fin 512) q, v2 (ix2 k q) = wo ⟨k.val, by omega⟩ q)
    (h7 : ∀ (k : Fin 512) q, v7 (ix2 k q) = wo ⟨512 + k.val, by omega⟩ q) (p : Fin n) (q : Fin 1024) :
    midBlock F v0 v2 v5 v7 v11 v12 (ix2 p q) = midRow (row v11 p) (row v0 p) (row v5 p) wo (row v12 0) q := by
  unfold midBlock
  rw [addf_apply, normBlock_apply]
  refine congrArg (fun z => v11 (ix2 p q) + normRow z (row v12 0) q) (funext fun q => ?_)
  show addf _ _ (ix2 p q) = _
  rw [addf_apply, times_apply, times_apply]
  simp only [truncf_apply, h2, h7]
  rfl

/-- One of the eight pieces of the feed-forward block: 512 hidden places. -/
def piece (h : FVec Ideal (Sh n 1024) .bf16) (wu : FVec Ideal (Sh 1024 512) .bf16) (wd : FVec Ideal (Sh 512 1024) .bf16) : FVec Ideal (Sh n 1024) .f32 :=
  times (truncf .bf16 (mulf
    (maximumf (times h wu) (broadcast (Sh n 512) (Scalar.ofBits .f32 0x00000000#32)))
    (maximumf (times h wu) (broadcast (Sh n 512) (Scalar.ofBits .f32 0x00000000#32)))) (by decide)) wd

theorem piece_apply (h : FVec Ideal (Sh n 1024) .bf16) (wu : FVec Ideal (Sh 1024 512) .bf16) (wd : FVec Ideal (Sh 512 1024) .bf16) (p : Fin n) (q : Fin 1024) :
    piece h wu wd (ix2 p q) = ∑ f : Fin 512, sqRelu (∑ k : Fin 1024, h (ix2 p k) * wu (ix2 k f)) * wd (ix2 f q) := by
  unfold piece
  rw [times_apply]
  refine Finset.sum_congr rfl fun f _ => ?_
  rw [truncf_apply, mulf_apply, maximumf_apply, times_apply]
  show max _ (Ideal.ofBits .f32 0x00000000#32) * max _ (Ideal.ofBits .f32 0x00000000#32) * _ = _
  rw [Ideal.ofBits_zero_f32]
  rfl

/-- Piece `i` of the down projection of a hidden row: the hidden places `512 i … 512 i + 511`. -/
def part (u : Row 4096) (wd : Fin 4096 → Row 1024) (q : Fin 1024) (i : Fin 8) : EReal :=
  ∑ f : Fin 512, u ⟨512 * i.val + f.val, by omega⟩ * wd ⟨512 * i.val + f.val, by omega⟩ q

/-- The eight pieces added first to last are the down projection. -/
theorem downRow_eq (u : Row 4096) (wd : Fin 4096 → Row 1024) (q : Fin 1024) :
    downRow u wd q = part u wd q 0 + part u wd q 1 + part u wd q 2 + part u wd q 3 + part u wd q 4 + part u wd q 5 + part u wd q 6 + part u wd q 7 := by
  unfold downRow
  rw [sum_eight, Fin.sum_univ_eight]
  rfl

/-- Columns of the up projection and rows of the down projection, loaded from the whole weights. -/
abbrev ColsIn (o : ℕ) : Prop := ∀ a, (![0, o] : Fin 2 → ℕ) a + (Sh 1024 512).size a ≤ (Sh 1024 4096).size a
abbrev RowsIn (o : ℕ) : Prop := ∀ a, (![o, 0] : Fin 2 → ℕ) a + (Sh 512 1024).size a ≤ (Sh 4096 1024).size a
abbrev cols (x4 : FVec Ideal (Sh 1024 4096) .bf16) (o : ℕ) (h : ColsIn o) : FVec Ideal (Sh 1024 512) .bf16 :=
  View.ld (Val := Elt Ideal) (e' := .bf16) x4 (Rect.unit (s := Sh 1024 4096) ![0, o] (Sh 1024 512).size h)
abbrev rows (x5 : FVec Ideal (Sh 4096 1024) .bf16) (o : ℕ) (h : RowsIn o) : FVec Ideal (Sh 512 1024) .bf16 :=
  View.ld (Val := Elt Ideal) (e' := .bf16) x5 (Rect.unit (s := Sh 4096 1024) ![o, 0] (Sh 512 1024).size h)

theorem piece_part (h : FVec Ideal (Sh n 1024) .bf16) (x4 : FVec Ideal (Sh 1024 4096) .bf16) (x5 : FVec Ideal (Sh 4096 1024) .bf16)
    (i : Fin 8) (o : ℕ) (ho : o = 512 * i.val) (inb4 : ColsIn o) (inb5 : RowsIn o)
    (hr : Row 1024) (p : Fin n) (hh : ∀ k, h (ix2 p k) = hr k) (q : Fin 1024) :
    piece h (cols x4 o inb4) (rows x5 o inb5) (ix2 p q)
      = part (fun f => sqRelu (∑ k : Fin 1024, hr k * x4 (ix2 k f))) (fun f => row x5 f) q i := by
  subst ho
  rw [piece_apply]
  unfold part
  refine Finset.sum_congr rfl fun f _ => ?_
  exact congrArg₂ (· * ·)
    (congrArg sqRelu (Finset.sum_congr rfl fun k _ => congrArg₂ (· * ·) (hh k)
      (load_cols (Val := Elt Ideal) (e := .bf16) x4 _ inb4 k f (by omega))))
    (load_rows (Val := Elt Ideal) (e := .bf16) x5 _ inb5 f q (by omega))

/-- The sum of the eight pieces, from a zero block on. -/
def downVec (h : FVec Ideal (Sh n 1024) .bf16) (a1 a2 a3 a4 a5 a6 a7 a8 : FVec Ideal (Sh 1024 512) .bf16)
    (b1 b2 b3 b4 b5 b6 b7 b8 : FVec Ideal (Sh 512 1024) .bf16) : FVec Ideal (Sh n 1024) .f32 :=
  addf (addf (addf (addf (addf (addf (addf (addf (broadcast (Sh n 1024) (Scalar.ofBits .f32 0x00000000#32)) (piece h a1 b1)) (piece h a2 b2)) (piece h a3 b3)) (piece h a4 b4)) (piece h a5 b5)) (piece h a6 b6)) (piece h a7 b7)) (piece h a8 b8)

theorem downVec_apply (h : FVec Ideal (Sh n 1024) .bf16) (a1 a2 a3 a4 a5 a6 a7 a8 : FVec Ideal (Sh 1024 512) .bf16)
    (b1 b2 b3 b4 b5 b6 b7 b8 : FVec Ideal (Sh 512 1024) .bf16) (i : (Sh n 1024).Idx) :
    downVec h a1 a2 a3 a4 a5 a6 a7 a8 b1 b2 b3 b4 b5 b6 b7 b8 i
      = piece h a1 b1 i + piece h a2 b2 i + piece h a3 b3 i + piece h a4 b4 i + piece h a5 b5 i + piece h a6 b6 i + piece h a7 b7 i + piece h a8 b8 i := by
  unfold downVec
  simp only [addf_apply]
  show Ideal.ofBits .f32 0x00000000#32 + _ + _ + _ + _ + _ + _ + _ + _ = _
  rw [Ideal.ofBits_zero_f32, zero_add]

/-- The feed-forward half at an element of the block, from the mid block `m` and its normalisation `z`. -/
theorem block_apply (F : Fits n) (m : FVec Ideal (Sh n 1024) .f32) (z : FVec Ideal (Sh n 1024) .bf16) (x4 : FVec Ideal (Sh 1024 4096) .bf16)
    (x5 : FVec Ideal (Sh 4096 1024) .bf16) (g : FVec Ideal (Sh 1 1024) .f32)
    (c0 : ColsIn 0) (c1 : ColsIn 512) (c2 : ColsIn 1024) (c3 : ColsIn 1536) (c4 : ColsIn 2048) (c5 : ColsIn 2560) (c6 : ColsIn 3072) (c7 : ColsIn 3584)
    (r0 : RowsIn 0) (r1 : RowsIn 512) (r2 : RowsIn 1024) (r3 : RowsIn 1536) (r4 : RowsIn 2048) (r5 : RowsIn 2560) (r6 : RowsIn 3072) (r7 : RowsIn 3584)
    (M g2 : Row 1024) (p : Fin n) (hm : ∀ q, m (ix2 p q) = M q) (hz : ∀ k, z (ix2 p k) = normRow M g2 k) (q : Fin 1024) :
    addf m (normBlock F (downVec z (cols x4 0 c0) (cols x4 512 c1) (cols x4 1024 c2) (cols x4 1536 c3) (cols x4 2048 c4) (cols x4 2560 c5) (cols x4 3072 c6) (cols x4 3584 c7)
      (rows x5 0 r0) (rows x5 512 r1) (rows x5 1024 r2) (rows x5 1536 r3) (rows x5 2048 r4) (rows x5 2560 r5) (rows x5 3072 r6) (rows x5 3584 r7)) g) (ix2 p q)
      = M q + normRow (downRow (hiddenRow M g2 fun k => row x4 k) fun k => row x5 k) (row g 0) q := by
  rw [addf_apply, hm, normBlock_apply]
  refine congrArg (fun d => M q + normRow d (row g 0) q) (funext fun q => ?_)
  show downVec _ _ _ _ _ _ _ _ _ _ _ _ _ _ _ _ _ (ix2 p q) = _
  rw [downRow_eq, downVec_apply, piece_part z x4 x5 0 0 rfl _ _ _ p hz, piece_part z x4 x5 1 512 rfl _ _ _ p hz,
    piece_part z x4 x5 2 1024 rfl _ _ _ p hz, piece_part z x4 x5 3 1536 rfl _ _ _ p hz, piece_part z x4 x5 4 2048 rfl _ _ _ p hz,
    piece_part z x4 x5 5 2560 rfl _ _ _ p hz, piece_part z x4 x5 6 3072 rfl _ _ _ p hz, piece_part z x4 x5 7 3584 rfl _ _ _ p hz]
  rfl

end Cert.Layer.FfnRows

end
-- ==== Proof.Ffn.Block.lean ====
/- The block of 512 rows that one grid point of the kernel's idealization writes, read at an element: each row is the
   layer's last call (`ffnRow`) on that row of the input blocks. -/
module

public import proofs.«01_k».proof.Proof.Ffn.Rows
public import proofs.«01_k».proof.Proof.Gen.FfnIdeal.Frame

@[expose] public section

noncomputable section

namespace Cert.Layer.FfnBlock

open Cert.FfnIdeal Cert.FfnIdeal.Gen Idealize.ShloMosaic Idealize.ShloMosaic.ValueIdx
open Cert.Layer.FfnRows

theorem fits : Fits 512 := ⟨reduces_S512x1024_S512, shapeCasts_S512_S512x1, broadcasts_S512x1_S512x1024, broadcasts_S1x1024_S512x1024⟩

/-- The body's first half is the residual after the mixing half … -/
theorem mid_eq (v0 : FVec Ideal S512x512 .f32) (v2 : FVec Ideal S512x1024 .bf16) (v5 : FVec Ideal S512x512 .f32)
    (v7 : FVec Ideal S512x1024 .bf16) (v11 : FVec Ideal S512x1024 .f32) (v12 : FVec Ideal S1x1024 .f32) :
    k0_pay2 (F := Ideal) v0 v2 v5 v7 v11 v12 = midBlock fits v0 v2 v5 v7 v11 v12 := by
  unfold k0_pay2 midBlock normBlock
  dsimp only
  simp only [shapeCast_self]
  rfl

/-- … normalised … -/
theorem normed_eq (v0 : FVec Ideal S512x512 .f32) (v2 : FVec Ideal S512x1024 .bf16) (v5 : FVec Ideal S512x512 .f32)
    (v7 : FVec Ideal S512x1024 .bf16) (v11 : FVec Ideal S512x1024 .f32) (v12 : FVec Ideal S1x1024 .f32) (g : FVec Ideal S1x1024 .f32) :
    k0_pay5 (F := Ideal) (k0_pay2 v0 v2 v5 v7 v11 v12) g (k0_pay4 v0 v2 v5 v7 v11 v12)
      = truncf .bf16 (normBlock fits (k0_pay2 v0 v2 v5 v7 v11 v12) g) bitsLt_bf16_f32 := by
  unfold k0_pay4 k0_pay5
  dsimp only
  generalize k0_pay2 (F := Ideal) v0 v2 v5 v7 v11 v12 = z
  rfl

/-- … and its last value the mid block plus the normalised sum of the eight pieces. -/
theorem last_eq (m : FVec Ideal S512x1024 .f32) (z : FVec Ideal S512x1024 .bf16) (v28 : FVec Ideal S1x1024 .f32) (v36 : FVec Ideal S512x1 .f32)
    (a1 a2 a3 a4 a5 a6 a7 a8 : FVec Ideal S1024x512 .bf16) (b1 b2 b3 b4 b5 b6 b7 b8 : FVec Ideal S512x1024 .bf16) (g : FVec Ideal S1x1024 .f32)
    (hz : k0_pay5 (F := Ideal) m v28 v36 = z) :
    k0_pay1 (F := Ideal) m z (k0_pay8 z (k0_pay6 m v28 v36 a1 b1 a2 b2) (k0_pay7 m v28 v36 a3 b3) a4 b4 a5 b5 a6 b6) (k0_pay9 a7) (constant S512x512 .f32 0x00000000#32) b7 a8 b8 g
      = addf m (normBlock fits (downVec z a1 a2 a3 a4 a5 a6 a7 a8 b1 b2 b3 b4 b5 b6 b7 b8) g) := by
  subst hz
  unfold k0_pay1 k0_pay6 k0_pay7 k0_pay8 k0_pay9
  dsimp only
  simp only [shapeCast_self]
  rfl

/-- THE BLOCK'S ROWS: what the body leaves in the output window's buffer is, row by row, `ffnRow` of the input blocks. -/
theorem out_apply (x0 : FVec Ideal S512x1024 .f32) (x1 x2 : FVec Ideal S512x512 .f32) (x3 : FVec Ideal S1024x1024 .bf16)
    (x4 : FVec Ideal S1024x4096 .bf16) (x5 : FVec Ideal S4096x1024 .bf16) (x6 x7 x8 : FVec Ideal S1x1024 .f32) (p : Fin 512) (q : Fin 1024) :
    out0_9 (F := Ideal) x0 x1 x2 x3 x4 x5 x6 x7 x8 (ix2 p q)
      = ffnRow (row x0 p) (row x1 p) (row x2 p) (fun k => row x3 k) (fun k => row x4 k) (fun k => row x5 k) (row x6 0) (row x7 0) (row x8 0) q := by
  have hm : ∀ q, k0_pay10 (F := Ideal) x0 x1 x2 x3 x4 x5 x6 x7 x8 (ix2 p q) = midRow (row x0 p) (row x1 p) (row x2 p) (fun k => row x3 k) (row x6 0) q := fun q => by
    unfold k0_pay10
    rw [mid_eq, midBlock_apply _ _ _ _ _ _ _ (fun k => row x3 k) (fun k q => (load_rows (Val := Elt Ideal) (e := .bf16) x3 0 _ k q (by omega)).trans (by simp only [Nat.zero_add]))
      (fun k q => load_rows (Val := Elt Ideal) (e := .bf16) x3 512 _ k q (by omega))]
    rw [load_whole (Val := Elt Ideal) (e := .f32) x0, load_whole (Val := Elt Ideal) (e := .f32) x1, load_whole (Val := Elt Ideal) (e := .f32) x2, load_whole (Val := Elt Ideal) (e := .f32) x6]
  have hn : ∀ k, k0_pay13 (F := Ideal) x0 x1 x2 x3 x4 x5 x6 x7 x8 (ix2 p k)
      = normRow (midRow (row x0 p) (row x1 p) (row x2 p) (fun k => row x3 k) (row x6 0)) (row x7 0) k := fun k => by
    refine (congrFun (normed_eq _ _ _ _ _ _ (k0_pay3 (View.ld x7 r0_4))) (ix2 p k)).trans ?_
    rw [truncf_apply, normBlock_apply]
    refine congrArg₂ (fun a b => normRow a b k) (funext hm) ?_
    unfold k0_pay3
    rw [load_whole (Val := Elt Ideal) (e := .f32) x7]
    simp only [shapeCast_self]
  unfold out0_9
  rw [View.canon_unit_zero (S := S512x1024) (funext fun d => by fin_cases d <;> rfl)]
  generalize hz : k0_pay13 (F := Ideal) x0 x1 x2 x3 x4 x5 x6 x7 x8 = z at hn
  have e5 : k0_pay5 (F := Ideal) (k0_pay10 x0 x1 x2 x3 x4 x5 x6 x7 x8) (k0_pay11 x0 x1 x2 x3 x4 x5 x6 x7 x8) (k0_pay12 x0 x1 x2 x3 x4 x5 x6 x7 x8) = z := hz
  rw [last_eq _ z _ _ _ _ _ _ _ _ _ _ _ _ _ _ _ _ _ _ _ e5, load_whole (Val := Elt Ideal) (e := .f32) x8]
  exact block_apply fits _ z x4 x5 x8 _ _ _ _ _ _ _ _ _ _ _ _ _ _ _ _ _ _ p hm hn q

end Cert.Layer.FfnBlock

end
-- ==== Proof.Ffn.Array.lean ====
/- The array the idealized last call leaves, read at an element: row `r` is written by grid point `r / 512`, and it is
   the layer's last call (`ffnRow`) on row `r` of the argument arrays. -/
module

public import proofs.«01_k».proof.Proof.Common.Index
public import proofs.«01_k».proof.Proof.Ffn.Block
public import proofs.«01_k».proof.Proof.Gen.FfnIdeal.Value

@[expose] public section

noncomputable section

namespace Cert.Layer.FfnArray

open Cert.FfnIdeal Cert.FfnIdeal.Gen Cert.FfnIdeal.Value Idealize.ShloMosaic Idealize.ShloMosaic.ValueIdx Idealize.ShloMosaic.TcCoe
open Idealize.ShloMosaic.Pipeline (Dat Window)
open Cert.Layer.FfnRows (row)
open scoped BigOperators

variable (m : (ℓ : Loc nD τ sig) → Buf (Elt Ideal) ℓ) (c : Dev nD)

/-! ## What the region finds in the arrays the host prepared -/

theorem entry_wo : (V m c main_v0 : S1024x1024.Idx → EReal) = m ((c : Thread nD τ).loc main_arg3) := by
  unfold V; after_results_simp <;> rfl
theorem entry_wu : (V m c main_v1 : S1024x4096.Idx → EReal) = m ((c : Thread nD τ).loc main_arg4) := by
  unfold V; after_results_simp <;> rfl
theorem entry_wd : (V m c main_v2 : S4096x1024.Idx → EReal) = m ((c : Thread nD τ).loc main_arg5) := by
  unfold V; after_results_simp <;> rfl
theorem entry_g1 : (V m c main_v3 : S1x1024.Idx → EReal) = shapeCast S1x1024 (m ((c : Thread nD τ).loc main_arg6)) shapeCasts_S1024_S1x1024 := by
  unfold V; after_results_simp <;> rfl
theorem entry_g2 : (V m c main_v4 : S1x1024.Idx → EReal) = shapeCast S1x1024 (m ((c : Thread nD τ).loc main_arg7)) shapeCasts_S1024_S1x1024 := by
  unfold V; after_results_simp <;> rfl
theorem entry_g3 : (V m c main_v5 : S1x1024.Idx → EReal) = shapeCast S1x1024 (m ((c : Thread nD τ).loc main_arg8)) shapeCasts_S1024_S1x1024 := by
  unfold V; after_results_simp <;> rfl

/-! ## Where the windows' blocks lie -/

theorem place_rows : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_9.index t 0 = t.val ∧ win0_9.index t 1 = 0) := by
  decide +kernel

theorem place_whole : ∀ t : Fin cfg0.N, (win0_3.index t 0 = 0 ∧ win0_3.index t 1 = 0) ∧ (win0_4.index t 0 = 0 ∧ win0_4.index t 1 = 0)
    ∧ (win0_5.index t 0 = 0 ∧ win0_5.index t 1 = 0) ∧ (win0_6.index t 0 = 0 ∧ win0_6.index t 1 = 0)
    ∧ (win0_7.index t 0 = 0 ∧ win0_7.index t 1 = 0) ∧ (win0_8.index t 0 = 0 ∧ win0_8.index t 1 = 0) := by
  decide +kernel

/-- The row of the whole arrays that is row `p` of the blocks of point `t`. -/
abbrev rowOf (t : Fin cfg0.N) (p : Fin 512) : Fin 32768 := ⟨t.val * 512 + p.val, by have := t.isLt; have : cfg0.N = 64 := N_0; omega⟩

theorem block_x (t : Fin cfg0.N) (p : Fin 512) (k : Fin 1024) :
    iblk m c 0 t (ix2 p k) = m ((c : Thread nD τ).loc main_arg0) (ix2 (rowOf t p) k) := by
  unfold iblk
  rw [View.read_apply]
  show V m c main_arg0 _ = _
  rw [V_main_arg0]
  refine congrArg _ (ext_ix2 _ _ _ ?_ ?_)
  · exact (Window.rect_emb_val (cfg0.win 0) t (ix2 p k) 0).trans (by rw [show (cfg0.win 0).index t 0 = t.val from (place_rows t).1.1]; rfl)
  · exact (Window.rect_emb_val (cfg0.win 0) t (ix2 p k) 1).trans (by rw [show (cfg0.win 0).index t 1 = 0 from (place_rows t).1.2]; exact (congrArg (· + k.val) (Nat.zero_mul _)).trans (Nat.zero_add _))

theorem block_ret (t : Fin cfg0.N) (p : Fin 512) (k : Fin 512) :
    iblk m c 1 t (ix2 p k) = m ((c : Thread nD τ).loc main_arg1) (ix2 (rowOf t p) k) := by
  unfold iblk
  rw [View.read_apply]
  show V m c main_arg1 _ = _
  rw [V_main_arg1]
  refine congrArg _ (ext_ix2 _ _ _ ?_ ?_)
  · exact (Window.rect_emb_val (cfg0.win 1) t (ix2 p k) 0).trans (by rw [show (cfg0.win 1).index t 0 = t.val from (place_rows t).2.1.1]; rfl)
  · exact (Window.rect_emb_val (cfg0.win 1) t (ix2 p k) 1).trans (by rw [show (cfg0.win 1).index t 1 = 0 from (place_rows t).2.1.2]; exact (congrArg (· + k.val) (Nat.zero_mul _)).trans (Nat.zero_add _))

theorem block_att (t : Fin cfg0.N) (p : Fin 512) (k : Fin 512) :
    iblk m c 2 t (ix2 p k) = m ((c : Thread nD τ).loc main_arg2) (ix2 (rowOf t p) k) := by
  unfold iblk
  rw [View.read_apply]
  show V m c main_arg2 _ = _
  rw [V_main_arg2]
  refine congrArg _ (ext_ix2 _ _ _ ?_ ?_)
  · exact (Window.rect_emb_val (cfg0.win 2) t (ix2 p k) 0).trans (by rw [show (cfg0.win 2).index t 0 = t.val from (place_rows t).2.2.1.1]; rfl)
  · exact (Window.rect_emb_val (cfg0.win 2) t (ix2 p k) 1).trans (by rw [show (cfg0.win 2).index t 1 = 0 from (place_rows t).2.2.1.2]; exact (congrArg (· + k.val) (Nat.zero_mul _)).trans (Nat.zero_add _))

theorem block_wo (t : Fin cfg0.N) (p : Fin 1024) (k : Fin 1024) :
    iblk m c 3 t (ix2 p k) = m ((c : Thread nD τ).loc main_arg3) (ix2 p k) := by
  unfold iblk
  rw [View.read_apply]
  show V m c main_v0 _ = _
  refine (congrArg (V m c main_v0) (ext_ix2 _ p k ?_ ?_)).trans ((congrFun (entry_wo m c) (ix2 p k)))
  · exact (Window.rect_emb_val (cfg0.win 3) t (ix2 p k) 0).trans (by rw [show (cfg0.win 3).index t 0 = 0 from (place_whole t).1.1]; exact (congrArg (· + p.val) (Nat.zero_mul _)).trans (Nat.zero_add _))
  · exact (Window.rect_emb_val (cfg0.win 3) t (ix2 p k) 1).trans (by rw [show (cfg0.win 3).index t 1 = 0 from (place_whole t).1.2]; exact (congrArg (· + k.val) (Nat.zero_mul _)).trans (Nat.zero_add _))

theorem block_wu (t : Fin cfg0.N) (p : Fin 1024) (k : Fin 4096) :
    iblk m c 4 t (ix2 p k) = m ((c : Thread nD τ).loc main_arg4) (ix2 p k) := by
  unfold iblk
  rw [View.read_apply]
  show V m c main_v1 _ = _
  refine (congrArg (V m c main_v1) (ext_ix2 _ p k ?_ ?_)).trans ((congrFun (entry_wu m c) (ix2 p k)))
  · exact (Window.rect_emb_val (cfg0.win 4) t (ix2 p k) 0).trans (by rw [show (cfg0.win 4).index t 0 = 0 from (place_whole t).2.1.1]; exact (congrArg (· + p.val) (Nat.zero_mul _)).trans (Nat.zero_add _))
  · exact (Window.rect_emb_val (cfg0.win 4) t (ix2 p k) 1).trans (by rw [show (cfg0.win 4).index t 1 = 0 from (place_whole t).2.1.2]; exact (congrArg (· + k.val) (Nat.zero_mul _)).trans (Nat.zero_add _))

theorem block_wd (t : Fin cfg0.N) (p : Fin 4096) (k : Fin 1024) :
    iblk m c 5 t (ix2 p k) = m ((c : Thread nD τ).loc main_arg5) (ix2 p k) := by
  unfold iblk
  rw [View.read_apply]
  show V m c main_v2 _ = _
  refine (congrArg (V m c main_v2) (ext_ix2 _ p k ?_ ?_)).trans ((congrFun (entry_wd m c) (ix2 p k)))
  · exact (Window.rect_emb_val (cfg0.win 5) t (ix2 p k) 0).trans (by rw [show (cfg0.win 5).index t 0 = 0 from (place_whole t).2.2.1.1]; exact (congrArg (· + p.val) (Nat.zero_mul _)).trans (Nat.zero_add _))
  · exact (Window.rect_emb_val (cfg0.win 5) t (ix2 p k) 1).trans (by rw [show (cfg0.win 5).index t 1 = 0 from (place_whole t).2.2.1.2]; exact (congrArg (· + k.val) (Nat.zero_mul _)).trans (Nat.zero_add _))

theorem block_g1 (t : Fin cfg0.N) (p : Fin 1) (k : Fin 1024) :
    iblk m c 6 t (ix2 p k) = m ((c : Thread nD τ).loc main_arg6) (ix1 k) := by
  unfold iblk
  rw [View.read_apply]
  show V m c main_v3 _ = _
  refine (congrArg (V m c main_v3) (ext_ix2 _ p k ?_ ?_)).trans ((congrFun (entry_g1 m c) (ix2 p k)).trans (shapeCast_a_1a_apply _ _ p k))
  · exact (Window.rect_emb_val (cfg0.win 6) t (ix2 p k) 0).trans (by rw [show (cfg0.win 6).index t 0 = 0 from (place_whole t).2.2.2.1.1]; exact (congrArg (· + p.val) (Nat.zero_mul _)).trans (Nat.zero_add _))
  · exact (Window.rect_emb_val (cfg0.win 6) t (ix2 p k) 1).trans (by rw [show (cfg0.win 6).index t 1 = 0 from (place_whole t).2.2.2.1.2]; exact (congrArg (· + k.val) (Nat.zero_mul _)).trans (Nat.zero_add _))

theorem block_g2 (t : Fin cfg0.N) (p : Fin 1) (k : Fin 1024) :
    iblk m c 7 t (ix2 p k) = m ((c : Thread nD τ).loc main_arg7) (ix1 k) := by
  unfold iblk
  rw [View.read_apply]
  show V m c main_v4 _ = _
  refine (congrArg (V m c main_v4) (ext_ix2 _ p k ?_ ?_)).trans ((congrFun (entry_g2 m c) (ix2 p k)).trans (shapeCast_a_1a_apply _ _ p k))
  · exact (Window.rect_emb_val (cfg0.win 7) t (ix2 p k) 0).trans (by rw [show (cfg0.win 7).index t 0 = 0 from (place_whole t).2.2.2.2.1.1]; exact (congrArg (· + p.val) (Nat.zero_mul _)).trans (Nat.zero_add _))
  · exact (Window.rect_emb_val (cfg0.win 7) t (ix2 p k) 1).trans (by rw [show (cfg0.win 7).index t 1 = 0 from (place_whole t).2.2.2.2.1.2]; exact (congrArg (· + k.val) (Nat.zero_mul _)).trans (Nat.zero_add _))

theorem block_g3 (t : Fin cfg0.N) (p : Fin 1) (k : Fin 1024) :
    iblk m c 8 t (ix2 p k) = m ((c : Thread nD τ).loc main_arg8) (ix1 k) := by
  unfold iblk
  rw [View.read_apply]
  show V m c main_v5 _ = _
  refine (congrArg (V m c main_v5) (ext_ix2 _ p k ?_ ?_)).trans ((congrFun (entry_g3 m c) (ix2 p k)).trans (shapeCast_a_1a_apply _ _ p k))
  · exact (Window.rect_emb_val (cfg0.win 8) t (ix2 p k) 0).trans (by rw [show (cfg0.win 8).index t 0 = 0 from (place_whole t).2.2.2.2.2.1]; exact (congrArg (· + p.val) (Nat.zero_mul _)).trans (Nat.zero_add _))
  · exact (Window.rect_emb_val (cfg0.win 8) t (ix2 p k) 1).trans (by rw [show (cfg0.win 8).index t 1 = 0 from (place_whole t).2.2.2.2.2.2]; exact (congrArg (· + k.val) (Nat.zero_mul _)).trans (Nat.zero_add _))

/-! ## The array -/

/-- The element of the array under element `(p, q)` of point `t`'s block. -/
theorem place (t : Fin cfg0.N) (p : Fin 512) (q : Fin 1024) : ((cfg0.win 9).blk t).view.emb (ix2 p q) = ix2 (rowOf t p) q := by
  refine ext_ix2 _ (rowOf t p) q ?_ ?_
  · refine (Window.rect_emb_val (cfg0.win 9) t (ix2 p q) 0).trans ?_
    rw [show (cfg0.win 9).index t 0 = t.val from (place_rows t).2.2.2.1]
    rfl
  · refine (Window.rect_emb_val (cfg0.win 9) t (ix2 p q) 1).trans ?_
    rw [show (cfg0.win 9).index t 1 = 0 from (place_rows t).2.2.2.2]
    exact (congrArg (· + q.val) (Nat.zero_mul _)).trans (Nat.zero_add _)

/-- What point `t` writes back, at element `(p, q)`. -/
theorem written (t : Fin cfg0.N) (p : Fin 512) (q : Fin 1024) :
    (dats m 0 c).flushed 9 t (ix2 p q)
      = ffnRow (row (iblk m c 0 t) p) (row (iblk m c 1 t) p) (row (iblk m c 2 t) p) (fun k => row (iblk m c 3 t) k)
          (fun k => row (iblk m c 4 t) k) (fun k => row (iblk m c 5 t) k) (row (iblk m c 6 t) 0) (row (iblk m c 7 t) 0)
          (row (iblk m c 8 t) 0) q := by
  rw [flushed9]
  exact FfnBlock.out_apply _ _ _ _ _ _ _ _ _ p q

/-- The value the last call has at row `r`, from the arguments. -/
def valueAt (r : Fin 32768) : Row 1024 :=
  ffnRow (row (m ((c : Thread nD τ).loc main_arg0)) r) (row (m ((c : Thread nD τ).loc main_arg1)) r)
    (row (m ((c : Thread nD τ).loc main_arg2)) r) (fun k => row (m ((c : Thread nD τ).loc main_arg3)) k)
    (fun k => row (m ((c : Thread nD τ).loc main_arg4)) k) (fun k => row (m ((c : Thread nD τ).loc main_arg5)) k)
    (fun k => m ((c : Thread nD τ).loc main_arg6) (ix1 k)) (fun k => m ((c : Thread nD τ).loc main_arg7) (ix1 k))
    (fun k => m ((c : Thread nD τ).loc main_arg8) (ix1 k))

theorem written_value (t : Fin cfg0.N) (p : Fin 512) (q : Fin 1024) :
    (dats m 0 c).flushed 9 t (ix2 p q) = valueAt m c (rowOf t p) q := by
  rw [written]
  have e0 : row (iblk m c 0 t) p = row (m ((c : Thread nD τ).loc main_arg0)) (rowOf t p) := funext fun k => block_x m c t p k
  have e1 : row (iblk m c 1 t) p = row (m ((c : Thread nD τ).loc main_arg1)) (rowOf t p) := funext fun k => block_ret m c t p k
  have e2 : row (iblk m c 2 t) p = row (m ((c : Thread nD τ).loc main_arg2)) (rowOf t p) := funext fun k => block_att m c t p k
  have e3 : (fun k => row (iblk m c 3 t) k) = fun k => row (m ((c : Thread nD τ).loc main_arg3)) k := funext fun p => funext fun k => block_wo m c t p k
  have e4 : (fun k => row (iblk m c 4 t) k) = fun k => row (m ((c : Thread nD τ).loc main_arg4)) k := funext fun p => funext fun k => block_wu m c t p k
  have e5 : (fun k => row (iblk m c 5 t) k) = fun k => row (m ((c : Thread nD τ).loc main_arg5)) k := funext fun p => funext fun k => block_wd m c t p k
  have e6 : row (iblk m c 6 t) 0 = fun k => m ((c : Thread nD τ).loc main_arg6) (ix1 k) := funext fun k => block_g1 m c t 0 k
  have e7 : row (iblk m c 7 t) 0 = fun k => m ((c : Thread nD τ).loc main_arg7) (ix1 k) := funext fun k => block_g2 m c t 0 k
  have e8 : row (iblk m c 8 t) 0 = fun k => m ((c : Thread nD τ).loc main_arg8) (ix1 k) := funext fun k => block_g3 m c t 0 k
  unfold valueAt
  rw [← e0, ← e1, ← e2, ← e3, ← e4, ← e5, ← e6, ← e7, ← e8]

/-- THE ARRAY the idealized call leaves: each of its rows is the layer's last call on that row of the arguments. -/
theorem result_apply (r : Fin 32768) (q : Fin 1024) : (dats m 0 c).arrAt 9 cfg0.N (ix2 r q) = valueAt m c r q := by
  obtain ⟨t, p, hr⟩ : ∃ (t : Fin cfg0.N) (p : Fin 512), rowOf t p = r := by
    have hr := r.isLt
    exact ⟨⟨r.val / 512, by rw [show cfg0.N = 64 from N_0]; omega⟩, ⟨r.val % 512, by omega⟩,
      Fin.ext (by show r.val / 512 * 512 + r.val % 512 = r.val; omega)⟩
  subst hr
  have h := (dats m 0 c).arrAt_emb_eq_flushed 9 disjoint9 t (flush0_9 t) (ix2 p q)
  rw [place] at h
  exact h.trans (written_value m c t p q)

end Cert.Layer.FfnArray

end
-- ==== Proof.Common.HostNorm.lean ====
/- The normalisation of the rows of an array as the references spell it, read at an element. -/
module

public import proofs.«01_k».proof.Proof.Common.Norm
public import proofs.«01_k».proof.Proof.Common.Index
public import Idealize.ShloMosaic.Lib.Pipeline.Value

@[expose] public section

noncomputable section

namespace Cert.Layer

open Idealize.ShloMosaic Idealize.ShloMosaic.ValueIdx
open scoped BigOperators

section
variable {n : ℕ}

/-- A column spread along the second axis. -/
theorem host_spread_apply (hn : n ≠ 1) (hw : (⟨2, ![n, 1]⟩ : Shape).BroadcastsInDim ⟨2, ![n, 1024]⟩ ![0, 1]) (y : FVec Ideal ⟨2, ![n, 1]⟩ .f32)
    (p : Fin n) (q : Fin 1024) : broadcastInDim ⟨2, ![n, 1024]⟩ ![0, 1] hw y (ix2 p q) = y (ix2 p 0) :=
  broadcastInDim_apply _ hw y (ix2 p q) (ix2 p 0) fun a => match a with
    | ⟨0, _⟩ => by show p.val = if n = 1 then 0 else p.val; rw [if_neg hn]
    | ⟨1, _⟩ => rfl

/-- A vector as a column. -/
theorem host_column_apply (hn : n ≠ 1) (hc : (⟨1, ![n]⟩ : Shape).BroadcastsInDim ⟨2, ![n, 1]⟩ ![0]) (y : FVec Ideal ⟨1, ![n]⟩ .f32)
    (p : Fin n) : broadcastInDim ⟨2, ![n, 1]⟩ ![0] hc y (ix2 p 0) = y (ix1 p) :=
  broadcastInDim_apply _ hc y (ix2 p 0) (ix1 p) fun a => match a with
    | ⟨0, _⟩ => by show p.val = if n = 1 then 0 else p.val; rw [if_neg hn]

/-- The gains at every row. -/
theorem host_gains_apply (hg : (⟨1, ![1024]⟩ : Shape).BroadcastsInDim ⟨2, ![1, 1024]⟩ ![1])
    (hb : (⟨2, ![1, 1024]⟩ : Shape).BroadcastsInDim ⟨2, ![n, 1024]⟩ ![0, 1]) (g : FVec Ideal ⟨1, ![1024]⟩ .f32) (p : Fin n) (q : Fin 1024) :
    broadcastInDim ⟨2, ![n, 1024]⟩ ![0, 1] hb (broadcastInDim ⟨2, ![1, 1024]⟩ ![1] hg g) (ix2 p q) = g (ix1 q) := by
  refine (broadcastInDim_apply _ hb _ (ix2 p q) (ix2 0 q) fun a => ?_).trans (broadcastInDim_apply _ hg g (ix2 0 q) (ix1 q) fun a => ?_)
  · match a with
    | ⟨0, _⟩ => rfl
    | ⟨1, _⟩ => rfl
  · match a with
    | ⟨0, _⟩ => rfl

/-- The sum along a row. -/
theorem host_row_sum_apply (z : FVec Ideal ⟨2, ![n, 1024]⟩ .f32) (hr : (⟨2, ![n, 1024]⟩ : Shape).ReducesTo [1] ⟨1, ![n]⟩)
    (hR : (⟨2, ![n, 1024]⟩ : Shape).Reduces [1] ⟨1, ![n]⟩) (h1 : 0 < (⟨0, ![]⟩ : Shape).numel) (p : Fin n) :
    Host.reduceAdd z (constant ⟨0, ![]⟩ .f32 0x00000000#32) hr h1 (ix1 p) = ∑ k : Fin 1024, z (ix2 p k) := by
  simp only [Host.reduceAdd, Ideal.hostReduceAdd_def]
  rw [Ideal.hostReduceAdd_single hr hR]
  refine (congrArg₂ (· + ·) Ideal.ofBits_zero_f32 (Finset.sum_congr rfl fun k _ => ?_)).trans (zero_add _)
  exact congrArg z (funext fun a => Fin.ext (by match a with | ⟨0, _⟩ => rfl | ⟨1, _⟩ => rfl))

/-- The factor of a row, from the sums of squares as a column. -/
theorem host_factor_apply (s : FVec Ideal ⟨2, ![n, 1]⟩ .f32) (hs : (⟨0, ![]⟩ : Shape).BroadcastsInDim ⟨2, ![n, 1]⟩ ![]) (p : Fin n) :
    Host.rsqrt (addf (Host.divf s (broadcastInDim ⟨2, ![n, 1]⟩ ![] hs (constant ⟨0, ![]⟩ .f32 0x44800000#32)))
      (broadcastInDim ⟨2, ![n, 1]⟩ ![] hs (constant ⟨0, ![]⟩ .f32 0x358637BD#32))) (ix2 p 0)
      = Ideal.rsqrt (Ideal.div (s (ix2 p 0)) (Ideal.ofBits .f32 0x44800000#32) + eps) := rfl

/-- THE NORMALISATION at an element. -/
theorem host_norm_apply (hn : n ≠ 1) (z : FVec Ideal ⟨2, ![n, 1024]⟩ .f32) (g : FVec Ideal ⟨1, ![1024]⟩ .f32)
    (hr : (⟨2, ![n, 1024]⟩ : Shape).ReducesTo [1] ⟨1, ![n]⟩) (hR : (⟨2, ![n, 1024]⟩ : Shape).Reduces [1] ⟨1, ![n]⟩)
    (h1 : 0 < (⟨0, ![]⟩ : Shape).numel)
    (hc : (⟨1, ![n]⟩ : Shape).BroadcastsInDim ⟨2, ![n, 1]⟩ ![0]) (hs : (⟨0, ![]⟩ : Shape).BroadcastsInDim ⟨2, ![n, 1]⟩ ![])
    (hw : (⟨2, ![n, 1]⟩ : Shape).BroadcastsInDim ⟨2, ![n, 1024]⟩ ![0, 1]) (hg : (⟨1, ![1024]⟩ : Shape).BroadcastsInDim ⟨2, ![1, 1024]⟩ ![1])
    (hb : (⟨2, ![1, 1024]⟩ : Shape).BroadcastsInDim ⟨2, ![n, 1024]⟩ ![0, 1]) (p : Fin n) (q : Fin 1024) :
    mulf (mulf z (broadcastInDim ⟨2, ![n, 1024]⟩ ![0, 1] hw (Host.rsqrt (addf (Host.divf
        (broadcastInDim ⟨2, ![n, 1]⟩ ![0] hc (Host.reduceAdd (mulf z z) (constant ⟨0, ![]⟩ .f32 0x00000000#32) hr h1))
        (broadcastInDim ⟨2, ![n, 1]⟩ ![] hs (constant ⟨0, ![]⟩ .f32 0x44800000#32)))
        (broadcastInDim ⟨2, ![n, 1]⟩ ![] hs (constant ⟨0, ![]⟩ .f32 0x358637BD#32))))))
      (broadcastInDim ⟨2, ![n, 1024]⟩ ![0, 1] hb (broadcastInDim ⟨2, ![1, 1024]⟩ ![1] hg g)) (ix2 p q)
      = normRow (fun k => z (ix2 p k)) (fun k => g (ix1 k)) q := by
  rw [mulf_apply, mulf_apply, host_gains_apply, host_spread_apply hn, host_factor_apply, host_column_apply hn, host_row_sum_apply _ hr hR]
  rfl

end

end Cert.Layer

end
-- ==== Proof.Ffn.Ref.lean ====
/- The reference of the last call, read at an element of its result: the same row by row mathematics (`ffnRow`) of the
   same rows of its arguments. -/
module

public import proofs.«01_k».proof.Proof.Common.HostNorm
public import proofs.«01_k».proof.Proof.Ffn.Spec
public import proofs.«01_k».proof.Proof.Gen.FfnReferenceIdeal.Read

@[expose] public section

noncomputable section

namespace Cert.Layer.FfnRef

open Cert.FfnReferenceIdeal Cert.FfnReferenceIdeal.Gen Cert.FfnReferenceIdeal.Read Idealize.ShloMosaic Idealize.ShloMosaic.ValueIdx Idealize.ShloMosaic.TcCoe
open scoped BigOperators

/-- The contents of an array the reference is given. -/
abbrev Arr (S : Shape) : Type := (⟨S, .f32⟩ : BufTy).Contents (Elt Ideal)

variable (x0 : Arr S32768x1024) (x1 x2 : Arr S32768x512) (x3 : Arr S1024x1024) (x4 : Arr S1024x4096) (x5 : Arr S4096x1024)
  (x6 x7 x8 : Arr S1024) (r : Fin 32768)

/-- The normalisation at the reference's shapes. -/
theorem norm_at (z : FVec Ideal S32768x1024 .f32) (g : FVec Ideal S1024 .f32) (q : Fin 1024) :
    mulf (mulf z (broadcastInDim S32768x1024 ![0, 1] bcast_S32768x1_S32768x1024_0_1 (Host.rsqrt (addf (Host.divf
        (broadcastInDim S32768x1 ![0] bcast_S32768_S32768x1_0 (Host.reduceAdd (mulf z z) (constant S_ .f32 0x00000000#32) reducesTo_S32768x1024_S32768_d1 h_S_))
        (broadcastInDim S32768x1 ![] bcast_S_S32768x1 (constant S_ .f32 0x44800000#32)))
        (broadcastInDim S32768x1 ![] bcast_S_S32768x1 (constant S_ .f32 0x358637BD#32))))))
      (broadcastInDim S32768x1024 ![0, 1] bcast_S1x1024_S32768x1024_0_1 (broadcastInDim S1x1024 ![1] bcast_S1024_S1x1024_1 g)) (ix2 r q)
      = normRow (fun k => z (ix2 r k)) (fun k => g (ix1 k)) q :=
  host_norm_apply (by decide) z g _ (by decide) _ _ _ _ _ _ r q

/-- The output projection: the concatenated row meets the whole weight, half by half. -/
theorem mix_at (q : Fin 1024) : val_main_v1 (F := Ideal) x1 x2 x3 (ix2 r q)
    = mixRow (fun k => x1 (ix2 r k)) (fun k => x2 (ix2 r k)) (fun k n => x3 (ix2 k n)) q := by
  rw [val_main_v1_apply, sum_halves]
  refine congrArg₂ (· + ·) (Finset.sum_congr rfl fun k _ => congrArg₂ (· * ·) ?_ ?_) (Finset.sum_congr rfl fun k _ => congrArg₂ (· * ·) ?_ ?_)
  · refine concatenate_pair_apply_left (s₁ := S32768x512) (s₂ := S32768x512) (t := S32768x1024) _ _ _ _ _ rfl (ix2 r k) fun b => ?_
    match b with
    | ⟨0, _⟩ => rfl
    | ⟨1, _⟩ => rfl
  · exact congrArg x3 (ext_ix2 _ _ _ rfl rfl)
  · refine concatenate_pair_apply_right (s₁ := S32768x512) (s₂ := S32768x512) (t := S32768x1024) _ _ _ _ _ rfl rfl (ix2 r k) (fun b hb => ?_) ?_
    · match b with
      | ⟨0, _⟩ => rfl
      | ⟨1, _⟩ => exact absurd rfl hb
    · exact Nat.add_comm _ _
  · exact congrArg x3 (ext_ix2 _ _ _ rfl rfl)

/-- The first normalisation. -/
theorem norm1_at (q : Fin 1024) : val_main_v14 (F := Ideal) x1 x2 x3 x6 (ix2 r q)
    = normRow (fun k => val_main_v1 (F := Ideal) x1 x2 x3 (ix2 r k)) (fun k => x6 (ix1 k)) q :=
  norm_at r (val_main_v1 (F := Ideal) x1 x2 x3) x6 q

/-- The residual after the mixing half. -/
theorem mid_at (q : Fin 1024) : val_main_v15 (F := Ideal) x0 x1 x2 x3 x6 (ix2 r q)
    = midRow (fun k => x0 (ix2 r k)) (fun k => x1 (ix2 r k)) (fun k => x2 (ix2 r k)) (fun k n => x3 (ix2 k n)) (fun k => x6 (ix1 k)) q := by
  rw [val_main_v15_apply, norm1_at]
  exact congrArg (fun z => (x0 (ix2 r q) : EReal) + normRow z (fun k => x6 (ix1 k)) q) (funext fun k => mix_at x1 x2 x3 r k)

/-- The normalisation before the feed-forward block. -/
theorem norm2_at (q : Fin 1024) : val_main_v28 (F := Ideal) x0 x1 x2 x3 x6 x7 (ix2 r q)
    = normRow (fun k => val_main_v15 (F := Ideal) x0 x1 x2 x3 x6 (ix2 r k)) (fun k => x7 (ix1 k)) q :=
  norm_at r (val_main_v15 (F := Ideal) x0 x1 x2 x3 x6) x7 q

/-- The hidden row: the squared rectifier of the up projection. -/
theorem hidden_at (f : Fin 4096) : val_main_v32 (F := Ideal) x0 x1 x2 x3 x4 x6 x7 (ix2 r f)
    = hiddenRow (fun k => val_main_v15 (F := Ideal) x0 x1 x2 x3 x6 (ix2 r k)) (fun k => x7 (ix1 k)) (fun k n => x4 (ix2 k n)) f := by
  have hu : (val_main_v29 (F := Ideal) x0 x1 x2 x3 x4 x6 x7 (ix2 r f) : EReal)
      = ∑ k : Fin 1024, normRow (fun k => val_main_v15 (F := Ideal) x0 x1 x2 x3 x6 (ix2 r k)) (fun k => x7 (ix1 k)) k * x4 (ix2 k f) := by
    rw [val_main_v29_apply]
    refine Finset.sum_congr rfl fun k _ => congrArg₂ (· * ·) ?_ (congrArg x4 (ext_ix2 _ _ _ rfl rfl))
    exact (congrArg (val_main_v28 (F := Ideal) x0 x1 x2 x3 x6 x7) (ext_ix2 _ r k rfl rfl)).trans (norm2_at x0 x1 x2 x3 x6 x7 r k)
  have hz : (val_main_v30 (F := Ideal) (ix2 r f) : EReal) = 0 := by
    rw [val_main_v30_apply, val_main_cst_5_apply]
    exact Ideal.ofBits_zero_f32
  rw [val_main_v32_apply, val_main_v31_apply, hu, hz]
  rfl

/-- The down projection. -/
theorem down_at (q : Fin 1024) : val_main_v33 (F := Ideal) x0 x1 x2 x3 x4 x5 x6 x7 (ix2 r q)
    = downRow (hiddenRow (fun k => val_main_v15 (F := Ideal) x0 x1 x2 x3 x6 (ix2 r k)) (fun k => x7 (ix1 k)) (fun k n => x4 (ix2 k n)))
        (fun k n => x5 (ix2 k n)) q := by
  rw [val_main_v33_apply]
  refine Finset.sum_congr rfl fun f _ => congrArg₂ (· * ·) ?_ (congrArg x5 (ext_ix2 _ _ _ rfl rfl))
  exact (congrArg (val_main_v32 (F := Ideal) x0 x1 x2 x3 x4 x6 x7) (ext_ix2 _ r f rfl rfl)).trans (hidden_at x0 x1 x2 x3 x4 x6 x7 r f)

/-- The normalisation after the feed-forward block. -/
theorem norm3_at (q : Fin 1024) : val_main_v46 (F := Ideal) x0 x1 x2 x3 x4 x5 x6 x7 x8 (ix2 r q)
    = normRow (fun k => val_main_v33 (F := Ideal) x0 x1 x2 x3 x4 x5 x6 x7 (ix2 r k)) (fun k => x8 (ix1 k)) q :=
  norm_at r (val_main_v33 (F := Ideal) x0 x1 x2 x3 x4 x5 x6 x7) x8 q

/-- THE REFERENCE'S RESULT at an element. -/
theorem result_at (q : Fin 1024) : val_main_v47 (F := Ideal) x0 x1 x2 x3 x4 x5 x6 x7 x8 (ix2 r q)
    = ffnRow (fun k => x0 (ix2 r k)) (fun k => x1 (ix2 r k)) (fun k => x2 (ix2 r k)) (fun k n => x3 (ix2 k n))
        (fun k n => x4 (ix2 k n)) (fun k n => x5 (ix2 k n)) (fun k => x6 (ix1 k)) (fun k => x7 (ix1 k)) (fun k => x8 (ix1 k)) q := by
  have hm := funext fun k => mid_at x0 x1 x2 x3 x6 r k
  rw [val_main_v47_apply, norm3_at, funext fun k => down_at x0 x1 x2 x3 x4 x5 x6 x7 r k, hm, mid_at]
  rfl

end Cert.Layer.FfnRef

end
-- ==== Proof.Ffn.Claim.lean ====
/- THE VALUE CLAIM of the layer's last call: the idealized call and its reference leave equal arrays. -/
module

public import proofs.«01_k».proof.Defs
public import proofs.«01_k».proof.Proof.Ffn.Array
public import proofs.«01_k».proof.Proof.Ffn.Ref
public import proofs.«01_k».proof.Proof.Gen.FfnReferenceIdeal.Run

@[expose] public section

noncomputable section

namespace Cert.Layer

open Idealize.ShloMosaic Idealize.ShloMosaic.ValueIdx Idealize.ShloMosaic.TcCoe Idealize.SL.Sem

theorem ffn_algebraic : Cert.algebraic_FfnIdeal_FfnReferenceIdeal (hFfnIdeal := Cert.FfnIdeal.Gen.facts)
    (hFfnReferenceIdeal := Cert.FfnReferenceIdeal.Gen.facts) := by
  intro m g m' g' _ hm
  refine ⟨fun c => (Cert.FfnIdeal.Gen.dats m 0 c).arrAt 9 Cert.FfnIdeal.cfg0.N, Cert.FfnIdeal.Value.run_blocks m g, ?_⟩
  refine (θ_run _ _ _).mono (fun r h c => ⟨(h c).1.trans ?_, (h c).2⟩) (Cert.FfnReferenceIdeal.Value.run (F := Ideal) m' g')
  obtain ⟨h0, h1, h2, h3, h4, h5, h6, h7, h8⟩ := hm c
  rw [Cert.FfnReferenceIdeal.Read.val_main_v47_eq, h0, h1, h2, h3, h4, h5, h6, h7, h8]
  funext i
  rw [eq_ix2 i]
  exact (FfnRef.result_at _ _ _ _ _ _ _ _ _ _ _).trans (FfnArray.result_apply m c _ _).symm

/-- The reference runs, leaves its arguments, and declares no semaphore. -/
theorem ffn_reference_frame : Cert.quiescent_FfnReferenceIdeal (hFfnReferenceIdeal := Cert.FfnReferenceIdeal.Gen.facts) := fun m g _ =>
  (θ_run _ _ _).mono (fun r h => ⟨fun c => (h c).2, sem_eq_zero_of_no_sems (by decide) r.2⟩)
    (Cert.FfnReferenceIdeal.Value.run (F := Ideal) m g)

end Cert.Layer

end
-- ==== Proof.FfnSample.Block.lean ====
/- The 256 rows that the one grid point of the last call's idealization writes for the second batch: each row is the
   layer's last call (`ffnRow`) on that row of the input blocks. -/
module

public import proofs.«01_k».proof.Proof.Ffn.Rows
public import proofs.«01_k».proof.Proof.Gen.FfnSampleIdeal.Frame

@[expose] public section

noncomputable section

namespace Cert.Layer.FfnSampleBlock

open Cert.FfnSampleIdeal Cert.FfnSampleIdeal.Gen Idealize.ShloMosaic Idealize.ShloMosaic.ValueIdx
open Cert.Layer.FfnRows

theorem fits : Fits 256 := ⟨reduces_S256x1024_S256, shapeCasts_S256_S256x1, broadcasts_S256x1_S256x1024, broadcasts_S1x1024_S256x1024⟩

/-- The body's first half is the residual after the mixing half … -/
theorem mid_eq (v0 : FVec Ideal S256x512 .f32) (v2 : FVec Ideal S512x1024 .bf16) (v5 : FVec Ideal S256x512 .f32)
    (v7 : FVec Ideal S512x1024 .bf16) (v11 : FVec Ideal S256x1024 .f32) (v12 : FVec Ideal S1x1024 .f32) :
    k0_pay2 (F := Ideal) v0 v2 v5 v7 v11 v12 = midBlock fits v0 v2 v5 v7 v11 v12 := by
  unfold k0_pay2 midBlock normBlock
  dsimp only
  simp only [shapeCast_self]
  rfl

/-- … normalised … -/
theorem normed_eq (v0 : FVec Ideal S256x512 .f32) (v2 : FVec Ideal S512x1024 .bf16) (v5 : FVec Ideal S256x512 .f32)
    (v7 : FVec Ideal S512x1024 .bf16) (v11 : FVec Ideal S256x1024 .f32) (v12 : FVec Ideal S1x1024 .f32) (g : FVec Ideal S1x1024 .f32) :
    k0_pay5 (F := Ideal) (k0_pay2 v0 v2 v5 v7 v11 v12) g (k0_pay4 v0 v2 v5 v7 v11 v12)
      = truncf .bf16 (normBlock fits (k0_pay2 v0 v2 v5 v7 v11 v12) g) bitsLt_bf16_f32 := by
  unfold k0_pay4 k0_pay5
  dsimp only
  generalize k0_pay2 (F := Ideal) v0 v2 v5 v7 v11 v12 = z
  rfl

/-- … and its last value the mid block plus the normalised sum of the eight pieces. -/
theorem last_eq (m : FVec Ideal S256x1024 .f32) (z : FVec Ideal S256x1024 .bf16) (v28 : FVec Ideal S1x1024 .f32) (v36 : FVec Ideal S256x1 .f32)
    (a1 a2 a3 a4 a5 a6 a7 a8 : FVec Ideal S1024x512 .bf16) (b1 b2 b3 b4 b5 b6 b7 b8 : FVec Ideal S512x1024 .bf16) (g : FVec Ideal S1x1024 .f32)
    (hz : k0_pay5 (F := Ideal) m v28 v36 = z) :
    k0_pay1 (F := Ideal) m z (k0_pay8 z (k0_pay6 m v28 v36 a1 b1 a2 b2) (k0_pay7 m v28 v36 a3 b3) a4 b4 a5 b5 a6 b6) (k0_pay9 a7) (constant S256x512 .f32 0x00000000#32) b7 a8 b8 g
      = addf m (normBlock fits (downVec z a1 a2 a3 a4 a5 a6 a7 a8 b1 b2 b3 b4 b5 b6 b7 b8) g) := by
  subst hz
  unfold k0_pay1 k0_pay6 k0_pay7 k0_pay8 k0_pay9
  dsimp only
  simp only [shapeCast_self]
  rfl

/-- THE BLOCK'S ROWS: what the body leaves in the output window's buffer is, row by row, `ffnRow` of the input blocks. -/
theorem out_apply (x0 : FVec Ideal S256x1024 .f32) (x1 x2 : FVec Ideal S256x512 .f32) (x3 : FVec Ideal S1024x1024 .bf16)
    (x4 : FVec Ideal S1024x4096 .bf16) (x5 : FVec Ideal S4096x1024 .bf16) (x6 x7 x8 : FVec Ideal S1x1024 .f32) (p : Fin 256) (q : Fin 1024) :
    out0_9 (F := Ideal) x0 x1 x2 x3 x4 x5 x6 x7 x8 (ix2 p q)
      = ffnRow (row x0 p) (row x1 p) (row x2 p) (fun k => row x3 k) (fun k => row x4 k) (fun k => row x5 k) (row x6 0) (row x7 0) (row x8 0) q := by
  have hm : ∀ q, k0_pay10 (F := Ideal) x0 x1 x2 x3 x4 x5 x6 x7 x8 (ix2 p q) = midRow (row x0 p) (row x1 p) (row x2 p) (fun k => row x3 k) (row x6 0) q := fun q => by
    unfold k0_pay10
    rw [mid_eq, midBlock_apply _ _ _ _ _ _ _ (fun k => row x3 k) (fun k q => (load_rows (Val := Elt Ideal) (e := .bf16) x3 0 _ k q (by omega)).trans (by simp only [Nat.zero_add]))
      (fun k q => load_rows (Val := Elt Ideal) (e := .bf16) x3 512 _ k q (by omega))]
    rw [load_whole (Val := Elt Ideal) (e := .f32) x0, load_whole (Val := Elt Ideal) (e := .f32) x1, load_whole (Val := Elt Ideal) (e := .f32) x2, load_whole (Val := Elt Ideal) (e := .f32) x6]
  have hn : ∀ k, k0_pay13 (F := Ideal) x0 x1 x2 x3 x4 x5 x6 x7 x8 (ix2 p k)
      = normRow (midRow (row x0 p) (row x1 p) (row x2 p) (fun k => row x3 k) (row x6 0)) (row x7 0) k := fun k => by
    refine (congrFun (normed_eq _ _ _ _ _ _ (k0_pay3 (View.ld x7 r0_4))) (ix2 p k)).trans ?_
    rw [truncf_apply, normBlock_apply]
    refine congrArg₂ (fun a b => normRow a b k) (funext hm) ?_
    unfold k0_pay3
    rw [load_whole (Val := Elt Ideal) (e := .f32) x7]
    simp only [shapeCast_self]
  unfold out0_9
  rw [View.canon_unit_zero (S := S256x1024) (funext fun d => by fin_cases d <;> rfl)]
  generalize hz : k0_pay13 (F := Ideal) x0 x1 x2 x3 x4 x5 x6 x7 x8 = z at hn
  have e5 : k0_pay5 (F := Ideal) (k0_pay10 x0 x1 x2 x3 x4 x5 x6 x7 x8) (k0_pay11 x0 x1 x2 x3 x4 x5 x6 x7 x8) (k0_pay12 x0 x1 x2 x3 x4 x5 x6 x7 x8) = z := hz
  rw [last_eq _ z _ _ _ _ _ _ _ _ _ _ _ _ _ _ _ _ _ _ _ e5, load_whole (Val := Elt Ideal) (e := .f32) x8]
  exact block_apply fits _ z x4 x5 x8 _ _ _ _ _ _ _ _ _ _ _ _ _ _ _ _ _ _ p hm hn q

end Cert.Layer.FfnSampleBlock

end
-- ==== Proof.FfnSample.Array.lean ====
/- The array the idealized last call leaves for the second batch: its one grid point works on all 256 rows, so that
   every window's block is its whole array. -/
module

public import proofs.«01_k».proof.Proof.Common.Index
public import proofs.«01_k».proof.Proof.FfnSample.Block
public import proofs.«01_k».proof.Proof.Gen.FfnSampleIdeal.Value

@[expose] public section

noncomputable section

namespace Cert.Layer.FfnSampleArray

open Cert.FfnSampleIdeal Cert.FfnSampleIdeal.Gen Cert.FfnSampleIdeal.Value Idealize.ShloMosaic Idealize.ShloMosaic.ValueIdx Idealize.ShloMosaic.TcCoe
open Idealize.ShloMosaic.Pipeline (Dat Window)
open Cert.Layer.FfnRows (row)

variable (m : (ℓ : Loc nD τ sig) → Buf (Elt Ideal) ℓ) (c : Dev nD) (t : Fin cfg0.N)

/-! ## What the host prepared -/

theorem entry_wo : (V m c main_v0 : S1024x1024.Idx → EReal) = m ((c : Thread nD τ).loc main_arg3) := by
  unfold V; after_results_simp <;> rfl
theorem entry_wu : (V m c main_v1 : S1024x4096.Idx → EReal) = m ((c : Thread nD τ).loc main_arg4) := by
  unfold V; after_results_simp <;> rfl
theorem entry_wd : (V m c main_v2 : S4096x1024.Idx → EReal) = m ((c : Thread nD τ).loc main_arg5) := by
  unfold V; after_results_simp <;> rfl
theorem entry_g1 : (V m c main_v3 : S1x1024.Idx → EReal) = shapeCast S1x1024 (m ((c : Thread nD τ).loc main_arg6)) shapeCasts_S1024_S1x1024 := by
  unfold V; after_results_simp <;> rfl
theorem entry_g2 : (V m c main_v4 : S1x1024.Idx → EReal) = shapeCast S1x1024 (m ((c : Thread nD τ).loc main_arg7)) shapeCasts_S1024_S1x1024 := by
  unfold V; after_results_simp <;> rfl
theorem entry_g3 : (V m c main_v5 : S1x1024.Idx → EReal) = shapeCast S1x1024 (m ((c : Thread nD τ).loc main_arg8)) shapeCasts_S1024_S1x1024 := by
  unfold V; after_results_simp <;> rfl

/-! ## Where the windows' blocks lie -/

/-- Every window's block is its whole array. -/
theorem place : ∀ t : Fin cfg0.N, (∀ a, win0_0.index t a = 0) ∧ (∀ a, win0_1.index t a = 0) ∧ (∀ a, win0_2.index t a = 0)
    ∧ (∀ a, win0_3.index t a = 0) ∧ (∀ a, win0_4.index t a = 0) ∧ (∀ a, win0_5.index t a = 0) ∧ (∀ a, win0_6.index t a = 0)
    ∧ (∀ a, win0_7.index t a = 0) ∧ (∀ a, win0_8.index t a = 0) ∧ (∀ a, win0_9.index t a = 0) := by
  decide +kernel

theorem block_x (p : Fin 256) (k : Fin 1024) : iblk m c 0 t (ix2 p k) = m ((c : Thread nD τ).loc main_arg0) (ix2 p k) := by
  unfold iblk
  rw [View.read_apply]
  show V m c main_arg0 _ = _
  rw [V_main_arg0]
  exact congrArg _ (ext_ix2 _ p k ((cfg0.win 0).rect_emb_val_of_index_zero t 0 ((place t).1 0) (ix2 p k))
    ((cfg0.win 0).rect_emb_val_of_index_zero t 1 ((place t).1 1) (ix2 p k)))

theorem block_ret (p : Fin 256) (k : Fin 512) : iblk m c 1 t (ix2 p k) = m ((c : Thread nD τ).loc main_arg1) (ix2 p k) := by
  unfold iblk
  rw [View.read_apply]
  show V m c main_arg1 _ = _
  rw [V_main_arg1]
  exact congrArg _ (ext_ix2 _ p k ((cfg0.win 1).rect_emb_val_of_index_zero t 0 ((place t).2.1 0) (ix2 p k))
    ((cfg0.win 1).rect_emb_val_of_index_zero t 1 ((place t).2.1 1) (ix2 p k)))

theorem block_att (p : Fin 256) (k : Fin 512) : iblk m c 2 t (ix2 p k) = m ((c : Thread nD τ).loc main_arg2) (ix2 p k) := by
  unfold iblk
  rw [View.read_apply]
  show V m c main_arg2 _ = _
  rw [V_main_arg2]
  exact congrArg _ (ext_ix2 _ p k ((cfg0.win 2).rect_emb_val_of_index_zero t 0 ((place t).2.2.1 0) (ix2 p k))
    ((cfg0.win 2).rect_emb_val_of_index_zero t 1 ((place t).2.2.1 1) (ix2 p k)))

theorem block_wo (p : Fin 1024) (k : Fin 1024) : iblk m c 3 t (ix2 p k) = m ((c : Thread nD τ).loc main_arg3) (ix2 p k) := by
  unfold iblk
  rw [View.read_apply]
  show V m c main_v0 _ = _
  exact (congrArg (V m c main_v0) (ext_ix2 _ p k ((cfg0.win 3).rect_emb_val_of_index_zero t 0 ((place t).2.2.2.1 0) (ix2 p k))
    ((cfg0.win 3).rect_emb_val_of_index_zero t 1 ((place t).2.2.2.1 1) (ix2 p k)))).trans (congrFun (entry_wo m c) (ix2 p k))

theorem block_wu (p : Fin 1024) (k : Fin 4096) : iblk m c 4 t (ix2 p k) = m ((c : Thread nD τ).loc main_arg4) (ix2 p k) := by
  unfold iblk
  rw [View.read_apply]
  show V m c main_v1 _ = _
  exact (congrArg (V m c main_v1) (ext_ix2 _ p k ((cfg0.win 4).rect_emb_val_of_index_zero t 0 ((place t).2.2.2.2.1 0) (ix2 p k))
    ((cfg0.win 4).rect_emb_val_of_index_zero t 1 ((place t).2.2.2.2.1 1) (ix2 p k)))).trans (congrFun (entry_wu m c) (ix2 p k))

theorem block_wd (p : Fin 4096) (k : Fin 1024) : iblk m c 5 t (ix2 p k) = m ((c : Thread nD τ).loc main_arg5) (ix2 p k) := by
  unfold iblk
  rw [View.read_apply]
  show V m c main_v2 _ = _
  exact (congrArg (V m c main_v2) (ext_ix2 _ p k ((cfg0.win 5).rect_emb_val_of_index_zero t 0 ((place t).2.2.2.2.2.1 0) (ix2 p k))
    ((cfg0.win 5).rect_emb_val_of_index_zero t 1 ((place t).2.2.2.2.2.1 1) (ix2 p k)))).trans (congrFun (entry_wd m c) (ix2 p k))

theorem block_g1 (k : Fin 1024) : iblk m c 6 t (ix2 0 k) = m ((c : Thread nD τ).loc main_arg6) (ix1 k) := by
  unfold iblk
  rw [View.read_apply]
  show V m c main_v3 _ = _
  exact ((congrArg (V m c main_v3) (ext_ix2 _ 0 k ((cfg0.win 6).rect_emb_val_of_index_zero t 0 ((place t).2.2.2.2.2.2.1 0) (ix2 0 k))
    ((cfg0.win 6).rect_emb_val_of_index_zero t 1 ((place t).2.2.2.2.2.2.1 1) (ix2 0 k)))).trans (congrFun (entry_g1 m c) (ix2 0 k))).trans
    (shapeCast_a_1a_apply _ _ 0 k)

theorem block_g2 (k : Fin 1024) : iblk m c 7 t (ix2 0 k) = m ((c : Thread nD τ).loc main_arg7) (ix1 k) := by
  unfold iblk
  rw [View.read_apply]
  show V m c main_v4 _ = _
  exact ((congrArg (V m c main_v4) (ext_ix2 _ 0 k ((cfg0.win 7).rect_emb_val_of_index_zero t 0 ((place t).2.2.2.2.2.2.2.1 0) (ix2 0 k))
    ((cfg0.win 7).rect_emb_val_of_index_zero t 1 ((place t).2.2.2.2.2.2.2.1 1) (ix2 0 k)))).trans (congrFun (entry_g2 m c) (ix2 0 k))).trans
    (shapeCast_a_1a_apply _ _ 0 k)

theorem block_g3 (k : Fin 1024) : iblk m c 8 t (ix2 0 k) = m ((c : Thread nD τ).loc main_arg8) (ix1 k) := by
  unfold iblk
  rw [View.read_apply]
  show V m c main_v5 _ = _
  exact ((congrArg (V m c main_v5) (ext_ix2 _ 0 k ((cfg0.win 8).rect_emb_val_of_index_zero t 0 ((place t).2.2.2.2.2.2.2.2.1 0) (ix2 0 k))
    ((cfg0.win 8).rect_emb_val_of_index_zero t 1 ((place t).2.2.2.2.2.2.2.2.1 1) (ix2 0 k)))).trans (congrFun (entry_g3 m c) (ix2 0 k))).trans
    (shapeCast_a_1a_apply _ _ 0 k)

/-! ## The array -/

theorem written (r : Fin 256) (q : Fin 1024) : (dats m 0 c).flushed 9 t (ix2 r q)
    = ffnRow (row (iblk m c 0 t) r) (row (iblk m c 1 t) r) (row (iblk m c 2 t) r) (fun k => row (iblk m c 3 t) k)
        (fun k => row (iblk m c 4 t) k) (fun k => row (iblk m c 5 t) k) (row (iblk m c 6 t) 0) (row (iblk m c 7 t) 0)
        (row (iblk m c 8 t) 0) q := by
  rw [flushed9]
  exact FfnSampleBlock.out_apply _ _ _ _ _ _ _ _ _ r q

/-- The value the last call has at row `r`, from the arguments. -/
def valueAt (r : Fin 256) : Row 1024 :=
  ffnRow (row (m ((c : Thread nD τ).loc main_arg0)) r) (row (m ((c : Thread nD τ).loc main_arg1)) r)
    (row (m ((c : Thread nD τ).loc main_arg2)) r) (fun k => row (m ((c : Thread nD τ).loc main_arg3)) k)
    (fun k => row (m ((c : Thread nD τ).loc main_arg4)) k) (fun k => row (m ((c : Thread nD τ).loc main_arg5)) k)
    (fun k => m ((c : Thread nD τ).loc main_arg6) (ix1 k)) (fun k => m ((c : Thread nD τ).loc main_arg7) (ix1 k))
    (fun k => m ((c : Thread nD τ).loc main_arg8) (ix1 k))

theorem written_value (r : Fin 256) (q : Fin 1024) : (dats m 0 c).flushed 9 t (ix2 r q) = valueAt m c r q := by
  rw [written]
  have e0 : row (iblk m c 0 t) r = row (m ((c : Thread nD τ).loc main_arg0)) r := funext fun k => block_x m c t r k
  have e1 : row (iblk m c 1 t) r = row (m ((c : Thread nD τ).loc main_arg1)) r := funext fun k => block_ret m c t r k
  have e2 : row (iblk m c 2 t) r = row (m ((c : Thread nD τ).loc main_arg2)) r := funext fun k => block_att m c t r k
  have e3 : (fun k => row (iblk m c 3 t) k) = fun k => row (m ((c : Thread nD τ).loc main_arg3)) k := funext fun p => funext fun k => block_wo m c t p k
  have e4 : (fun k => row (iblk m c 4 t) k) = fun k => row (m ((c : Thread nD τ).loc main_arg4)) k := funext fun p => funext fun k => block_wu m c t p k
  have e5 : (fun k => row (iblk m c 5 t) k) = fun k => row (m ((c : Thread nD τ).loc main_arg5)) k := funext fun p => funext fun k => block_wd m c t p k
  have e6 : row (iblk m c 6 t) 0 = fun k => m ((c : Thread nD τ).loc main_arg6) (ix1 k) := funext fun k => block_g1 m c t k
  have e7 : row (iblk m c 7 t) 0 = fun k => m ((c : Thread nD τ).loc main_arg7) (ix1 k) := funext fun k => block_g2 m c t k
  have e8 : row (iblk m c 8 t) 0 = fun k => m ((c : Thread nD τ).loc main_arg8) (ix1 k) := funext fun k => block_g3 m c t k
  unfold valueAt
  rw [← e0, ← e1, ← e2, ← e3, ← e4, ← e5, ← e6, ← e7, ← e8]

/-- THE ARRAY: each of its rows is the layer's last call on that row of the arguments. -/
theorem result_apply (r : Fin 256) (q : Fin 1024) : (dats m 0 c).arrAt 9 cfg0.N (ix2 r q) = valueAt m c r q := by
  have hf := (dats m 0 c).arrAt_emb_eq_flushed 9 disjoint9 t0_0 (flush0_9 t0_0) (ix2 r q)
  rw [show ((cfg0.win 9).blk t0_0).view.emb (ix2 r q) = ix2 r q from
    ext_ix2 _ r q ((cfg0.win 9).rect_emb_val_of_index_zero t0_0 0 ((place t0_0).2.2.2.2.2.2.2.2.2 0) (ix2 r q))
      ((cfg0.win 9).rect_emb_val_of_index_zero t0_0 1 ((place t0_0).2.2.2.2.2.2.2.2.2 1) (ix2 r q))] at hf
  exact hf.trans (written_value m c t0_0 r q)

end Cert.Layer.FfnSampleArray

end
-- ==== Proof.FfnSample.Ref.lean ====
/- The reference of the last call for the second batch, read at an element of its result: the same row by row
   mathematics (`ffnRow`) of the same rows of its arguments. -/
module

public import proofs.«01_k».proof.Proof.Common.HostNorm
public import proofs.«01_k».proof.Proof.Ffn.Spec
public import proofs.«01_k».proof.Proof.Gen.FfnSampleReferenceIdeal.Read

@[expose] public section

noncomputable section

namespace Cert.Layer.FfnSampleRef

open Cert.FfnSampleReferenceIdeal Cert.FfnSampleReferenceIdeal.Gen Cert.FfnSampleReferenceIdeal.Read Idealize.ShloMosaic Idealize.ShloMosaic.ValueIdx Idealize.ShloMosaic.TcCoe
open scoped BigOperators

/-- The contents of an array the reference is given. -/
abbrev Arr (S : Shape) : Type := (⟨S, .f32⟩ : BufTy).Contents (Elt Ideal)

variable (x0 : Arr S256x1024) (x1 x2 : Arr S256x512) (x3 : Arr S1024x1024) (x4 : Arr S1024x4096) (x5 : Arr S4096x1024)
  (x6 x7 x8 : Arr S1024) (r : Fin 256)

/-- The normalisation at the reference's shapes. -/
theorem norm_at (z : FVec Ideal S256x1024 .f32) (g : FVec Ideal S1024 .f32) (q : Fin 1024) :
    mulf (mulf z (broadcastInDim S256x1024 ![0, 1] bcast_S256x1_S256x1024_0_1 (Host.rsqrt (addf (Host.divf
        (broadcastInDim S256x1 ![0] bcast_S256_S256x1_0 (Host.reduceAdd (mulf z z) (constant S_ .f32 0x00000000#32) reducesTo_S256x1024_S256_d1 h_S_))
        (broadcastInDim S256x1 ![] bcast_S_S256x1 (constant S_ .f32 0x44800000#32)))
        (broadcastInDim S256x1 ![] bcast_S_S256x1 (constant S_ .f32 0x358637BD#32))))))
      (broadcastInDim S256x1024 ![0, 1] bcast_S1x1024_S256x1024_0_1 (broadcastInDim S1x1024 ![1] bcast_S1024_S1x1024_1 g)) (ix2 r q)
      = normRow (fun k => z (ix2 r k)) (fun k => g (ix1 k)) q :=
  host_norm_apply (by decide) z g _ (by decide) _ _ _ _ _ _ r q

/-- The residual after the mixing half: the concatenated row meets the whole weight, half by half. -/
theorem mid_at (q : Fin 1024) : val_main_v15 (F := Ideal) x0 x1 x2 x3 x6 (ix2 r q)
    = midRow (fun k => x0 (ix2 r k)) (fun k => x1 (ix2 r k)) (fun k => x2 (ix2 r k)) (fun k n => x3 (ix2 k n)) (fun k => x6 (ix1 k)) q := by
  refine (val_main_v15_apply (F := Ideal) x0 x1 x2 x3 x6 (ix2 r q)).trans
    (congrArg (fun z : EReal => (x0 (ix2 r q) : EReal) + z) ((norm_at r (val_main_v1 (F := Ideal) x1 x2 x3) x6 q).trans ?_))
  refine congrArg (fun z => normRow z (fun k => x6 (ix1 k)) q) (funext fun q => ?_)
  rw [val_main_v1_apply, sum_halves]
  refine congrArg₂ (· + ·) (Finset.sum_congr rfl fun k _ => congrArg₂ (· * ·) ?_ ?_) (Finset.sum_congr rfl fun k _ => congrArg₂ (· * ·) ?_ ?_)
  · refine concatenate_pair_apply_left (s₁ := S256x512) (s₂ := S256x512) (t := S256x1024) _ _ _ _ _ rfl (ix2 r k) fun b => ?_
    match b with
    | ⟨0, _⟩ => rfl
    | ⟨1, _⟩ => rfl
  · exact congrArg x3 (ext_ix2 _ _ _ rfl rfl)
  · refine concatenate_pair_apply_right (s₁ := S256x512) (s₂ := S256x512) (t := S256x1024) _ _ _ _ _ rfl rfl (ix2 r k) (fun b hb => ?_) ?_
    · match b with
      | ⟨0, _⟩ => rfl
      | ⟨1, _⟩ => exact absurd rfl hb
    · exact Nat.add_comm _ _
  · exact congrArg x3 (ext_ix2 _ _ _ rfl rfl)

/-- The hidden row: the squared rectifier of the up projection of the normalised row. -/
theorem hidden_at (f : Fin 4096) : val_main_v32 (F := Ideal) x0 x1 x2 x3 x4 x6 x7 (ix2 r f)
    = hiddenRow (fun k => val_main_v15 (F := Ideal) x0 x1 x2 x3 x6 (ix2 r k)) (fun k => x7 (ix1 k)) (fun k n => x4 (ix2 k n)) f := by
  have hu : (val_main_v29 (F := Ideal) x0 x1 x2 x3 x4 x6 x7 (ix2 r f) : EReal)
      = ∑ k : Fin 1024, normRow (fun k => val_main_v15 (F := Ideal) x0 x1 x2 x3 x6 (ix2 r k)) (fun k => x7 (ix1 k)) k * x4 (ix2 k f) := by
    rw [val_main_v29_apply]
    refine Finset.sum_congr rfl fun k _ => congrArg₂ (· * ·) ?_ (congrArg x4 (ext_ix2 _ _ _ rfl rfl))
    exact (congrArg (val_main_v28 (F := Ideal) x0 x1 x2 x3 x6 x7) (ext_ix2 _ r k rfl rfl)).trans
      (norm_at r (val_main_v15 (F := Ideal) x0 x1 x2 x3 x6) x7 k)
  have hz : (val_main_v30 (F := Ideal) (ix2 r f) : EReal) = 0 := by
    rw [val_main_v30_apply, val_main_cst_5_apply]
    exact Ideal.ofBits_zero_f32
  rw [val_main_v32_apply, val_main_v31_apply, hu, hz]
  rfl

/-- The down projection. -/
theorem down_at (q : Fin 1024) : val_main_v33 (F := Ideal) x0 x1 x2 x3 x4 x5 x6 x7 (ix2 r q)
    = downRow (hiddenRow (fun k => val_main_v15 (F := Ideal) x0 x1 x2 x3 x6 (ix2 r k)) (fun k => x7 (ix1 k)) (fun k n => x4 (ix2 k n)))
        (fun k n => x5 (ix2 k n)) q := by
  rw [val_main_v33_apply]
  refine Finset.sum_congr rfl fun f _ => congrArg₂ (· * ·) ?_ (congrArg x5 (ext_ix2 _ _ _ rfl rfl))
  exact (congrArg (val_main_v32 (F := Ideal) x0 x1 x2 x3 x4 x6 x7) (ext_ix2 _ r f rfl rfl)).trans (hidden_at x0 x1 x2 x3 x4 x6 x7 r f)

/-- THE REFERENCE'S RESULT at an element. -/
theorem result_at (q : Fin 1024) : val_main_v47 (F := Ideal) x0 x1 x2 x3 x4 x5 x6 x7 x8 (ix2 r q)
    = ffnRow (fun k => x0 (ix2 r k)) (fun k => x1 (ix2 r k)) (fun k => x2 (ix2 r k)) (fun k n => x3 (ix2 k n))
        (fun k n => x4 (ix2 k n)) (fun k n => x5 (ix2 k n)) (fun k => x6 (ix1 k)) (fun k => x7 (ix1 k)) (fun k => x8 (ix1 k)) q := by
  have hm := funext fun k => mid_at x0 x1 x2 x3 x6 r k
  have h3 : val_main_v46 (F := Ideal) x0 x1 x2 x3 x4 x5 x6 x7 x8 (ix2 r q) = _ :=
    norm_at r (val_main_v33 (F := Ideal) x0 x1 x2 x3 x4 x5 x6 x7) x8 q
  rw [val_main_v47_apply, h3, funext fun k => down_at x0 x1 x2 x3 x4 x5 x6 x7 r k, hm, mid_at]
  rfl

end Cert.Layer.FfnSampleRef

end
-- ==== Proof.FfnSample.Claim.lean ====
/- THE VALUE CLAIM of the layer's last call for the second batch: the idealized call and its reference leave equal
   arrays. -/
module

public import proofs.«01_k».proof.Defs
public import proofs.«01_k».proof.Proof.FfnSample.Array
public import proofs.«01_k».proof.Proof.FfnSample.Ref
public import proofs.«01_k».proof.Proof.Gen.FfnSampleReferenceIdeal.Run

@[expose] public section

noncomputable section

namespace Cert.Layer

open Idealize.ShloMosaic Idealize.ShloMosaic.ValueIdx Idealize.ShloMosaic.TcCoe Idealize.SL.Sem

theorem ffn_sample_algebraic : Cert.algebraic_FfnSampleIdeal_FfnSampleReferenceIdeal (hFfnSampleIdeal := Cert.FfnSampleIdeal.Gen.facts)
    (hFfnSampleReferenceIdeal := Cert.FfnSampleReferenceIdeal.Gen.facts) := by
  intro m g m' g' _ hm
  refine ⟨fun c => (Cert.FfnSampleIdeal.Gen.dats m 0 c).arrAt 9 Cert.FfnSampleIdeal.cfg0.N, Cert.FfnSampleIdeal.Value.run_blocks m g, ?_⟩
  refine (θ_run _ _ _).mono (fun r h c => ⟨(h c).1.trans ?_, (h c).2⟩) (Cert.FfnSampleReferenceIdeal.Value.run (F := Ideal) m' g')
  obtain ⟨h0, h1, h2, h3, h4, h5, h6, h7, h8⟩ := hm c
  rw [Cert.FfnSampleReferenceIdeal.Read.val_main_v47_eq, h0, h1, h2, h3, h4, h5, h6, h7, h8]
  funext i
  rw [eq_ix2 i]
  exact (FfnSampleRef.result_at _ _ _ _ _ _ _ _ _ _ _).trans (FfnSampleArray.result_apply m c _ _).symm

/-- The reference runs, leaves its arguments, and declares no semaphore. -/
theorem ffn_sample_reference_frame : Cert.quiescent_FfnSampleReferenceIdeal (hFfnSampleReferenceIdeal := Cert.FfnSampleReferenceIdeal.Gen.facts) := fun m g _ =>
  (θ_run _ _ _).mono (fun r h => ⟨fun c => (h c).2, sem_eq_zero_of_no_sems (by decide) r.2⟩)
    (Cert.FfnSampleReferenceIdeal.Value.run (F := Ideal) m g)

end Cert.Layer

end
-- ==== Proof.InProj.Spec.lean ====
/- The layer's first call as mathematics over the extended reals: a normalised row of the residual meets the columns of
   the input weight; the queries and keys of the recurrence are turned by the angles of their position (rotary
   embedding), the keys also scaled. -/
module

public import proofs.«01_k».proof.Proof.Common.Blocks

@[expose] public section

noncomputable section

namespace Cert.Layer

open Idealize.ShloMosaic Idealize.ShloMosaic.ValueIdx
open scoped BigOperators

/-- A row times one column of a weight. -/
def dot (v w : Row 1024) : EReal := ∑ k, v k * w k

/-- Eight heads of 64 places turned by the 32 angles of a position: place `i` of a head's first half goes with place
    `i + 32` of the same head. -/
def rotRow (y : Row 512) (cs sn : Row 32) : Row 512 := fun q =>
  if h : q.val % 64 < 32 then y q * cs ⟨q.val % 32, by omega⟩ - y ⟨q.val + 32, by omega⟩ * sn ⟨q.val % 32, by omega⟩
  else y q * cs ⟨q.val % 32, by omega⟩ + y ⟨q.val - 32, by omega⟩ * sn ⟨q.val % 32, by omega⟩

/-- The same turn from tables of 128 columns, the sines' table holding the signs. -/
def turn (y : Row 512) (c s : Row 128) : Row 512 := fun q =>
  y q * c ⟨q.val % 128, by omega⟩
    + (if h : q.val % 64 < 32 then y ⟨q.val + 32, by omega⟩ else y ⟨q.val - 32, by omega⟩) * s ⟨q.val % 128, by omega⟩

/-- The column of the tables' 32 angles that column `l` of 128 repeats. -/
abbrev angle (l : Fin 128) : Fin 32 := ⟨l.val % 32, by omega⟩

theorem turn_eq_rot (y : Row 512) (cs sn : Row 32) (c s : Row 128) (hc : ∀ l, c l = cs (angle l))
    (hs : ∀ l : Fin 128, s l = if l.val % 64 < 32 then -(sn (angle l)) else sn (angle l)) : turn y c s = rotRow y cs sn := by
  funext q
  have ha : ∀ h, angle ⟨q.val % 128, h⟩ = ⟨q.val % 32, by omega⟩ := fun h => Fin.ext (by show q.val % 128 % 32 = q.val % 32; omega)
  have hm : q.val % 128 % 64 = q.val % 64 := by omega
  unfold turn rotRow
  rw [hc, hs, ha]
  simp only [hm]
  by_cases h : q.val % 64 < 32
  · rw [dif_pos h, if_pos h, dif_pos h, mul_neg, sub_eq_add_neg]
  · rw [dif_neg h, if_neg h, dif_neg h]

/-- The scale of the keys: the printed constant for one over the root of 64. -/
def keyScale : EReal := Ideal.ofBits .f32 0x3E000000#32

/-- The columns of the weight in the order the kernel lays them out: the index queries before the keys and values,
    zeros at the end. -/
def laid (w : Row 3400) : Row 3456 := fun n =>
  if h : n.val < 2560 then w ⟨n.val, by omega⟩
  else if h : n.val < 3072 then w ⟨n.val + 256, by omega⟩
  else if h : n.val < 3328 then w ⟨n.val - 512, by omega⟩
  else if h : n.val < 3400 then w ⟨n.val, h⟩ else 0

/-- One row of the call's wide result, from the normalised row `v`, the weight and the angles' cosines and sines. -/
def mainRow (v : Row 1024) (w : Fin 1024 → Row 3400) (cs sn : Row 32) : Row 3072 := fun n =>
  if h : n.val < 512 then rotRow (fun q => dot v fun k => w k ⟨q.val, by omega⟩) cs sn ⟨n.val, h⟩
  else if h : n.val < 1024 then rotRow (fun q => dot v fun k => w k ⟨512 + q.val, by omega⟩) cs sn ⟨n.val - 512, by omega⟩ * keyScale
  else if h : n.val < 2560 then dot v fun k => w k ⟨n.val, by omega⟩
  else dot v fun k => w k ⟨n.val + 256, by omega⟩

/-- The same row from the laid out weight and the wide tables. -/
def mainLaid (v : Row 1024) (w : Fin 1024 → Row 3456) (c s : Row 128) : Row 3072 := fun n =>
  if h : n.val < 512 then turn (fun q => dot v fun k => w k ⟨q.val, by omega⟩) c s ⟨n.val, h⟩
  else if h : n.val < 1024 then turn (fun q => dot v fun k => w k ⟨512 + q.val, by omega⟩) c s ⟨n.val - 512, by omega⟩ * keyScale
  else dot v fun k => w k ⟨n.val, by omega⟩

theorem mainLaid_eq (v : Row 1024) (w : Fin 1024 → Row 3400) (cs sn : Row 32) (c s : Row 128) (hc : ∀ l, c l = cs (angle l))
    (hs : ∀ l : Fin 128, s l = if l.val % 64 < 32 then -(sn (angle l)) else sn (angle l)) :
    mainLaid v (fun k => laid (w k)) c s = mainRow v w cs sn := by
  funext n
  unfold mainLaid mainRow
  rw [turn_eq_rot _ cs sn c s hc hs, turn_eq_rot _ cs sn c s hc hs]
  have e1 : ∀ q : Fin 512, (fun k => laid (w k) ⟨q.val, by omega⟩) = fun k => w k ⟨q.val, by omega⟩ := fun q => funext fun k => by
    unfold laid; rw [dif_pos (show q.val < 2560 by omega)]
  have e2 : ∀ q : Fin 512, (fun k => laid (w k) ⟨512 + q.val, by omega⟩) = fun k => w k ⟨512 + q.val, by omega⟩ := fun q => funext fun k => by
    unfold laid; rw [dif_pos (show 512 + q.val < 2560 by omega)]
  simp only [e1, e2]
  split
  · rfl
  · split
    · rfl
    · split
      · rename_i h
        refine congrArg (dot v) (funext fun k => ?_)
        unfold laid; rw [dif_pos (show n.val < 2560 from h)]
      · rename_i h
        refine congrArg (dot v) (funext fun k => ?_)
        unfold laid; rw [dif_neg (show ¬ n.val < 2560 from h), dif_pos (show n.val < 3072 from n.isLt)]

/-- A row against the key columns of the laid out weight. -/
theorem dot_laid_keys (v : Row 1024) (w : Fin 1024 → Row 3400) (j : ℕ) (hj : j < 256) :
    (dot v fun k => laid (w k) ⟨3072 + j, by omega⟩) = dot v fun k => w k ⟨2560 + j, by omega⟩ := by
  refine congrArg (dot v) (funext fun k => ?_)
  unfold laid
  rw [dif_neg (show ¬ 3072 + j < 2560 by omega), dif_neg (show ¬ 3072 + j < 3072 by omega), dif_pos (show 3072 + j < 3328 by omega)]
  exact congrArg (w k) (Fin.ext (by show 3072 + j - 512 = 2560 + j; omega))

/-- A row against the index columns of the laid out weight. -/
theorem dot_laid_index (v : Row 1024) (w : Fin 1024 → Row 3400) (j : ℕ) (hj : j < 72) :
    (dot v fun k => laid (w k) ⟨3328 + j, by omega⟩) = dot v fun k => w k ⟨3328 + j, by omega⟩ := by
  refine congrArg (dot v) (funext fun k => ?_)
  unfold laid
  rw [dif_neg (show ¬ 3328 + j < 2560 by omega), dif_neg (show ¬ 3328 + j < 3072 by omega), dif_neg (show ¬ 3328 + j < 3328 by omega),
    dif_pos (show 3328 + j < 3400 by omega)]

/-- The padding's columns give zero. -/
theorem dot_laid_pad (v : Row 1024) (w : Fin 1024 → Row 3400) (j : ℕ) (hj : 72 ≤ j) (hj' : j < 128) :
    (dot v fun k => laid (w k) ⟨3328 + j, by omega⟩) = 0 := by
  refine Finset.sum_eq_zero fun k _ => ?_
  show v k * laid (w k) ⟨3328 + j, _⟩ = 0
  unfold laid
  rw [dif_neg (show ¬ 3328 + j < 2560 by omega), dif_neg (show ¬ 3328 + j < 3072 by omega), dif_neg (show ¬ 3328 + j < 3328 by omega),
    dif_neg (show ¬ 3328 + j < 3400 by omega), mul_zero]

end Cert.Layer

end
-- ==== Proof.InProj.Block.lean ====
/- The blocks that one grid point of the first call's idealization writes, read at an element. -/
module

public import proofs.«01_k».proof.Proof.Common.Index
public import proofs.«01_k».proof.Proof.InProj.Spec
public import proofs.«01_k».proof.Proof.Gen.InProjIdeal.Value
public import Idealize.ShloMosaic.Lib.KernelVsHost

@[expose] public section

noncomputable section

namespace Cert.Layer.InProjBlock

open Cert.InProjIdeal Cert.InProjIdeal.Gen Idealize.ShloMosaic Idealize.ShloMosaic.ValueIdx
open scoped BigOperators

/-- Row `p` of a two-axis array. -/
abbrev row {a b : ℕ} (X : (⟨2, ![a, b]⟩ : Shape).Idx → EReal) (p : Fin a) : Row b := fun k => X (ix2 p k)

/-- Column `q` of a weight. -/
abbrev col {b : ℕ} (X : (⟨2, ![1024, b]⟩ : Shape).Idx → EReal) (q : Fin b) : Row 1024 := fun k => X (ix2 k q)

/-- The normalised rows. -/
theorem normed_apply (x : FVec Ideal S512x1024 .f32) (g : FVec Ideal S1x1024 .f32) (p : Fin 512) (q : Fin 1024) :
    k0_pay6 (F := Ideal) x g (ix2 p q) = normRow (row x p) (row g 0) q := by
  unfold k0_pay6
  dsimp only
  simp only [shapeCast_self]
  exact norm_block_apply _ _ _ _ _ _ _ _ _ p q

theorem normed_row (x : FVec Ideal S512x1024 .f32) (g : FVec Ideal S1x1024 .f32) (p : Fin 512) :
    row (k0_pay6 (F := Ideal) x g) p = normRow (row x p) (row g 0) := funext fun q => normed_apply x g p q

/-- The products onto zero, read at an element. -/
theorem product512 {φ₁ φ₂ : FTy} (A : FVec Ideal S512x1024 φ₁) (B : FVec Ideal S1024x512 φ₂) (p : Fin 512) (q : Fin 512) :
    matmul dot_S512x1024_S1024x512_S512x512_1_0_0_1_n_n none A B (constant S512x512 .f32 0x00000000#32) (ix2 p q)
      = dot (row A p) (col B q) := product_apply _ rfl A B p q

theorem product384 {φ₁ φ₂ : FTy} (A : FVec Ideal S512x1024 φ₁) (B : FVec Ideal S1024x384 φ₂) (p : Fin 512) (q : Fin 384) :
    matmul dot_S512x1024_S1024x384_S512x384_1_0_0_1_n_n none A B (constant S512x384 .f32 0x00000000#32) (ix2 p q)
      = dot (row A p) (col B q) := product_apply _ rfl A B p q

/-! ## The turn -/

/-- The tables of 128 columns laid side by side four times. -/
theorem cos_apply (c : FVec Ideal S512x128 .f32) (p : Fin 512) (q : Fin 512) :
    k0_pay7 (F := Ideal) c (ix2 p q) = c (ix2 p ⟨q.val % 128, by omega⟩) := by
  unfold k0_pay7
  simp only [shapeCast_self]
  refine concatenate_ofFn_apply (t := S512x512) (s₁ := S512x128) 1 (N := 4) (fun _ => c) _ rfl 128 rfl (ix2 p q) ⟨q.val / 128, by omega⟩ rfl
    (ix2 p ⟨q.val % 128, by omega⟩) rfl fun b hb => ?_
  match b with
  | ⟨0, _⟩ => rfl
  | ⟨1, _⟩ => exact absurd rfl hb

theorem sin_apply (c : FVec Ideal S512x128 .f32) (p : Fin 512) (q : Fin 512) :
    k0_pay8 (F := Ideal) c (ix2 p q) = c (ix2 p ⟨q.val % 128, by omega⟩) := cos_apply c p q

/-- The mask of the heads' first halves. -/
theorem mask_word : ∀ q : Fin 512, BitVec.ofBool ((BitVec.ofNat 32 q.val &&& 63#32).slt 32#32) = if q.val % 64 < 32 then 1#1 else 0#1 := by
  decide +kernel

theorem mask_apply (p : Fin 512) (q : Fin 512) : k0_pay9 (ix2 p q) = if q.val % 64 < 32 then 1#1 else 0#1 := by
  unfold k0_pay9
  show IntOp.cmpi .slt (iota .tc S512x512 32 [1] iota_S512x512_d1_w32 (ix2 p q) &&& 63#32) 32#32 = _
  rw [iota_single_apply]
  exact mask_word q

/-- The rotations of a block along its columns, taken where the mask takes them: the partner's place. -/
theorem partner_apply (z : FVec Ideal S512x512 .f32) (p : Fin 512) (q : Fin 512) :
    select k0_pay9 (dynamicRotate 1 480#32 none z rotates_S512x512_d1) (dynamicRotate 1 32#32 none z rotates_S512x512_d1) (ix2 p q)
      = if h : q.val % 64 < 32 then z (ix2 p ⟨q.val + 32, by omega⟩) else z (ix2 p ⟨q.val - 32, by omega⟩) := by
  rw [select_apply, mask_apply]
  by_cases h : q.val % 64 < 32
  · rw [if_pos h, dif_pos h, select_one]
    refine dynamicRotate_apply (s := S512x512) 1 _ z _ _ (ix2 p ⟨q.val + 32, by omega⟩) fun b => ?_
    match b with
    | ⟨0, _⟩ => rfl
    | ⟨1, _⟩ => show q.val + 32 = (q.val + 512 - 480 % 512) % 512; omega
  · rw [if_neg h, dif_neg h, select_zero]
    refine dynamicRotate_apply (s := S512x512) 1 _ z _ _ (ix2 p ⟨q.val - 32, by omega⟩) fun b => ?_
    match b with
    | ⟨0, _⟩ => rfl
    | ⟨1, _⟩ => show q.val - 32 = (q.val + 512 - 32 % 512) % 512; omega

/-- The turned queries at an element. -/
theorem query_apply (v : FVec Ideal S512x1024 .bf16) (c s : FVec Ideal S512x128 .f32) (w : FVec Ideal S1024x512 .bf16) (p q : Fin 512) :
    k0_pay28 (F := Ideal) v (k0_pay7 c) (k0_pay8 s) k0_pay9 w (ix2 p q) = turn (fun q => dot (row v p) (col w q)) (row c p) (row s p) q := by
  unfold k0_pay28
  dsimp only
  simp only [shapeCast_self]
  rw [addf_apply, mulf_apply, mulf_apply, partner_apply, product512, cos_apply, sin_apply]
  unfold turn
  split <;> rw [product512]

/-- The turned and scaled keys at an element. -/
theorem key_apply (v : FVec Ideal S512x1024 .bf16) (c s : FVec Ideal S512x128 .f32) (w : FVec Ideal S1024x512 .bf16) (p q : Fin 512) :
    k0_pay1 (F := Ideal) v (k0_pay7 c) (k0_pay8 s) k0_pay9 (k0_pay29 w) (constant S512x512 .f32 0x00000000#32) (ix2 p q)
      = turn (fun q => dot (row v p) (col w q)) (row c p) (row s p) q * keyScale := by
  refine Eq.trans (b := k0_pay28 (F := Ideal) v (k0_pay7 c) (k0_pay8 s) k0_pay9 w (ix2 p q) * keyScale) ?_ (by rw [query_apply])
  unfold k0_pay1 k0_pay28 k0_pay29
  rfl

/-! ## The wide result -/

variable (x0 : FVec Ideal S512x1024 .f32) (x1 : FVec Ideal S1x1024 .f32) (x2 : FVec Ideal S1024x3456 .bf16) (x3 x4 : FVec Ideal S512x128 .f32)

/-- A column of the weight loaded from column `o` on. -/
theorem loaded_col (o : ℕ) (inb : ∀ d, (![0, o] : Fin 2 → ℕ) d + S1024x512.size d ≤ S1024x3456.size d) (q : Fin 512) (h : o + q.val < 3456) :
    col (View.ld (Val := Elt Ideal) (e' := .bf16) x2 (Rect.unit (s := S1024x3456) ![0, o] S1024x512.size inb)) q = col x2 ⟨o + q.val, h⟩ :=
  funext fun k => load_cols (Val := Elt Ideal) (e := .bf16) x2 o inb k q h

/-- The normalised rows of a point's block. -/
theorem rows_of (p : Fin 512) : row (k0_pay30 (F := Ideal) x0 x1 x2 x3 x4) p = normRow (row x0 p) (row x1 0) := by
  unfold k0_pay30
  rw [normed_row, load_whole (Val := Elt Ideal) (e := .f32) x0, load_whole (Val := Elt Ideal) (e := .f32) x1]

/-- A plain column block at an element. -/
theorem plain_apply (o : ℕ) (inb : ∀ d, (![0, o] : Fin 2 → ℕ) d + S1024x512.size d ≤ S1024x3456.size d) (ho : 1024 ≤ o) (ho' : o + 512 ≤ 3072) (p q : Fin 512) :
    k0_pay2 (F := Ideal) (k0_pay30 x0 x1 x2 x3 x4) (View.ld (Val := Elt Ideal) (e' := .bf16) x2 (Rect.unit (s := S1024x3456) ![0, o] S1024x512.size inb)) (ix2 p q)
      = mainLaid (normRow (row x0 p) (row x1 0)) (fun k => row x2 k) (row x3 p) (row x4 p) ⟨o + q.val, by omega⟩ := by
  unfold k0_pay2
  dsimp only
  simp only [shapeCast_self]
  rw [product512, rows_of, loaded_col x2 o inb q (by omega)]
  unfold mainLaid
  rw [dif_neg (show ¬ o + q.val < 512 by omega), dif_neg (show ¬ o + q.val < 1024 by omega)]

/-- An element of a block of columns from column `o` on, as an element of the wide block. -/
theorem emb_cols (o : ℕ) (inb : ∀ d, (![0, o] : Fin 2 → ℕ) d + S512x512.size d ≤ S512x3072.size d) (p q : Fin 512) (h : o + q.val < 3072) :
    (Rect.unit (s := S512x3072) ![0, o] S512x512.size inb).emb (ix2 p q) = ix2 p ⟨o + q.val, h⟩ :=
  ext_ix2 _ _ _ (by show 0 + 1 * p.val = p.val; omega) (by show o + 1 * q.val = o + q.val; omega)

/-- What the point leaves of the wide result, as one function of the element. -/
def wide : S512x3072.Idx → EReal := fun y =>
  mainLaid (normRow (row x0 (y 0)) (row x1 0)) (fun k => row x2 k) (row x3 (y 0)) (row x4 (y 0)) (y 1)

theorem plain_piece (o : ℕ) (inb : ∀ d, (![0, o] : Fin 2 → ℕ) d + S1024x512.size d ≤ S1024x3456.size d)
    (inb' : ∀ d, (![0, o] : Fin 2 → ℕ) d + S512x512.size d ≤ S512x3072.size d) (ho : 1024 ≤ o) (ho' : o + 512 ≤ 3072) (x : S512x512.Idx) :
    k0_pay2 (F := Ideal) (k0_pay30 x0 x1 x2 x3 x4) (View.ld (Val := Elt Ideal) (e' := .bf16) x2 (Rect.unit (s := S1024x3456) ![0, o] S1024x512.size inb)) x
      = wide x0 x1 x2 x3 x4 ((Rect.unit (s := S512x3072) ![0, o] S512x512.size inb').emb x) := by
  obtain ⟨p, q, rfl⟩ : ∃ p q, x = ix2 p q := ⟨x 0, x 1, eq_ix2 x⟩
  rw [emb_cols o inb' p q (by have := q.isLt; omega)]
  exact plain_apply x0 x1 x2 x3 x4 o inb ho ho' p q

theorem query_piece (inb : ∀ d, (![0, 0] : Fin 2 → ℕ) d + S1024x512.size d ≤ S1024x3456.size d)
    (inb' : ∀ d, (![0, 0] : Fin 2 → ℕ) d + S512x512.size d ≤ S512x3072.size d) (x : S512x512.Idx) :
    k0_pay28 (F := Ideal) (k0_pay30 x0 x1 x2 x3 x4) (k0_pay7 x3) (k0_pay8 x4) k0_pay9 (View.ld (Val := Elt Ideal) (e' := .bf16) x2 (Rect.unit (s := S1024x3456) ![0, 0] S1024x512.size inb)) x
      = wide x0 x1 x2 x3 x4 ((Rect.unit (s := S512x3072) ![0, 0] S512x512.size inb').emb x) := by
  obtain ⟨p, q, rfl⟩ : ∃ p q, x = ix2 p q := ⟨x 0, x 1, eq_ix2 x⟩
  rw [emb_cols 0 inb' p q (by have := q.isLt; omega), query_apply, rows_of]
  refine Eq.trans ?_ (Eq.symm (dif_pos (show 0 + q.val < 512 by have := q.isLt; omega)))
  have e : ∀ r : Fin 512, col (View.ld (Val := Elt Ideal) (e' := .bf16) x2 (Rect.unit (s := S1024x3456) ![0, 0] S1024x512.size inb)) r = col x2 ⟨r.val, by omega⟩ := fun r =>
    (loaded_col x2 0 inb r (by omega)).trans (by simp only [Nat.zero_add])
  simp only [e]
  exact congrArg _ (Fin.ext (Nat.zero_add _).symm)

theorem key_piece (inb : ∀ d, (![0, 512] : Fin 2 → ℕ) d + S1024x512.size d ≤ S1024x3456.size d)
    (inb' : ∀ d, (![0, 512] : Fin 2 → ℕ) d + S512x512.size d ≤ S512x3072.size d) (x : S512x512.Idx) :
    k0_pay1 (F := Ideal) (k0_pay30 x0 x1 x2 x3 x4) (k0_pay7 x3) (k0_pay8 x4) k0_pay9 (k0_pay29 (View.ld (Val := Elt Ideal) (e' := .bf16) x2 (Rect.unit (s := S1024x3456) ![0, 512] S1024x512.size inb))) (constant S512x512 .f32 0x00000000#32) x
      = wide x0 x1 x2 x3 x4 ((Rect.unit (s := S512x3072) ![0, 512] S512x512.size inb').emb x) := by
  obtain ⟨p, q, rfl⟩ : ∃ p q, x = ix2 p q := ⟨x 0, x 1, eq_ix2 x⟩
  rw [emb_cols 512 inb' p q (by have := q.isLt; omega), key_apply, rows_of]
  refine Eq.trans ?_ (Eq.symm ((dif_neg (show ¬ 512 + q.val < 512 by omega)).trans (dif_pos (show 512 + q.val < 1024 by have := q.isLt; omega))))
  have e : ∀ r : Fin 512, col (View.ld (Val := Elt Ideal) (e' := .bf16) x2 (Rect.unit (s := S1024x3456) ![0, 512] S1024x512.size inb)) r = col x2 ⟨512 + r.val, by omega⟩ := fun r =>
    loaded_col x2 512 inb r (by omega)
  simp only [e]
  have hq : q = ⟨512 + q.val - 512, by have := q.isLt; omega⟩ := Fin.ext (by show q.val = 512 + q.val - 512; omega)
  exact congrArg (fun i => turn (fun r => dot (normRow (row x0 p) (row x1 0)) (col x2 ⟨512 + r.val, by omega⟩)) (row x3 p) (row x4 p) i * keyScale) hq

/-- THE WIDE BLOCK. -/
theorem wide_apply (p : Fin 512) (n : Fin 3072) : out0_5 (F := Ideal) x0 x1 x2 x3 x4 (ix2 p n)
    = mainLaid (normRow (row x0 p) (row x1 0)) (fun k => row x2 k) (row x3 p) (row x4 p) n := by
  unfold out0_5
  have h3 : k0_pay31 (F := Ideal) x0 x1 x2 x3 x4 = k0_pay7 x3 := by
    unfold k0_pay31; rw [load_whole (Val := Elt Ideal) (e := .f32) x3]
  have h4 : k0_pay32 (F := Ideal) x0 x1 x2 x3 x4 = k0_pay8 x4 := by
    unfold k0_pay32; rw [load_whole (Val := Elt Ideal) (e := .f32) x4]
  rw [h3, h4]
  refine View.canon_apply_of_pieces (wide x0 x1 x2 x3 x4) _ ?_ (ix2 p n) (cover0_5 (F := Ideal) _ _ _ _ _ _ _)
  intro pc hpc
  rcases List.mem_cons.mp hpc with rfl | hpc
  · exact fun x => plain_piece x0 x1 x2 x3 x4 2560 inb_S1024x3456_S1024x512_0_2560 inb_S512x3072_S512x512_0_2560 (by omega) (by omega) x
  rcases List.mem_cons.mp hpc with rfl | hpc
  · exact fun x => plain_piece x0 x1 x2 x3 x4 2048 inb_S1024x3456_S1024x512_0_2048 inb_S512x3072_S512x512_0_2048 (by omega) (by omega) x
  rcases List.mem_cons.mp hpc with rfl | hpc
  · exact fun x => plain_piece x0 x1 x2 x3 x4 1536 inb_S1024x3456_S1024x512_0_1536 inb_S512x3072_S512x512_0_1536 (by omega) (by omega) x
  rcases List.mem_cons.mp hpc with rfl | hpc
  · exact fun x => plain_piece x0 x1 x2 x3 x4 1024 inb_S1024x3456_S1024x512_0_1024 inb_S512x3072_S512x512_0_1024 (by omega) (by omega) x
  rcases List.mem_cons.mp hpc with rfl | hpc
  · exact fun x => key_piece x0 x1 x2 x3 x4 inb_S1024x3456_S1024x512_0_512 inb_S512x3072_S512x512_0_512 x
  rcases List.mem_cons.mp hpc with rfl | hpc
  · exact fun x => query_piece x0 x1 x2 x3 x4 inb_S1024x3456_S1024x512_0_0 inb_S512x3072_S512x512_0_0 x
  nomatch hpc

/-! ## The keys, the values, the index keys and weights -/

/-- The last 384 columns of the product at an element. -/
theorem tail_apply (p : Fin 512) (q : Fin 384) :
    k0_pay10 (F := Ideal) (View.ld x0 r0_0) (View.ld x1 r0_1) (View.ld x2 r0_3) (ix2 p q)
      = dot (normRow (row x0 p) (row x1 0)) fun k => x2 (ix2 k ⟨3072 + q.val, by omega⟩) := by
  unfold k0_pay10
  simp only [shapeCast_self]
  rw [product384, normed_row, load_whole (Val := Elt Ideal) (e := .f32) x0, load_whole (Val := Elt Ideal) (e := .f32) x1]
  exact congrArg (dot _) (funext fun k => load_cols (Val := Elt Ideal) (e := .bf16) x2 3072 _ k q (by omega))

/-- Key head `h`, place `i`. -/
theorem keys_apply (p : Fin 512) (h : Fin 2) (i : Fin 64) : out0_6 (F := Ideal) x0 x1 x2 x3 x4 (ix3 p h i)
    = dot (normRow (row x0 p) (row x1 0)) fun k => x2 (ix2 k ⟨3072 + (h.val * 64 + i.val), by omega⟩) := by
  unfold out0_6 k0_pay34
  refine (Cert.InProjIdeal.Value.canon6_eq (F := Ideal) _ _ _ (ix3 p h i)).trans ?_
  show k0_pay10 (F := Ideal) (View.ld x0 r0_0) (View.ld x1 r0_1) (View.ld x2 r0_3) (Cert.InProjIdeal.Value.ix6_0 (ix3 p h i)) = _
  rw [show Cert.InProjIdeal.Value.ix6_0 (ix3 p h i) = ix2 p ⟨h.val * 64 + i.val, by omega⟩ from ext_ix2 _ _ _ rfl rfl]
  exact tail_apply x0 x1 x2 p ⟨h.val * 64 + i.val, by omega⟩

/-- Value head `h`, place `i`. -/
theorem values_apply (p : Fin 512) (h : Fin 2) (i : Fin 64) : out0_7 (F := Ideal) x0 x1 x2 x3 x4 (ix3 p h i)
    = dot (normRow (row x0 p) (row x1 0)) fun k => x2 (ix2 k ⟨3072 + (h.val * 64 + i.val + 128), by omega⟩) := by
  unfold out0_7 k0_pay35
  refine (Cert.InProjIdeal.Value.canon7_eq (F := Ideal) _ _ _ (ix3 p h i)).trans ?_
  show k0_pay10 (F := Ideal) (View.ld x0 r0_0) (View.ld x1 r0_1) (View.ld x2 r0_3) (Cert.InProjIdeal.Value.ix7_0 (ix3 p h i)) = _
  rw [show Cert.InProjIdeal.Value.ix7_0 (ix3 p h i) = ix2 p ⟨h.val * 64 + i.val + 128, by omega⟩ from ext_ix2 _ _ _ rfl rfl]
  exact tail_apply x0 x1 x2 p ⟨h.val * 64 + i.val + 128, by omega⟩

/-- The index keys. -/
theorem index_keys_apply (p : Fin 512) (i : Fin 64) : out0_8 (F := Ideal) x0 x1 x2 x3 x4 (ix2 p i)
    = dot (normRow (row x0 p) (row x1 0)) fun k => x2 (ix2 k ⟨3072 + (i.val + 256), by omega⟩) := by
  unfold out0_8 k0_pay36
  refine (Cert.InProjIdeal.Value.canon8_eq (F := Ideal) _ _ _ (ix2 p i)).trans ?_
  show k0_pay10 (F := Ideal) (View.ld x0 r0_0) (View.ld x1 r0_1) (View.ld x2 r0_3) (Cert.InProjIdeal.Value.ix8_0 (ix2 p i)) = _
  rw [show Cert.InProjIdeal.Value.ix8_0 (ix2 p i) = ix2 p ⟨i.val + 256, by omega⟩ from ext_ix2 _ _ _ rfl rfl]
  exact tail_apply x0 x1 x2 p ⟨i.val + 256, by omega⟩

/-- The index keys, the weights of the index heads and the padding. -/
theorem index_weights_apply (p : Fin 512) (i : Fin 128) : out0_9 (F := Ideal) x0 x1 x2 x3 x4 (ix2 p i)
    = dot (normRow (row x0 p) (row x1 0)) fun k => x2 (ix2 k ⟨3072 + (i.val + 256), by omega⟩) := by
  unfold out0_9 k0_pay36
  refine (Cert.InProjIdeal.Value.canon9_eq (F := Ideal) _ _ _ (ix2 p i)).trans ?_
  show k0_pay10 (F := Ideal) (View.ld x0 r0_0) (View.ld x1 r0_1) (View.ld x2 r0_3) (Cert.InProjIdeal.Value.ix9_0 (ix2 p i)) = _
  rw [show Cert.InProjIdeal.Value.ix9_0 (ix2 p i) = ix2 p ⟨i.val + 256, by omega⟩ from ext_ix2 _ _ _ rfl rfl]
  exact tail_apply x0 x1 x2 p ⟨i.val + 256, by omega⟩

end Cert.Layer.InProjBlock

end
-- ==== Proof.InProj.Host.lean ====
/- What the host prepares for the first call: the weight's columns laid out anew, the gains as one row, and the tables of
   cosines and signed sines repeated over 128 columns. -/
module

public import proofs.«01_k».proof.Proof.Common.Blocks
public import proofs.«01_k».proof.Proof.Common.Index
public import proofs.«01_k».proof.Proof.InProj.Spec
public import proofs.«01_k».proof.Proof.Gen.InProjIdeal.Value
public import proofs.«01_k».proof.Proof.Gen.InProjReferenceIdeal.Read

@[expose] public section

noncomputable section

namespace Cert.Layer.InProjHost

open Cert.InProjIdeal Cert.InProjIdeal.Gen Idealize.ShloMosaic Idealize.ShloMosaic.ValueIdx Idealize.ShloMosaic.TcCoe

/-! ## The weight -/

/-- The zeros after the last column. -/
abbrev zeros : S1024x56.Idx → EReal := broadcastInDim S1024x56 ![] bcast_S_S1024x56 (constant (F := Ideal) S_ .f32 0x00000000#32)

/-- The pieces the host lays side by side: cuts of the weight's columns, and zeros. -/
abbrev pieces (W : S1024x3400.Idx → EReal) : List ((s : Shape) × (s.Idx → EReal)) :=
  [⟨S1024x512, extractStridedSlice S1024x512 ![0, 0] W slices_S1024x3400_S1024x512_0_0⟩,
    ⟨S1024x512, extractStridedSlice S1024x512 ![0, 512] W slices_S1024x3400_S1024x512_0_512⟩,
    ⟨S1024x512, extractStridedSlice S1024x512 ![0, 1024] W slices_S1024x3400_S1024x512_0_1024⟩,
    ⟨S1024x512, extractStridedSlice S1024x512 ![0, 1536] W slices_S1024x3400_S1024x512_0_1536⟩,
    ⟨S1024x512, extractStridedSlice S1024x512 ![0, 2048] W slices_S1024x3400_S1024x512_0_2048⟩,
    ⟨S1024x512, extractStridedSlice S1024x512 ![0, 2816] W slices_S1024x3400_S1024x512_0_2816⟩,
    ⟨S1024x128, extractStridedSlice S1024x128 ![0, 2560] W slices_S1024x3400_S1024x128_0_2560⟩,
    ⟨S1024x128, extractStridedSlice S1024x128 ![0, 2688] W slices_S1024x3400_S1024x128_0_2688⟩,
    ⟨S1024x64, extractStridedSlice S1024x64 ![0, 3328] W slices_S1024x3400_S1024x64_0_3328⟩,
    ⟨S1024x8, extractStridedSlice S1024x8 ![0, 3392] W slices_S1024x3400_S1024x8_0_3392⟩,
    ⟨S1024x56, zeros⟩]

/-- The laid out weight as the host's concatenation. -/
def laidArr (W : S1024x3400.Idx → EReal) : S1024x3456.Idx → EReal :=
  concatenate S1024x3456 1 (pieces W)
    concatenates_S1024x512_S1024x512_S1024x512_S1024x512_S1024x512_S1024x512_S1024x128_S1024x128_S1024x64_S1024x8_S1024x56_S1024x3456_d1

/-- The laid out weight inside piece `i`, which is `w` columns wide and starts at column `o`. -/
theorem laidArr_piece (W : S1024x3400.Idx → EReal) (k : Fin 1024) (n : Fin 3456) (i : ℕ) (hi : i < 11) (w o : ℕ)
    (X : (⟨2, ![1024, w]⟩ : Shape).Idx → EReal) (hp : (pieces W)[i]'hi = ⟨⟨2, ![1024, w]⟩, X⟩)
    (hpre : ((((pieces W).take i).map (·.1)).map fun s => if h : s.rank = S1024x3456.rank then s.size ((1 : Fin S1024x3456.rank).cast h.symm) else 0).sum = o)
    (j : Fin w) (hn : o + j.val = n.val) : laidArr W (ix2 k n) = X (ix2 k j) :=
  beside_apply (pieces W) _ i hi w o X hp hpre k n j hn

/-- The laid out weight inside piece `i`, a cut of the weight from its column `fr` on. -/
theorem laidArr_cut (W : S1024x3400.Idx → EReal) (k : Fin 1024) (n : Fin 3456) (i : ℕ) (hi : i < 11) (w o fr : ℕ)
    (hs : S1024x3400.Slices ![0, fr] ⟨2, ![1024, w]⟩)
    (hp : (pieces W)[i]'hi = ⟨⟨2, ![1024, w]⟩, extractStridedSlice ⟨2, ![1024, w]⟩ ![0, fr] W hs⟩)
    (hpre : ((((pieces W).take i).map (·.1)).map fun s => if h : s.rank = S1024x3456.rank then s.size ((1 : Fin S1024x3456.rank).cast h.symm) else 0).sum = o)
    (h0 : o ≤ n.val) (h1 : n.val < o + w) (n' : Fin 3400) (hn : n'.val + o = n.val + fr) : laidArr W (ix2 k n) = W (ix2 k n') := by
  refine (laidArr_piece W k n i hi w o _ hp hpre ⟨n.val - o, by omega⟩ (by show o + (n.val - o) = n.val; omega)).trans
    (extractStridedSlice_apply _ W hs (ix2 k _) (ix2 k n') fun a => ?_)
  match a with
  | ⟨0, _⟩ => exact (Nat.zero_add _).symm
  | ⟨1, _⟩ => show n'.val = fr + (n.val - o); omega

/-- The laid out weight after its last cut. -/
theorem laidArr_zeros (W : S1024x3400.Idx → EReal) (k : Fin 1024) (n : Fin 3456) (j : Fin 56) (hn : 3400 + j.val = n.val) :
    laidArr W (ix2 k n) = zeros (ix2 k j) :=
  laidArr_piece W k n 10 (by decide) 56 3400 zeros rfl rfl j hn

/-- The laid out weight read at an element. -/
theorem laidArr_apply (W : S1024x3400.Idx → EReal) (k : Fin 1024) (n : Fin 3456) :
    laidArr W (ix2 k n) = laid (fun j => W (ix2 k j)) n := by
  have hn := n.isLt
  unfold laid
  split_ifs with h0 h1 h2 h3
  · by_cases a1 : n.val < 512
    · exact laidArr_cut W k n 0 (by omega) 512 0 0 _ rfl rfl (by omega) (by omega) _ rfl
    by_cases a2 : n.val < 1024
    · exact laidArr_cut W k n 1 (by omega) 512 512 512 _ rfl rfl (by omega) (by omega) _ rfl
    by_cases a3 : n.val < 1536
    · exact laidArr_cut W k n 2 (by omega) 512 1024 1024 _ rfl rfl (by omega) (by omega) _ rfl
    by_cases a4 : n.val < 2048
    · exact laidArr_cut W k n 3 (by omega) 512 1536 1536 _ rfl rfl (by omega) (by omega) _ rfl
    · exact laidArr_cut W k n 4 (by omega) 512 2048 2048 _ rfl rfl (by omega) (by omega) _ rfl
  · exact laidArr_cut W k n 5 (by omega) 512 2560 2816 _ rfl rfl (by omega) (by omega) _ (by show n.val + 256 + 2560 = n.val + 2816; omega)
  · by_cases a1 : n.val < 3200
    · exact laidArr_cut W k n 6 (by omega) 128 3072 2560 _ rfl rfl (by omega) (by omega) _ (by show n.val - 512 + 3072 = n.val + 2560; omega)
    · exact laidArr_cut W k n 7 (by omega) 128 3200 2688 _ rfl rfl (by omega) (by omega) _ (by show n.val - 512 + 3200 = n.val + 2688; omega)
  · by_cases a1 : n.val < 3392
    · exact laidArr_cut W k n 8 (by omega) 64 3328 3328 _ rfl rfl (by omega) (by omega) _ rfl
    · exact laidArr_cut W k n 9 (by omega) 8 3392 3392 _ rfl rfl (by omega) (by omega) _ rfl
  · refine (laidArr_zeros W k n ⟨n.val - 3400, by omega⟩ (by show 3400 + (n.val - 3400) = n.val; omega)).trans ?_
    exact (broadcastInDim_scalar_apply _ _ _).trans Ideal.ofBits_zero_f32

/-! ## The tables -/

/-- The cosines and the sines of the positions' angles. -/
abbrev cosTab : S8192x32.Idx → EReal := Cert.InProjReferenceIdeal.Read.val_main_v38 (F := Ideal)
abbrev sinTab : S8192x32.Idx → EReal := Cert.InProjReferenceIdeal.Read.val_main_v40 (F := Ideal)

/-- Two tables of 32 columns side by side, repeated to 128 columns. -/
def tile (a b : S8192x32.Idx → EReal) : S8192x128.Idx → EReal :=
  shapeCast S8192x128 (broadcastInDim S1x8192x2x64 ![0, 1, 2, 3] bcast_S1x8192x1x64_S1x8192x2x64_0_1_2_3
    (shapeCast S1x8192x1x64 (concatenate S8192x64 1 [⟨S8192x32, a⟩, ⟨S8192x32, b⟩] concatenates_S8192x32_S8192x32_S8192x64_d1)
      shapeCasts_S8192x64_S1x8192x1x64)) shapeCasts_S1x8192x2x64_S8192x128

theorem tile_apply (a b : S8192x32.Idx → EReal) (t : Fin 8192) (l : Fin 128) :
    tile a b (ix2 t l) = if l.val % 64 < 32 then a (ix2 t (angle l)) else b (ix2 t (angle l)) := by
  unfold tile
  have hl := l.isLt
  rw [shapeCast_apply _ _ (ix2 t l) (ix4 (0 : Fin 1) t (⟨l.val / 64, by omega⟩ : Fin 2) (⟨l.val % 64, by omega⟩ : Fin 64)) (by
    rw [Shape.rowMajor_val_four, Shape.rowMajor_val_two]
    show ((0 * 8192 + t.val) * 2 + l.val / 64) * 64 + l.val % 64 = t.val * 128 + l.val
    omega)]
  rw [broadcastInDim_apply (s := S1x8192x1x64) (t := S1x8192x2x64) _ _ _ (ix4 (0 : Fin 1) t (⟨l.val / 64, by omega⟩ : Fin 2) (⟨l.val % 64, by omega⟩ : Fin 64))
    (ix4 (0 : Fin 1) t (0 : Fin 1) (⟨l.val % 64, by omega⟩ : Fin 64)) (fun d => by
      match d with
      | ⟨0, _⟩ => rfl
      | ⟨1, _⟩ => rfl
      | ⟨2, _⟩ => rfl
      | ⟨3, _⟩ => rfl)]
  rw [shapeCast_apply _ _ (ix4 (0 : Fin 1) t (0 : Fin 1) (⟨l.val % 64, by omega⟩ : Fin 64)) (ix2 t (⟨l.val % 64, by omega⟩ : Fin 64)) (by
    rw [Shape.rowMajor_val_four, Shape.rowMajor_val_two]
    show t.val * 64 + l.val % 64 = ((0 * 8192 + t.val) * 1 + 0) * 64 + l.val % 64
    omega)]
  by_cases h : l.val % 64 < 32
  · rw [if_pos h]
    refine concatenate_pair_apply_left (s₁ := S8192x32) (s₂ := S8192x32) (t := S8192x64) 1 a b _ _ rfl (ix2 t (angle l)) fun d => ?_
    match d with
    | ⟨0, _⟩ => rfl
    | ⟨1, _⟩ => show l.val % 32 = l.val % 64; omega
  · rw [if_neg h]
    refine concatenate_pair_apply_right (s₁ := S8192x32) (s₂ := S8192x32) (t := S8192x64) 1 a b _ _ rfl rfl (ix2 t (angle l)) (fun d hd => ?_) ?_
    · match d with
      | ⟨0, _⟩ => rfl
      | ⟨1, _⟩ => exact absurd rfl hd
    · show l.val % 32 + 32 = l.val % 64; omega

/-! ## What the region finds -/

variable (m : (ℓ : Loc nD τ sig) → Buf (Elt Ideal) ℓ) (c : Dev nD)

theorem entry_g : (V m c main_v24 : S1x1024.Idx → EReal) = shapeCast S1x1024 (m ((c : Thread nD τ).loc main_arg2)) shapeCasts_S1024_S1x1024 := by
  unfold V; after_results_simp <;> rfl

theorem entry_w : (V m c main_v37 : S1024x3456.Idx → EReal) = laidArr (m ((c : Thread nD τ).loc main_arg1)) := by
  unfold V; after_results_simp <;> (try dsimp only [Matrix.cons_val]) <;> (try after_results_simp) <;> rfl

theorem entry_cos : (V m c main_v20 : S8192x128.Idx → EReal) = tile cosTab cosTab := by
  unfold V; after_results_simp <;> (try dsimp only [Matrix.cons_val]) <;> (try after_results_simp) <;> rfl

theorem entry_sin : (V m c main_v23 : S8192x128.Idx → EReal) = tile (negf (F := Ideal) (φ := .f32) sinTab) sinTab := by
  unfold V; after_results_simp <;> (try dsimp only [Matrix.cons_val]) <;> (try after_results_simp) <;> rfl

end Cert.Layer.InProjHost

end
-- ==== Proof.InProj.Array.lean ====
/- The arrays the idealized first call leaves, read at an element: row `r` is written by grid point `r / 512`, from row `r`
   of the residual and the angles of position `r % 8192`. -/
module

public import proofs.«01_k».proof.Proof.InProj.Block
public import proofs.«01_k».proof.Proof.InProj.Host

@[expose] public section

noncomputable section

namespace Cert.Layer.InProjArray

open Cert.InProjIdeal Cert.InProjIdeal.Gen Cert.InProjIdeal.Value Idealize.ShloMosaic Idealize.ShloMosaic.ValueIdx Idealize.ShloMosaic.TcCoe
open Idealize.ShloMosaic.Pipeline (Dat Window)
open Cert.Layer.InProjBlock (row)
open Cert.Layer.InProjHost
open scoped BigOperators

variable (m : (ℓ : Loc nD τ sig) → Buf (Elt Ideal) ℓ) (c : Dev nD)

/-! ## Where the windows' blocks lie -/

theorem place_rows : ∀ t : Fin cfg0.N, (win0_0.index t 0 = t.val ∧ win0_0.index t 1 = 0) ∧ (win0_3.index t 0 = t.val % 16 ∧ win0_3.index t 1 = 0)
    ∧ (win0_4.index t 0 = t.val % 16 ∧ win0_4.index t 1 = 0) := by
  decide +kernel

theorem place_whole : ∀ t : Fin cfg0.N, (win0_1.index t 0 = 0 ∧ win0_1.index t 1 = 0) ∧ (win0_2.index t 0 = 0 ∧ win0_2.index t 1 = 0) := by
  decide +kernel

theorem place_out : ∀ t : Fin cfg0.N, (win0_5.index t 0 = t.val ∧ win0_5.index t 1 = 0) ∧ (win0_6.index t 0 = t.val ∧ win0_6.index t 1 = 0 ∧ win0_6.index t 2 = 0)
    ∧ (win0_7.index t 0 = t.val ∧ win0_7.index t 1 = 0 ∧ win0_7.index t 2 = 0) ∧ (win0_8.index t 0 = t.val ∧ win0_8.index t 1 = 0)
    ∧ (win0_9.index t 0 = t.val ∧ win0_9.index t 1 = 0) := by
  decide +kernel

/-- The row of the whole arrays that is row `p` of the blocks of point `t`. -/
abbrev rowOf (t : Fin cfg0.N) (p : Fin 512) : Fin 32768 := ⟨t.val * 512 + p.val, by have := t.isLt; have : cfg0.N = 64 := N_0; omega⟩

/-- The position in its sequence of a row. -/
abbrev posOf (r : Fin 32768) : Fin 8192 := ⟨r.val % 8192, by omega⟩

theorem block_x (t : Fin cfg0.N) (p : Fin 512) (k : Fin 1024) :
    iblk m c 0 t (ix2 p k) = m ((c : Thread nD τ).loc main_arg0) (ix2 (rowOf t p) k) := by
  unfold iblk
  rw [View.read_apply]
  show V m c main_arg0 _ = _
  rw [V_main_arg0]
  refine congrArg _ (ext_ix2 _ _ _ ?_ ?_)
  · exact (Window.rect_emb_val (cfg0.win 0) t (ix2 p k) 0).trans (by rw [show (cfg0.win 0).index t 0 = t.val from (place_rows t).1.1]; rfl)
  · exact (Window.rect_emb_val (cfg0.win 0) t (ix2 p k) 1).trans (by rw [show (cfg0.win 0).index t 1 = 0 from (place_rows t).1.2]; exact (congrArg (· + k.val) (Nat.zero_mul _)).trans (Nat.zero_add _))

theorem block_g (t : Fin cfg0.N) (p : Fin 1) (k : Fin 1024) :
    iblk m c 1 t (ix2 p k) = m ((c : Thread nD τ).loc main_arg2) (ix1 k) := by
  unfold iblk
  rw [View.read_apply]
  show V m c main_v24 _ = _
  refine (congrArg (V m c main_v24) (ext_ix2 _ p k ?_ ?_)).trans ((congrFun (entry_g m c) (ix2 p k)).trans (shapeCast_a_1a_apply _ _ p k))
  · exact (Window.rect_emb_val (cfg0.win 1) t (ix2 p k) 0).trans (by rw [show (cfg0.win 1).index t 0 = 0 from (place_whole t).1.1]; exact (congrArg (· + p.val) (Nat.zero_mul _)).trans (Nat.zero_add _))
  · exact (Window.rect_emb_val (cfg0.win 1) t (ix2 p k) 1).trans (by rw [show (cfg0.win 1).index t 1 = 0 from (place_whole t).1.2]; exact (congrArg (· + k.val) (Nat.zero_mul _)).trans (Nat.zero_add _))

theorem block_w (t : Fin cfg0.N) (p : Fin 1024) (k : Fin 3456) :
    iblk m c 2 t (ix2 p k) = laid (row (m ((c : Thread nD τ).loc main_arg1)) p) k := by
  unfold iblk
  rw [View.read_apply]
  show V m c main_v37 _ = _
  refine (congrArg (V m c main_v37) (ext_ix2 _ p k ?_ ?_)).trans ((congrFun (entry_w m c) (ix2 p k)).trans (laidArr_apply _ p k))
  · exact (Window.rect_emb_val (cfg0.win 2) t (ix2 p k) 0).trans (by rw [show (cfg0.win 2).index t 0 = 0 from (place_whole t).2.1]; exact (congrArg (· + p.val) (Nat.zero_mul _)).trans (Nat.zero_add _))
  · exact (Window.rect_emb_val (cfg0.win 2) t (ix2 p k) 1).trans (by rw [show (cfg0.win 2).index t 1 = 0 from (place_whole t).2.2]; exact (congrArg (· + k.val) (Nat.zero_mul _)).trans (Nat.zero_add _))

theorem block_cos (t : Fin cfg0.N) (p : Fin 512) (k : Fin 128) : iblk m c 3 t (ix2 p k)
    = cosTab (ix2 (posOf (rowOf t p)) (angle k)) := by
  unfold iblk
  rw [View.read_apply]
  show V m c main_v20 _ = _
  refine (congrArg (V m c main_v20) (ext_ix2 _ (posOf (rowOf t p)) k ?_ ?_)).trans ((congrFun (entry_cos m c) (ix2 (posOf (rowOf t p)) k)).trans ((tile_apply _ _ _ k).trans (ite_self _)))
  · refine (Window.rect_emb_val (cfg0.win 3) t (ix2 p k) 0).trans ?_
    rw [show (cfg0.win 3).index t 0 = t.val % 16 from (place_rows t).2.1.1]
    show t.val % 16 * 512 + p.val = (t.val * 512 + p.val) % 8192
    have := p.isLt
    omega
  · exact (Window.rect_emb_val (cfg0.win 3) t (ix2 p k) 1).trans (by rw [show (cfg0.win 3).index t 1 = 0 from (place_rows t).2.1.2]; exact (congrArg (· + k.val) (Nat.zero_mul _)).trans (Nat.zero_add _))

theorem block_sin (t : Fin cfg0.N) (p : Fin 512) (k : Fin 128) : iblk m c 4 t (ix2 p k)
    = if k.val % 64 < 32 then -(sinTab (ix2 (posOf (rowOf t p)) (angle k))) else sinTab (ix2 (posOf (rowOf t p)) (angle k)) := by
  unfold iblk
  rw [View.read_apply]
  show V m c main_v23 _ = _
  refine (congrArg (V m c main_v23) (ext_ix2 _ (posOf (rowOf t p)) k ?_ ?_)).trans ((congrFun (entry_sin m c) (ix2 (posOf (rowOf t p)) k)).trans ((tile_apply _ _ _ k).trans rfl))
  · refine (Window.rect_emb_val (cfg0.win 4) t (ix2 p k) 0).trans ?_
    rw [show (cfg0.win 4).index t 0 = t.val % 16 from (place_rows t).2.2.1]
    show t.val % 16 * 512 + p.val = (t.val * 512 + p.val) % 8192
    have := p.isLt
    omega
  · exact (Window.rect_emb_val (cfg0.win 4) t (ix2 p k) 1).trans (by rw [show (cfg0.win 4).index t 1 = 0 from (place_rows t).2.2.2]; exact (congrArg (· + k.val) (Nat.zero_mul _)).trans (Nat.zero_add _))

/-! ## The rows the body works with -/

/-- Row `r` of the residual, normalised. -/
def normedRow (r : Fin 32768) : Row 1024 :=
  normRow (row (m ((c : Thread nD τ).loc main_arg0)) r) fun k => m ((c : Thread nD τ).loc main_arg2) (ix1 k)

/-- The weight, row by row. -/
def weight : Fin 1024 → Row 3400 := fun k => row (m ((c : Thread nD τ).loc main_arg1)) k

theorem normed_at (t : Fin cfg0.N) (p : Fin 512) : normRow (row (iblk m c 0 t) p) (row (iblk m c 1 t) 0) = normedRow m c (rowOf t p) :=
  congrArg₂ normRow (funext fun k => block_x m c t p k) (funext fun k => block_g m c t 0 k)

theorem weight_at (t : Fin cfg0.N) : (fun k => row (iblk m c 2 t) k) = fun k => laid (weight m c k) :=
  funext fun p => funext fun k => block_w m c t p k

theorem weight_col_at (t : Fin cfg0.N) (n : Fin 3456) : (fun k => iblk m c 2 t (ix2 k n)) = fun k => laid (weight m c k) n :=
  funext fun p => block_w m c t p n

/-- The row of every index of the arrays: point and row of its block. -/
theorem rowOf_surj (r : Fin 32768) : ∃ (t : Fin cfg0.N) (p : Fin 512), rowOf t p = r := by
  have hr := r.isLt
  exact ⟨⟨r.val / 512, by rw [show cfg0.N = 64 from N_0]; omega⟩, ⟨r.val % 512, by omega⟩,
    Fin.ext (by show r.val / 512 * 512 + r.val % 512 = r.val; omega)⟩

/-! ## The wide result -/

/-- The wide result at row `r`. -/
def wideAt (r : Fin 32768) : Row 3072 :=
  mainRow (normedRow m c r) (weight m c) (row cosTab (posOf r)) (row sinTab (posOf r))

theorem place5 (t : Fin cfg0.N) (p : Fin 512) (q : Fin 3072) : ((cfg0.win 5).blk t).view.emb (ix2 p q) = ix2 (rowOf t p) q := by
  refine ext_ix2 _ (rowOf t p) q ?_ ?_
  · refine (Window.rect_emb_val (cfg0.win 5) t (ix2 p q) 0).trans ?_
    rw [show (cfg0.win 5).index t 0 = t.val from (place_out t).1.1]
    rfl
  · refine (Window.rect_emb_val (cfg0.win 5) t (ix2 p q) 1).trans ?_
    rw [show (cfg0.win 5).index t 1 = 0 from (place_out t).1.2]
    exact (congrArg (· + q.val) (Nat.zero_mul _)).trans (Nat.zero_add _)

theorem written5 (t : Fin cfg0.N) (p : Fin 512) (q : Fin 3072) : (dats m 0 c).flushed 5 t (ix2 p q)
    = mainLaid (normRow (row (iblk m c 0 t) p) (row (iblk m c 1 t) 0)) (fun k => row (iblk m c 2 t) k) (row (iblk m c 3 t) p) (row (iblk m c 4 t) p) q := by
  rw [flushed5]
  exact InProjBlock.wide_apply _ _ _ _ _ p q

theorem written_value5 (t : Fin cfg0.N) (p : Fin 512) (q : Fin 3072) : (dats m 0 c).flushed 5 t (ix2 p q) = wideAt m c (rowOf t p) q := by
  rw [written5, normed_at, weight_at]
  exact congrFun (mainLaid_eq _ _ (row cosTab (posOf (rowOf t p))) (row sinTab (posOf (rowOf t p))) _ _ (fun l => block_cos m c t p l) fun l => block_sin m c t p l) q

theorem wide_result (r : Fin 32768) (q : Fin 3072) : (dats m 0 c).arrAt 5 cfg0.N (ix2 r q) = wideAt m c r q := by
  obtain ⟨t, p, hr⟩ := rowOf_surj r
  subst hr
  have h := (dats m 0 c).arrAt_emb_eq_flushed 5 disjoint5 t (flush0_5 t) (ix2 p q)
  rw [place5] at h
  exact h.trans (written_value5 m c t p q)

/-! ## The narrow results -/

/-- Row `r` against column `n` of the weight as given. -/
def column (r : Fin 32768) (n : Fin 3400) : EReal := dot (normedRow m c r) fun k => weight m c k n

theorem place6 (t : Fin cfg0.N) (p : Fin 512) (h : Fin 2) (i : Fin 64) : ((cfg0.win 6).blk t).view.emb (ix3 p h i) = ix3 (rowOf t p) h i := by
  refine ext_ix3 _ (rowOf t p) h i ?_ ?_ ?_
  · refine (Window.rect_emb_val (cfg0.win 6) t (ix3 p h i) 0).trans ?_
    rw [show (cfg0.win 6).index t 0 = t.val from (place_out t).2.1.1]
    rfl
  · refine (Window.rect_emb_val (cfg0.win 6) t (ix3 p h i) 1).trans ?_
    rw [show (cfg0.win 6).index t 1 = 0 from (place_out t).2.1.2.1]
    exact (congrArg (· + h.val) (Nat.zero_mul _)).trans (Nat.zero_add _)
  · refine (Window.rect_emb_val (cfg0.win 6) t (ix3 p h i) 2).trans ?_
    rw [show (cfg0.win 6).index t 2 = 0 from (place_out t).2.1.2.2]
    exact (congrArg (· + i.val) (Nat.zero_mul _)).trans (Nat.zero_add _)

theorem written6 (t : Fin cfg0.N) (p : Fin 512) (h : Fin 2) (i : Fin 64) : (dats m 0 c).flushed 6 t (ix3 p h i)
    = dot (normRow (row (iblk m c 0 t) p) (row (iblk m c 1 t) 0)) fun k => iblk m c 2 t (ix2 k ⟨3072 + (h.val * 64 + i.val), by omega⟩) := by
  rw [flushed6]
  exact InProjBlock.keys_apply _ _ _ _ _ p h i

theorem keys_result (r : Fin 32768) (h : Fin 2) (i : Fin 64) : (dats m 0 c).arrAt 6 cfg0.N (ix3 r h i) = column m c r ⟨2560 + (h.val * 64 + i.val), by omega⟩ := by
  obtain ⟨t, p, hr⟩ := rowOf_surj r
  subst hr
  have hf := (dats m 0 c).arrAt_emb_eq_flushed 6 disjoint6 t (flush0_6 t) (ix3 p h i)
  rw [place6, written6, normed_at, weight_col_at] at hf
  exact hf.trans (dot_laid_keys _ _ (h.val * 64 + i.val) (by omega))

theorem place7 (t : Fin cfg0.N) (p : Fin 512) (h : Fin 2) (i : Fin 64) : ((cfg0.win 7).blk t).view.emb (ix3 p h i) = ix3 (rowOf t p) h i := by
  refine ext_ix3 _ (rowOf t p) h i ?_ ?_ ?_
  · refine (Window.rect_emb_val (cfg0.win 7) t (ix3 p h i) 0).trans ?_
    rw [show (cfg0.win 7).index t 0 = t.val from (place_out t).2.2.1.1]
    rfl
  · refine (Window.rect_emb_val (cfg0.win 7) t (ix3 p h i) 1).trans ?_
    rw [show (cfg0.win 7).index t 1 = 0 from (place_out t).2.2.1.2.1]
    exact (congrArg (· + h.val) (Nat.zero_mul _)).trans (Nat.zero_add _)
  · refine (Window.rect_emb_val (cfg0.win 7) t (ix3 p h i) 2).trans ?_
    rw [show (cfg0.win 7).index t 2 = 0 from (place_out t).2.2.1.2.2]
    exact (congrArg (· + i.val) (Nat.zero_mul _)).trans (Nat.zero_add _)

theorem written7 (t : Fin cfg0.N) (p : Fin 512) (h : Fin 2) (i : Fin 64) : (dats m 0 c).flushed 7 t (ix3 p h i)
    = dot (normRow (row (iblk m c 0 t) p) (row (iblk m c 1 t) 0)) fun k => iblk m c 2 t (ix2 k ⟨3072 + (h.val * 64 + i.val + 128), by omega⟩) := by
  rw [flushed7]
  exact InProjBlock.values_apply _ _ _ _ _ p h i

theorem values_result (r : Fin 32768) (h : Fin 2) (i : Fin 64) : (dats m 0 c).arrAt 7 cfg0.N (ix3 r h i) = column m c r ⟨2560 + (h.val * 64 + i.val + 128), by omega⟩ := by
  obtain ⟨t, p, hr⟩ := rowOf_surj r
  subst hr
  have hf := (dats m 0 c).arrAt_emb_eq_flushed 7 disjoint7 t (flush0_7 t) (ix3 p h i)
  rw [place7, written7, normed_at, weight_col_at] at hf
  exact hf.trans (dot_laid_keys _ _ (h.val * 64 + i.val + 128) (by omega))

theorem place8 (t : Fin cfg0.N) (p : Fin 512) (i : Fin 64) : ((cfg0.win 8).blk t).view.emb (ix2 p i) = ix2 (rowOf t p) i := by
  refine ext_ix2 _ (rowOf t p) i ?_ ?_
  · refine (Window.rect_emb_val (cfg0.win 8) t (ix2 p i) 0).trans ?_
    rw [show (cfg0.win 8).index t 0 = t.val from (place_out t).2.2.2.1.1]
    rfl
  · refine (Window.rect_emb_val (cfg0.win 8) t (ix2 p i) 1).trans ?_
    rw [show (cfg0.win 8).index t 1 = 0 from (place_out t).2.2.2.1.2]
    exact (congrArg (· + i.val) (Nat.zero_mul _)).trans (Nat.zero_add _)

theorem written8 (t : Fin cfg0.N) (p : Fin 512) (i : Fin 64) : (dats m 0 c).flushed 8 t (ix2 p i)
    = dot (normRow (row (iblk m c 0 t) p) (row (iblk m c 1 t) 0)) fun k => iblk m c 2 t (ix2 k ⟨3072 + (i.val + 256), by omega⟩) := by
  rw [flushed8]
  exact InProjBlock.index_keys_apply _ _ _ _ _ p i

theorem index_keys_laid (r : Fin 32768) (i : Fin 64) : (dats m 0 c).arrAt 8 cfg0.N (ix2 r i)
    = dot (normedRow m c r) fun k => laid (weight m c k) ⟨3328 + i.val, by omega⟩ := by
  obtain ⟨t, p, hr⟩ := rowOf_surj r
  subst hr
  have hf := (dats m 0 c).arrAt_emb_eq_flushed 8 disjoint8 t (flush0_8 t) (ix2 p i)
  rw [place8, written8, normed_at, weight_col_at] at hf
  exact hf.trans (congrArg (fun n => dot (normedRow m c (rowOf t p)) fun k => laid (weight m c k) n) (Fin.ext (by show 3072 + (i.val + 256) = 3328 + i.val; omega)))

theorem place9 (t : Fin cfg0.N) (p : Fin 512) (i : Fin 128) : ((cfg0.win 9).blk t).view.emb (ix2 p i) = ix2 (rowOf t p) i := by
  refine ext_ix2 _ (rowOf t p) i ?_ ?_
  · refine (Window.rect_emb_val (cfg0.win 9) t (ix2 p i) 0).trans ?_
    rw [show (cfg0.win 9).index t 0 = t.val from (place_out t).2.2.2.2.1]
    rfl
  · refine (Window.rect_emb_val (cfg0.win 9) t (ix2 p i) 1).trans ?_
    rw [show (cfg0.win 9).index t 1 = 0 from (place_out t).2.2.2.2.2]
    exact (congrArg (· + i.val) (Nat.zero_mul _)).trans (Nat.zero_add _)

theorem written9 (t : Fin cfg0.N) (p : Fin 512) (i : Fin 128) : (dats m 0 c).flushed 9 t (ix2 p i)
    = dot (normRow (row (iblk m c 0 t) p) (row (iblk m c 1 t) 0)) fun k => iblk m c 2 t (ix2 k ⟨3072 + (i.val + 256), by omega⟩) := by
  rw [flushed9]
  exact InProjBlock.index_weights_apply _ _ _ _ _ p i

theorem index_weights_laid (r : Fin 32768) (i : Fin 128) : (dats m 0 c).arrAt 9 cfg0.N (ix2 r i)
    = dot (normedRow m c r) fun k => laid (weight m c k) ⟨3328 + i.val, by omega⟩ := by
  obtain ⟨t, p, hr⟩ := rowOf_surj r
  subst hr
  have hf := (dats m 0 c).arrAt_emb_eq_flushed 9 disjoint9 t (flush0_9 t) (ix2 p i)
  rw [place9, written9, normed_at, weight_col_at] at hf
  exact hf.trans (congrArg (fun n => dot (normedRow m c (rowOf t p)) fun k => laid (weight m c k) n) (Fin.ext (by show 3072 + (i.val + 256) = 3328 + i.val; omega)))

theorem index_keys_result (r : Fin 32768) (i : Fin 64) : (dats m 0 c).arrAt 8 cfg0.N (ix2 r i) = column m c r ⟨3328 + i.val, by omega⟩ :=
  (index_keys_laid m c r i).trans (dot_laid_index _ _ i.val (by omega))

theorem index_weights_result (r : Fin 32768) (i : Fin 128) :
    (dats m 0 c).arrAt 9 cfg0.N (ix2 r i) = if h : i.val < 72 then column m c r ⟨3328 + i.val, by omega⟩ else 0 := by
  refine (index_weights_laid m c r i).trans ?_
  split
  · exact dot_laid_index _ _ i.val (by omega)
  · exact dot_laid_pad _ _ i.val (by omega) i.isLt

end Cert.Layer.InProjArray

end
-- ==== Proof.InProj.Ref.lean ====
/- The reference of the first call, read at an element of each of its results: the same mathematics (`mainRow`, `dot`) of
   the same rows of its arguments. -/
module

public import proofs.«01_k».proof.Proof.Common.Blocks
public import proofs.«01_k».proof.Proof.Common.Index
public import proofs.«01_k».proof.Proof.InProj.Spec
public import proofs.«01_k».proof.Proof.Gen.InProjReferenceIdeal.Read

@[expose] public section

noncomputable section

namespace Cert.Layer.InProjRef

open Cert.InProjReferenceIdeal Cert.InProjReferenceIdeal.Gen Cert.InProjReferenceIdeal.Read Idealize.ShloMosaic Idealize.ShloMosaic.ValueIdx Idealize.ShloMosaic.TcCoe
open scoped BigOperators

/-- The contents of an array the reference is given. -/
abbrev Arr (S : Shape) : Type := (⟨S, .f32⟩ : BufTy).Contents (Elt Ideal)

/-- The normalisation as the reference spells it, the sum starting from a printed zero. -/
theorem norm_spelled (v g : Row 1024) (q : Fin 1024) :
    v q * Ideal.rsqrt (Ideal.div (Ideal.ofBits .f32 0x00000000#32 + ∑ k, v k * v k) (Ideal.ofBits .f32 0x44800000#32)
        + Ideal.ofBits .f32 0x358637BD#32) * g q = normRow v g q := by
  rw [Ideal.ofBits_zero_f32, zero_add]
  rfl

/-- The cosines and sines of the angles of a position. -/
abbrev cosRow (s : Fin 8192) : Row 32 := fun i => val_main_v38 (F := Ideal) (ix2 s i)
abbrev sinRow (s : Fin 8192) : Row 32 := fun i => val_main_v40 (F := Ideal) (ix2 s i)

variable (x0 : Arr S32768x1024) (x1 : Arr S1024x3400) (x2 : Arr S1024) (r : Fin 32768)

/-- The normalised row of the residual. -/
abbrev normed : Row 1024 := normRow (fun k => x0 (ix2 r k)) (fun k => x2 (ix1 k))

theorem normed_at (q : Fin 1024) : val_main_v13 (F := Ideal) x0 x2 (ix2 r q) = normed x0 x2 r q := by
  rw [val_main_v13_apply, val_main_v10_apply, val_main_v9_apply, val_main_v8_apply, val_main_v7_apply, val_main_v5_apply,
    val_main_v3_apply, val_main_v2_apply, val_main_cst_apply, val_main_v12_apply, val_main_v11_apply, val_main_v6_apply,
    val_main_cst_1_apply, val_main_v4_apply, val_main_cst_0_apply]
  have hs : (∑ k : Fin 1024, val_main_v1 (F := Ideal) x0 (idx_main_v2 (idx_main_v3 (idx_main_v9 (ix2 r q))) k) : EReal)
      = ∑ k : Fin 1024, x0 (ix2 r k) * x0 (ix2 r k) :=
    Finset.sum_congr rfl fun k _ => (val_main_v1_apply (F := Ideal) x0 _).trans
      (congrArg (fun i => (x0 i : EReal) * x0 i) (ext_ix2 _ r k rfl rfl))
  have hg : idx_main_v11 (idx_main_v12 (ix2 r q)) = ix1 q := ext_ix1 _ _ rfl
  rw [hg]
  refine Eq.trans ?_ (norm_spelled (fun k => x0 (ix2 r k)) (fun k => x2 (ix1 k)) q)
  exact congrArg (fun z : EReal => x0 (ix2 r q) * Ideal.rsqrt (Ideal.div (Ideal.ofBits .f32 0x00000000#32 + z)
    (Ideal.ofBits .f32 0x44800000#32) + Ideal.ofBits .f32 0x358637BD#32) * x2 (ix1 q)) hs

/-- The weight as its rows. -/
abbrev rows : Fin 1024 → Row 3400 := fun k n => x1 (ix2 k n)

/-- A column of the projection. -/
abbrev column (n : Fin 3400) : EReal := dot (normed x0 x2 r) fun k => rows x1 k n

theorem proj_at (i : S32768x3400.Idx) (n : Fin 3400) (h0 : (i 0).val = r.val) (h1 : (i 1).val = n.val) :
    val_main_v14 (F := Ideal) x0 x1 x2 i = column x0 x1 x2 r n := by
  rw [ext_ix2 i r n h0 h1, val_main_v14_apply]
  refine Finset.sum_congr rfl fun k _ => congrArg₂ (· * ·) ?_ (congrArg x1 (ext_ix2 _ _ _ rfl rfl))
  exact (congrArg (val_main_v13 (F := Ideal) x0 x2) (ext_ix2 _ r k rfl rfl)).trans (normed_at x0 x2 r k)

/-! ## The turn by the position's angles -/

theorem cos_at (b : Fin 4) (s : Fin 8192) (h : Fin 8) (i : Fin 32) : val_main_v45 (F := Ideal) (ix4 b s h i) = cosRow s i := by
  rw [val_main_v45_apply, val_main_v44_apply, val_main_v39_apply]
  exact congrArg (val_main_v38 (F := Ideal)) (ext_ix2 _ s i rfl rfl)

theorem sin_at (b : Fin 4) (s : Fin 8192) (h : Fin 8) (i : Fin 32) : val_main_v48 (F := Ideal) (ix4 b s h i) = sinRow s i := by
  rw [val_main_v48_apply, val_main_v47_apply, val_main_v41_apply]
  exact congrArg (val_main_v40 (F := Ideal)) (ext_ix2 _ s i rfl rfl)

/-- 32 of each head's 64 columns, from column `o` of the head on. -/
def half (o : ℕ) (hs : S4x8192x8x64.Slices ![0, 0, 0, o] S4x8192x8x32) (X : S32768x512.Idx → EReal) : FVec Ideal S4x8192x8x32 .f32 :=
  extractStridedSlice S4x8192x8x32 ![0, 0, 0, o] (shapeCast S4x8192x8x64 X shapeCasts_S32768x512_S4x8192x8x64) hs

/-- The sequence a row belongs to, and its position in it. -/
abbrev seqOf : Fin 4 := ⟨r.val / 8192, by omega⟩
abbrev posOf : Fin 8192 := ⟨r.val % 8192, by omega⟩

theorem half_at (o : ℕ) (hs : S4x8192x8x64.Slices ![0, 0, 0, o] S4x8192x8x32) (X : S32768x512.Idx → EReal) (h : Fin 8) (i : Fin 32) (e : Fin 64)
    (he : e.val = o + i.val) (q : Fin 512) (hq : q.val = h.val * 64 + e.val) : half o hs X (ix4 (seqOf r) (posOf r) h i) = X (ix2 r q) := by
  unfold half
  refine (extractStridedSlice_apply _ _ hs (ix4 (seqOf r) (posOf r) h i) (ix4 (seqOf r) (posOf r) h e) fun a => ?_).trans (shapeCast_apply _ _ _ (ix2 r q) ?_)
  · match a with
    | ⟨0, _⟩ => exact (Nat.zero_add _).symm
    | ⟨1, _⟩ => exact (Nat.zero_add _).symm
    | ⟨2, _⟩ => exact (Nat.zero_add _).symm
    | ⟨3, _⟩ => exact he
  · rw [Shape.rowMajor_val_four, Shape.rowMajor_val_two]
    show r.val * 512 + q.val = ((r.val / 8192 * 8192 + r.val % 8192) * 8 + h.val) * 64 + e.val
    omega

/-- The first and the second half of every head. -/
abbrev low (X : S32768x512.Idx → EReal) : FVec Ideal S4x8192x8x32 .f32 := half 0 slices_S4x8192x8x64_S4x8192x8x32_0_0_0_0 X
abbrev high (X : S32768x512.Idx → EReal) : FVec Ideal S4x8192x8x32 .f32 := half 32 slices_S4x8192x8x64_S4x8192x8x32_0_0_0_32 X

theorem low_at (X : S32768x512.Idx → EReal) (h : Fin 8) (i : Fin 32) (q : Fin 512) (hq : q.val = h.val * 64 + i.val) :
    low X (ix4 (seqOf r) (posOf r) h i) = X (ix2 r q) :=
  half_at r 0 _ X h i ⟨i.val, by omega⟩ (Nat.zero_add _).symm q hq

theorem high_at (X : S32768x512.Idx → EReal) (h : Fin 8) (i : Fin 32) (q : Fin 512) (hq : q.val = h.val * 64 + (32 + i.val)) :
    high X (ix4 (seqOf r) (posOf r) h i) = X (ix2 r q) :=
  half_at r 32 _ X h i ⟨32 + i.val, by omega⟩ rfl q hq

/-- 512 columns turned, as the reference lays them out by heads. -/
def turn (X : S32768x512.Idx → EReal) : S4x8192x8x64.Idx → EReal :=
  concatenate S4x8192x8x64 3 [⟨S4x8192x8x32, subf (mulf (low X) (val_main_v45 (F := Ideal))) (mulf (high X) (val_main_v48 (F := Ideal)))⟩,
    ⟨S4x8192x8x32, addf (mulf (high X) (val_main_v45 (F := Ideal))) (mulf (low X) (val_main_v48 (F := Ideal)))⟩]
    concatenates_S4x8192x8x32_S4x8192x8x32_S4x8192x8x64_d3

theorem turn_at (X : S32768x512.Idx → EReal) (q : Fin 512) : turn X (ix4 (seqOf r) (posOf r) ⟨q.val / 64, by omega⟩ ⟨q.val % 64, by omega⟩)
    = rotRow (fun j => X (ix2 r j)) (cosRow (posOf r)) (sinRow (posOf r)) q := by
  unfold rotRow turn
  have hi : q.val % 32 < 32 := Nat.mod_lt _ (by decide)
  by_cases hq : q.val % 64 < 32
  · rw [dif_pos hq]
    refine (concatenate_pair_apply_left (s₁ := S4x8192x8x32) (s₂ := S4x8192x8x32) (t := S4x8192x8x64) _ _ _ _ _ rfl
      (ix4 (seqOf r) (posOf r) ⟨q.val / 64, by omega⟩ ⟨q.val % 32, hi⟩) fun b => ?_).trans ?_
    · match b with
      | ⟨0, _⟩ => rfl
      | ⟨1, _⟩ => rfl
      | ⟨2, _⟩ => rfl
      | ⟨3, _⟩ => show q.val % 32 = q.val % 64; omega
    · rw [subf_apply, mulf_apply, mulf_apply, cos_at, sin_at, low_at r X _ _ q (by show q.val = q.val / 64 * 64 + q.val % 32; omega),
        high_at r X _ _ ⟨q.val + 32, by omega⟩ (by show q.val + 32 = q.val / 64 * 64 + (32 + q.val % 32); omega)]
  · rw [dif_neg hq]
    refine (concatenate_pair_apply_right (s₁ := S4x8192x8x32) (s₂ := S4x8192x8x32) (t := S4x8192x8x64) _ _ _ _ _ rfl rfl
      (ix4 (seqOf r) (posOf r) ⟨q.val / 64, by omega⟩ ⟨q.val % 32, hi⟩) (fun b hb => ?_) ?_).trans ?_
    · match b with
      | ⟨0, _⟩ => rfl
      | ⟨1, _⟩ => rfl
      | ⟨2, _⟩ => rfl
      | ⟨3, _⟩ => exact absurd rfl hb
    · show q.val % 32 + 32 = q.val % 64
      omega
    · rw [addf_apply, mulf_apply, mulf_apply, cos_at, sin_at, low_at r X _ _ ⟨q.val - 32, by omega⟩ (by show q.val - 32 = q.val / 64 * 64 + q.val % 32; omega),
        high_at r X _ _ q (by show q.val = q.val / 64 * 64 + (32 + q.val % 32); omega)]

theorem queries_turned : val_main_v58 (F := Ideal) x0 x1 x2 = turn (val_main_v15 (F := Ideal) x0 x1 x2) := rfl

theorem keys_turned : val_main_v93 (F := Ideal) x0 x1 x2 = turn (val_main_v16 (F := Ideal) x0 x1 x2) := rfl

/-- Where an element of a row lies when its columns are laid out by heads. -/
theorem by_heads (q : Fin 512) : idx_main_v59 (ix2 r q) = ix4 (seqOf r) (posOf r) ⟨q.val / 64, by omega⟩ ⟨q.val % 64, by omega⟩ := by
  refine ext_ix4 _ _ _ _ _ ?_ ?_ ?_ ?_
  · show (r.val * 512 + q.val) / 4194304 = r.val / 8192
    omega
  · show (r.val * 512 + q.val) / 512 % 8192 = r.val % 8192
    omega
  · show (r.val * 512 + q.val) / 64 % 8 = q.val / 64
    omega
  · show (r.val * 512 + q.val) % 64 = q.val % 64
    omega

theorem queries_at (q : Fin 512) : val_main_v59 (F := Ideal) x0 x1 x2 (ix2 r q)
    = rotRow (fun j => column x0 x1 x2 r ⟨j.val, by omega⟩) (cosRow (posOf r)) (sinRow (posOf r)) q := by
  rw [val_main_v59_apply, by_heads, queries_turned, turn_at]
  exact congrArg (fun v => rotRow v _ _ q) (funext fun j => (val_main_v15_apply ..).trans (proj_at x0 x1 x2 r _ _ rfl rfl))

theorem keys_at (q : Fin 512) : val_main_v96 (F := Ideal) x0 x1 x2 (ix2 r q)
    = rotRow (fun j => column x0 x1 x2 r ⟨512 + j.val, by omega⟩) (cosRow (posOf r)) (sinRow (posOf r)) q * keyScale := by
  rw [val_main_v96_apply, val_main_v95_apply, val_main_v94_apply, val_main_cst_6_apply, show idx_main_v96 (ix2 r q) = _ from by_heads r q, keys_turned, turn_at]
  exact congrArg (fun v => rotRow v _ _ q * keyScale) (funext fun j => (val_main_v16_apply ..).trans (proj_at x0 x1 x2 r _ _ rfl rfl))

/-! ## The results -/

/-- The row of the wide result. -/
abbrev wide : Row 3072 := mainRow (normed x0 x2 r) (rows x1) (cosRow (posOf r)) (sinRow (posOf r))

/-- The six pieces of the wide result. -/
abbrev parts : List ((s : Shape) × (s.Idx → EReal)) :=
  [⟨S32768x512, val_main_v59 (F := Ideal) x0 x1 x2⟩, ⟨S32768x512, val_main_v96 (F := Ideal) x0 x1 x2⟩, ⟨S32768x512, val_main_v17 (F := Ideal) x0 x1 x2⟩,
    ⟨S32768x512, val_main_v18 (F := Ideal) x0 x1 x2⟩, ⟨S32768x512, val_main_v19 (F := Ideal) x0 x1 x2⟩, ⟨S32768x512, val_main_v22 (F := Ideal) x0 x1 x2⟩]

/-- The wide result inside piece `i`. -/
theorem part_at (i : ℕ) (hi : i < 6) (o : ℕ) (X : S32768x512.Idx → EReal) (hp : (parts x0 x1 x2)[i]'hi = ⟨S32768x512, X⟩)
    (hpre : ((((parts x0 x1 x2).take i).map (·.1)).map fun s => if h : s.rank = S32768x3072.rank then s.size ((1 : Fin S32768x3072.rank).cast h.symm) else 0).sum = o)
    (n : Fin 3072) (j : Fin 512) (hn : o + j.val = n.val) : val_main_v97 (F := Ideal) x0 x1 x2 (ix2 r n) = X (ix2 r j) :=
  beside_apply (parts x0 x1 x2) _ i hi 512 o X hp hpre r n j hn

/-- THE WIDE RESULT at an element. -/
theorem wide_at (n : Fin 3072) : val_main_v97 (F := Ideal) x0 x1 x2 (ix2 r n) = wide x0 x1 x2 r n := by
  have hn := n.isLt
  unfold wide mainRow
  split_ifs with h0 h1 h2
  · exact (part_at x0 x1 x2 r 0 (by omega) 0 _ rfl rfl n ⟨n.val, h0⟩ (Nat.zero_add _)).trans (queries_at x0 x1 x2 r _)
  · exact (part_at x0 x1 x2 r 1 (by omega) 512 _ rfl rfl n ⟨n.val - 512, by omega⟩ (by show 512 + (n.val - 512) = n.val; omega)).trans (keys_at x0 x1 x2 r _)
  · by_cases a1 : n.val < 1536
    · exact ((part_at x0 x1 x2 r 2 (by omega) 1024 _ rfl rfl n ⟨n.val - 1024, by omega⟩ (by show 1024 + (n.val - 1024) = n.val; omega)).trans (val_main_v17_apply ..)).trans
        (proj_at x0 x1 x2 r _ _ rfl (by show 1024 + (n.val - 1024) = n.val; omega))
    by_cases a2 : n.val < 2048
    · exact ((part_at x0 x1 x2 r 3 (by omega) 1536 _ rfl rfl n ⟨n.val - 1536, by omega⟩ (by show 1536 + (n.val - 1536) = n.val; omega)).trans (val_main_v18_apply ..)).trans
        (proj_at x0 x1 x2 r _ _ rfl (by show 1536 + (n.val - 1536) = n.val; omega))
    · exact ((part_at x0 x1 x2 r 4 (by omega) 2048 _ rfl rfl n ⟨n.val - 2048, by omega⟩ (by show 2048 + (n.val - 2048) = n.val; omega)).trans (val_main_v19_apply ..)).trans
        (proj_at x0 x1 x2 r _ _ rfl (by show 2048 + (n.val - 2048) = n.val; omega))
  · exact ((part_at x0 x1 x2 r 5 (by omega) 2560 _ rfl rfl n ⟨n.val - 2560, by omega⟩ (by show 2560 + (n.val - 2560) = n.val; omega)).trans (val_main_v22_apply ..)).trans
      (proj_at x0 x1 x2 r _ _ rfl (by show 2816 + (n.val - 2560) = n.val + 256; omega))

/-- Where an element of two heads lies in its row. -/
theorem by_two_heads (h : Fin 2) (i : Fin 64) : idx_main_v98 (ix3 r h i) = ix2 r ⟨h.val * 64 + i.val, by omega⟩ := by
  refine ext_ix2 _ _ _ ?_ ?_
  · show ((r.val * 2 + h.val) * 64 + i.val) / 128 = r.val
    omega
  · show ((r.val * 2 + h.val) * 64 + i.val) % 128 = h.val * 64 + i.val
    omega

theorem cache_keys_at (h : Fin 2) (i : Fin 64) : val_main_v98 (F := Ideal) x0 x1 x2 (ix3 r h i) = column x0 x1 x2 r ⟨2560 + (h.val * 64 + i.val), by omega⟩ := by
  rw [val_main_v98_apply, by_two_heads, val_main_v20_apply]
  exact proj_at x0 x1 x2 r _ _ rfl rfl

theorem cache_values_at (h : Fin 2) (i : Fin 64) : val_main_v99 (F := Ideal) x0 x1 x2 (ix3 r h i) = column x0 x1 x2 r ⟨2560 + (h.val * 64 + i.val + 128), by omega⟩ := by
  rw [val_main_v99_apply, show idx_main_v99 (ix3 r h i) = _ from by_two_heads r h i, val_main_v21_apply]
  exact proj_at x0 x1 x2 r _ _ rfl (by show 2688 + (h.val * 64 + i.val) = 2560 + (h.val * 64 + i.val + 128); omega)

theorem index_keys_at (i : Fin 64) : val_main_v23 (F := Ideal) x0 x1 x2 (ix2 r i) = column x0 x1 x2 r ⟨3328 + i.val, by omega⟩ :=
  (val_main_v23_apply ..).trans (proj_at x0 x1 x2 r _ _ rfl rfl)

/-- The index keys and weights, with zeros after them. -/
theorem index_weights_at (i : Fin 128) : val_main_v101 (F := Ideal) x0 x1 x2 (ix2 r i)
    = if h : i.val < 72 then column x0 x1 x2 r ⟨3328 + i.val, by omega⟩ else 0 := by
  unfold val_main_v101
  split_ifs with h2
  · by_cases h1 : i.val < 64
    · exact (beside_apply _ _ 0 (by show 0 < 3; omega) 64 0 _ rfl rfl r i ⟨i.val, h1⟩ (Nat.zero_add _)).trans (index_keys_at x0 x1 x2 r _)
    · exact ((beside_apply _ _ 1 (by show 1 < 3; omega) 8 64 _ rfl rfl r i ⟨i.val - 64, by omega⟩ (by show 64 + (i.val - 64) = i.val; omega)).trans (val_main_v24_apply ..)).trans
        (proj_at x0 x1 x2 r _ _ rfl (by show 3392 + (i.val - 64) = 3328 + i.val; omega))
  · refine (beside_apply _ _ 2 (by show 2 < 3; omega) 56 72 _ rfl rfl r i ⟨i.val - 72, by omega⟩ (by show 72 + (i.val - 72) = i.val; omega)).trans ?_
    show val_main_v100 (F := Ideal) _ = 0
    rw [val_main_v100_apply, val_main_cst_7_apply]
    exact Ideal.ofBits_zero_f32

end Cert.Layer.InProjRef

end
-- ==== Proof.InProj.Claim.lean ====
/- The value claim of the first call: all five results of the kernel are the reference's. -/
module

public import proofs.«01_k».proof.Defs
public import proofs.«01_k».proof.Proof.InProj.Array
public import proofs.«01_k».proof.Proof.InProj.Ref
public import proofs.«01_k».proof.Proof.Gen.InProjReferenceIdeal.Run

@[expose] public section

noncomputable section

namespace Cert.Layer

open Idealize.ShloMosaic Idealize.ShloMosaic.ValueIdx Idealize.ShloMosaic.TcCoe Idealize.SL.Sem

section

open Cert.InProjReferenceIdeal.Read

variable (m : (ℓ : Loc Cert.InProjIdeal.nD Cert.InProjIdeal.τ Cert.InProjIdeal.sig) → Buf (Elt Ideal) ℓ) (c : Dev Cert.InProjIdeal.nD)

theorem inproj_same5 : val_main_v97 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))
    = (Cert.InProjIdeal.Gen.dats m 0 c).arrAt 5 Cert.InProjIdeal.cfg0.N := by
  funext i
  rw [eq_ix2 i]
  exact (InProjRef.wide_at _ _ _ _ _).trans (InProjArray.wide_result m c _ _).symm

theorem inproj_same6 : val_main_v98 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))
    = (Cert.InProjIdeal.Gen.dats m 0 c).arrAt 6 Cert.InProjIdeal.cfg0.N := by
  funext i
  rw [eq_ix3 i]
  exact (InProjRef.cache_keys_at _ _ _ _ _ _).trans (InProjArray.keys_result m c _ _ _).symm

theorem inproj_same7 : val_main_v99 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))
    = (Cert.InProjIdeal.Gen.dats m 0 c).arrAt 7 Cert.InProjIdeal.cfg0.N := by
  funext i
  rw [eq_ix3 i]
  exact (InProjRef.cache_values_at _ _ _ _ _ _).trans (InProjArray.values_result m c _ _ _).symm

theorem inproj_same8 : val_main_v23 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))
    = (Cert.InProjIdeal.Gen.dats m 0 c).arrAt 8 Cert.InProjIdeal.cfg0.N := by
  funext i
  rw [eq_ix2 i]
  exact (InProjRef.index_keys_at _ _ _ _ _).trans (InProjArray.index_keys_result m c _ _).symm

theorem inproj_same9 : val_main_v101 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2))
    = (Cert.InProjIdeal.Gen.dats m 0 c).arrAt 9 Cert.InProjIdeal.cfg0.N := by
  funext i
  rw [eq_ix2 i]
  exact (InProjRef.index_weights_at _ _ _ _ _).trans (InProjArray.index_weights_result m c _ _).symm

end

section

open Cert.InProjReferenceIdeal Cert.InProjReferenceIdeal.Read

/-- The reference's run, its five results as the stages of the computation. -/
theorem inproj_reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v97) = val_main_v97 (F := Ideal) (m ((c.tc : Thread nD τ).loc main_arg0)) (m ((c.tc : Thread nD τ).loc main_arg1)) (m ((c.tc : Thread nD τ).loc main_arg2))
      ∧ r.2.mem ((c.tc : Thread nD τ).loc main_v98) = val_main_v98 (F := Ideal) (m ((c.tc : Thread nD τ).loc main_arg0)) (m ((c.tc : Thread nD τ).loc main_arg1)) (m ((c.tc : Thread nD τ).loc main_arg2))
      ∧ r.2.mem ((c.tc : Thread nD τ).loc main_v99) = val_main_v99 (F := Ideal) (m ((c.tc : Thread nD τ).loc main_arg0)) (m ((c.tc : Thread nD τ).loc main_arg1)) (m ((c.tc : Thread nD τ).loc main_arg2))
      ∧ r.2.mem ((c.tc : Thread nD τ).loc main_v23) = val_main_v23 (F := Ideal) (m ((c.tc : Thread nD τ).loc main_arg0)) (m ((c.tc : Thread nD τ).loc main_arg1)) (m ((c.tc : Thread nD τ).loc main_arg2))
      ∧ r.2.mem ((c.tc : Thread nD τ).loc main_v101) = val_main_v101 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (val_main_v97_eq m c), (h c).2.1.trans (val_main_v98_eq _ _ _),
    (h c).2.2.1.trans (val_main_v99_eq _ _ _), (h c).2.2.2.1.trans (val_main_v23_eq _ _ _), (h c).2.2.2.2.1.trans (val_main_v101_eq _ _ _),
    (h c).2.2.2.2.2⟩) (Cert.InProjReferenceIdeal.Value.run (F := Ideal) m g)

end

theorem inproj_algebraic : Cert.algebraic_InProjIdeal_InProjReferenceIdeal (hInProjIdeal := Cert.InProjIdeal.Gen.facts)
    (hInProjReferenceIdeal := Cert.InProjReferenceIdeal.Gen.facts) := by
  intro m g m' g' _ hm
  refine ⟨fun c => (Cert.InProjIdeal.Gen.dats m 0 c).arrAt 5 Cert.InProjIdeal.cfg0.N, fun c => (Cert.InProjIdeal.Gen.dats m 0 c).arrAt 6 Cert.InProjIdeal.cfg0.N,
    fun c => (Cert.InProjIdeal.Gen.dats m 0 c).arrAt 7 Cert.InProjIdeal.cfg0.N, fun c => (Cert.InProjIdeal.Gen.dats m 0 c).arrAt 8 Cert.InProjIdeal.cfg0.N,
    fun c => (Cert.InProjIdeal.Gen.dats m 0 c).arrAt 9 Cert.InProjIdeal.cfg0.N, ?_, ?_⟩
  · refine (θ_run _ _ _).mono (fun r h c => ?_) (Cert.InProjIdeal.Value.run_blocks m g)
    obtain ⟨h5, h6, h7, h8, h9, _, _, _, k0, k1, k2⟩ := h c
    exact ⟨h5, h6, h7, h8, h9, k0, k1, k2⟩
  · refine (θ_run _ _ _).mono (fun r h c => ?_) (inproj_reference_run m' g')
    obtain ⟨h5, h6, h7, h8, h9, k0, k1, k2⟩ := h c
    obtain ⟨e0, e1, e2⟩ := hm c
    rw [e0, e1, e2] at h5 h6 h7 h8 h9
    exact ⟨h5.trans (inproj_same5 m c), h6.trans (inproj_same6 m c), h7.trans (inproj_same7 m c), h8.trans (inproj_same8 m c),
      h9.trans (inproj_same9 m c), k0, k1, k2⟩

/-- The reference runs, leaves its arguments, and declares no semaphore. -/
theorem inproj_reference_frame : Cert.quiescent_InProjReferenceIdeal (hInProjReferenceIdeal := Cert.InProjReferenceIdeal.Gen.facts) := fun m g _ =>
  (θ_run _ _ _).mono (fun r h => ⟨fun c => (h c).2.2.2.2.2, sem_eq_zero_of_no_sems (by decide) r.2⟩)
    (Cert.InProjReferenceIdeal.Value.run (F := Ideal) m g)

end Cert.Layer

end
-- ==== Proof.Common.HeadStates.lean ====
/- The states of the retention's eight heads, one 64 x 64 matrix for each, in one buffer: what a load of one of them or of
   all gives, and what eight stores, one for each head, leave. -/
module

public import proofs.«01_k».proof.Proof.Common.Blocks
public import proofs.«01_k».proof.Proof.Common.Index
public import Idealize.ShloMosaic.Lib.Pipeline.ReadBack

@[expose] public section

noncomputable section

namespace Cert.Layer

open Idealize.ShloMosaic Idealize.ShloMosaic.ValueIdx

/-- Head `h` of a table or of a state with one matrix for each head. -/
def slab {a b : ℕ} (h : Fin 8) (X : FVec Ideal ⟨3, ![8, a, b]⟩ .f32) : FVec Ideal ⟨3, ![1, a, b]⟩ .f32 :=
  fun j => X (ix3 h (j 1) (j 2))

/-- Eight matrices in one array. -/
def stacked (f : Fin 8 → FVec Ideal ⟨3, ![1, 64, 64]⟩ .f32) : FVec Ideal ⟨3, ![8, 64, 64]⟩ .f32 :=
  fun j => f (j 0) (ix3 0 (j 1) (j 2))

section
variable {sig : RefSig}

/-- What a whole buffer holding `X` gives a load of one head's matrix: that head's matrix. -/
theorem read_slab {a b : ℕ} (n : ℕ) (hn : n < 8) (v : Memref sig .tc .vmem ⟨3, ![8, a, b]⟩ .f32) (hv : v.IsWhole)
    (X : FVec Ideal ⟨3, ![8, a, b]⟩ .f32)
    (inb : ∀ d, (![n, 0, 0] : Fin 3 → ℕ) d + (![1, a, b] : Fin 3 → ℕ) d ≤ (⟨3, ![8, a, b]⟩ : Shape).size d) :
    View.readAt (Elt Ideal) v.view (Rect.unit (s := ⟨3, ![8, a, b]⟩) ![n, 0, 0] ![1, a, b] inb).toLoadRect (hv.unread X)
      = slab ⟨n, hn⟩ X := by
  rw [View.readAt_eq_ld, hv.read_unread]
  funext j
  refine congrArg X (ext_ix3 _ _ _ _ ?_ ?_ ?_)
  · show n + 1 * (j 0).val = n
    have h : (j 0).val < 1 := (j 0).isLt
    omega
  · show 0 + 1 * (j 1).val = (j 1).val
    omega
  · show 0 + 1 * (j 2).val = (j 2).val
    omega

/-- … and a load of the whole of it: `X`. -/
theorem read_block {a b : ℕ} (v : Memref sig .tc .vmem ⟨2, ![a, b]⟩ .f32) (hv : v.IsWhole) (X : FVec Ideal ⟨2, ![a, b]⟩ .f32)
    (inb : ∀ d, (![0, 0] : Fin 2 → ℕ) d + (![a, b] : Fin 2 → ℕ) d ≤ (⟨2, ![a, b]⟩ : Shape).size d) :
    View.readAt (Elt Ideal) v.view (Rect.unit (s := ⟨2, ![a, b]⟩) ![0, 0] ![a, b] inb).toLoadRect (hv.unread X) = X := by
  rw [View.readAt_eq_ld, hv.read_unread]
  exact load_whole (Val := Elt Ideal) (e := .f32) X inb

/-- … and a load of the whole of the states given: the states given. -/
theorem read_given (v : Memref sig .tc .vmem ⟨4, ![1, 8, 64, 64]⟩ .f32) (hv : v.IsWhole) (X : FVec Ideal ⟨4, ![1, 8, 64, 64]⟩ .f32)
    (inb : ∀ d, (![0, 0, 0, 0] : Fin 4 → ℕ) d + (![1, 8, 64, 64] : Fin 4 → ℕ) d ≤ (⟨4, ![1, 8, 64, 64]⟩ : Shape).size d) :
    View.readAt (Elt Ideal) v.view (Rect.unit (s := ⟨4, ![1, 8, 64, 64]⟩) ![0, 0, 0, 0] ![1, 8, 64, 64] inb).toLoadRect (hv.unread X) = X := by
  rw [View.readAt_eq_ld, hv.read_unread]
  exact View.ld_unit_zero (Val := Elt Ideal) (e := .f32) (S := ⟨4, ![1, 8, 64, 64]⟩) (funext fun d => by fin_cases d <;> rfl) inb X

/-- A load of one head's matrix after a store of `Z` over all heads. -/
theorem read_slab_of_fill (n : ℕ) (hn : n < 8) (v : Memref sig .tc .vmem ⟨3, ![8, 64, 64]⟩ .f32)
    (Z : FVec Ideal ⟨3, ![8, 64, 64]⟩ .f32) (L : List (View.Piece (Elt Ideal) ⟨3, ![8, 64, 64]⟩ .f32))
    (inb0 : ∀ d, (![0, 0, 0] : Fin 3 → ℕ) d + (⟨3, ![8, 64, 64]⟩ : Shape).size d ≤ (⟨3, ![8, 64, 64]⟩ : Shape).size d)
    (inb : ∀ d, (![n, 0, 0] : Fin 3 → ℕ) d + (![1, 64, 64] : Fin 3 → ℕ) d ≤ (⟨3, ![8, 64, 64]⟩ : Shape).size d) :
    v.view.readCov (⟨Rect.unit (s := ⟨3, ![8, 64, 64]⟩) ![0, 0, 0] (⟨3, ![8, 64, 64]⟩ : Shape).size inb0, Z⟩ :: L)
      (Rect.unit (s := ⟨3, ![8, 64, 64]⟩) ![n, 0, 0] ![1, 64, 64] inb).toLoadRect = slab ⟨n, hn⟩ Z := by
  rw [View.readCov_fill _ _ _ _ _ (fun d => by fin_cases d <;> rfl)]
  funext j
  refine congrArg Z (ext_ix3 _ _ _ _ ?_ ?_ ?_)
  · show n + 1 * (j 0).val = n
    have h : (j 0).val < 1 := (j 0).isLt
    omega
  · show 0 + 1 * (j 1).val = (j 1).val
    omega
  · show 0 + 1 * (j 2).val = (j 2).val
    omega

end

/-- Head `n`'s place in the eight matrices, element by element. -/
theorem piece_stacked (n : ℕ) (hn : n < 8) (f : Fin 8 → FVec Ideal ⟨3, ![1, 64, 64]⟩ .f32)
    (inb : ∀ d, (![n, 0, 0] : Fin 3 → ℕ) d + (![1, 64, 64] : Fin 3 → ℕ) d ≤ (⟨3, ![8, 64, 64]⟩ : Shape).size d)
    (x : (⟨3, ![1, 64, 64]⟩ : Shape).Idx) :
    f ⟨n, hn⟩ x = stacked f ((Rect.unit (s := ⟨3, ![8, 64, 64]⟩) ![n, 0, 0] ![1, 64, 64] inb).emb x) := by
  have h0 : (x 0).val < 1 := (x 0).isLt
  have e0 : (Rect.unit (s := ⟨3, ![8, 64, 64]⟩) ![n, 0, 0] ![1, 64, 64] inb).emb x 0 = (⟨n, hn⟩ : Fin 8) :=
    Fin.ext (show n + 1 * (x 0).val = n by omega)
  show _ = f ((Rect.unit (s := ⟨3, ![8, 64, 64]⟩) ![n, 0, 0] ![1, 64, 64] inb).emb x 0) _
  rw [e0]
  refine congrArg _ (ext_ix3 _ _ _ _ ?_ ?_ ?_)
  · show (x 0).val = 0
    omega
  · show (x 1).val = 0 + 1 * (x 1).val
    omega
  · show (x 2).val = 0 + 1 * (x 2).val
    omega

/-- Every element of the state lies in its head's place. -/
theorem mem_place (n : ℕ) (inb : ∀ d, (![n, 0, 0] : Fin 3 → ℕ) d + (![1, 64, 64] : Fin 3 → ℕ) d ≤ (⟨3, ![8, 64, 64]⟩ : Shape).size d)
    (y : (⟨3, ![8, 64, 64]⟩ : Shape).Idx) (h : (y 0).val = n) : y ∈ (Rect.unit (s := ⟨3, ![8, 64, 64]⟩) ![n, 0, 0] ![1, 64, 64] inb).set := by
  have e : (Rect.unit (s := ⟨3, ![8, 64, 64]⟩) ![n, 0, 0] ![1, 64, 64] inb).emb (ix3 0 (y 1) (y 2)) = y :=
    (ext_ix3 _ (y 0) (y 1) (y 2) (by show n + 1 * 0 = (y 0).val; omega) (by show 0 + 1 * (y 1).val = _; omega)
      (by show 0 + 1 * (y 2).val = _; omega)).trans (ext_ix3 y _ _ _ rfl rfl rfl).symm
  rw [← e, ← Rect.map_emb_univ]
  exact Finset.mem_map_of_mem _ (Finset.mem_univ _)

/-- Eight stores, one for each head and each that head's part of `G`, leave `G`, whatever was stored before. -/
theorem canon_heads (G : FVec Ideal ⟨3, ![8, 64, 64]⟩ .f32) (L : List (View.Piece (Elt Ideal) ⟨3, ![8, 64, 64]⟩ .f32))
    (p7 p6 p5 p4 p3 p2 p1 p0 : View.Piece (Elt Ideal) ⟨3, ![8, 64, 64]⟩ .f32)
    (hG : View.PiecesOf G [p7, p6, p5, p4, p3, p2, p1, p0])
    (h7 : ∀ y : (⟨3, ![8, 64, 64]⟩ : Shape).Idx, (y 0).val = 7 → y ∈ p7.1.set) (h6 : ∀ y : (⟨3, ![8, 64, 64]⟩ : Shape).Idx, (y 0).val = 6 → y ∈ p6.1.set)
    (h5 : ∀ y : (⟨3, ![8, 64, 64]⟩ : Shape).Idx, (y 0).val = 5 → y ∈ p5.1.set) (h4 : ∀ y : (⟨3, ![8, 64, 64]⟩ : Shape).Idx, (y 0).val = 4 → y ∈ p4.1.set)
    (h3 : ∀ y : (⟨3, ![8, 64, 64]⟩ : Shape).Idx, (y 0).val = 3 → y ∈ p3.1.set) (h2 : ∀ y : (⟨3, ![8, 64, 64]⟩ : Shape).Idx, (y 0).val = 2 → y ∈ p2.1.set)
    (h1 : ∀ y : (⟨3, ![8, 64, 64]⟩ : Shape).Idx, (y 0).val = 1 → y ∈ p1.1.set) (h0 : ∀ y : (⟨3, ![8, 64, 64]⟩ : Shape).Idx, (y 0).val = 0 → y ∈ p0.1.set) :
    View.canon (p7 :: p6 :: p5 :: p4 :: p3 :: p2 :: p1 :: p0 :: L) = G := by
  funext y
  refine View.canon_append_of_piecesOf G L [p7, p6, p5, p4, p3, p2, p1, p0] hG y ?_
  have hy : (y 0).val < 8 := (y 0).isLt
  rcases (by omega : (y 0).val = 7 ∨ (y 0).val = 6 ∨ (y 0).val = 5 ∨ (y 0).val = 4 ∨ (y 0).val = 3 ∨ (y 0).val = 2
    ∨ (y 0).val = 1 ∨ (y 0).val = 0) with h | h | h | h | h | h | h | h
  · exact ⟨p7, by simp, h7 y h⟩
  · exact ⟨p6, by simp, h6 y h⟩
  · exact ⟨p5, by simp, h5 y h⟩
  · exact ⟨p4, by simp, h4 y h⟩
  · exact ⟨p3, by simp, h3 y h⟩
  · exact ⟨p2, by simp, h2 y h⟩
  · exact ⟨p1, by simp, h1 y h⟩
  · exact ⟨p0, by simp, h0 y h⟩

/-- Eight stores, one for each head, leave the eight matrices, whatever was stored before. -/
theorem canon_stacked (f : Fin 8 → FVec Ideal ⟨3, ![1, 64, 64]⟩ .f32) (L : List (View.Piece (Elt Ideal) ⟨3, ![8, 64, 64]⟩ .f32))
    (i : ∀ n : Fin 8, ∀ d, (![n.val, 0, 0] : Fin 3 → ℕ) d + (![1, 64, 64] : Fin 3 → ℕ) d ≤ (⟨3, ![8, 64, 64]⟩ : Shape).size d) :
    View.canon (⟨Rect.unit (s := ⟨3, ![8, 64, 64]⟩) ![7, 0, 0] ![1, 64, 64] (i 7), f 7⟩ ::
      ⟨Rect.unit (s := ⟨3, ![8, 64, 64]⟩) ![6, 0, 0] ![1, 64, 64] (i 6), f 6⟩ ::
      ⟨Rect.unit (s := ⟨3, ![8, 64, 64]⟩) ![5, 0, 0] ![1, 64, 64] (i 5), f 5⟩ ::
      ⟨Rect.unit (s := ⟨3, ![8, 64, 64]⟩) ![4, 0, 0] ![1, 64, 64] (i 4), f 4⟩ ::
      ⟨Rect.unit (s := ⟨3, ![8, 64, 64]⟩) ![3, 0, 0] ![1, 64, 64] (i 3), f 3⟩ ::
      ⟨Rect.unit (s := ⟨3, ![8, 64, 64]⟩) ![2, 0, 0] ![1, 64, 64] (i 2), f 2⟩ ::
      ⟨Rect.unit (s := ⟨3, ![8, 64, 64]⟩) ![1, 0, 0] ![1, 64, 64] (i 1), f 1⟩ ::
      ⟨Rect.unit (s := ⟨3, ![8, 64, 64]⟩) ![0, 0, 0] ![1, 64, 64] (i 0), f 0⟩ :: L) = stacked f :=
  canon_heads (stacked f) L _ _ _ _ _ _ _ _
    ⟨piece_stacked 7 (by decide) f (i 7), piece_stacked 6 (by decide) f (i 6), piece_stacked 5 (by decide) f (i 5), piece_stacked 4 (by decide) f (i 4),
      piece_stacked 3 (by decide) f (i 3), piece_stacked 2 (by decide) f (i 2), piece_stacked 1 (by decide) f (i 1), piece_stacked 0 (by decide) f (i 0), trivial⟩
    (mem_place 7 (i 7)) (mem_place 6 (i 6)) (mem_place 5 (i 5)) (mem_place 4 (i 4)) (mem_place 3 (i 3)) (mem_place 2 (i 2)) (mem_place 1 (i 1)) (mem_place 0 (i 0))

end Cert.Layer

end
-- ==== Proof.Ret.Head.lean ====
/- One head of the retention kernel on a block of 512 positions: its vector operations, written once for all eight
   heads, and their values at an element. -/
module

public import proofs.«01_k».proof.Proof.Common.Blocks
public import proofs.«01_k».proof.Proof.Common.Index
public import proofs.«01_k».proof.Proof.Gen.KernelIdeal.Frame

@[expose] public section

noncomputable section

namespace Cert.Layer.RetBlock

open Cert.KernelIdeal Cert.KernelIdeal.Gen Idealize.ShloMosaic Idealize.ShloMosaic.ValueIdx
open scoped BigOperators

/-- Component `d` of head `h`, as a column of a block: the heads lie side by side, 64 columns each. -/
def col (h : Fin 8) (d : Fin 64) : Fin 512 := ⟨64 * h.val + d.val, by omega⟩

/-- A product with both operands contracted along their second axis, accumulated onto zero, at an element. -/
theorem product_rows_apply {M K N : ℕ} {φ₁ φ₂ : FTy} (D : DotDims ⟨2, ![M, K]⟩ ⟨2, ![N, K]⟩ ⟨2, ![M, N]⟩)
    (hD : D = DotDims.transposedRhs M K N) (A : FVec Ideal ⟨2, ![M, K]⟩ φ₁) (B : FVec Ideal ⟨2, ![N, K]⟩ φ₂) (p : Fin M) (q : Fin N) :
    matmul D none A B (constant ⟨2, ![M, N]⟩ .f32 0x00000000#32) (ix2 p q) = ∑ k : Fin K, A (ix2 p k) * B (ix2 q k) := by
  subst hD
  show FloatOps.matmul (DotDims.transposedRhs M K N) none A B _ (ix2 p q) = _
  rw [Ideal.matmul_transposedRhs_apply, constant_apply, Ideal.ofBits_zero_f32]
  exact zero_add _

/-- The three products of a head that contract a row with a row or a row with a column. -/
theorem scores_apply {φ₁ φ₂ : FTy} (A : FVec Ideal S512x64 φ₁) (B : FVec Ideal S512x64 φ₂) (p q : Fin 512) :
    matmul dot_S512x64_S512x64_S512x512_1_1_0_0_n_n none A B (constant S512x512 .f32 0x00000000#32) (ix2 p q)
      = ∑ k : Fin 64, A (ix2 p k) * B (ix2 q k) := product_rows_apply _ rfl A B p q

theorem own_apply {φ₁ φ₂ : FTy} (A : FVec Ideal S512x512 φ₁) (B : FVec Ideal S512x64 φ₂) (p : Fin 512) (q : Fin 64) :
    matmul dot_S512x512_S512x64_S512x64_1_0_0_1_n_n none A B (constant S512x64 .f32 0x00000000#32) (ix2 p q)
      = ∑ k : Fin 512, A (ix2 p k) * B (ix2 k q) := product_apply _ rfl A B p q

theorem past_apply {φ₁ φ₂ : FTy} (A : FVec Ideal S512x64 φ₁) (B : FVec Ideal S64x64 φ₂) (p : Fin 512) (q : Fin 64) :
    matmul dot_S512x64_S64x64_S512x64_1_0_0_1_n_n none A B (constant S512x64 .f32 0x00000000#32) (ix2 p q)
      = ∑ k : Fin 64, A (ix2 p k) * B (ix2 k q) := product_apply _ rfl A B p q

/-- The product of the keys and the values over the positions, accumulated onto zero, at an element. -/
theorem product_columns_apply {φ₁ φ₂ : FTy} (A : FVec Ideal S512x64 φ₁) (B : FVec Ideal S512x64 φ₂) (p q : Fin 64) :
    matmul dot_S512x64_S512x64_S64x64_0_0_1_1_n_n none A B (constant S64x64 .f32 0x00000000#32) (ix2 p q)
      = ∑ k : Fin 512, A (ix2 k p) * B (ix2 k q) := by
  show FloatOps.matmul dot_S512x64_S512x64_S64x64_0_0_1_1_n_n none A B _ (ix2 p q) = _
  rw [Ideal.matmul_apply, constant_apply, Ideal.ofBits_zero_f32,
    ← Equiv.sum_comp (contrEquiv1 dot_S512x64_S512x64_S64x64_0_0_1_1_n_n 512 rfl rfl).symm]
  refine (zero_add _).trans (Finset.sum_congr rfl fun k _ => ?_)
  have hk := contrEquiv1_symm_val dot_S512x64_S512x64_S64x64_0_0_1_1_n_n 512 rfl rfl k
  exact congrArg₂ (fun a b : EReal => a * b) (congrArg A (ext_ix2 _ k p hk rfl)) (congrArg B (ext_ix2 _ k q hk rfl))

/-- A head's columns lie within the block. -/
theorem head_slices (h : Fin 8) : S512x512.Slices ![0, 64 * h.val] S512x64 :=
  ⟨rfl, fun a => match a with
    | ⟨0, _⟩ => by show 0 + 512 ≤ 512; omega
    | ⟨1, _⟩ => by show 64 * h.val + 64 ≤ 512; omega⟩

/-- A head's columns of a block. -/
def part {φ : FTy} (h : Fin 8) (x : FVec Ideal S512x512 φ) : FVec Ideal S512x64 φ :=
  extractStridedSlice S512x64 ![0, 64 * h.val] x (head_slices h)

theorem part_apply {φ : FTy} (h : Fin 8) (x : FVec Ideal S512x512 φ) (p : Fin 512) (d : Fin 64) :
    part h x (ix2 p d) = x (ix2 p (col h d)) :=
  extractStridedSlice_apply _ x _ (ix2 p d) (ix2 p (col h d)) fun a => match a with
    | ⟨0, _⟩ => (Nat.zero_add _).symm
    | ⟨1, _⟩ => rfl

/-- What a head reads before its norm: its scores, decayed, times the values, plus the decayed queries times the state. -/
def raw (h : Fin 8) (v q k qs : FVec Ideal S512x512 .bf16) (D : Vec Ideal S1x512x512 .f32) (st : Vec Ideal S1x64x64 .f32) :
    FVec Ideal S512x64 .f32 :=
  addf (matmul dot_S512x512_S512x64_S512x64_1_0_0_1_n_n none
      (truncf .bf16 (mulf (matmul dot_S512x64_S512x64_S512x512_1_1_0_0_n_n none (part h q) (part h k) (constant S512x512 .f32 0x00000000#32))
        (shapeCast S512x512 D shapeCasts_S1x512x512_S512x512)) bitsLt_bf16_f32) (part h v) (constant S512x64 .f32 0x00000000#32))
    (matmul dot_S512x64_S64x64_S512x64_1_0_0_1_n_n none (part h qs)
      (truncf .bf16 (shapeCast S64x64 st shapeCasts_S1x64x64_S64x64) bitsLt_bf16_f32) (constant S512x64 .f32 0x00000000#32))

theorem raw_apply (h : Fin 8) (v q k qs : FVec Ideal S512x512 .bf16) (D : Vec Ideal S1x512x512 .f32) (st : Vec Ideal S1x64x64 .f32)
    (i : Fin 512) (e : Fin 64) :
    raw h v q k qs D st (ix2 i e)
      = (∑ j : Fin 512, (∑ d : Fin 64, q (ix2 i (col h d)) * k (ix2 j (col h d))) * D (ix3 0 i j) * v (ix2 j (col h e)))
        + ∑ d : Fin 64, qs (ix2 i (col h d)) * st (ix3 0 d e) := by
  unfold raw
  rw [addf_apply, own_apply, past_apply]
  simp only [truncf_apply, mulf_apply, scores_apply, part_apply, shapeCast_1ab_ab_apply]

/-- The norm of a head: each row times one over the root of the mean of its squares. -/
def norm (z : FVec Ideal S512x64 .f32) : FVec Ideal S512x64 .f32 :=
  mulf z (broadcastTo S512x64 (rsqrt (addf (divf
    (shapeCast S512x1 (multiReduction .add [1] S512 (mulf z z) 0x00000000#32 reduces_S512x64_S512 (.inl rfl) rfl) shapeCasts_S512_S512x1)
    (broadcast S512x1 (Scalar.ofBits .f32 0x42800000#32))) (broadcast S512x1 (Scalar.ofBits .f32 0x358637BD#32)))) broadcasts_S512x1_S512x64)

theorem norm_apply (z : FVec Ideal S512x64 .f32) (i : Fin 512) (e : Fin 64) :
    norm z (ix2 i e) = z (ix2 i e) * invRms 0x42800000#32 (fun c => z (ix2 i c)) := by
  unfold norm
  rw [mulf_apply, spread_col_apply]
  exact congrArg (fun s => z (ix2 i e) * Ideal.rsqrt (Ideal.div s (Ideal.ofBits .f32 0x42800000#32) + eps))
    ((shapeCast_a_a1_apply _ shapeCasts_S512_S512x1 i 0).trans (row_sum_apply (mulf z z) _ _ _ i))

/-- The state a head hands on: the old one times `g`, and the decayed keys times the values. -/
def next (h : Fin 8) (g : EReal) (v ks : FVec Ideal S512x512 .bf16) (st : Vec Ideal S1x64x64 .f32) : FVec Ideal S1x64x64 .f32 :=
  shapeCast S1x64x64 (addf (mulf (broadcast S64x64 (g : Ideal .f32)) (shapeCast S64x64 st shapeCasts_S1x64x64_S64x64) : FVec Ideal S64x64 .f32)
    (matmul dot_S512x64_S512x64_S64x64_0_0_1_1_n_n none (part h ks) (part h v) (constant S64x64 .f32 0x00000000#32))) shapeCasts_S64x64_S1x64x64

theorem next_apply (h : Fin 8) (g : EReal) (v ks : FVec Ideal S512x512 .bf16) (st : Vec Ideal S1x64x64 .f32) (d e : Fin 64) :
    next h g v ks st (ix3 0 d e)
      = g * st (ix3 0 d e) + ∑ j : Fin 512, ks (ix2 j (col h d)) * v (ix2 j (col h e)) := by
  unfold next
  rw [shapeCast_ab_1ab_apply, addf_apply, product_columns_apply, mulf_apply, shapeCast_1ab_ab_apply]
  simp only [part_apply]
  rfl

/-- The gate: the number times its logistic function, as the kernel spells it. -/
def gateOf (x : EReal) : EReal :=
  x * Ideal.div (Ideal.ofBits .f32 0x3F800000#32)
    (Ideal.ofBits .f32 0x3F800000#32 + Ideal.exp (Ideal.ofBits .f32 0x00000000#32 - x))

/-- The eight heads side by side, gated. -/
def gated (g : FVec Ideal S512x512 .f32) (z : Fin 8 → FVec Ideal S512x64 .f32) : FVec Ideal S512x512 .f32 :=
  mulf (mulf g (divf (broadcast S512x512 (Scalar.ofBits .f32 0x3F800000#32)) (addf (broadcast S512x512 (Scalar.ofBits .f32 0x3F800000#32))
      (exp (subf (broadcast S512x512 (Scalar.ofBits .f32 0x00000000#32)) g)))))
    (concatenate S512x512 1 [⟨S512x64, z 0⟩, ⟨S512x64, z 1⟩, ⟨S512x64, z 2⟩, ⟨S512x64, z 3⟩, ⟨S512x64, z 4⟩, ⟨S512x64, z 5⟩, ⟨S512x64, z 6⟩, ⟨S512x64, z 7⟩]
      concatenates_S512x64_S512x64_S512x64_S512x64_S512x64_S512x64_S512x64_S512x64_S512x512_d1)

theorem gated_apply (g : FVec Ideal S512x512 .f32) (z : Fin 8 → FVec Ideal S512x64 .f32) (i : Fin 512) (h : Fin 8) (e : Fin 64) :
    gated g z (ix2 i (col h e)) = gateOf (g (ix2 i (col h e))) * z h (ix2 i e) := by
  unfold gated
  rw [mulf_apply]
  exact congrArg (fun y : EReal => gateOf (g (ix2 i (col h e))) * y)
    (concatenate_ofFn_apply (t := S512x512) (s₁ := S512x64) 1 z
      concatenates_S512x64_S512x64_S512x64_S512x64_S512x64_S512x64_S512x64_S512x64_S512x512_d1 rfl 64 rfl (ix2 i (col h e)) h
      (by show (64 * h.val + e.val) / 64 = h.val; omega) (ix2 i e) (by show e.val = (64 * h.val + e.val) % 64; omega)
      (fun b hb => match b with
        | ⟨0, _⟩ => rfl
        | ⟨1, _⟩ => absurd rfl hb))

end Cert.Layer.RetBlock

end
-- ==== Proof.Ret.Payloads.lean ====
/- The block that one grid point of the retention kernel writes, and the state it hands on, as the eight heads' vector
   operations on the blocks it reads. -/
module

public import proofs.«01_k».proof.Proof.Common.HeadStates
public import proofs.«01_k».proof.Proof.Ret.Head

@[expose] public section

noncomputable section

namespace Cert.Layer.RetBlock

open Cert.KernelIdeal Cert.KernelIdeal.Gen Idealize.ShloMosaic Idealize.ShloMosaic.ValueIdx

/-- The decay of head `h` over a block of 512 positions, as the kernel names it. -/
def blockDecay : Fin 8 → EReal :=
  ![Named.named (F := Ideal) (φ := .f32) κ "g0" 0x33BB35AB#32, Named.named (F := Ideal) (φ := .f32) κ "g1" 0x39A51D40#32,
    Named.named (F := Ideal) (φ := .f32) κ "g2" 0x3C93B415#32, Named.named (F := Ideal) (φ := .f32) κ "g3" 0x3E0A0AA9#32,
    Named.named (F := Ideal) (φ := .f32) κ "g4" 0x3EBC2B91#32, Named.named (F := Ideal) (φ := .f32) κ "g5" 0x3F1B3BE2#32,
    Named.named (F := Ideal) (φ := .f32) κ "g6" 0x3F475C5F#32, Named.named (F := Ideal) (φ := .f32) κ "g7" 0x3F61EA6F#32]

/-- Head `h` of a block before its norm, of the blocks `q k v` of the inputs, the tables `D qd` and the state `T`. -/
def headOf (q k v : FVec Ideal S512x512 .f32) (D : FVec Ideal S8x512x512 .f32) (qd : FVec Ideal S512x512 .f32)
    (T : FVec Ideal S8x64x64 .f32) (h : Fin 8) : FVec Ideal S512x64 .f32 :=
  raw h (k0_pay3 v) (k0_pay4 q) (k0_pay5 k) (k0_pay6 q qd) (slab h D) (slab h T)

/-- The block written: the heads normalised, side by side, gated. -/
def outOf (q k v g : FVec Ideal S512x512 .f32) (D : FVec Ideal S8x512x512 .f32) (qd : FVec Ideal S512x512 .f32)
    (T : FVec Ideal S8x64x64 .f32) : FVec Ideal S512x512 .f32 :=
  gated g fun h => norm (headOf q k v D qd T h)

/-- The state of head `h` handed on. -/
def nextOf (k v kd : FVec Ideal S512x512 .f32) (T : FVec Ideal S8x64x64 .f32) (h : Fin 8) : FVec Ideal S1x64x64 .f32 :=
  next h (blockDecay h) (k0_pay3 v) (k0_pay7 k kd) (slab h T)

/-- The state handed on, all heads. -/
def stateOf (k v kd : FVec Ideal S512x512 .f32) (T : FVec Ideal S8x64x64 .f32) : FVec Ideal S8x64x64 .f32 :=
  stacked (nextOf k v kd T)

section
variable (q k v g : FVec Ideal S512x512 .f32) (D : FVec Ideal S8x512x512 .f32) (qd kd : FVec Ideal S512x512 .f32)
  (T : FVec Ideal S8x64x64 .f32)

/-- The kernel's text for a block is the eight heads. -/
theorem block_eq :
    k0_pay43 (F := Ideal) g (k0_pay11 (k0_pay9 q k v qd (slab 0 D) (slab 0 T)))
      (k0_pay16 (k0_pay13 (k0_pay3 v) (k0_pay4 q) (k0_pay5 k) (k0_pay6 q qd) (slab 1 D) (slab 1 T)))
      (k0_pay21 (k0_pay18 (k0_pay3 v) (k0_pay4 q) (k0_pay5 k) (k0_pay6 q qd) (slab 2 D) (slab 2 T))
        (k0_pay20 (k0_pay3 v) (k0_pay4 q) (k0_pay5 k) (k0_pay6 q qd) (slab 2 D) (slab 2 T)))
      (k0_pay26 (k0_pay23 (k0_pay3 v) (k0_pay4 q) (k0_pay5 k) (k0_pay6 q qd) (slab 3 D) (slab 3 T))
        (k0_pay25 (k0_pay3 v) (k0_pay4 q) (k0_pay5 k) (k0_pay6 q qd) (slab 3 D) (slab 3 T)))
      (k0_pay29 (k0_pay3 v) (k0_pay4 q) (k0_pay5 k) (k0_pay6 q qd) (slab 4 D) (slab 4 T))
      (k0_pay33 (k0_pay3 v) (k0_pay6 q qd) (k0_pay30 (k0_pay4 q) (k0_pay5 k)) (slab 5 D) (slab 5 T))
      (k0_pay37 (k0_pay3 v) (k0_pay6 q qd) (k0_pay34 (k0_pay4 q) (k0_pay5 k) (slab 6 D)) (slab 6 T))
      (k0_pay39 (k0_pay3 v) (k0_pay4 q) (k0_pay5 k) (slab 7 D)) (k0_pay40 (k0_pay6 q qd)) (k0_pay41 (slab 7 T))
      = outOf q k v g D qd T := rfl

end

end Cert.Layer.RetBlock

end
-- ==== Proof.Ret.Runs.lean ====
/- What each kind of grid point of the retention kernel leaves: the first of a sequence starts from the state it is
   given, every other from the state the point before it left; the last also writes that state out. -/
module

public import proofs.«01_k».proof.Proof.Ret.Payloads
public import Idealize.ShloMosaic.Lib.Pipeline.ReadBack

@[expose] public section

noncomputable section

namespace Cert.Layer.RetBlock

open Cert.KernelIdeal Cert.KernelIdeal.Gen Idealize.ShloMosaic Idealize.ShloMosaic.ValueIdx

/-- The eight stores of the states handed on, whatever was stored before. -/
theorem canon_state (k v kd : FVec Ideal S512x512 .f32) (T : FVec Ideal S8x64x64 .f32)
    (L : List (View.Piece (Elt Ideal) S8x64x64 .f32)) :
    View.canon (⟨Rect.unit (s := S8x64x64) ![7, 0, 0] ![1, 64, 64] inb_S8x64x64_S1x64x64_7_0_0, k0_pay42 (F := Ideal) (k0_pay3 v) (k0_pay7 k kd) (k0_pay38 (slab 7 T))⟩ ::
      ⟨Rect.unit (s := S8x64x64) ![6, 0, 0] ![1, 64, 64] inb_S8x64x64_S1x64x64_6_0_0, k0_pay36 (F := Ideal) (k0_pay3 v) (k0_pay7 k kd) (slab 6 T)⟩ ::
      ⟨Rect.unit (s := S8x64x64) ![5, 0, 0] ![1, 64, 64] inb_S8x64x64_S1x64x64_5_0_0, k0_pay32 (F := Ideal) (k0_pay3 v) (k0_pay7 k kd) (slab 5 T)⟩ ::
      ⟨Rect.unit (s := S8x64x64) ![4, 0, 0] ![1, 64, 64] inb_S8x64x64_S1x64x64_4_0_0, k0_pay28 (F := Ideal) (k0_pay3 v) (k0_pay7 k kd) (slab 4 T)⟩ ::
      ⟨Rect.unit (s := S8x64x64) ![3, 0, 0] ![1, 64, 64] inb_S8x64x64_S1x64x64_3_0_0, k0_pay24 (F := Ideal) (k0_pay3 v) (k0_pay7 k kd) (slab 3 T)⟩ ::
      ⟨Rect.unit (s := S8x64x64) ![2, 0, 0] ![1, 64, 64] inb_S8x64x64_S1x64x64_2_0_0, k0_pay19 (F := Ideal) (k0_pay3 v) (k0_pay7 k kd) (slab 2 T)⟩ ::
      ⟨Rect.unit (s := S8x64x64) ![1, 0, 0] ![1, 64, 64] inb_S8x64x64_S1x64x64_1_0_0, k0_pay15 (F := Ideal) (k0_pay14 (k0_pay3 v) (k0_pay7 k kd) (slab 1 T))⟩ ::
      ⟨Rect.unit (s := S8x64x64) ![0, 0, 0] ![1, 64, 64] inb_S8x64x64_S1x64x64_0_0_0, k0_pay10 (F := Ideal) (k0_pay3 v) (k0_pay7 k kd) (k0_pay8 (slab 0 T)) (blockDecay 0)⟩ :: L)
      = stateOf k v kd T :=
  canon_stacked (nextOf k v kd T) L fun n => by
    fin_cases n
    exacts [inb_S8x64x64_S1x64x64_0_0_0, inb_S8x64x64_S1x64x64_1_0_0, inb_S8x64x64_S1x64x64_2_0_0, inb_S8x64x64_S1x64x64_3_0_0,
      inb_S8x64x64_S1x64x64_4_0_0, inb_S8x64x64_S1x64x64_5_0_0, inb_S8x64x64_S1x64x64_6_0_0, inb_S8x64x64_S1x64x64_7_0_0]

section

/-- At the first point of a sequence: the block written. -/
theorem out_A (c : Dev nD) (i : grid0.Coords) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S8x512x512 .f32) (h4 : a4.IsWhole) (a5 : Memref sig .tc .vmem S512x512 .f32) (h5 : a5.IsWhole) (a6 : Memref sig .tc .vmem S512x512 .f32) (h6 : a6.IsWhole) (a7 : Memref sig .tc .vmem S1x8x64x64 .f32) (h7 : a7.IsWhole) (a8 : Memref sig .tc .vmem S512x512 .f32) (h8 : a8.IsWhole) (a9 : Memref sig .tc .vmem S1x8x64x64 .f32) (h9 : a9.IsWhole) (a10 : Memref sig .tc .vmem S8x64x64 .f32) (h10 : a10.IsWhole) (hc0 : cond0_0 i) (hc1 : ¬cond0_1 i) (x0 : FVec Ideal S512x512 .f32) (x1 : FVec Ideal S512x512 .f32) (x2 : FVec Ideal S512x512 .f32) (x3 : FVec Ideal S512x512 .f32) (x4 : FVec Ideal S8x512x512 .f32) (x5 : FVec Ideal S512x512 .f32) (x6 : FVec Ideal S512x512 .f32) (x7 : FVec Ideal S1x8x64x64 .f32) :
    out0_A_8 (F := Ideal) c i a0 h0 a1 h1 a2 h2 a3 h3 a4 h4 a5 h5 a6 h6 a7 h7 a8 h8 a9 h9 a10 h10 hc0 hc1 x0 x1 x2 x3 x4 x5 x6 x7 = outOf x0 x1 x2 x3 x4 x5 (k0_pay2 (F := Ideal) x7) := by
  unfold out0_A_8
  rw [View.read_writes_junk_eq_canon]
  unfold kernelRun0_A
  dsimp only
  refine (View.canon_unit_zero (S := S512x512) (funext fun d => by fin_cases d <;> rfl) _ _).trans ?_
  simp (disch := decide) only [kernelRun0_A.sl.r, kernelRun0_A.sl.r_1, kernelRun0_A.sl.r_2, kernelRun0_A.sl.r_3, kernelRun0_A.sl.r_4, kernelRun0_A.sl.r_7, kernelRun0_A.sl.r_8, kernelRun0_A.sl.r_9, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_24, kernelRun0_A.sl.r_25, kernelRun0_A.sl.r_26, kernelRun0_A.sl.v25, kernelRun0_A.sl.v59, kernelRun0_A.sl.v93, kernelRun0_A.sl.v127, kernelRun0_A.sl.v161, kernelRun0_A.sl.v195, kernelRun0_A.sl.v229, kernelRun0_A.sl.v263, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, ↓View.readCov_skip, read_slab_of_fill 0 (by decide), read_slab_of_fill 1 (by decide), read_slab_of_fill 2 (by decide), read_slab_of_fill 3 (by decide), read_slab_of_fill 4 (by decide), read_slab_of_fill 5 (by decide), read_slab_of_fill 6 (by decide), read_slab_of_fill 7 (by decide)]
  simp only [read_block, read_given, read_slab 0 (by decide), read_slab 1 (by decide), read_slab 2 (by decide), read_slab 3 (by decide), read_slab 4 (by decide), read_slab 5 (by decide), read_slab 6 (by decide), read_slab 7 (by decide)]
  exact block_eq x0 x1 x2 x3 x4 x5 (k0_pay2 (F := Ideal) x7)

/-- At the first point of a sequence: the state left. -/
theorem state_A (c : Dev nD) (i : grid0.Coords) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S8x512x512 .f32) (h4 : a4.IsWhole) (a5 : Memref sig .tc .vmem S512x512 .f32) (h5 : a5.IsWhole) (a6 : Memref sig .tc .vmem S512x512 .f32) (h6 : a6.IsWhole) (a7 : Memref sig .tc .vmem S1x8x64x64 .f32) (h7 : a7.IsWhole) (a8 : Memref sig .tc .vmem S512x512 .f32) (h8 : a8.IsWhole) (a9 : Memref sig .tc .vmem S1x8x64x64 .f32) (h9 : a9.IsWhole) (a10 : Memref sig .tc .vmem S8x64x64 .f32) (h10 : a10.IsWhole) (hc0 : cond0_0 i) (hc1 : ¬cond0_1 i) (x0 : FVec Ideal S512x512 .f32) (x1 : FVec Ideal S512x512 .f32) (x2 : FVec Ideal S512x512 .f32) (x3 : FVec Ideal S512x512 .f32) (x4 : FVec Ideal S8x512x512 .f32) (x5 : FVec Ideal S512x512 .f32) (x6 : FVec Ideal S512x512 .f32) (x7 : FVec Ideal S1x8x64x64 .f32) :
    sout0_A_0 (F := Ideal) c i a0 h0 a1 h1 a2 h2 a3 h3 a4 h4 a5 h5 a6 h6 a7 h7 a8 h8 a9 h9 a10 h10 hc0 hc1 x0 x1 x2 x3 x4 x5 x6 x7 = stateOf x1 x2 x6 (k0_pay2 (F := Ideal) x7) := by
  unfold sout0_A_0
  rw [View.read_writes_junk_eq_canon]
  unfold kernelRun0_A
  dsimp only
  simp (disch := decide) only [kernelRun0_A.sl.r, kernelRun0_A.sl.r_5, kernelRun0_A.sl.r_6, kernelRun0_A.sl.r_10, kernelRun0_A.sl.r_23, kernelRun0_A.sl.v25, kernelRun0_A.sl.v59, kernelRun0_A.sl.v93, kernelRun0_A.sl.v127, kernelRun0_A.sl.v161, kernelRun0_A.sl.v195, kernelRun0_A.sl.v229, kernelRun0_A.sl.v263, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, ↓View.readCov_skip, read_slab_of_fill 0 (by decide), read_slab_of_fill 1 (by decide), read_slab_of_fill 2 (by decide), read_slab_of_fill 3 (by decide), read_slab_of_fill 4 (by decide), read_slab_of_fill 5 (by decide), read_slab_of_fill 6 (by decide), read_slab_of_fill 7 (by decide)]
  simp only [read_block, read_given, read_slab 0 (by decide), read_slab 1 (by decide), read_slab 2 (by decide), read_slab 3 (by decide), read_slab 4 (by decide), read_slab 5 (by decide), read_slab 6 (by decide), read_slab 7 (by decide)]
  exact canon_state x1 x2 x6 (k0_pay2 (F := Ideal) x7) _

/-- At a later point: the block written. -/
theorem out_B (c : Dev nD) (i : grid0.Coords) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S8x512x512 .f32) (h4 : a4.IsWhole) (a5 : Memref sig .tc .vmem S512x512 .f32) (h5 : a5.IsWhole) (a6 : Memref sig .tc .vmem S512x512 .f32) (h6 : a6.IsWhole) (a7 : Memref sig .tc .vmem S1x8x64x64 .f32) (h7 : a7.IsWhole) (a8 : Memref sig .tc .vmem S512x512 .f32) (h8 : a8.IsWhole) (a9 : Memref sig .tc .vmem S1x8x64x64 .f32) (h9 : a9.IsWhole) (a10 : Memref sig .tc .vmem S8x64x64 .f32) (h10 : a10.IsWhole) (hc0 : ¬cond0_0 i) (hc1 : ¬cond0_1 i) (x0 : FVec Ideal S512x512 .f32) (x1 : FVec Ideal S512x512 .f32) (x2 : FVec Ideal S512x512 .f32) (x3 : FVec Ideal S512x512 .f32) (x4 : FVec Ideal S8x512x512 .f32) (x5 : FVec Ideal S512x512 .f32) (x6 : FVec Ideal S512x512 .f32) (x7 : FVec Ideal S1x8x64x64 .f32) (xs : FVec Ideal S8x64x64 .f32) :
    out0_B_8 (F := Ideal) c i a0 h0 a1 h1 a2 h2 a3 h3 a4 h4 a5 h5 a6 h6 a7 h7 a8 h8 a9 h9 a10 h10 hc0 hc1 x0 x1 x2 x3 x4 x5 x6 x7 xs = outOf x0 x1 x2 x3 x4 x5 xs := by
  unfold out0_B_8
  rw [View.read_writes_junk_eq_canon]
  unfold kernelRun0_B
  dsimp only
  refine (View.canon_unit_zero (S := S512x512) (funext fun d => by fin_cases d <;> rfl) _ _).trans ?_
  simp (disch := decide) only [kernelRun0_B.sl.r, kernelRun0_B.sl.r_1, kernelRun0_B.sl.r_2, kernelRun0_B.sl.r_3, kernelRun0_B.sl.r_4, kernelRun0_B.sl.r_7, kernelRun0_B.sl.r_8, kernelRun0_B.sl.r_9, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_24, kernelRun0_B.sl.r_25, kernelRun0_B.sl.r_26, kernelRun0_B.sl.v59, kernelRun0_B.sl.v93, kernelRun0_B.sl.v127, kernelRun0_B.sl.v161, kernelRun0_B.sl.v195, kernelRun0_B.sl.v229, kernelRun0_B.sl.v263]
  simp only [read_block, read_given, read_slab 0 (by decide), read_slab 1 (by decide), read_slab 2 (by decide), read_slab 3 (by decide), read_slab 4 (by decide), read_slab 5 (by decide), read_slab 6 (by decide), read_slab 7 (by decide)]
  exact block_eq x0 x1 x2 x3 x4 x5 xs

/-- At a later point: the state left. -/
theorem state_B (c : Dev nD) (i : grid0.Coords) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S8x512x512 .f32) (h4 : a4.IsWhole) (a5 : Memref sig .tc .vmem S512x512 .f32) (h5 : a5.IsWhole) (a6 : Memref sig .tc .vmem S512x512 .f32) (h6 : a6.IsWhole) (a7 : Memref sig .tc .vmem S1x8x64x64 .f32) (h7 : a7.IsWhole) (a8 : Memref sig .tc .vmem S512x512 .f32) (h8 : a8.IsWhole) (a9 : Memref sig .tc .vmem S1x8x64x64 .f32) (h9 : a9.IsWhole) (a10 : Memref sig .tc .vmem S8x64x64 .f32) (h10 : a10.IsWhole) (hc0 : ¬cond0_0 i) (hc1 : ¬cond0_1 i) (x0 : FVec Ideal S512x512 .f32) (x1 : FVec Ideal S512x512 .f32) (x2 : FVec Ideal S512x512 .f32) (x3 : FVec Ideal S512x512 .f32) (x4 : FVec Ideal S8x512x512 .f32) (x5 : FVec Ideal S512x512 .f32) (x6 : FVec Ideal S512x512 .f32) (x7 : FVec Ideal S1x8x64x64 .f32) (xs : FVec Ideal S8x64x64 .f32) :
    sout0_B_0 (F := Ideal) c i a0 h0 a1 h1 a2 h2 a3 h3 a4 h4 a5 h5 a6 h6 a7 h7 a8 h8 a9 h9 a10 h10 hc0 hc1 x0 x1 x2 x3 x4 x5 x6 x7 xs = stateOf x1 x2 x6 xs := by
  unfold sout0_B_0
  rw [View.read_writes_junk_eq_canon]
  unfold kernelRun0_B
  dsimp only
  simp (disch := decide) only [kernelRun0_B.sl.r, kernelRun0_B.sl.r_5, kernelRun0_B.sl.r_6, kernelRun0_B.sl.r_10, kernelRun0_B.sl.r_23, kernelRun0_B.sl.v59, kernelRun0_B.sl.v93, kernelRun0_B.sl.v127, kernelRun0_B.sl.v161, kernelRun0_B.sl.v195, kernelRun0_B.sl.v229, kernelRun0_B.sl.v263]
  simp only [read_block, read_given, read_slab 0 (by decide), read_slab 1 (by decide), read_slab 2 (by decide), read_slab 3 (by decide), read_slab 4 (by decide), read_slab 5 (by decide), read_slab 6 (by decide), read_slab 7 (by decide)]
  exact canon_state x1 x2 x6 xs _

/-- At the last point: the block written. -/
theorem out_C (c : Dev nD) (i : grid0.Coords) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S8x512x512 .f32) (h4 : a4.IsWhole) (a5 : Memref sig .tc .vmem S512x512 .f32) (h5 : a5.IsWhole) (a6 : Memref sig .tc .vmem S512x512 .f32) (h6 : a6.IsWhole) (a7 : Memref sig .tc .vmem S1x8x64x64 .f32) (h7 : a7.IsWhole) (a8 : Memref sig .tc .vmem S512x512 .f32) (h8 : a8.IsWhole) (a9 : Memref sig .tc .vmem S1x8x64x64 .f32) (h9 : a9.IsWhole) (a10 : Memref sig .tc .vmem S8x64x64 .f32) (h10 : a10.IsWhole) (hc0 : ¬cond0_0 i) (hc1 : cond0_1 i) (x0 : FVec Ideal S512x512 .f32) (x1 : FVec Ideal S512x512 .f32) (x2 : FVec Ideal S512x512 .f32) (x3 : FVec Ideal S512x512 .f32) (x4 : FVec Ideal S8x512x512 .f32) (x5 : FVec Ideal S512x512 .f32) (x6 : FVec Ideal S512x512 .f32) (x7 : FVec Ideal S1x8x64x64 .f32) (xs : FVec Ideal S8x64x64 .f32) :
    out0_C_8 (F := Ideal) c i a0 h0 a1 h1 a2 h2 a3 h3 a4 h4 a5 h5 a6 h6 a7 h7 a8 h8 a9 h9 a10 h10 hc0 hc1 x0 x1 x2 x3 x4 x5 x6 x7 xs = outOf x0 x1 x2 x3 x4 x5 xs := by
  unfold out0_C_8
  rw [View.read_writes_junk_eq_canon]
  unfold kernelRun0_C
  dsimp only
  refine (View.canon_unit_zero (S := S512x512) (funext fun d => by fin_cases d <;> rfl) _ _).trans ?_
  simp (disch := decide) only [kernelRun0_C.sl.r, kernelRun0_C.sl.r_1, kernelRun0_C.sl.r_2, kernelRun0_C.sl.r_3, kernelRun0_C.sl.r_4, kernelRun0_C.sl.r_7, kernelRun0_C.sl.r_8, kernelRun0_C.sl.r_9, kernelRun0_C.sl.r_11, kernelRun0_C.sl.r_12, kernelRun0_C.sl.r_13, kernelRun0_C.sl.r_14, kernelRun0_C.sl.r_15, kernelRun0_C.sl.r_16, kernelRun0_C.sl.r_17, kernelRun0_C.sl.r_18, kernelRun0_C.sl.r_19, kernelRun0_C.sl.r_20, kernelRun0_C.sl.r_21, kernelRun0_C.sl.r_22, kernelRun0_C.sl.r_24, kernelRun0_C.sl.r_25, kernelRun0_C.sl.r_26, kernelRun0_C.sl.v59, kernelRun0_C.sl.v93, kernelRun0_C.sl.v127, kernelRun0_C.sl.v161, kernelRun0_C.sl.v195, kernelRun0_C.sl.v229, kernelRun0_C.sl.v263]
  simp only [read_block, read_given, read_slab 0 (by decide), read_slab 1 (by decide), read_slab 2 (by decide), read_slab 3 (by decide), read_slab 4 (by decide), read_slab 5 (by decide), read_slab 6 (by decide), read_slab 7 (by decide)]
  exact block_eq x0 x1 x2 x3 x4 x5 xs

/-- At the last point: the state left. -/
theorem state_C (c : Dev nD) (i : grid0.Coords) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S8x512x512 .f32) (h4 : a4.IsWhole) (a5 : Memref sig .tc .vmem S512x512 .f32) (h5 : a5.IsWhole) (a6 : Memref sig .tc .vmem S512x512 .f32) (h6 : a6.IsWhole) (a7 : Memref sig .tc .vmem S1x8x64x64 .f32) (h7 : a7.IsWhole) (a8 : Memref sig .tc .vmem S512x512 .f32) (h8 : a8.IsWhole) (a9 : Memref sig .tc .vmem S1x8x64x64 .f32) (h9 : a9.IsWhole) (a10 : Memref sig .tc .vmem S8x64x64 .f32) (h10 : a10.IsWhole) (hc0 : ¬cond0_0 i) (hc1 : cond0_1 i) (x0 : FVec Ideal S512x512 .f32) (x1 : FVec Ideal S512x512 .f32) (x2 : FVec Ideal S512x512 .f32) (x3 : FVec Ideal S512x512 .f32) (x4 : FVec Ideal S8x512x512 .f32) (x5 : FVec Ideal S512x512 .f32) (x6 : FVec Ideal S512x512 .f32) (x7 : FVec Ideal S1x8x64x64 .f32) (xs : FVec Ideal S8x64x64 .f32) :
    sout0_C_0 (F := Ideal) c i a0 h0 a1 h1 a2 h2 a3 h3 a4 h4 a5 h5 a6 h6 a7 h7 a8 h8 a9 h9 a10 h10 hc0 hc1 x0 x1 x2 x3 x4 x5 x6 x7 xs = stateOf x1 x2 x6 xs := by
  unfold sout0_C_0
  rw [View.read_writes_junk_eq_canon]
  unfold kernelRun0_C
  dsimp only
  simp (disch := decide) only [kernelRun0_C.sl.HS0_8, kernelRun0_C.sl.r, kernelRun0_C.sl.r_5, kernelRun0_C.sl.r_6, kernelRun0_C.sl.r_10, kernelRun0_C.sl.r_23, kernelRun0_C.sl.v59, kernelRun0_C.sl.v93, kernelRun0_C.sl.v127, kernelRun0_C.sl.v161, kernelRun0_C.sl.v195, kernelRun0_C.sl.v229, kernelRun0_C.sl.v263]
  simp only [read_block, read_given, read_slab 0 (by decide), read_slab 1 (by decide), read_slab 2 (by decide), read_slab 3 (by decide), read_slab 4 (by decide), read_slab 5 (by decide), read_slab 6 (by decide), read_slab 7 (by decide)]
  exact canon_state x1 x2 x6 xs _

/-- At the last point: the state written out. -/
theorem final_C (c : Dev nD) (i : grid0.Coords) (a0 : Memref sig .tc .vmem S512x512 .f32) (h0 : a0.IsWhole) (a1 : Memref sig .tc .vmem S512x512 .f32) (h1 : a1.IsWhole) (a2 : Memref sig .tc .vmem S512x512 .f32) (h2 : a2.IsWhole) (a3 : Memref sig .tc .vmem S512x512 .f32) (h3 : a3.IsWhole) (a4 : Memref sig .tc .vmem S8x512x512 .f32) (h4 : a4.IsWhole) (a5 : Memref sig .tc .vmem S512x512 .f32) (h5 : a5.IsWhole) (a6 : Memref sig .tc .vmem S512x512 .f32) (h6 : a6.IsWhole) (a7 : Memref sig .tc .vmem S1x8x64x64 .f32) (h7 : a7.IsWhole) (a8 : Memref sig .tc .vmem S512x512 .f32) (h8 : a8.IsWhole) (a9 : Memref sig .tc .vmem S1x8x64x64 .f32) (h9 : a9.IsWhole) (a10 : Memref sig .tc .vmem S8x64x64 .f32) (h10 : a10.IsWhole) (hc0 : ¬cond0_0 i) (hc1 : cond0_1 i) (x0 : FVec Ideal S512x512 .f32) (x1 : FVec Ideal S512x512 .f32) (x2 : FVec Ideal S512x512 .f32) (x3 : FVec Ideal S512x512 .f32) (x4 : FVec Ideal S8x512x512 .f32) (x5 : FVec Ideal S512x512 .f32) (x6 : FVec Ideal S512x512 .f32) (x7 : FVec Ideal S1x8x64x64 .f32) (xs : FVec Ideal S8x64x64 .f32) :
    out0_C_9 (F := Ideal) c i a0 h0 a1 h1 a2 h2 a3 h3 a4 h4 a5 h5 a6 h6 a7 h7 a8 h8 a9 h9 a10 h10 hc0 hc1 x0 x1 x2 x3 x4 x5 x6 x7 xs = k0_pay1 (F := Ideal) (stateOf x1 x2 x6 xs) := by
  unfold out0_C_9
  rw [View.read_writes_junk_eq_canon]
  unfold kernelRun0_C
  dsimp only
  refine (View.canon_unit_zero (S := S1x8x64x64) (funext fun d => by fin_cases d <;> rfl) _ _).trans ?_
  refine congrArg (k0_pay1 (F := Ideal)) ?_
  unfold kernelRun0_C.sl.v304
  rw [View.readCov_eq_canon']
  simp only [kernelRun0_C.sl.HS0_8, kernelRun0_C.sl.r, kernelRun0_C.sl.r_5, kernelRun0_C.sl.r_6, kernelRun0_C.sl.r_10, kernelRun0_C.sl.r_23, kernelRun0_C.sl.v59, kernelRun0_C.sl.v93, kernelRun0_C.sl.v127, kernelRun0_C.sl.v161, kernelRun0_C.sl.v195, kernelRun0_C.sl.v229, kernelRun0_C.sl.v263]
  simp only [read_block, read_given, read_slab 0 (by decide), read_slab 1 (by decide), read_slab 2 (by decide), read_slab 3 (by decide), read_slab 4 (by decide), read_slab 5 (by decide), read_slab 6 (by decide), read_slab 7 (by decide)]
  funext j
  refine (congrFun (canon_state x1 x2 x6 xs _) _).trans (congrArg (stateOf x1 x2 x6 xs) ?_)
  exact (ext_ix3 _ (j 0) (j 1) (j 2) (by show 0 + 1 * (j 0).val = _; omega) (by show 0 + 1 * (j 1).val = _; omega)
    (by show 0 + 1 * (j 2).val = _; omega)).trans (ext_ix3 j _ _ _ rfl rfl rfl).symm

end

end Cert.Layer.RetBlock

end
-- ==== Proof.Ret.Recurrence.lean ====
/- The retention recurrence over the extended reals: what a query reads of its chunk and of the state before it, position
   by position and block by block. The two readings agree up to the sign of an infinity, if queries and values are real. -/
module

public import Idealize.ShloMosaic.Lib.Pipeline.Value
public import Mathlib.Tactic.Ring
public import Mathlib.Data.EReal.Operations
public import Mathlib.Algebra.Order.Ring.WithTop
public import Mathlib.Analysis.SpecialFunctions.Pow.Real

@[expose] public section

noncomputable section

namespace Cert.Layer

open Finset

/-! ## Sums of extended reals -/

/-- A real factor that isn't negative goes into a sum. -/
theorem scale_add {c : ℝ} (hc : 0 ≤ c) (x y : EReal) : (c : EReal) * (x + y) = c * x + c * y :=
  EReal.left_distrib_of_nonneg_of_ne_top (EReal.coe_nonneg.2 hc) (EReal.coe_ne_top c) x y

theorem scale_sum {c : ℝ} (hc : 0 ≤ c) {ι : Type} (t : Finset ι) (f : ι → EReal) : (c : EReal) * ∑ i ∈ t, f i = ∑ i ∈ t, (c : EReal) * f i := by
  classical
  induction t using Finset.induction_on with
  | empty => simp
  | insert i t hi ih => rw [sum_insert hi, sum_insert hi, scale_add hc, ih]

/-- An extended real without the sign of its infinity. Sums and products don't depend on that sign. -/
def unsigned (x : EReal) : WithTop ℝ := if x = ⊤ ∨ x = ⊥ then ⊤ else (x.toReal : WithTop ℝ)

theorem unsigned_top : unsigned ⊤ = ⊤ := if_pos (Or.inl rfl)

theorem unsigned_bot : unsigned ⊥ = ⊤ := if_pos (Or.inr rfl)

theorem unsigned_coe (r : ℝ) : unsigned (r : EReal) = (r : WithTop ℝ) :=
  if_neg fun h => h.elim (EReal.coe_ne_top r) (EReal.coe_ne_bot r)

theorem unsigned_zero : unsigned 0 = 0 := unsigned_coe 0

theorem unsigned_eq_top {x : EReal} (h : unsigned x = ⊤) : x = ⊤ ∨ x = ⊥ := by
  by_contra hx
  rw [unsigned, if_neg hx] at h
  exact WithTop.coe_ne_top h

theorem unsigned_inj {x y : EReal} (h : unsigned x = unsigned y) (hx : unsigned x ≠ ⊤) : x = y := by
  have real : ∀ z : EReal, unsigned z ≠ ⊤ → ∃ r : ℝ, z = r := fun z hz => by
    refine ⟨z.toReal, (EReal.coe_toReal (fun e => hz ?_) (fun e => hz ?_)).symm⟩
    · rw [e, unsigned_top]
    · rw [e, unsigned_bot]
  obtain ⟨r, rfl⟩ := real x hx
  obtain ⟨q, rfl⟩ := real y (h ▸ hx)
  rw [unsigned_coe, unsigned_coe] at h
  exact congrArg _ (WithTop.coe_injective h)

theorem unsigned_add (x y : EReal) : unsigned (x + y) = unsigned x + unsigned y := by
  induction x using EReal.rec <;> induction y using EReal.rec <;>
    simp [unsigned_top, unsigned_bot, unsigned_coe, ← EReal.coe_add]

theorem unsigned_mul (x y : EReal) : unsigned (x * y) = unsigned x * unsigned y := by
  have hcoe : ∀ (r : ℝ) (z : EReal), z = ⊤ ∨ z = ⊥ → unsigned (r * z) = (r : WithTop ℝ) * ⊤ := by
    intro r z hz
    rcases lt_trichotomy r 0 with hr | hr | hr
    · rw [WithTop.mul_top (by exact_mod_cast hr.ne)]
      rcases hz with rfl | rfl
      · rw [EReal.coe_mul_top_of_neg hr, unsigned_bot]
      · rw [EReal.coe_mul_bot_of_neg hr, unsigned_top]
    · rw [hr, EReal.coe_zero, zero_mul, unsigned_zero, WithTop.coe_zero, zero_mul]
    · rw [WithTop.mul_top (by exact_mod_cast hr.ne')]
      rcases hz with rfl | rfl
      · rw [EReal.coe_mul_top_of_pos hr, unsigned_top]
      · rw [EReal.coe_mul_bot_of_pos hr, unsigned_bot]
  induction x using EReal.rec with
  | coe r =>
    induction y using EReal.rec with
    | coe q => rw [← EReal.coe_mul, unsigned_coe, unsigned_coe, unsigned_coe, WithTop.coe_mul]
    | top => rw [hcoe r _ (Or.inl rfl), unsigned_coe, unsigned_top]
    | bot => rw [hcoe r _ (Or.inr rfl), unsigned_coe, unsigned_bot]
  | top =>
    induction y using EReal.rec with
    | coe q => rw [mul_comm, hcoe q _ (Or.inl rfl), unsigned_coe, unsigned_top, mul_comm]
    | top => rw [EReal.top_mul_top, unsigned_top, WithTop.top_mul_top]
    | bot => rw [EReal.top_mul_bot, unsigned_bot, unsigned_top, WithTop.top_mul_top]
  | bot =>
    induction y using EReal.rec with
    | coe q => rw [mul_comm, hcoe q _ (Or.inr rfl), unsigned_coe, unsigned_bot, mul_comm]
    | top => rw [EReal.bot_mul_top, unsigned_bot, unsigned_top, WithTop.top_mul_top]
    | bot => rw [EReal.bot_mul_bot, unsigned_bot, unsigned_top, WithTop.top_mul_top]

theorem unsigned_sum {ι : Type} (t : Finset ι) (f : ι → EReal) : unsigned (∑ i ∈ t, f i) = ∑ i ∈ t, unsigned (f i) := by
  classical
  induction t using Finset.induction_on with
  | empty => simp [unsigned_zero]
  | insert i t hi ih => rw [sum_insert hi, sum_insert hi, unsigned_add, ih]

/-- Without signs every real factor goes into a sum. -/
theorem real_mul_add (c : ℝ) (x y : WithTop ℝ) : (c : WithTop ℝ) * (x + y) = c * x + c * y := by
  rcases eq_or_ne c 0 with hc | hc
  · simp [hc]
  · have hc' : (c : WithTop ℝ) ≠ 0 := by exact_mod_cast hc
    induction x using WithTop.recTopCoe with
    | top => rw [top_add, WithTop.mul_top hc', top_add]
    | coe x =>
      induction y using WithTop.recTopCoe with
      | top => rw [add_top, WithTop.mul_top hc', add_top]
      | coe y => exact_mod_cast congrArg (fun r : ℝ => (r : WithTop ℝ)) (mul_add c x y)

theorem real_mul_sum (c : ℝ) {ι : Type} (t : Finset ι) (f : ι → WithTop ℝ) : (c : WithTop ℝ) * ∑ i ∈ t, f i = ∑ i ∈ t, (c : WithTop ℝ) * f i := by
  classical
  induction t using Finset.induction_on with
  | empty => simp
  | insert i t hi ih => rw [sum_insert hi, sum_insert hi, real_mul_add, ih]

/-! ## The recurrence -/

/-- The retention state of one head, restricted to one component of the values: from `s`, each position scales
    the state by `γ` and adds its key times that component of its value. -/
def stateAt (γ : ℝ) (k : ℕ → Fin 64 → EReal) (w : ℕ → EReal) (s : Fin 64 → EReal) : ℕ → Fin 64 → EReal
  | 0 => s
  | n + 1 => fun d => (γ : EReal) * stateAt γ k w s n d + k n d * w n

/-- `L` positions at once: the old state has decayed `L` times, and the key at place `j` of them `L - 1 - j` times. -/
theorem stateAt_add {γ : ℝ} (hγ : 0 ≤ γ) (k : ℕ → Fin 64 → EReal) (w : ℕ → EReal) (s : Fin 64 → EReal) (a L : ℕ) (d : Fin 64) :
    stateAt γ k w s (a + L) d
      = ((γ ^ L : ℝ) : EReal) * stateAt γ k w s a d + ∑ j ∈ range L, k (a + j) d * ((γ ^ (L - 1 - j) : ℝ) : EReal) * w (a + j) := by
  induction L with
  | zero => simp
  | succ L ih =>
    show (γ : EReal) * stateAt γ k w s (a + L) d + k (a + L) d * w (a + L) = _
    rw [ih, sum_range_succ, scale_add hγ, scale_sum hγ, ← mul_assoc, ← EReal.coe_mul, pow_succ', add_assoc]
    refine congrArg (fun x : EReal => _ + x) (congrArg₂ (fun x y : EReal => x + y) (sum_congr rfl fun j hj => ?_) ?_)
    · have hj := mem_range.1 hj
      rw [show L + 1 - 1 - j = (L - 1 - j) + 1 by omega, pow_succ, EReal.coe_mul]
      ac_rfl
    · rw [Nat.add_sub_cancel, Nat.sub_self, pow_zero, EReal.coe_one, mul_one]

/-- The state `L` positions later: the decayed state and the sum of the decayed keys with the values. -/
theorem later_state {γ : ℝ} (hγ : 0 ≤ γ) (k : ℕ → Fin 64 → EReal) (w : ℕ → EReal) (s : Fin 64 → EReal) (a L : ℕ) (d : Fin 64)
    (K W B : Fin L → EReal) (G S : EReal) (hK : ∀ j, K j = k (a + j.val) d) (hW : ∀ j, W j = w (a + j.val))
    (hB : ∀ j, B j = ((γ ^ (L - 1 - j.val) : ℝ) : EReal)) (hG : G = ((γ ^ L : ℝ) : EReal)) (hS : S = stateAt γ k w s a d) :
    G * S + ∑ j, K j * B j * W j = stateAt γ k w s (a + L) d := by
  rw [stateAt_add hγ, sum_range, hG, hS]
  simp only [hK, hB, hW]

/-! ## The readings -/

/-- What a query at place `i` of the chunk of `64` positions from `a` reads: the whole of its own chunk, each
    position decayed by its distance, and the state before the chunk decayed by `i + 1`. -/
def readAt (γ : ℝ) (q k : ℕ → Fin 64 → EReal) (w : ℕ → EReal) (s : Fin 64 → EReal) (a i : ℕ) : EReal :=
  (∑ j ∈ range 64, (∑ d, q (a + i) d * k (a + j) d) * ((γ ^ ((i : ℤ) - j).natAbs : ℝ) : EReal) * w (a + j))
    + ∑ d, q (a + i) d * ((γ ^ (i + 1) : ℝ) : EReal) * stateAt γ k w s a d

/-- The decay between places `i` and `j` of a block of several chunks: by distance within a chunk, by distance for
    an earlier chunk, none of a later chunk. -/
def decayAt (γ : ℝ) (i j : ℕ) : ℝ :=
  if i / 64 = j / 64 ∨ j / 64 < i / 64 then γ ^ ((i : ℤ) - j).natAbs else 0

/-- A block of eight chunks at once: a query reads every position of the block through `decayAt`, and the state before
    the block. -/
def blockAt (γ : ℝ) (q k : ℕ → Fin 64 → EReal) (w : ℕ → EReal) (s : Fin 64 → EReal) (a i : ℕ) : EReal :=
  (∑ j ∈ range 512, (∑ d, q (a + i) d * k (a + j) d) * (decayAt γ i j : EReal) * w (a + j))
    + ∑ d, q (a + i) d * ((γ ^ (i + 1) : ℝ) : EReal) * stateAt γ k w s a d

/-- The sum over a block, cut at the chunk `c`. -/
theorem sum_block (c : ℕ) (hc : c < 8) (f : ℕ → WithTop ℝ) : (∑ j ∈ range 512, f j)
    = (∑ j ∈ range (64 * c), f j) + ((∑ j ∈ range 64, f (64 * c + j)) + ∑ j ∈ range (512 - (64 * c + 64)), f (64 * c + 64 + j)) := by
  rw [show (512 : ℕ) = 64 * c + 64 + (512 - (64 * c + 64)) by omega, sum_range_add, sum_range_add, add_assoc]
  simp

/-- Both ways of reading agree, up to the sign of an infinity. -/
theorem readAt_eq_block {γ : ℝ} (hγ : 0 ≤ γ) (q k : ℕ → Fin 64 → EReal) (w : ℕ → EReal) (s : Fin 64 → EReal) (a i : ℕ) (hi : i < 512)
    (qr : Fin 64 → ℝ) (wr : ℕ → ℝ) (hq : ∀ d, q (a + i) d = (qr d : EReal)) (hw : ∀ j, w j = (wr j : EReal)) :
    unsigned (readAt γ q k w s (a + 64 * (i / 64)) (i % 64)) = unsigned (blockAt γ q k w s a i) := by
  obtain ⟨c, hc⟩ : ∃ c, c = i / 64 := ⟨_, rfl⟩
  obtain ⟨r, hr⟩ : ∃ r, r = i % 64 := ⟨_, rfl⟩
  have hicr : i = 64 * c + r := by omega
  have hc8 : c < 8 := by omega
  have hq' : ∀ d, q (a + 64 * c + r) d = (qr d : EReal) := fun d => by rw [Nat.add_assoc, ← hicr]; exact hq d
  rw [← hc, ← hr]
  simp only [readAt, blockAt, unsigned_add, unsigned_sum, unsigned_mul, hq, hq', hw, unsigned_coe, stateAt_add hγ k w s a (64 * c)]
  rw [sum_block c hc8]
  have hlate : ∑ j ∈ range (512 - (64 * c + 64)),
      (∑ d, (qr d : WithTop ℝ) * unsigned (k (a + (64 * c + 64 + j)) d)) * (decayAt γ i (64 * c + 64 + j) : WithTop ℝ) * (wr (a + (64 * c + 64 + j)) : WithTop ℝ) = 0 := by
    refine sum_eq_zero fun j _ => ?_
    rw [decayAt, if_neg (by omega), WithTop.coe_zero, mul_zero, zero_mul]
  have hown : ∑ j ∈ range 64, (∑ d, (qr d : WithTop ℝ) * unsigned (k (a + (64 * c + j)) d)) * (decayAt γ i (64 * c + j) : WithTop ℝ) * (wr (a + (64 * c + j)) : WithTop ℝ)
      = ∑ j ∈ range 64, (∑ d, (qr d : WithTop ℝ) * unsigned (k (a + 64 * c + j) d)) * ((γ ^ ((r : ℤ) - j).natAbs : ℝ) : WithTop ℝ) * (wr (a + 64 * c + j) : WithTop ℝ) := by
    refine sum_congr rfl fun j hj => ?_
    have hj := mem_range.1 hj
    rw [decayAt, if_pos (by omega), hicr, show (((64 * c + r : ℕ) : ℤ) - ((64 * c + j : ℕ) : ℤ)).natAbs = ((r : ℤ) - j).natAbs by omega]
    simp only [Nat.add_assoc]
  have hterm : ∀ d, (qr d : WithTop ℝ) * ((γ ^ (r + 1) : ℝ) : WithTop ℝ)
        * (((γ ^ (64 * c) : ℝ) : WithTop ℝ) * unsigned (stateAt γ k w s a d)
          + ∑ j ∈ range (64 * c), unsigned (k (a + j) d) * ((γ ^ (64 * c - 1 - j) : ℝ) : WithTop ℝ) * (wr (a + j) : WithTop ℝ))
      = (∑ j ∈ range (64 * c), (qr d : WithTop ℝ) * unsigned (k (a + j) d) * ((decayAt γ i j * wr (a + j) : ℝ) : WithTop ℝ))
        + (qr d : WithTop ℝ) * ((γ ^ (i + 1) : ℝ) : WithTop ℝ) * unsigned (stateAt γ k w s a d) := by
    intro d
    rw [← WithTop.coe_mul, real_mul_add, real_mul_sum, add_comm]
    refine congrArg₂ (· + ·) (sum_congr rfl fun j hj => ?_) ?_
    · have hj := mem_range.1 hj
      rw [decayAt, if_pos (by omega), show ((i : ℤ) - j).natAbs = (r + 1) + (64 * c - 1 - j) by omega, pow_add γ (r + 1)]
      simp only [WithTop.coe_mul]
      ac_rfl
    · rw [show i + 1 = (r + 1) + 64 * c by omega, pow_add γ (r + 1)]
      simp only [WithTop.coe_mul]
      ac_rfl
  have hpast : ∀ j, (∑ d, (qr d : WithTop ℝ) * unsigned (k (a + j) d)) * (decayAt γ i j : WithTop ℝ) * (wr (a + j) : WithTop ℝ)
      = ∑ d, (qr d : WithTop ℝ) * unsigned (k (a + j) d) * ((decayAt γ i j * wr (a + j) : ℝ) : WithTop ℝ) := by
    intro j
    rw [mul_assoc, ← WithTop.coe_mul, mul_comm, real_mul_sum]
    exact sum_congr rfl fun d _ => mul_comm _ _
  rw [hlate, hown, sum_congr rfl fun d _ => hterm d, sum_add_distrib, sum_comm, sum_congr rfl fun j _ => hpast j, add_zero]
  ac_rfl

/-- What the reference computes for one element of a head before the norm. -/
theorem chunk_read (γ : ℝ) (q k : ℕ → Fin 64 → EReal) (w : ℕ → EReal) (s : Fin 64 → EReal) (a : ℕ) (i : Fin 64)
    (Q : Fin 64 → EReal) (K : Fin 64 → Fin 64 → EReal) (W D : Fin 64 → EReal) (B S : Fin 64 → EReal)
    (hQ : ∀ d, Q d = q (a + i) d) (hK : ∀ j d, K j d = k (a + j.val) d) (hW : ∀ j, W j = w (a + j.val))
    (hD : ∀ j, D j = ((γ ^ ((i.val : ℤ) - j.val).natAbs : ℝ) : EReal))
    (hB : ∀ d, B d = ((γ ^ (i.val + 1) : ℝ) : EReal)) (hS : ∀ d, S d = stateAt γ k w s a d) :
    (∑ j, W j * ((∑ d, Q d * K j d) * D j)) + ∑ d, S d * (Q d * B d) = readAt γ q k w s a i.val := by
  rw [readAt, sum_range]
  refine congrArg₂ (fun x y : EReal => x + y) (sum_congr rfl fun j _ => ?_) (sum_congr rfl fun d _ => ?_)
  · rw [mul_comm, hD, hW]
    simp only [hQ, hK]
  · rw [mul_comm, hQ, hB, hS]

/-- What the kernel computes for one element of a head before the norm, of a block whose tables hold the decays. -/
theorem block_read (γ : ℝ) (q k : ℕ → Fin 64 → EReal) (w : ℕ → EReal) (s : Fin 64 → EReal) (a : ℕ) (i : Fin 512)
    (Q : Fin 64 → EReal) (K : Fin 512 → Fin 64 → EReal) (W D : Fin 512 → EReal) (B S : Fin 64 → EReal)
    (hQ : ∀ d, Q d = q (a + i) d) (hK : ∀ j d, K j d = k (a + j.val) d) (hW : ∀ j, W j = w (a + j.val))
    (hD : ∀ j, D j = (decayAt γ i j.val : EReal)) (hB : ∀ d, B d = ((γ ^ (i.val + 1) : ℝ) : EReal)) (hS : ∀ d, S d = stateAt γ k w s a d) :
    (∑ j, (∑ d, Q d * K j d) * D j * W j) + ∑ d, Q d * B d * S d = blockAt γ q k w s a i.val := by
  rw [blockAt, sum_range]
  simp only [hQ, hK, hW, hD, hB, hS]

/-- The decay rate of a head. -/
def rate (h : ℕ) : ℝ := 1 - (1 / 2) ^ (5 + h)

theorem rate_pos (h : ℕ) : 0 < rate h := by
  have : ((1 : ℝ) / 2) ^ (5 + h) < 1 := pow_lt_one₀ (by norm_num) (by norm_num) (by omega)
  unfold rate
  linarith

/-- A power of the rate from its logarithm. -/
theorem exp_log_rate (h n : ℕ) : Real.exp (Real.log (rate h) * n) = rate h ^ n := by
  rw [mul_comm, Real.exp_nat_mul, Real.exp_log (rate_pos h)]

end Cert.Layer
-- ==== Proof.Ret.Spec.lean ====
/- What the retention layer computes, from the input's rows and the initial state: of every sequence and head the recurrence
   over its 8192 positions, read by chunks of 64. -/
module

public import proofs.«01_k».proof.Proof.Common.Norm
public import proofs.«01_k».proof.Proof.Common.Index
public import proofs.«01_k».proof.Proof.Ret.Recurrence
public import proofs.«01_k».proof.Proof.Ret.Head

@[expose] public section

noncomputable section

namespace Cert.Layer.Ret

open Idealize.ShloMosaic Idealize.ShloMosaic.ValueIdx
open Cert.Layer.RetBlock (col gateOf)

/-- The input: a row for every position of the four sequences; the queries, keys, values and gates of the eight heads lie in
    its first 2048 columns. -/
abbrev Input := (⟨2, ![32768, 3072]⟩ : Shape).Idx → EReal

/-- A state for every sequence and head. -/
abbrev States := (⟨4, ![4, 8, 64, 64]⟩ : Shape).Idx → EReal

/-- The row of a position, and the column of a component of a head in one of the four parts. -/
abbrev rowAt (b : Fin 4) (p : ℕ) (hp : p < 8192) : Fin 32768 := ⟨8192 * b.val + p, by omega⟩
abbrev colAt (n : Fin 4) (h : Fin 8) (d : Fin 64) : Fin 3072 := ⟨512 * n.val + (64 * h.val + d.val), by omega⟩

variable (X : Input) (S : States)

/-- One part of a sequence, one head of it, position by position. -/
def sequence (n : Fin 4) (b : Fin 4) (h : Fin 8) : ℕ → Fin 64 → EReal :=
  fun p d => if hp : p < 8192 then X (ix2 (rowAt b p hp) (colAt n h d)) else 0

/-- Component `e` of the values. -/
def values (b : Fin 4) (h : Fin 8) (e : Fin 64) : ℕ → EReal := fun p => sequence X 2 b h p e

/-- Column `e` of the initial state. -/
def start (b : Fin 4) (h : Fin 8) (e : Fin 64) : Fin 64 → EReal := fun d => S (ix4 b h d e)

/-- The state before position `n`, at `(d, e)`. -/
def held (b : Fin 4) (h : Fin 8) (e : Fin 64) (n : ℕ) (d : Fin 64) : EReal :=
  stateAt (rate h.val) (sequence X 1 b h) (values X b h e) (start S b h e) n d

/-- Component `e` of what position `p` reads, before the norm. -/
def reading (b : Fin 4) (h : Fin 8) (p : ℕ) (e : Fin 64) : EReal :=
  readAt (rate h.val) (sequence X 0 b h) (sequence X 1 b h) (values X b h e) (start S b h e) (64 * (p / 64)) (p % 64)

/-- The same as read by place `i` of the block of eight chunks from `a`. -/
def blockReading (b : Fin 4) (h : Fin 8) (a i : ℕ) (e : Fin 64) : EReal :=
  blockAt (rate h.val) (sequence X 0 b h) (sequence X 1 b h) (values X b h e) (start S b h e) a i

/-- The layer's output: the reading of a head, normalised and gated. -/
def output (b : Fin 4) (h : Fin 8) (p : ℕ) (hp : p < 8192) (e : Fin 64) : EReal :=
  gateOf (X (ix2 (rowAt b p hp) (colAt 3 h e))) * (reading X S b h p e * invRms 0x42800000#32 fun c => reading X S b h p c)

variable {X S}

/-- An element of the input, found in its sequence. -/
theorem sequence_at (n : Fin 4) (b : Fin 4) (h : Fin 8) (d : Fin 64) (p : ℕ) (r : Fin 32768) (c : Fin 3072)
    (hp : p < 8192) (hr : r.val = 8192 * b.val + p) (hc : c.val = 512 * n.val + (64 * h.val + d.val)) :
    X (ix2 r c) = sequence X n b h p d := by
  have er : r = rowAt b p hp := Fin.ext hr
  have ec : c = colAt n h d := Fin.ext hc
  unfold sequence
  rw [dif_pos hp, er, ec]

/-! ## The precondition -/

variable (X) in
/-- Queries and values are real numbers. -/
structure Finite : Prop where
  queries : ∀ (r : Fin 32768) (c : Fin 3072), c.val < 512 → X (ix2 r c) = ((X (ix2 r c)).toReal : EReal)
  values : ∀ (r : Fin 32768) (c : Fin 3072), 1024 ≤ c.val → c.val < 1536 → X (ix2 r c) = ((X (ix2 r c)).toReal : EReal)

theorem Finite.query (hX : Finite X) (b : Fin 4) (h : Fin 8) (p : ℕ) (d : Fin 64) :
    sequence X 0 b h p d = ((sequence X 0 b h p d).toReal : EReal) := by
  unfold sequence
  split
  · exact hX.queries _ _ (by show 512 * 0 + (64 * h.val + d.val) < 512; omega)
  · simp

theorem Finite.value (hX : Finite X) (b : Fin 4) (h : Fin 8) (e : Fin 64) (p : ℕ) :
    Ret.values X b h e p = ((Ret.values X b h e p).toReal : EReal) := by
  unfold Ret.values sequence
  split
  · exact hX.values _ _ (by show 1024 ≤ 512 * 2 + (64 * h.val + e.val); omega) (by show 512 * 2 + (64 * h.val + e.val) < 1536; omega)
  · simp

/-- Both readings of a position agree, up to the sign of an infinity. -/
theorem Finite.reading (hX : Finite X) (b : Fin 4) (h : Fin 8) (a i : ℕ) (ha : a % 64 = 0) (hi : i < 512) (e : Fin 64) :
    unsigned (blockReading X S b h a i e) = unsigned (Ret.reading X S b h (a + i) e) := by
  unfold blockReading Ret.reading
  rw [show 64 * ((a + i) / 64) = a + 64 * (i / 64) by omega, show (a + i) % 64 = i % 64 by omega]
  exact (readAt_eq_block (rate_pos h.val).le _ _ _ _ a i hi _ _ (fun d => hX.query b h (a + i) d) fun j => hX.value b h e j).symm

/-! ## The norm -/

/-- The sum of the squares of a row with an infinite element. -/
theorem squares_infinite {n : ℕ} (u : Row n) (c : Fin n) (hc : unsigned (u c) = ⊤) : (∑ j, u j * u j) = ⊤ := by
  have hsq : u c * u c = ⊤ := by
    rcases unsigned_eq_top hc with h | h <;> rw [h] <;> rfl
  have hpos : ∀ j ∈ Finset.univ, 0 ≤ u j * u j := fun j _ => by
    rcases le_total 0 (u j) with h | h
    · exact EReal.mul_nonneg h h
    · exact EReal.mul_nonneg_iff.2 (Or.inr ⟨h, h⟩)
  exact top_le_iff.1 (hsq.symm.le.trans (Finset.single_le_sum hpos (Finset.mem_univ c)))

theorem top_over : Ideal.div ⊤ (Ideal.ofBits .f32 0x42800000#32) = ⊤ := by
  rw [show Ideal.ofBits .f32 0x42800000#32 = ((64 : ℝ) : EReal) by
      simp [Ideal.ofBits, Ideal.ieee]
      rw [← EReal.coe_mul]
      norm_num,
    Ideal.div_coe (by norm_num), EReal.top_mul_coe_of_pos (by norm_num)]

theorem top_plus : ⊤ + eps = ⊤ := by
  refine EReal.top_add_of_ne_bot ?_
  unfold eps
  simp [Ideal.ofBits, Ideal.ieee]
  rw [← EReal.coe_mul]
  exact EReal.coe_ne_bot _

theorem invRms_infinite {n : ℕ} (u : Row n) (c : Fin n) (hc : unsigned (u c) = ⊤) : invRms 0x42800000#32 u = 0 := by
  unfold invRms
  rw [squares_infinite u c hc, top_over, top_plus, Ideal.rsqrt_top]

/-- The norm takes rows that agree up to the signs of infinities to the same row: with an infinite element it is zero. -/
theorem norm_unsigned {n : ℕ} (u v : Row n) (h : ∀ c, unsigned (u c) = unsigned (v c)) (e : Fin n) :
    u e * invRms 0x42800000#32 u = v e * invRms 0x42800000#32 v := by
  by_cases hf : ∃ c, unsigned (u c) = ⊤
  · obtain ⟨c, hc⟩ := hf
    rw [invRms_infinite u c hc, invRms_infinite v c ((h c).symm.trans hc), mul_zero, mul_zero]
  · have huv : u = v := funext fun c => unsigned_inj (h c) fun hc => hf ⟨c, hc⟩
    rw [huv]

end Cert.Layer.Ret

end
-- ==== Proof.Ret.Block.lean ====
/- One block of 512 positions of the retention kernel: if its inputs are the sequences' vectors from position `a` on, its
   tables the decays and its state the one held before `a`, it writes the block's readings of those positions and hands on the
   state held after them. -/
module

public import proofs.«01_k».proof.Proof.Ret.Payloads
public import proofs.«01_k».proof.Proof.Ret.Spec

@[expose] public section

noncomputable section

namespace Cert.Layer.RetBlock

open Cert.KernelIdeal Cert.KernelIdeal.Gen Idealize.ShloMosaic Idealize.ShloMosaic.ValueIdx
open Cert.Layer Cert.Layer.Ret
open scoped BigOperators

/-- A quotient of whole numbers that is a power of a smaller quotient. -/
theorem quotient_power (N D n d : ℕ) (hN : N = n ^ 512) (hD : D = d ^ 512) : (N : ℝ) / (D : ℝ) = ((n : ℝ) / d) ^ 512 := by
  rw [hN, hD, div_pow, Nat.cast_pow, Nat.cast_pow]

set_option exponentiation.threshold 600 in
/-- The named decays are the heads' rates over 512 positions. -/
theorem blockDecay_eq (h : Fin 8) : blockDecay h = ((rate h.val ^ 512 : ℝ) : EReal) := by
  unfold rate
  fin_cases h <;> refine (IdealRules.named_const.ideal_named_scalar _ _ _ _ rfl).trans (congrArg _ ?_)
  · exact_mod_cast (quotient_power _ _ 31 32 (by decide +kernel) (by decide +kernel)).trans (by norm_num)
  · exact_mod_cast (quotient_power _ _ 63 64 (by decide +kernel) (by decide +kernel)).trans (by norm_num)
  · exact_mod_cast (quotient_power _ _ 127 128 (by decide +kernel) (by decide +kernel)).trans (by norm_num)
  · exact_mod_cast (quotient_power _ _ 255 256 (by decide +kernel) (by decide +kernel)).trans (by norm_num)
  · exact_mod_cast (quotient_power _ _ 511 512 (by decide +kernel) (by decide +kernel)).trans (by norm_num)
  · exact_mod_cast (quotient_power _ _ 1023 1024 (by decide +kernel) (by decide +kernel)).trans (by norm_num)
  · exact_mod_cast (quotient_power _ _ 2047 2048 (by decide +kernel) (by decide +kernel)).trans (by norm_num)
  · exact_mod_cast (quotient_power _ _ 4095 4096 (by decide +kernel) (by decide +kernel)).trans (by norm_num)

variable {X : Input} {S : States} (b : Fin 4) (a : ℕ)

theorem kept_apply (k t : FVec Ideal S512x512 .f32) (j : S512x512.Idx) : (k0_pay7 (F := Ideal) k t j : EReal) = (k j * t j : EReal) := by
  unfold k0_pay7
  rw [shapeCast_self]
  rfl

theorem read_apply (k t : FVec Ideal S512x512 .f32) (j : S512x512.Idx) : (k0_pay6 (F := Ideal) k t j : EReal) = (k j * t j : EReal) := by
  unfold k0_pay6
  rw [shapeCast_self]
  rfl

theorem state_step (k v kd : FVec Ideal S512x512 .f32) (T : FVec Ideal S8x64x64 .f32) (h : Fin 8) (d e : Fin 64)
    (hk : ∀ (j : Fin 512), k (ix2 j (col h d)) = sequence X 1 b h (a + j.val) d)
    (hv : ∀ (j : Fin 512), v (ix2 j (col h e)) = values X b h e (a + j.val))
    (hkd : ∀ (j : Fin 512), kd (ix2 j (col h d)) = ((rate h.val ^ (512 - 1 - j.val) : ℝ) : EReal))
    (hT : T (ix3 h d e) = held X S b h e a d) :
    stateOf k v kd T (ix3 h d e) = held X S b h e (a + 512) d := by
  refine (next_apply h (blockDecay h) (k0_pay3 v) (k0_pay7 k kd) (slab h T) d e).trans ?_
  simp only [kept_apply]
  exact later_state (rate_pos h.val).le (sequence X 1 b h) (values X b h e) (start S b h e) a 512 d (fun j => k (ix2 j (col h d)))
    (fun j => v (ix2 j (col h e))) (fun j => kd (ix2 j (col h d))) (blockDecay h) (T (ix3 h d e)) hk hv hkd (blockDecay_eq h) hT

theorem head_apply (q k v : FVec Ideal S512x512 .f32) (D : FVec Ideal S8x512x512 .f32) (qd : FVec Ideal S512x512 .f32) (T : FVec Ideal S8x64x64 .f32)
    (h : Fin 8) (i : Fin 512) (e : Fin 64)
    (hq : ∀ d, q (ix2 i (col h d)) = sequence X 0 b h (a + i.val) d)
    (hk : ∀ (j : Fin 512) d, k (ix2 j (col h d)) = sequence X 1 b h (a + j.val) d)
    (hv : ∀ (j : Fin 512), v (ix2 j (col h e)) = values X b h e (a + j.val))
    (hD : ∀ j : Fin 512, D (ix3 h i j) = ((decayAt (rate h.val) i.val j.val : ℝ) : EReal))
    (hqd : ∀ d, qd (ix2 i (col h d)) = ((rate h.val ^ (i.val + 1) : ℝ) : EReal))
    (hT : ∀ d, T (ix3 h d e) = held X S b h e a d) :
    headOf q k v D qd T h (ix2 i e) = blockReading X S b h a i.val e := by
  refine (raw_apply h (k0_pay3 v) (k0_pay4 q) (k0_pay5 k) (k0_pay6 q qd) (slab h D) (slab h T) i e).trans ?_
  simp only [read_apply]
  exact block_read (rate h.val) (sequence X 0 b h) (sequence X 1 b h) (values X b h e) (start S b h e) a i (fun d => q (ix2 i (col h d)))
    (fun j d => k (ix2 j (col h d))) (fun j => v (ix2 j (col h e))) (fun j => D (ix3 h i j)) (fun d => qd (ix2 i (col h d)))
    (fun d => T (ix3 h d e)) hq hk hv hD hqd hT

theorem block_apply (q k v g : FVec Ideal S512x512 .f32) (D : FVec Ideal S8x512x512 .f32) (qd : FVec Ideal S512x512 .f32) (T : FVec Ideal S8x64x64 .f32)
    (h : Fin 8) (i : Fin 512) (e : Fin 64)
    (hq : ∀ d, q (ix2 i (col h d)) = sequence X 0 b h (a + i.val) d)
    (hk : ∀ (j : Fin 512) d, k (ix2 j (col h d)) = sequence X 1 b h (a + j.val) d)
    (hv : ∀ (j : Fin 512) e, v (ix2 j (col h e)) = values X b h e (a + j.val))
    (hD : ∀ j : Fin 512, D (ix3 h i j) = ((decayAt (rate h.val) i.val j.val : ℝ) : EReal))
    (hqd : ∀ d, qd (ix2 i (col h d)) = ((rate h.val ^ (i.val + 1) : ℝ) : EReal))
    (hT : ∀ d e, T (ix3 h d e) = held X S b h e a d) :
    outOf q k v g D qd T (ix2 i (col h e)) = gateOf (g (ix2 i (col h e)))
      * (blockReading X S b h a i.val e * invRms 0x42800000#32 fun c => blockReading X S b h a i.val c) := by
  have hr : ∀ c : Fin 64, headOf q k v D qd T h (ix2 i c) = blockReading X S b h a i.val c := fun c =>
    head_apply b a q k v D qd T h i c hq hk (fun j => hv j c) hD hqd fun d => hT d c
  unfold outOf
  rw [gated_apply, norm_apply]
  simp only [hr]

end Cert.Layer.RetBlock

end
-- ==== Proof.Ret.Host.lean ====
/- The tables the host prepares for the retention kernel, read at an element: the decay between two places of a block, the
   decay of the state at a place, and the decay of a key until the end of the block. -/
module

public import Idealize.ShloMosaic.Lib.IdealHost
public import proofs.«01_k».proof.Proof.Common.Index
public import proofs.«01_k».proof.Proof.Ret.Recurrence
public import proofs.«01_k».proof.Proof.Gen.KernelIdeal.Value

@[expose] public section

noncomputable section

namespace Cert.Layer.RetHost

open Cert.KernelIdeal Cert.KernelIdeal.Gen Idealize.ShloMosaic Idealize.ShloMosaic.ValueIdx Idealize.ShloMosaic.TcCoe
open Cert.Layer

/-! ## The places of a block and their chunks -/

/-- The places `0 … 511` of a block. -/
def places : IVec S512 32 := iotaInDim S512 32 0

/-- One number at every place. -/
abbrev every (n : BitVec 32) : IVec S512 32 := broadcastInDim S512 ![] bcast_S_S512 (constantI S_ 32 n)

/-- The chunk of 64 places that each place lies in, as the host's floor division finds it. -/
def chunks : IVec S512 32 :=
  select (andi (cmpi .ne (signi places) (broadcastInDim S512 ![] bcast_S_S512 (signi (constantI S_ 32 64#32))))
      (cmpi .ne (Host.remsi places (every 64#32)) (every 0#32)))
    (subi (Host.divsi places (every 64#32)) (every 1#32)) (Host.divsi places (every 64#32))

theorem chunks_apply : ∀ i : Fin 512, chunks (ix1 i) = BitVec.ofNat 32 (i.val / 64) := by
  decide +kernel

/-- A number for each place, along the rows of a square table and along its columns. -/
def byRow (x : IVec S512 32) : IVec S512x512 32 :=
  broadcastInDim S512x512 ![0, 1] bcast_S512x1_S512x512_0_1 (broadcastInDim S512x1 ![0] bcast_S512_S512x1_0 x)

def byCol (x : IVec S512 32) : IVec S512x512 32 :=
  broadcastInDim S512x512 ![0, 1] bcast_S1x512_S512x512_0_1 (broadcastInDim S1x512 ![1] bcast_S512_S1x512_1 x)

theorem byRow_apply (x : IVec S512 32) (i j : Fin 512) : byRow x (ix2 i j) = x (ix1 i) := by
  unfold byRow
  refine congrArg x (ext_ix1 _ i ?_)
  rfl

theorem byCol_apply (x : IVec S512 32) (i j : Fin 512) : byCol x (ix2 i j) = x (ix1 j) := by
  unfold byCol
  refine congrArg x (ext_ix1 _ j ?_)
  rfl

/-- Two places lie in one chunk; the second lies in an earlier chunk. -/
def same : IVec S512x512 1 := cmpi .eq (byRow chunks) (byCol chunks)
def below : IVec S512x512 1 := cmpi .slt (byCol chunks) (byRow chunks)

/-- How often the decay is applied between two places. -/
def steps : IVec S512x512 32 :=
  select same (absi (subi (byRow places) (byCol places)))
    (select below (subi (byRow places) (byCol places)) (broadcastInDim S512x512 ![] bcast_S_S512x512 (constantI S_ 32 0#32)))

/-- The logarithms of the eight heads' decays. -/
def logs : FVec Ideal S8 .f32 := Host.log (F := Ideal) (φ := .f32) fun i => FloatOps.ofBits (F := Ideal) .f32 (lit0 (S8.rowMajor i))

/-- The table of decays between two places. -/
def decays : FVec Ideal S8x512x512 .f32 :=
  mulf (Host.exp (mulf (broadcastInDim S8x512x512 ![0, 1, 2] bcast_S8x1x1_S8x512x512_0_1_2 (broadcastInDim S8x1x1 ![0] bcast_S8_S8x1x1_0 logs))
      (broadcastInDim S8x512x512 ![0, 1, 2] bcast_S1x512x512_S8x512x512_0_1_2
        (broadcastInDim S1x512x512 ![1, 2] bcast_S512x512_S1x512x512_1_2 (sitofp (F := Ideal) .f32 steps)))))
    (broadcastInDim S8x512x512 ![0, 1, 2] bcast_S1x512x512_S8x512x512_0_1_2
      (uitofp (F := Ideal) .f32 (broadcastInDim S1x512x512 ![1, 2] bcast_S512x512_S1x512x512_1_2 (ori same below))))

/-- One exponent for each place, raised to by every head, each head's power in its 64 columns. -/
def powers (n : FVec Ideal S512 .f32) : FVec Ideal S512x512 .f32 :=
  shapeCast S512x512 (broadcastInDim S512x8x64 ![0, 1] bcast_S512x8_S512x8x64_0_1
    (Host.exp (F := Ideal) (φ := .f32) (mulf (broadcastInDim S512x8 ![0, 1] bcast_S1x8_S512x8_0_1 (broadcastInDim S1x8 ![1] bcast_S8_S1x8_1 logs))
      (broadcastInDim S512x8 ![0, 1] bcast_S512x1_S512x8_0_1 (broadcastInDim S512x1 ![0] bcast_S512_S512x1_0 n)))))
    shapeCasts_S512x8x64_S512x512

/-- One more than each place, and its distance from the last place. -/
def after : FVec Ideal S512 .f32 :=
  addf (sitofp (F := Ideal) .f32 places) (broadcastInDim S512 ![] bcast_S_S512 (constant (F := Ideal) S_ .f32 0x3F800000#32))
def before : FVec Ideal S512 .f32 :=
  subf (broadcastInDim S512 ![] bcast_S_S512 (constant (F := Ideal) S_ .f32 0x43FF8000#32)) (sitofp (F := Ideal) .f32 places)

/-! ## What the region finds -/

section
variable (m : (ℓ : Loc nD τ sig) → Buf (Elt Ideal) ℓ) (c : Dev nD)

theorem entry_decays : (V m c main_v32 : S8x512x512.Idx → EReal) = decays := by
  unfold V
  simp only [hostOps0, hostOps0_1, hostOps0_2, hostOps0_3, hostOps0_4, hostOps0_5, List.flatten_cons, List.flatten_nil, List.append_nil,
    List.cons_append, List.nil_append]
  after_results_simp <;> (try dsimp only [Matrix.cons_val]) <;> (try after_results_simp) <;> rfl

theorem entry_after : (V m c main_v51 : S512x512.Idx → EReal) = powers after := by
  unfold V
  simp only [hostOps0, hostOps0_1, hostOps0_2, hostOps0_3, hostOps0_4, hostOps0_5, List.flatten_cons, List.flatten_nil, List.append_nil,
    List.cons_append, List.nil_append]
  after_results_simp <;> (try dsimp only [Matrix.cons_val]) <;> (try after_results_simp) <;> rfl

theorem entry_before : (V m c main_v53 : S512x512.Idx → EReal) = powers before := by
  unfold V
  simp only [hostOps0, hostOps0_1, hostOps0_2, hostOps0_3, hostOps0_4, hostOps0_5, List.flatten_cons, List.flatten_nil, List.append_nil,
    List.cons_append, List.nil_append]
  after_results_simp <;> (try dsimp only [Matrix.cons_val]) <;> (try after_results_simp) <;> rfl

end

/-! ## The tables at an element -/

theorem rate_bits : ∀ h : Fin 8, Ideal.ofBits .f32 (lit0 h) = ((rate h.val : ℝ) : EReal) := by
  intro h
  unfold rate
  rw [EReal.coe_sub]
  fin_cases h <;> (simp [Ideal.ofBits, Ideal.ieee, lit0, -EReal.coe_mul]; rw [show (1 : EReal) = ((1 : ℝ) : EReal) from rfl, ← EReal.coe_sub]; norm_num)

theorem logs_apply (h : Fin 8) : logs (ix1 h) = ((Real.log (rate h.val) : ℝ) : EReal) := by
  show Ideal.log (Ideal.ofBits .f32 (lit0 (S8.rowMajor (ix1 h)))) = _
  rw [show S8.rowMajor (ix1 h) = h from Fin.ext (Shape.rowMajor_val_one _), rate_bits]
  exact if_neg (not_le.2 (rate_pos h.val))

theorem places_toInt : ∀ i : Fin 512, (places (ix1 i)).toInt = (i.val : ℤ) := by
  decide +kernel

theorem same_apply (i j : Fin 512) : same (ix2 i j) = if i.val / 64 = j.val / 64 then 1#1 else 0#1 := by
  unfold same
  show IntOp.cmpi .eq (byRow chunks (ix2 i j)) (byCol chunks (ix2 i j)) = _
  rw [byRow_apply, byCol_apply, chunks_apply, chunks_apply]
  exact (by decide +kernel : ∀ a b : Fin 8, IntOp.cmpi .eq (BitVec.ofNat 32 a.val) (BitVec.ofNat 32 b.val) = if a.val = b.val then 1#1 else 0#1)
    ⟨i.val / 64, by omega⟩ ⟨j.val / 64, by omega⟩

theorem below_apply (i j : Fin 512) : below (ix2 i j) = if j.val / 64 < i.val / 64 then 1#1 else 0#1 := by
  unfold below
  show IntOp.cmpi .slt (byCol chunks (ix2 i j)) (byRow chunks (ix2 i j)) = _
  rw [byRow_apply, byCol_apply, chunks_apply, chunks_apply]
  exact (by decide +kernel : ∀ a b : Fin 8, IntOp.cmpi .slt (BitVec.ofNat 32 b.val) (BitVec.ofNat 32 a.val) = if b.val < a.val then 1#1 else 0#1)
    ⟨i.val / 64, by omega⟩ ⟨j.val / 64, by omega⟩

theorem diff_toInt (a b : ℕ) (ha : a < 512) (hb : b < 512) (hab : b ≤ a) :
    (BitVec.ofNat 32 a - BitVec.ofNat 32 b).toInt = (((a : ℤ) - b).natAbs : ℤ) := by
  rw [BitVec.toInt_eq_toNat_cond]
  simp only [BitVec.toNat_sub, BitVec.toNat_ofNat]
  split <;> omega

theorem abs_toInt (a b : ℕ) (ha : a < 512) (hb : b < 512) :
    (IntOp.absi (BitVec.ofNat 32 a - BitVec.ofNat 32 b)).toInt = (((a : ℤ) - b).natAbs : ℤ) := by
  unfold IntOp.absi
  rw [BitVec.msb_eq_decide]
  split <;> rename_i h <;> simp only [decide_eq_true_eq, BitVec.toNat_sub, BitVec.toNat_ofNat] at h <;>
    rw [BitVec.toInt_eq_toNat_cond] <;> simp only [BitVec.toNat_neg, BitVec.toNat_sub, BitVec.toNat_ofNat] <;> split <;> omega

theorem steps_apply (i j : Fin 512) (hij : i.val / 64 = j.val / 64 ∨ j.val / 64 < i.val / 64) :
    (steps (ix2 i j)).toInt = (((i.val : ℤ) - j.val).natAbs : ℤ) := by
  have hd : subi (byRow places) (byCol places) (ix2 i j) = BitVec.ofNat 32 i.val - BitVec.ofNat 32 j.val :=
    congrArg₂ (fun a b : BitVec 32 => a - b) (byRow_apply places i j) (byCol_apply places i j)
  have hs : steps (ix2 i j) = if same (ix2 i j) = 1#1 then IntOp.absi (subi (byRow places) (byCol places) (ix2 i j))
      else if below (ix2 i j) = 1#1 then subi (byRow places) (byCol places) (ix2 i j) else 0#32 := rfl
  rw [hs, hd, same_apply, below_apply]
  by_cases h : i.val / 64 = j.val / 64
  · rw [if_pos h, if_pos rfl]
    exact abs_toInt _ _ i.isLt j.isLt
  · rw [if_neg h, if_neg (by decide), if_pos (hij.resolve_left h), if_pos rfl]
    exact diff_toInt _ _ i.isLt j.isLt (by have := hij.resolve_left h; omega)

theorem decays_apply (h : Fin 8) (i j : Fin 512) : decays (ix3 h i j) = ((decayAt (rate h.val) i.val j.val : ℝ) : EReal) := by
  have hl : broadcastInDim S8x512x512 ![0, 1, 2] bcast_S8x1x1_S8x512x512_0_1_2 (broadcastInDim S8x1x1 ![0] bcast_S8_S8x1x1_0 logs) (ix3 h i j)
      = logs (ix1 h) := congrArg logs (ext_ix1 _ h rfl)
  have hn : broadcastInDim S8x512x512 ![0, 1, 2] bcast_S1x512x512_S8x512x512_0_1_2
      (broadcastInDim S1x512x512 ![1, 2] bcast_S512x512_S1x512x512_1_2 (sitofp (F := Ideal) .f32 steps)) (ix3 h i j)
      = (((steps (ix2 i j)).toInt : ℝ) : EReal) := congrArg (sitofp (F := Ideal) .f32 steps) (ext_ix2 _ i j rfl rfl)
  have hm : broadcastInDim S8x512x512 ![0, 1, 2] bcast_S1x512x512_S8x512x512_0_1_2
      (uitofp (F := Ideal) .f32 (broadcastInDim S1x512x512 ![1, 2] bcast_S512x512_S1x512x512_1_2 (ori same below))) (ix3 h i j)
      = ((((same (ix2 i j) ||| below (ix2 i j)).toNat : ℕ) : ℝ) : EReal) :=
    congrArg (fun x => (uitofp (F := Ideal) (s := S512x512) .f32 (ori same below)) x) (ext_ix2 _ i j rfl rfl)
  show Ideal.exp (_ * _) * _ = _
  rw [hl, hn, hm, logs_apply, same_apply, below_apply, ← EReal.coe_mul, Ideal.exp_coe, ← EReal.coe_mul]
  refine congrArg _ ?_
  unfold decayAt
  by_cases hij : i.val / 64 = j.val / 64 ∨ j.val / 64 < i.val / 64
  · rw [if_pos hij, steps_apply i j hij]
    have h1 : ((((if i.val / 64 = j.val / 64 then 1#1 else 0#1) ||| (if j.val / 64 < i.val / 64 then 1#1 else 0#1) : BitVec 1).toNat : ℕ) : ℝ) = 1 := by
      rcases hij with h | h
      · rw [if_pos h]; split <;> norm_num
      · rw [if_pos h]; split <;> norm_num
    rw [h1, mul_one, Int.cast_natCast, exp_log_rate]
  · rw [if_neg hij]
    rw [not_or] at hij
    rw [if_neg hij.1, if_neg hij.2]
    norm_num

theorem powers_apply (n : FVec Ideal S512 .f32) (i : Fin 512) (h : Fin 8) (d : Fin 64) (q : ℕ) (hn : n (ix1 i) = ((q : ℝ) : EReal)) (c : Fin 512)
    (hc : c.val = 64 * h.val + d.val) : powers n (ix2 i c) = ((rate h.val ^ q : ℝ) : EReal) := by
  unfold powers
  rw [shapeCast_apply _ _ (ix2 i c) (ix3 i h d) (by
    rw [Shape.rowMajor_val_three, Shape.rowMajor_val_two]
    show (i.val * 8 + h.val) * 64 + d.val = i.val * 512 + c.val
    omega)]
  rw [← exp_log_rate, ← Ideal.exp_coe, EReal.coe_mul, ← logs_apply, ← hn]
  refine congrArg Ideal.exp (congrArg₂ (fun a b : EReal => a * b) (congrArg logs (ext_ix1 _ h rfl)) (congrArg n (ext_ix1 _ i rfl)))

theorem after_apply (i : Fin 512) : after (ix1 i) = (((i.val + 1 : ℕ) : ℝ) : EReal) := by
  show (((places (ix1 i)).toInt : ℝ) : EReal) + Ideal.ofBits .f32 0x3F800000#32 = _
  rw [places_toInt, Ideal.ofBits_one_f32, show (1 : EReal) = ((1 : ℝ) : EReal) from rfl, ← EReal.coe_add]
  push_cast
  rfl

theorem last_bits : Ideal.ofBits .f32 0x43FF8000#32 = ((511 : ℝ) : EReal) := by
  simp [Ideal.ofBits, Ideal.ieee, -EReal.coe_mul]; norm_num

theorem before_apply (i : Fin 512) : before (ix1 i) = (((512 - 1 - i.val : ℕ) : ℝ) : EReal) := by
  show Ideal.ofBits .f32 0x43FF8000#32 - (((places (ix1 i)).toInt : ℝ) : EReal) = _
  rw [places_toInt, last_bits, ← EReal.coe_sub, Nat.cast_sub (by omega : i.val ≤ 512 - 1)]
  norm_num

end Cert.Layer.RetHost

end
-- ==== Proof.Ret.Array.lean ====
/- The arrays the idealized retention call leaves, read at an element. Grid point `t` works on block `t % 16` of sequence
   `t / 16`; the state it finds in the scratch is the one held before that block. -/
module

public import proofs.«01_k».proof.Proof.Ret.Runs
public import proofs.«01_k».proof.Proof.Ret.Block
public import proofs.«01_k».proof.Proof.Ret.Host
public import proofs.«01_k».proof.Proof.Gen.KernelIdeal.Value

@[expose] public section

noncomputable section

namespace Cert.Layer.RetArray

open Cert.KernelIdeal Cert.KernelIdeal.Gen Cert.KernelIdeal.Value Idealize.ShloMosaic Idealize.ShloMosaic.ValueIdx Idealize.ShloMosaic.TcCoe
open Idealize.ShloMosaic.Pipeline (Dat Window)
open Cert.Layer Cert.Layer.Ret Cert.Layer.RetBlock Cert.Layer.RetHost

variable (m : (ℓ : Loc nD τ sig) → Buf (Elt Ideal) ℓ) (c : Dev nD)

/-- The input and the initial states of core `c`. -/
abbrev inputOf : Input := m ((c : Thread nD τ).loc main_arg0)
abbrev statesOf : States := m ((c : Thread nD τ).loc main_arg1)

/-! ## Where the windows' blocks lie -/

theorem place_parts : ∀ t : Fin cfg0.N, (win0_0.index t 0 = t.val ∧ win0_0.index t 1 = 0) ∧ (win0_1.index t 0 = t.val ∧ win0_1.index t 1 = 1)
    ∧ (win0_2.index t 0 = t.val ∧ win0_2.index t 1 = 2) ∧ (win0_3.index t 0 = t.val ∧ win0_3.index t 1 = 3) := by
  decide +kernel

theorem place_tables : ∀ t : Fin cfg0.N, (win0_4.index t 0 = 0 ∧ win0_4.index t 1 = 0 ∧ win0_4.index t 2 = 0) ∧ (win0_5.index t 0 = 0 ∧ win0_5.index t 1 = 0)
    ∧ (win0_6.index t 0 = 0 ∧ win0_6.index t 1 = 0) := by
  decide +kernel

theorem place_state : ∀ t : Fin cfg0.N, win0_7.index t 0 = t.val / 16 ∧ win0_7.index t 1 = 0 ∧ win0_7.index t 2 = 0 ∧ win0_7.index t 3 = 0 := by
  decide +kernel

theorem place_out : ∀ t : Fin cfg0.N, win0_8.index t 0 = t.val ∧ win0_8.index t 1 = 0 := by
  decide +kernel

theorem place_final : ∀ t : Fin cfg0.N, win0_9.index t 0 = t.val / 16 ∧ win0_9.index t 1 = 0 ∧ win0_9.index t 2 = 0 ∧ win0_9.index t 3 = 0 := by
  decide +kernel

theorem points (t : Fin cfg0.N) : t.val < 64 := lt_of_lt_of_eq t.isLt N_0

/-- The sequence of a point, and the row of the whole arrays that is row `p` of its blocks. -/
abbrev seqAt (t : Fin cfg0.N) : Fin 4 := ⟨t.val / 16, by have := points t; omega⟩
abbrev rowOf (t : Fin cfg0.N) (p : Fin 512) : Fin 32768 := ⟨t.val * 512 + p.val, by have := points t; omega⟩

theorem at_origin (n k : ℕ) : 0 * n + k = k := (congrArg (· + k) (Nat.zero_mul n)).trans (Nat.zero_add k)

theorem block_q (t : Fin cfg0.N) (p k : Fin 512) (k' : Fin 3072) (hk : k'.val = 0 * 512 + k.val) : iblk m c 0 t (ix2 p k) = inputOf m c (ix2 (rowOf t p) k') := by
  unfold iblk
  rw [View.read_apply]
  show V m c main_arg0 _ = _
  rw [V_main_arg0]
  refine congrArg _ (ext_ix2 _ _ _ ?_ ?_)
  · exact (Window.rect_emb_val (cfg0.win 0) t (ix2 p k) 0).trans (by rw [show (cfg0.win 0).index t 0 = t.val from (place_parts t).1.1]; rfl)
  · exact (Window.rect_emb_val (cfg0.win 0) t (ix2 p k) 1).trans (by rw [show (cfg0.win 0).index t 1 = 0 from (place_parts t).1.2]; exact hk.symm)

theorem block_k (t : Fin cfg0.N) (p k : Fin 512) (k' : Fin 3072) (hk : k'.val = 1 * 512 + k.val) : iblk m c 1 t (ix2 p k) = inputOf m c (ix2 (rowOf t p) k') := by
  unfold iblk
  rw [View.read_apply]
  show V m c main_arg0 _ = _
  rw [V_main_arg0]
  refine congrArg _ (ext_ix2 _ _ _ ?_ ?_)
  · exact (Window.rect_emb_val (cfg0.win 1) t (ix2 p k) 0).trans (by rw [show (cfg0.win 1).index t 0 = t.val from (place_parts t).2.1.1]; rfl)
  · exact (Window.rect_emb_val (cfg0.win 1) t (ix2 p k) 1).trans (by rw [show (cfg0.win 1).index t 1 = 1 from (place_parts t).2.1.2]; exact hk.symm)

theorem block_v (t : Fin cfg0.N) (p k : Fin 512) (k' : Fin 3072) (hk : k'.val = 2 * 512 + k.val) : iblk m c 2 t (ix2 p k) = inputOf m c (ix2 (rowOf t p) k') := by
  unfold iblk
  rw [View.read_apply]
  show V m c main_arg0 _ = _
  rw [V_main_arg0]
  refine congrArg _ (ext_ix2 _ _ _ ?_ ?_)
  · exact (Window.rect_emb_val (cfg0.win 2) t (ix2 p k) 0).trans (by rw [show (cfg0.win 2).index t 0 = t.val from (place_parts t).2.2.1.1]; rfl)
  · exact (Window.rect_emb_val (cfg0.win 2) t (ix2 p k) 1).trans (by rw [show (cfg0.win 2).index t 1 = 2 from (place_parts t).2.2.1.2]; exact hk.symm)

theorem block_g (t : Fin cfg0.N) (p k : Fin 512) (k' : Fin 3072) (hk : k'.val = 3 * 512 + k.val) : iblk m c 3 t (ix2 p k) = inputOf m c (ix2 (rowOf t p) k') := by
  unfold iblk
  rw [View.read_apply]
  show V m c main_arg0 _ = _
  rw [V_main_arg0]
  refine congrArg _ (ext_ix2 _ _ _ ?_ ?_)
  · exact (Window.rect_emb_val (cfg0.win 3) t (ix2 p k) 0).trans (by rw [show (cfg0.win 3).index t 0 = t.val from (place_parts t).2.2.2.1]; rfl)
  · exact (Window.rect_emb_val (cfg0.win 3) t (ix2 p k) 1).trans (by rw [show (cfg0.win 3).index t 1 = 3 from (place_parts t).2.2.2.2]; exact hk.symm)

theorem block_decays (t : Fin cfg0.N) (h : Fin 8) (i j : Fin 512) : iblk m c 4 t (ix3 h i j) = ((decayAt (rate h.val) i.val j.val : ℝ) : EReal) := by
  unfold iblk
  rw [View.read_apply]
  show V m c main_v32 _ = _
  refine (congrArg (V m c main_v32) (ext_ix3 _ h i j ?_ ?_ ?_)).trans ((congrFun (entry_decays m c) (ix3 h i j)).trans (decays_apply h i j))
  · exact (Window.rect_emb_val (cfg0.win 4) t (ix3 h i j) 0).trans (by rw [show (cfg0.win 4).index t 0 = 0 from (place_tables t).1.1]; exact at_origin _ _)
  · exact (Window.rect_emb_val (cfg0.win 4) t (ix3 h i j) 1).trans (by rw [show (cfg0.win 4).index t 1 = 0 from (place_tables t).1.2.1]; exact at_origin _ _)
  · exact (Window.rect_emb_val (cfg0.win 4) t (ix3 h i j) 2).trans (by rw [show (cfg0.win 4).index t 2 = 0 from (place_tables t).1.2.2]; exact at_origin _ _)

theorem block_after (t : Fin cfg0.N) (i : Fin 512) (h : Fin 8) (d : Fin 64) : iblk m c 5 t (ix2 i (col h d)) = ((rate h.val ^ (i.val + 1) : ℝ) : EReal) := by
  unfold iblk
  rw [View.read_apply]
  show V m c main_v51 _ = _
  refine (congrArg (V m c main_v51) (ext_ix2 _ i (col h d) ?_ ?_)).trans ((congrFun (entry_after m c) (ix2 i (col h d))).trans
    (powers_apply after i h d _ (after_apply i) _ rfl))
  · exact (Window.rect_emb_val (cfg0.win 5) t (ix2 i (col h d)) 0).trans (by rw [show (cfg0.win 5).index t 0 = 0 from (place_tables t).2.1.1]; exact at_origin _ _)
  · exact (Window.rect_emb_val (cfg0.win 5) t (ix2 i (col h d)) 1).trans (by rw [show (cfg0.win 5).index t 1 = 0 from (place_tables t).2.1.2]; exact at_origin _ _)

theorem block_before (t : Fin cfg0.N) (i : Fin 512) (h : Fin 8) (d : Fin 64) : iblk m c 6 t (ix2 i (col h d)) = ((rate h.val ^ (512 - 1 - i.val) : ℝ) : EReal) := by
  unfold iblk
  rw [View.read_apply]
  show V m c main_v53 _ = _
  refine (congrArg (V m c main_v53) (ext_ix2 _ i (col h d) ?_ ?_)).trans ((congrFun (entry_before m c) (ix2 i (col h d))).trans
    (powers_apply before i h d _ (before_apply i) _ rfl))
  · exact (Window.rect_emb_val (cfg0.win 6) t (ix2 i (col h d)) 0).trans (by rw [show (cfg0.win 6).index t 0 = 0 from (place_tables t).2.2.1]; exact at_origin _ _)
  · exact (Window.rect_emb_val (cfg0.win 6) t (ix2 i (col h d)) 1).trans (by rw [show (cfg0.win 6).index t 1 = 0 from (place_tables t).2.2.2]; exact at_origin _ _)

theorem block_start (t : Fin cfg0.N) (h : Fin 8) (d e : Fin 64) : iblk m c 7 t (ix4 0 h d e) = statesOf m c (ix4 (seqAt t) h d e) := by
  unfold iblk
  rw [View.read_apply]
  show V m c main_arg1 _ = _
  rw [V_main_arg1]
  refine congrArg _ (ext_ix4 _ _ _ _ _ ?_ ?_ ?_ ?_)
  · exact (Window.rect_emb_val (cfg0.win 7) t (ix4 0 h d e) 0).trans (by rw [show (cfg0.win 7).index t 0 = t.val / 16 from (place_state t).1]; exact Nat.mul_one _)
  · exact (Window.rect_emb_val (cfg0.win 7) t (ix4 0 h d e) 1).trans (by rw [show (cfg0.win 7).index t 1 = 0 from (place_state t).2.1]; exact at_origin _ _)
  · exact (Window.rect_emb_val (cfg0.win 7) t (ix4 0 h d e) 2).trans (by rw [show (cfg0.win 7).index t 2 = 0 from (place_state t).2.2.1]; exact at_origin _ _)
  · exact (Window.rect_emb_val (cfg0.win 7) t (ix4 0 h d e) 3).trans (by rw [show (cfg0.win 7).index t 3 = 0 from (place_state t).2.2.2]; exact at_origin _ _)

/-! ## The state found and left -/

/-- The state point `t` works with: the initial one at the first block of a sequence, else the one the scratch holds. -/
def found (t : Fin cfg0.N) : FVec Ideal S8x64x64 .f32 :=
  if t.val % 16 = 0 then k0_pay2 (F := Ideal) (iblk m c 7 t) else (outsAt0 m c (t.val - 1) (Nat.lt_of_le_of_lt (Nat.sub_le _ _) t.isLt)).2.2

/-! What a grid point leaves, case by case: the first chunk block of a batch row (A), one in between (B), the last (C). -/

theorem left_A (t : Fin cfg0.N) (h0 : t.val % 16 = 0) (h1 : ¬t.val % 16 = 15) : (outsAt0 m c t.val t.isLt).2.2
    = stateOf (iblk m c 1 t) (iblk m c 2 t) (iblk m c 6 t) (k0_pay2 (F := Ideal) (iblk m c 7 t)) := by
  refine (congrArg (fun p => p.2.2) (outsAt0_A m c t h0 h1)).trans ?_
  dsimp only
  exact state_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem left_B (t : Fin cfg0.N) (h0 : ¬t.val % 16 = 0) (h1 : ¬t.val % 16 = 15) : (outsAt0 m c t.val t.isLt).2.2
    = stateOf (iblk m c 1 t) (iblk m c 2 t) (iblk m c 6 t) (outsAt0 m c (t.val - 1) (Nat.lt_of_le_of_lt (Nat.sub_le _ _) t.isLt)).2.2 := by
  refine (congrArg (fun p => p.2.2) (outsAt0_B m c t h0 h1)).trans ?_
  dsimp only
  exact state_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2

theorem left_C (t : Fin cfg0.N) (h0 : ¬t.val % 16 = 0) (h1 : t.val % 16 = 15) : (outsAt0 m c t.val t.isLt).2.2
    = stateOf (iblk m c 1 t) (iblk m c 2 t) (iblk m c 6 t) (outsAt0 m c (t.val - 1) (Nat.lt_of_le_of_lt (Nat.sub_le _ _) t.isLt)).2.2 := by
  refine (congrArg (fun p => p.2.2) (outsAt0_C m c t h0 h1)).trans ?_
  dsimp only
  exact state_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2

theorem written_A (t : Fin cfg0.N) (h0 : t.val % 16 = 0) (h1 : ¬t.val % 16 = 15) : (outsAt0 m c t.val t.isLt).1
    = outOf (iblk m c 0 t) (iblk m c 1 t) (iblk m c 2 t) (iblk m c 3 t) (iblk m c 4 t) (iblk m c 5 t) (k0_pay2 (F := Ideal) (iblk m c 7 t)) := by
  refine (congrArg (fun p => p.1) (outsAt0_A m c t h0 h1)).trans ?_
  dsimp only
  exact out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t)

theorem written_B (t : Fin cfg0.N) (h0 : ¬t.val % 16 = 0) (h1 : ¬t.val % 16 = 15) : (outsAt0 m c t.val t.isLt).1
    = outOf (iblk m c 0 t) (iblk m c 1 t) (iblk m c 2 t) (iblk m c 3 t) (iblk m c 4 t) (iblk m c 5 t) (outsAt0 m c (t.val - 1) (Nat.lt_of_le_of_lt (Nat.sub_le _ _) t.isLt)).2.2 := by
  refine (congrArg (fun p => p.1) (outsAt0_B m c t h0 h1)).trans ?_
  dsimp only
  exact out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2

theorem written_C (t : Fin cfg0.N) (h0 : ¬t.val % 16 = 0) (h1 : t.val % 16 = 15) : (outsAt0 m c t.val t.isLt).1
    = outOf (iblk m c 0 t) (iblk m c 1 t) (iblk m c 2 t) (iblk m c 3 t) (iblk m c 4 t) (iblk m c 5 t) (outsAt0 m c (t.val - 1) (Nat.lt_of_le_of_lt (Nat.sub_le _ _) t.isLt)).2.2 := by
  refine (congrArg (fun p => p.1) (outsAt0_C m c t h0 h1)).trans ?_
  dsimp only
  exact out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2

theorem final_at (t : Fin cfg0.N) (h0 : ¬t.val % 16 = 0) (h1 : t.val % 16 = 15) : (outsAt0 m c t.val t.isLt).2.1
    = k0_pay1 (F := Ideal) (stateOf (iblk m c 1 t) (iblk m c 2 t) (iblk m c 6 t) (outsAt0 m c (t.val - 1) (Nat.lt_of_le_of_lt (Nat.sub_le _ _) t.isLt)).2.2) := by
  refine (congrArg (fun p => p.2.1) (outsAt0_C m c t h0 h1)).trans ?_
  dsimp only
  exact final_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2

theorem left_eq (t : Fin cfg0.N) : (outsAt0 m c t.val t.isLt).2.2
    = stateOf (iblk m c 1 t) (iblk m c 2 t) (iblk m c 6 t) (found m c t) := by
  unfold found
  by_cases h0 : t.val % 16 = 0
  · rw [if_pos h0]
    exact left_A m c t h0 (by omega)
  · rw [if_neg h0]
    by_cases h1 : t.val % 16 = 15
    · exact left_C m c t h0 h1
    · exact left_B m c t h0 h1

theorem written_eq (t : Fin cfg0.N) : (outsAt0 m c t.val t.isLt).1
    = outOf (iblk m c 0 t) (iblk m c 1 t) (iblk m c 2 t) (iblk m c 3 t) (iblk m c 4 t) (iblk m c 5 t) (found m c t) := by
  unfold found
  by_cases h0 : t.val % 16 = 0
  · rw [if_pos h0]
    exact written_A m c t h0 (by omega)
  · rw [if_neg h0]
    by_cases h1 : t.val % 16 = 15
    · exact written_C m c t h0 h1
    · exact written_B m c t h0 h1

theorem final_eq (t : Fin cfg0.N) (h1 : t.val % 16 = 15) : (outsAt0 m c t.val t.isLt).2.1
    = k0_pay1 (F := Ideal) (stateOf (iblk m c 1 t) (iblk m c 2 t) (iblk m c 6 t) (found m c t)) := by
  have h0 : ¬t.val % 16 = 0 := by omega
  unfold found
  rw [if_neg h0]
  exact final_at m c t h0 h1

section
variable {m c}

theorem part_at (n : Fin 4) (t : Fin cfg0.N) (j : Fin 512) (h : Fin 8) (d : Fin 64) (k : Fin 3072) (hk : k.val = n.val * 512 + (col h d).val) :
    inputOf m c (ix2 (rowOf t j) k) = sequence (inputOf m c) n (seqAt t) h (512 * (t.val % 16) + j.val) d := by
  have := points t
  refine sequence_at n _ h d _ _ _ (by omega) ?_ ?_
  · show t.val * 512 + j.val = 8192 * (t.val / 16) + (512 * (t.val % 16) + j.val)
    omega
  · rw [hk]
    show n.val * 512 + (64 * h.val + d.val) = _
    omega

theorem queries_at (t : Fin cfg0.N) (j : Fin 512) (h : Fin 8) (d : Fin 64) :
    iblk m c 0 t (ix2 j (col h d)) = sequence (inputOf m c) 0 (seqAt t) h (512 * (t.val % 16) + j.val) d :=
  (block_q m c t j (col h d) ⟨0 * 512 + (col h d).val, by have := (col h d).isLt; omega⟩ rfl).trans (part_at 0 t j h d _ rfl)

theorem keys_at (t : Fin cfg0.N) (j : Fin 512) (h : Fin 8) (d : Fin 64) :
    iblk m c 1 t (ix2 j (col h d)) = sequence (inputOf m c) 1 (seqAt t) h (512 * (t.val % 16) + j.val) d :=
  (block_k m c t j (col h d) ⟨1 * 512 + (col h d).val, by have := (col h d).isLt; omega⟩ rfl).trans (part_at 1 t j h d _ rfl)

theorem values_at (t : Fin cfg0.N) (j : Fin 512) (h : Fin 8) (d : Fin 64) :
    iblk m c 2 t (ix2 j (col h d)) = values (inputOf m c) (seqAt t) h d (512 * (t.val % 16) + j.val) :=
  (block_v m c t j (col h d) ⟨2 * 512 + (col h d).val, by have := (col h d).isLt; omega⟩ rfl).trans (part_at 2 t j h d _ rfl)

theorem step_at (t : Fin cfg0.N) (h : Fin 8) (d e : Fin 64)
    (hT : found m c t (ix3 h d e) = held (inputOf m c) (statesOf m c) (seqAt t) h e (512 * (t.val % 16)) d) :
    (outsAt0 m c t.val t.isLt).2.2 (ix3 h d e) = held (inputOf m c) (statesOf m c) (seqAt t) h e (512 * (t.val % 16) + 512) d := by
  rw [left_eq]
  exact state_step (seqAt t) (512 * (t.val % 16)) _ _ _ _ h d e (fun j => keys_at t j h d) (fun j => values_at t j h e)
    (fun j => block_before m c t j h d) hT

theorem found_first (t : Fin cfg0.N) (h0 : t.val % 16 = 0) (h : Fin 8) (d e : Fin 64) :
    found m c t (ix3 h d e) = held (inputOf m c) (statesOf m c) (seqAt t) h e (512 * (t.val % 16)) d := by
  unfold found
  rw [if_pos h0, h0]
  unfold k0_pay2
  rw [shapeCast_self]
  exact (shapeCast_1abc_abc_apply _ _ h d e).trans (block_start m c t h d e)

theorem found_at : ∀ (n : ℕ) (hn : n < cfg0.N) (h : Fin 8) (d e : Fin 64),
    found m c ⟨n, hn⟩ (ix3 h d e) = held (inputOf m c) (statesOf m c) (seqAt ⟨n, hn⟩) h e (512 * (n % 16)) d
  | 0, hn, h, d, e => found_first ⟨0, hn⟩ rfl h d e
  | n + 1, hn, h, d, e => by
    by_cases h0 : (n + 1) % 16 = 0
    · exact found_first ⟨n + 1, hn⟩ h0 h d e
    · have ih := step_at ⟨n, Nat.lt_of_succ_lt hn⟩ h d e (found_at n _ h d e)
      have hf : found m c ⟨n + 1, hn⟩ = (outsAt0 m c n (Nat.lt_of_succ_lt hn)).2.2 := by
        unfold found
        rw [if_neg h0]
        rfl
      rw [hf]
      refine ih.trans ?_
      rw [show seqAt ⟨n, Nat.lt_of_succ_lt hn⟩ = seqAt ⟨n + 1, hn⟩ from Fin.ext (by show n / 16 = (n + 1) / 16; omega),
        show 512 * ((⟨n, Nat.lt_of_succ_lt hn⟩ : Fin cfg0.N).val % 16) + 512 = 512 * ((n + 1) % 16) by show 512 * (n % 16) + 512 = _; omega]

end

/-! ## The results -/

theorem place8 (t : Fin cfg0.N) (p q : Fin 512) : ((cfg0.win 8).blk t).view.emb (ix2 p q) = ix2 (rowOf t p) q := by
  refine ext_ix2 _ (rowOf t p) q ?_ ?_
  · refine (Window.rect_emb_val (cfg0.win 8) t (ix2 p q) 0).trans ?_
    rw [show (cfg0.win 8).index t 0 = t.val from (place_out t).1]
    rfl
  · refine (Window.rect_emb_val (cfg0.win 8) t (ix2 p q) 1).trans ?_
    rw [show (cfg0.win 8).index t 1 = 0 from (place_out t).2]
    exact at_origin _ _

theorem place9 (t : Fin cfg0.N) (h : Fin 8) (d e : Fin 64) : ((cfg0.win 9).blk t).view.emb (ix4 0 h d e) = ix4 (seqAt t) h d e := by
  refine ext_ix4 _ (seqAt t) h d e ?_ ?_ ?_ ?_
  · exact (Window.rect_emb_val (cfg0.win 9) t (ix4 0 h d e) 0).trans (by rw [show (cfg0.win 9).index t 0 = t.val / 16 from (place_final t).1]; exact Nat.mul_one _)
  · exact (Window.rect_emb_val (cfg0.win 9) t (ix4 0 h d e) 1).trans (by rw [show (cfg0.win 9).index t 1 = 0 from (place_final t).2.1]; exact at_origin _ _)
  · exact (Window.rect_emb_val (cfg0.win 9) t (ix4 0 h d e) 2).trans (by rw [show (cfg0.win 9).index t 2 = 0 from (place_final t).2.2.1]; exact at_origin _ _)
  · exact (Window.rect_emb_val (cfg0.win 9) t (ix4 0 h d e) 3).trans (by rw [show (cfg0.win 9).index t 3 = 0 from (place_final t).2.2.2]; exact at_origin _ _)

theorem apart9 : ∀ t t' : Fin cfg0.N, (cfg0.win 9).flush t = true → (cfg0.win 9).flush t' = true → t ≠ t' →
    Disjoint ((cfg0.win 9).blk t).view.set ((cfg0.win 9).blk t').view.set := fun t t' hf hf' hne =>
  (cfg0.win 9).disjoint_blk fun h => hne (Fin.ext (by
    have h1 := (flush0_9 t).1 hf
    have h2 := (flush0_9 t').1 hf'
    have h3 : t.val / 16 = t'.val / 16 := (place_final t).1.symm.trans ((congrFun h 0).trans (place_final t').1)
    omega))

variable {m c}

/-- The readings, normalised and gated. -/
theorem out_result (hX : Finite (inputOf m c)) (b : Fin 4) (p : ℕ) (hp : p < 8192) (h : Fin 8) (e : Fin 64) :
    (dats m 0 c).arrAt 8 cfg0.N (ix2 (rowAt b p hp) (col h e)) = output (inputOf m c) (statesOf m c) b h p hp e := by
  have ht : 16 * b.val + p / 512 < cfg0.N := by rw [show cfg0.N = 64 from N_0]; omega
  let t : Fin cfg0.N := ⟨16 * b.val + p / 512, ht⟩
  let i : Fin 512 := ⟨p % 512, by omega⟩
  have hr : rowOf t i = rowAt b p hp := Fin.ext (by show (16 * b.val + p / 512) * 512 + p % 512 = 8192 * b.val + p; omega)
  have hb : seqAt t = b := Fin.ext (by show (16 * b.val + p / 512) / 16 = b.val; omega)
  have hs : 512 * (t.val % 16) + i.val = p := by show 512 * ((16 * b.val + p / 512) % 16) + p % 512 = p; omega
  have hf := (dats m 0 c).arrAt_emb_eq_flushed 8 disjoint8 t (flush0_8 t) (ix2 i (col h e))
  rw [place8, hr, flushed8, written_eq] at hf
  refine hf.trans ((block_apply (seqAt t) (512 * (t.val % 16)) _ _ _ _ _ _ _ h i e (fun d => queries_at t i h d) (fun j d => keys_at t j h d)
    (fun j e => values_at t j h e) (fun j => block_decays m c t h i j) (fun d => block_after m c t i h d) fun d e => found_at t.val t.isLt h d e).trans ?_)
  rw [hb, block_g m c t i (col h e) (colAt 3 h e) (by show 512 * 3 + (64 * h.val + e.val) = 3 * 512 + (64 * h.val + e.val); omega), hr]
  unfold output
  refine congrArg (fun y : EReal => gateOf (inputOf m c (ix2 (rowAt b p hp) (colAt 3 h e))) * y) (norm_unsigned _ _ (fun d => ?_) e)
  rw [hX.reading b h (512 * (t.val % 16)) i.val (by omega) i.isLt d, hs]

/-- The state after the whole of each sequence. -/
theorem final_result (b : Fin 4) (h : Fin 8) (d e : Fin 64) :
    (dats m 0 c).arrAt 9 cfg0.N (ix4 b h d e) = held (inputOf m c) (statesOf m c) b h e 8192 d := by
  have ht : 16 * b.val + 15 < cfg0.N := by rw [show cfg0.N = 64 from N_0]; omega
  let t : Fin cfg0.N := ⟨16 * b.val + 15, ht⟩
  have h15 : t.val % 16 = 15 := by show (16 * b.val + 15) % 16 = 15; omega
  have hb : seqAt t = b := Fin.ext (by show (16 * b.val + 15) / 16 = b.val; omega)
  have hf := (dats m 0 c).arrAt_emb_eq_flushed 9 apart9 t ((flush0_9 t).2 h15) (ix4 0 h d e)
  rw [place9, hb, flushed9, final_eq m c t h15, ← left_eq] at hf
  refine hf.trans ((shapeCast_abc_1abc_apply _ shapeCasts_S8x64x64_S1x8x64x64 0 h d e).trans ((step_at t h d e (found_at t.val t.isLt h d e)).trans ?_))
  rw [hb, h15]

end Cert.Layer.RetArray

end
-- ==== Proof.Ret.RefRun.lean ====
/- The reference's run: its two results as the state 128 chunks of the recurrence leave, each chunk one step of the one
   before it. -/
module

public import proofs.«01_k».proof.Proof.Gen.ReferenceIdeal.Step
public import proofs.«01_k».proof.Proof.Gen.ReferenceIdeal.Run
public import Idealize.ShloMosaic.PureOps.Ideal.Laws

@[expose] public section

noncomputable section

namespace Cert.Layer.RetRun

open Idealize.ShloMosaic Idealize.ShloMosaic.TcCoe Idealize.ShloMosaic.StableHlo Idealize.SL Idealize.SL.Sem
open Cert.ReferenceIdeal Cert.ReferenceIdeal.Gen Cert.ReferenceIdeal.Value Cert.ReferenceIdeal.Step

/-- What is held after `k` chunks. -/
def chunkStates (s : FVec Ideal S4x8x64x64 .f32) (x : FVec Ideal S32768x3072 .f32) : ℕ → State Ideal
  | 0 => init s x
  | k + 1 => step k (chunkStates s x k)

variable (m : (ℓ : Loc nD τ sig) → Buf (Elt Ideal) ℓ) (c : Dev nD)

/-- The buffers before trip `k`. -/
abbrev before (k : ℕ) : Valuation τ sig (Elt Ideal) := STEP^[k] (entryContents preI m c)

/-- A trip's buffers hold a number of trips and a state. -/
structure Holds (V : Valuation τ sig (Elt Ideal)) (k : ℕ) (s : State Ideal) : Prop where
  updates : V (Proc.devRef .tc main_v27_0) = s.main_v27_0
  count : V (Proc.devRef .tc main_v27_1) = constantI S_ 32 (BitVec.ofNat 32 k)
  current : V (Proc.devRef .tc main_v27_2) = s.main_v27_2
  saved : V (Proc.devRef .tc main_v27_3) = s.main_v27_3

theorem entry_updates : entryContents (F := Ideal) preI m c (Proc.devRef .tc main_v27_0) = A_main_v25 (F := Ideal) (m ((c.tc : Thread nD τ).loc main_arg0)) := by
  simp only [entryContents, afterL_cons, afterL_nil]
  after_results_simp <;> rfl

theorem entry_current : entryContents (F := Ideal) preI m c (Proc.devRef .tc main_v27_2) = m ((c.tc : Thread nD τ).loc main_arg1) := by
  simp only [entryContents, afterL_cons, afterL_nil]
  after_results_simp <;> rfl

theorem entry_saved : entryContents (F := Ideal) preI m c (Proc.devRef .tc main_v27_3) = K_main_v26 (F := Ideal) := by
  simp only [entryContents, afterL_cons, afterL_nil]
  after_results_simp <;> rfl

theorem count_step (k : ℕ) : addi (constantI S_ 32 (BitVec.ofNat 32 k)) (constantI S_ 32 1#32) = constantI S_ 32 (BitVec.ofNat 32 (k + 1)) := by
  funext j
  exact (BitVec.ofNat_add k 1).symm

theorem holds_step (V : Valuation τ sig (Elt Ideal)) (k : ℕ) (s : State Ideal) (h : Holds V k s) : Holds (STEP V) (k + 1) (step k s) where
  updates := (STEP_main_v27_0 V).trans h.updates
  count := by
    rw [STEP_main_v27_1]
    unfold step_main_v27_1
    rw [h.count]
    exact count_step k
  current := by
    rw [STEP_main_v27_2]
    unfold Value.step_main_v27_2
    rw [h.count, h.current, h.updates]
    rfl
  saved := by
    rw [STEP_main_v27_3]
    unfold Value.step_main_v27_3
    rw [h.count, h.current, h.saved]
    rfl

theorem holds_before : ∀ k, Holds (before m c k) k (chunkStates (m ((c.tc : Thread nD τ).loc main_arg1)) (m ((c.tc : Thread nD τ).loc main_arg0)) k)
  | 0 => ⟨entry_updates m c, ctr_entry m c, entry_current m c, entry_saved m c⟩
  | k + 1 => by
    unfold before
    rw [Function.iterate_succ_apply']
    exact holds_step _ k _ (holds_before k)

theorem out_eq (V : Valuation τ sig (Elt Ideal)) (k : ℕ) (s : State Ideal) (h : Holds V k s) : out_main_v91 V = R_main_v91 s (V (Proc.devRef .tc main_arg0)) := by
  unfold out_main_v91 R_main_v91
  rw [h.saved]
  rfl

/-- The reference's results. -/
theorem run (ρ : Dev nD → PrngReg) : θ_run (defs (F := Ideal)) (onTc (τ := τ) (main (F := Ideal))) ⟨m, fun _ => 0, ρ⟩ fun r => ∀ c : Dev nD,
      r.2.mem ((c.tc : Thread nD τ).loc main_v91) = R_main_v91 (chunkStates (m ((c.tc : Thread nD τ).loc main_arg1)) (m ((c.tc : Thread nD τ).loc main_arg0)) 128) (m ((c.tc : Thread nD τ).loc main_arg0))
      ∧ r.2.mem ((c.tc : Thread nD τ).loc main_v27_2) = (chunkStates (m ((c.tc : Thread nD τ).loc main_arg1)) (m ((c.tc : Thread nD τ).loc main_arg0)) 128).main_v27_2
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((out_eq _ 128 _ (holds_before m c 128)).trans (congrArg _ (iter_main_arg0 m c 128))),
      (h c).2.1.trans (holds_before m c 128).current, (h c).2.2⟩) (Value.run m ρ)

end Cert.Layer.RetRun

end
-- ==== Proof.Ret.RefParts.lean ====
/- The parts of the reference's retention, each read at an element: its tables of decays as powers of the head's rate, its
   cuts of the input, its products as sums, and the read and write of one chunk's state. -/
module

public import Idealize.ShloMosaic.Lib.IdealHost
public import Idealize.ShloMosaic.Lib.DynamicIndex
public import proofs.«01_k».proof.Proof.Common.Index
public import proofs.«01_k».proof.Proof.Ret.Recurrence
public import proofs.«01_k».proof.Proof.Ret.RefRun

@[expose] public section

noncomputable section

namespace Cert.Layer.RetRef

open Cert.ReferenceIdeal Cert.ReferenceIdeal.Gen Cert.ReferenceIdeal.Step Idealize.ShloMosaic Idealize.ShloMosaic.ValueIdx
open scoped BigOperators

theorem ext_ix5 {a b c d e : ℕ} (i : (⟨5, ![a, b, c, d, e]⟩ : Shape).Idx) (p : Fin a) (q : Fin b) (r : Fin c) (s : Fin d) (t : Fin e)
    (h0 : (i 0).val = p.val) (h1 : (i 1).val = q.val) (h2 : (i 2).val = r.val) (h3 : (i 3).val = s.val) (h4 : (i 4).val = t.val) :
    i = ix5 p q r s t :=
  funext fun x => match x with
    | ⟨0, _⟩ => Fin.ext h0
    | ⟨1, _⟩ => Fin.ext h1
    | ⟨2, _⟩ => Fin.ext h2
    | ⟨3, _⟩ => Fin.ext h3
    | ⟨4, _⟩ => Fin.ext h4

/-! ## The decays -/

/-- The logarithm of every head's rate. -/
def logs : FVec Ideal S8 .f32 :=
  Host.log (subf (broadcastInDim S8 ![] bcast_S_S8 (constant S_ .f32 0x3F800000#32)) (Host.powf (broadcastInDim S8 ![] bcast_S_S8 (constant S_ .f32 0x3F000000#32))
    (addf (broadcastInDim S8 ![] bcast_S_S8 (constant S_ .f32 0x40A00000#32)) (sitofp .f32 (iotaInDim S8 32 0)))))

/-- The numbers 0 to 63. -/
def places : FVec Ideal S64 .f32 := sitofp .f32 (iotaInDim S64 32 0)

theorem half_bits : Ideal.ofBits .f32 0x3F000000#32 = ((1 / 2 : ℝ) : EReal) := by
  simp [Ideal.ofBits, Ideal.ieee, -EReal.coe_mul]; norm_num

theorem five_bits : Ideal.ofBits .f32 0x40A00000#32 = ((5 : ℝ) : EReal) := by
  simp [Ideal.ofBits, Ideal.ieee, -EReal.coe_mul]; norm_num

theorem last_bits : Ideal.ofBits .f32 0x427C0000#32 = ((63 : ℝ) : EReal) := by
  simp [Ideal.ofBits, Ideal.ieee, -EReal.coe_mul]; norm_num

theorem chunk_bits : Ideal.ofBits .f32 0x42800000#32 = ((64 : ℝ) : EReal) := by
  simp [Ideal.ofBits, Ideal.ieee, -EReal.coe_mul]; norm_num

theorem heads_toInt : ∀ h : Fin 8, (iotaInDim S8 32 0 (ix1 h)).toInt = (h.val : ℤ) := by
  decide +kernel

theorem places_toInt : ∀ i : Fin 64, (iotaInDim S64 32 0 (ix1 i)).toInt = (i.val : ℤ) := by
  decide +kernel

theorem places_apply (i : Fin 64) : places (ix1 i) = ((i.val : ℝ) : EReal) := by
  show (((iotaInDim S64 32 0 (ix1 i)).toInt : ℝ) : EReal) = _
  rw [places_toInt, Int.cast_natCast]

theorem logs_apply (h : Fin 8) : logs (ix1 h) = ((Real.log (rate h.val) : ℝ) : EReal) := by
  show Ideal.log (Ideal.ofBits .f32 0x3F800000#32 - Ideal.pow (Ideal.ofBits .f32 0x3F000000#32)
    (Ideal.ofBits .f32 0x40A00000#32 + (((iotaInDim S8 32 0 (ix1 h)).toInt : ℝ) : EReal))) = _
  rw [heads_toInt, half_bits, five_bits, ← EReal.coe_add, Ideal.pow_coe_coe, Ideal.ofBits_one_f32, show (1 : EReal) = ((1 : ℝ) : EReal) from rfl,
    ← EReal.coe_sub]
  have e : (1 : ℝ) - Real.rpow (1 / 2) (5 + ((h.val : ℤ) : ℝ)) = rate h.val := by
    unfold rate
    rw [Int.cast_natCast, show (5 : ℝ) + (h.val : ℝ) = ((5 + h.val : ℕ) : ℝ) by push_cast; rfl]
    exact congrArg (fun z : ℝ => 1 - z) (Real.rpow_natCast _ _)
  rw [e]
  exact if_neg (not_le.2 (rate_pos h.val))

/-- A head's rate, raised to the power a table gives. -/
theorem power (h : Fin 8) (n : EReal) (q : ℕ) (hn : n = ((q : ℝ) : EReal)) : Ideal.exp (logs (ix1 h) * n) = ((rate h.val ^ q : ℝ) : EReal) := by
  rw [logs_apply, hn, ← EReal.coe_mul, Ideal.exp_coe, exp_log_rate]

/-- How far two places of a chunk are apart. -/
def apart : FVec Ideal S64x64 .f32 :=
  Host.absf (subf (broadcastInDim S64x64 ![0, 1] bcast_S64x1_S64x64_0_1 (broadcastInDim S64x1 ![0] bcast_S64_S64x1_0 (sitofp .f32 (iotaInDim S64 32 0))))
    (broadcastInDim S64x64 ![0, 1] bcast_S1x64_S64x64_0_1 (broadcastInDim S1x64 ![1] bcast_S64_S1x64_1 (sitofp .f32 (iotaInDim S64 32 0)))))

theorem apart_apply (i j : Fin 64) : apart (ix2 i j) = (((((i.val : ℤ) - j.val).natAbs : ℕ) : ℝ) : EReal) := by
  have hi : broadcastInDim S64x64 ![0, 1] bcast_S64x1_S64x64_0_1 (broadcastInDim S64x1 ![0] bcast_S64_S64x1_0 places) (ix2 i j) = places (ix1 i) :=
    congrArg places (ext_ix1 _ i rfl)
  have hj : broadcastInDim S64x64 ![0, 1] bcast_S1x64_S64x64_0_1 (broadcastInDim S1x64 ![1] bcast_S64_S1x64_1 places) (ix2 i j) = places (ix1 j) :=
    congrArg places (ext_ix1 _ j rfl)
  have ha : apart (ix2 i j) = max (places (ix1 i) - places (ix1 j)) (-(places (ix1 i) - places (ix1 j))) := by
    rw [← hi, ← hj]; rfl
  rw [ha, places_apply, places_apply, ← EReal.coe_sub, ← EReal.coe_neg, ← EReal.coe_strictMono.monotone.map_max]
  refine congrArg _ ?_
  rw [Nat.cast_natAbs, Int.cast_abs, Int.cast_sub, Int.cast_natCast, Int.cast_natCast]
  rfl

/-- The decay between two places of a chunk. -/
def mask : FVec Ideal S4x128x8x64x64 .f32 :=
  broadcastInDim S4x128x8x64x64 ![0, 1, 2, 3, 4] bcast_S1x1x8x64x64_S4x128x8x64x64_0_1_2_3_4 (broadcastInDim S1x1x8x64x64 ![2, 3, 4] bcast_S8x64x64_S1x1x8x64x64_2_3_4
    (Host.exp (mulf (broadcastInDim S8x64x64 ![0, 1, 2] bcast_S8x1x1_S8x64x64_0_1_2 (broadcastInDim S8x1x1 ![0] bcast_S8_S8x1x1_0 logs))
      (broadcastInDim S8x64x64 ![0, 1, 2] bcast_S1x64x64_S8x64x64_0_1_2 (broadcastInDim S1x64x64 ![1, 2] bcast_S64x64_S1x64x64_1_2 apart)))))

theorem mask_apply (b : Fin 4) (n : Fin 128) (h : Fin 8) (i j : Fin 64) :
    mask (ix5 b n h i j) = ((rate h.val ^ ((i.val : ℤ) - j.val).natAbs : ℝ) : EReal) := by
  refine Eq.trans ?_ (power h (apart (ix2 i j)) _ (apart_apply i j))
  exact congrArg Ideal.exp (congrArg₂ (fun a b : EReal => a * b) (congrArg logs (ext_ix1 _ h rfl)) (congrArg apart (ext_ix2 _ i j rfl rfl)))

/-- A power of every head's rate for every place of a chunk. -/
def powers (n : FVec Ideal S64 .f32) : FVec Ideal S4x128x64x8x64 .f32 :=
  broadcastInDim S4x128x64x8x64 ![0, 1, 2, 3, 4] bcast_S1x1x64x8x1_S4x128x64x8x64_0_1_2_3_4 (broadcastInDim S1x1x64x8x1 ![2, 3, 4] bcast_S64x8x1_S1x1x64x8x1_2_3_4
    (broadcastInDim S64x8x1 ![0, 1] bcast_S64x8_S64x8x1_0_1 (Host.exp (mulf (broadcastInDim S64x8 ![0, 1] bcast_S1x8_S64x8_0_1 (broadcastInDim S1x8 ![1] bcast_S8_S1x8_1 logs))
      (broadcastInDim S64x8 ![0, 1] bcast_S64x1_S64x8_0_1 (broadcastInDim S64x1 ![0] bcast_S64_S64x1_0 n))))))

theorem powers_apply (x : FVec Ideal S64 .f32) (b : Fin 4) (n : Fin 128) (i : Fin 64) (h : Fin 8) (d : Fin 64) (q : ℕ)
    (hq : x (ix1 i) = ((q : ℝ) : EReal)) : powers x (ix5 b n i h d) = ((rate h.val ^ q : ℝ) : EReal) := by
  refine Eq.trans ?_ (power h (x (ix1 i)) q hq)
  exact congrArg Ideal.exp (congrArg₂ (fun a b : EReal => a * b) (congrArg logs (ext_ix1 _ h rfl)) (congrArg x (ext_ix1 _ i rfl)))

/-- One more than the place; what is left of the chunk after it. -/
def after : FVec Ideal S64 .f32 := addf places (broadcastInDim S64 ![] bcast_S_S64 (constant S_ .f32 0x3F800000#32))
def left : FVec Ideal S64 .f32 := subf (broadcastInDim S64 ![] bcast_S_S64 (constant S_ .f32 0x427C0000#32)) places

theorem after_apply (i : Fin 64) : after (ix1 i) = (((i.val + 1 : ℕ) : ℝ) : EReal) := by
  show places (ix1 i) + Ideal.ofBits .f32 0x3F800000#32 = _
  rw [places_apply, Ideal.ofBits_one_f32, show (1 : EReal) = ((1 : ℝ) : EReal) from rfl, ← EReal.coe_add]
  push_cast
  rfl

theorem left_apply (i : Fin 64) : left (ix1 i) = (((64 - 1 - i.val : ℕ) : ℝ) : EReal) := by
  show Ideal.ofBits .f32 0x427C0000#32 - places (ix1 i) = _
  rw [places_apply, last_bits, ← EReal.coe_sub, Nat.cast_sub (by omega : i.val ≤ 64 - 1)]
  norm_num

/-- The decay over a whole chunk. -/
def chunkDecay : FVec Ideal S4x8x64x64 .f32 :=
  broadcastInDim S4x8x64x64 ![0, 1, 2, 3] bcast_S1x8x1x1_S4x8x64x64_0_1_2_3 (broadcastInDim S1x8x1x1 ![1] bcast_S8_S1x8x1x1_1
    (Host.exp (mulf logs (broadcastInDim S8 ![] bcast_S_S8 (constant S_ .f32 0x42800000#32)))))

theorem chunkDecay_apply (b : Fin 4) (h : Fin 8) (d e : Fin 64) : chunkDecay (ix4 b h d e) = ((rate h.val ^ 64 : ℝ) : EReal) := by
  refine Eq.trans ?_ (power h (Ideal.ofBits .f32 0x42800000#32) 64 (by rw [chunk_bits]; norm_num))
  exact congrArg (fun z => Ideal.exp (logs z * Ideal.ofBits .f32 0x42800000#32)) (ext_ix1 _ h rfl)

/-! ## The input by heads -/

/-- 512 columns of the input, by sequence, chunk, place, head and component. -/
def cut (o : ℕ) (hs : S32768x3072.Slices ![0, o] S32768x512) (x : FVec Ideal S32768x3072 .f32) : FVec Ideal S4x128x64x8x64 .f32 :=
  shapeCast S4x128x64x8x64 (extractStridedSlice S32768x512 ![0, o] x hs) shapeCasts_S32768x512_S4x128x64x8x64

theorem cols_apply (o : ℕ) (hs : S32768x3072.Slices ![0, o] S32768x512) (x : FVec Ideal S32768x3072 .f32) (r : Fin 32768) (j : Fin 512) (c : Fin 3072)
    (hc : c.val = o + j.val) : extractStridedSlice S32768x512 ![0, o] x hs (ix2 r j) = x (ix2 r c) :=
  extractStridedSlice_apply _ x _ (ix2 r j) (ix2 r c) fun a => match a with
    | ⟨0, _⟩ => (Nat.zero_add _).symm
    | ⟨1, _⟩ => hc

theorem cut_apply (o : ℕ) (hs : S32768x3072.Slices ![0, o] S32768x512) (x : FVec Ideal S32768x3072 .f32) (b : Fin 4) (n : Fin 128) (i : Fin 64) (h : Fin 8) (d : Fin 64)
    (r : Fin 32768) (c : Fin 3072) (hr : r.val = 8192 * b.val + (64 * n.val + i.val)) (hc : c.val = o + (64 * h.val + d.val)) :
    cut o hs x (ix5 b n i h d) = x (ix2 r c) := by
  unfold cut
  rw [shapeCast_apply _ _ (ix5 b n i h d) (ix2 r ⟨64 * h.val + d.val, by omega⟩) (by
    rw [Shape.rowMajor_val_two, Shape.rowMajor_val_five]
    show r.val * 512 + (64 * h.val + d.val) = (((b.val * 128 + n.val) * 64 + i.val) * 8 + h.val) * 64 + d.val
    omega)]
  exact cols_apply o hs x r _ c hc

/-! ## The products -/

theorem updates_apply (A B : FVec Ideal S4x128x64x8x64 .f32) (n : Fin 128) (b : Fin 4) (h : Fin 8) (d e : Fin 64) :
    Host.dotGeneral dot_S4x128x64x8x64_S4x128x64x8x64_S128x4x8x64x64_2_2_4_4_103_103 none A B (ix5 n b h d e)
      = ∑ j : Fin 64, (A (ix5 b n j h d) * B (ix5 b n j h e) : EReal) := by
  simp only [Host.dotGeneral]
  rw [Ideal.dotGeneral_apply, ← Equiv.sum_comp (contrEquiv1 dot_S4x128x64x8x64_S4x128x64x8x64_S128x4x8x64x64_2_2_4_4_103_103 64 rfl rfl).symm]
  refine Finset.sum_congr rfl fun k _ => ?_
  have hk := contrEquiv1_symm_val dot_S4x128x64x8x64_S4x128x64x8x64_S128x4x8x64x64_2_2_4_4_103_103 64 rfl rfl k
  exact congrArg₂ (fun a b : EReal => a * b) (congrArg A (ext_ix5 _ b n k h d rfl rfl hk rfl rfl)) (congrArg B (ext_ix5 _ b n k h e rfl rfl hk rfl rfl))

theorem scores_apply (A B : FVec Ideal S4x128x64x8x64 .f32) (b : Fin 4) (n : Fin 128) (h : Fin 8) (i j : Fin 64) :
    Host.dotGeneral dot_S4x128x64x8x64_S4x128x64x8x64_S4x128x8x64x64_4_4_2_2_013_013 none A B (ix5 b n h i j)
      = ∑ d : Fin 64, (A (ix5 b n i h d) * B (ix5 b n j h d) : EReal) := by
  simp only [Host.dotGeneral]
  rw [Ideal.dotGeneral_apply, ← Equiv.sum_comp (contrEquiv1 dot_S4x128x64x8x64_S4x128x64x8x64_S4x128x8x64x64_4_4_2_2_013_013 64 rfl rfl).symm]
  refine Finset.sum_congr rfl fun k _ => ?_
  have hk := contrEquiv1_symm_val dot_S4x128x64x8x64_S4x128x64x8x64_S4x128x8x64x64_4_4_2_2_013_013 64 rfl rfl k
  exact congrArg₂ (fun a b : EReal => a * b) (congrArg A (ext_ix5 _ b n i h k rfl rfl rfl rfl hk)) (congrArg B (ext_ix5 _ b n j h k rfl rfl rfl rfl hk))

theorem inside_apply (A : FVec Ideal S4x128x64x8x64 .f32) (B : FVec Ideal S4x128x8x64x64 .f32) (b : Fin 4) (n : Fin 128) (h : Fin 8) (e i : Fin 64) :
    Host.dotGeneral dot_S4x128x64x8x64_S4x128x8x64x64_S4x128x8x64x64_2_4_4_3_013_012 none A B (ix5 b n h e i)
      = ∑ j : Fin 64, (A (ix5 b n j h e) * B (ix5 b n h i j) : EReal) := by
  simp only [Host.dotGeneral]
  rw [Ideal.dotGeneral_apply, ← Equiv.sum_comp (contrEquiv1 dot_S4x128x64x8x64_S4x128x8x64x64_S4x128x8x64x64_2_4_4_3_013_012 64 rfl rfl).symm]
  refine Finset.sum_congr rfl fun k _ => ?_
  have hk := contrEquiv1_symm_val dot_S4x128x64x8x64_S4x128x8x64x64_S4x128x8x64x64_2_4_4_3_013_012 64 rfl rfl k
  exact congrArg₂ (fun a b : EReal => a * b) (congrArg A (ext_ix5 _ b n k h e rfl rfl hk rfl rfl)) (congrArg B (ext_ix5 _ b n h i k rfl rfl rfl rfl hk))

theorem across_apply (A : FVec Ideal S128x4x8x64x64 .f32) (B : FVec Ideal S4x128x64x8x64 .f32) (b : Fin 4) (n : Fin 128) (h : Fin 8) (e i : Fin 64) :
    Host.dotGeneral dot_S128x4x8x64x64_S4x128x64x8x64_S4x128x8x64x64_3_4_4_2_102_013 none A B (ix5 b n h e i)
      = ∑ d : Fin 64, (A (ix5 n b h d e) * B (ix5 b n i h d) : EReal) := by
  simp only [Host.dotGeneral]
  rw [Ideal.dotGeneral_apply, ← Equiv.sum_comp (contrEquiv1 dot_S128x4x8x64x64_S4x128x64x8x64_S4x128x8x64x64_3_4_4_2_102_013 64 rfl rfl).symm]
  refine Finset.sum_congr rfl fun k _ => ?_
  have hk := contrEquiv1_symm_val dot_S128x4x8x64x64_S4x128x64x8x64_S4x128x8x64x64_3_4_4_2_102_013 64 rfl rfl k
  exact congrArg₂ (fun a b : EReal => a * b) (congrArg A (ext_ix5 _ n b h k e rfl rfl rfl hk rfl)) (congrArg B (ext_ix5 _ b n i h k rfl rfl rfl rfl hk))

/-- A product's axes put in the input's order. -/
theorem turned_apply (A : FVec Ideal S4x128x8x64x64 .f32) (b : Fin 4) (n : Fin 128) (i : Fin 64) (h : Fin 8) (e : Fin 64) :
    transpose S4x128x64x8x64 [0, 1, 4, 2, 3] A transposes_S4x128x8x64x64_S4x128x64x8x64_0_1_4_2_3 (ix5 b n i h e) = A (ix5 b n h e i) :=
  transpose_apply _ A _ (ix5 b n i h e) (ix5 b n h e i) fun a => match a with
    | ⟨0, _⟩ => rfl
    | ⟨1, _⟩ => rfl
    | ⟨2, _⟩ => rfl
    | ⟨3, _⟩ => rfl
    | ⟨4, _⟩ => rfl

/-! ## One chunk of the saved states -/

/-- Where chunk `k` lies among the chunks. -/
def chunkAt (k : ℕ) : Fin S128x4x8x64x64.rank → ℤ := fun a =>
  ((![constantI S_ 32 (BitVec.ofNat 32 k), constantI S_ 32 0#32, constantI S_ 32 0#32, constantI S_ 32 0#32, constantI S_ 32 0#32] : Fin 5 → IVec S_ 32) a (Shape.Idx.first h_S_)).toInt

theorem chunkAt_eq (k : ℕ) (hk : k < 128) : ∀ a, chunkAt k a = ((![k, 0, 0, 0, 0] : Fin 5 → ℕ) a : ℤ)
  | ⟨0, _⟩ => toInt_ofNat_of_lt (by omega)
  | ⟨1, _⟩ => rfl
  | ⟨2, _⟩ => rfl
  | ⟨3, _⟩ => rfl
  | ⟨4, _⟩ => rfl

theorem chunk_fits (k : ℕ) (hk : k < 128) : S128x4x8x64x64.Slices ![k, 0, 0, 0, 0] S1x4x8x64x64 :=
  ⟨rfl, fun a => match a with
    | ⟨0, _⟩ => (hk : k + 1 ≤ 128)
    | ⟨1, _⟩ => le_refl _
    | ⟨2, _⟩ => le_refl _
    | ⟨3, _⟩ => le_refl _
    | ⟨4, _⟩ => le_refl _⟩

theorem read_chunk (A : FVec Ideal S128x4x8x64x64 .f32) (k : ℕ) (hk : k < 128) (b : Fin 4) (h : Fin 8) (d e : Fin 64) :
    Host.dynamicSlice S1x4x8x64x64 A (chunkAt k) sliceFits_S128x4x8x64x64_S1x4x8x64x64 (ix5 0 b h d e) = A (ix5 ⟨k, hk⟩ b h d e) := by
  rw [Host.dynamicSlice_eq_extractStridedSlice S1x4x8x64x64 A (chunkAt k) ![k, 0, 0, 0, 0] _ (chunk_fits k hk) (chunkAt_eq k hk)]
  exact extractStridedSlice_apply _ A _ (ix5 0 b h d e) (ix5 ⟨k, hk⟩ b h d e) fun a => match a with
    | ⟨0, _⟩ => rfl
    | ⟨1, _⟩ => (Nat.zero_add _).symm
    | ⟨2, _⟩ => (Nat.zero_add _).symm
    | ⟨3, _⟩ => (Nat.zero_add _).symm
    | ⟨4, _⟩ => (Nat.zero_add _).symm

theorem write_chunk (A : FVec Ideal S128x4x8x64x64 .f32) (B : FVec Ideal S1x4x8x64x64 .f32) (k : ℕ) (hk : k < 128) :
    Host.dynamicUpdateSlice A B (chunkAt k) updateFits_S128x4x8x64x64_S1x4x8x64x64 = updateSlice A B ![k, 0, 0, 0, 0] (chunk_fits k hk) :=
  Host.dynamicUpdateSlice_eq_updateSlice A B (chunkAt k) _ ![k, 0, 0, 0, 0]
    (fun a => by have h1 := (chunk_fits k hk).2 a; rw [chunkAt_eq k hk a]; omega) (chunk_fits k hk)

theorem written_chunk (A : FVec Ideal S128x4x8x64x64 .f32) (B : FVec Ideal S1x4x8x64x64 .f32) (k : ℕ) (hk : k < 128) (b : Fin 4) (h : Fin 8) (d e : Fin 64) :
    Host.dynamicUpdateSlice A B (chunkAt k) updateFits_S128x4x8x64x64_S1x4x8x64x64 (ix5 ⟨k, hk⟩ b h d e) = B (ix5 0 b h d e) := by
  rw [write_chunk A B k hk]
  unfold updateSlice
  rw [dif_pos (fun a => match a with
    | ⟨0, _⟩ => ⟨le_refl _, Nat.lt_succ_self _⟩
    | ⟨1, _⟩ => ⟨Nat.zero_le _, (Nat.zero_add 4).symm ▸ b.isLt⟩
    | ⟨2, _⟩ => ⟨Nat.zero_le _, (Nat.zero_add 8).symm ▸ h.isLt⟩
    | ⟨3, _⟩ => ⟨Nat.zero_le _, (Nat.zero_add 64).symm ▸ d.isLt⟩
    | ⟨4, _⟩ => ⟨Nat.zero_le _, (Nat.zero_add 64).symm ▸ e.isLt⟩)]
  exact congrArg B (ext_ix5 _ 0 b h d e (Nat.sub_self k) rfl rfl rfl rfl)

theorem kept_chunk (A : FVec Ideal S128x4x8x64x64 .f32) (B : FVec Ideal S1x4x8x64x64 .f32) (k : ℕ) (hk : k < 128) (n : Fin 128) (hn : n.val < k)
    (b : Fin 4) (h : Fin 8) (d e : Fin 64) :
    Host.dynamicUpdateSlice A B (chunkAt k) updateFits_S128x4x8x64x64_S1x4x8x64x64 (ix5 n b h d e) = A (ix5 n b h d e) := by
  rw [write_chunk A B k hk]
  unfold updateSlice
  rw [dif_neg fun hin => absurd (hin 0).1 (not_le.2 hn)]

end Cert.Layer.RetRef

end
-- ==== Proof.Ret.Ref.lean ====
/- The reference of the retention, read at an element of its two results: the recurrence's state after every chunk, and the
   reading of it, normalised and gated. -/
module

public import proofs.«01_k».proof.Proof.Ret.Spec
public import proofs.«01_k».proof.Proof.Ret.RefParts

@[expose] public section

noncomputable section

namespace Cert.Layer.RetRef

open Cert.ReferenceIdeal Cert.ReferenceIdeal.Gen Cert.ReferenceIdeal.Step Idealize.ShloMosaic Idealize.ShloMosaic.ValueIdx
open Cert.Layer.Ret
open Cert.Layer.RetRun (chunkStates)
open Cert.Layer.RetBlock (col gateOf)
open scoped BigOperators

variable (x : FVec Ideal S32768x3072 .f32) (s : FVec Ideal S4x8x64x64 .f32)

/-! ## The reference in parts -/

abbrev queries : FVec Ideal S4x128x64x8x64 .f32 := cut 0 slices_S32768x3072_S32768x512_0_0 x
abbrev keys : FVec Ideal S4x128x64x8x64 .f32 := cut 512 slices_S32768x3072_S32768x512_0_512 x
abbrev vals : FVec Ideal S4x128x64x8x64 .f32 := cut 1024 slices_S32768x3072_S32768x512_0_1024 x

/-- What every chunk adds to the state. -/
def added : FVec Ideal S128x4x8x64x64 .f32 :=
  Host.dotGeneral dot_S4x128x64x8x64_S4x128x64x8x64_S128x4x8x64x64_2_2_4_4_103_103 none (mulf (keys x) (powers left)) (vals x)

/-- A head's reading of its own chunk and of the states `T` before each chunk. -/
def read (T : FVec Ideal S128x4x8x64x64 .f32) : FVec Ideal S4x128x64x8x64 .f32 :=
  addf (transpose S4x128x64x8x64 [0, 1, 4, 2, 3] (Host.dotGeneral dot_S4x128x64x8x64_S4x128x8x64x64_S4x128x8x64x64_2_4_4_3_013_012 none (vals x)
      (mulf (Host.dotGeneral dot_S4x128x64x8x64_S4x128x64x8x64_S4x128x8x64x64_4_4_2_2_013_013 none (queries x) (keys x)) mask)) transposes_S4x128x8x64x64_S4x128x64x8x64_0_1_4_2_3)
    (transpose S4x128x64x8x64 [0, 1, 4, 2, 3] (Host.dotGeneral dot_S128x4x8x64x64_S4x128x64x8x64_S4x128x8x64x64_3_4_4_2_102_013 none T
      (mulf (queries x) (powers after))) transposes_S4x128x8x64x64_S4x128x64x8x64_0_1_4_2_3)

/-- One over the root of the mean square of a head's reading. -/
def scale (y : FVec Ideal S4x8192x8x64 .f32) : FVec Ideal S4x8192x8x1 .f32 :=
  Host.rsqrt (addf (Host.divf (broadcastInDim S4x8192x8x1 ![0, 1, 2] bcast_S4x8192x8_S4x8192x8x1_0_1_2
      (Host.reduceAdd (mulf y y) (constant S_ .f32 0x00000000#32) reducesTo_S4x8192x8x64_S4x8192x8_d3 h_S_))
    (broadcastInDim S4x8192x8x1 ![] bcast_S_S4x8192x8x1 (constant S_ .f32 0x42800000#32)))
    (broadcastInDim S4x8192x8x1 ![] bcast_S_S4x8192x8x1 (constant S_ .f32 0x358637BD#32)))

/-- The gates, by sequence, position, head and component. -/
def gates : FVec Ideal S4x8192x8x64 .f32 :=
  shapeCast _ (extractStridedSlice S32768x512 ![0, 1536] x slices_S32768x3072_S32768x512_0_1536) shapeCasts_S32768x512_S4x8192x8x64

/-- A reading normalised and gated. -/
def finish (y : FVec Ideal S4x8192x8x64 .f32) : FVec Ideal S4x8192x8x64 .f32 :=
  mulf (mulf (gates x) (Host.divf (broadcastInDim S4x8192x8x64 ![] bcast_S_S4x8192x8x64 (constant S_ .f32 0x3F800000#32))
      (addf (broadcastInDim S4x8192x8x64 ![] bcast_S_S4x8192x8x64 (constant S_ .f32 0x3F800000#32)) (Host.exp (Host.negf (gates x))))))
    (mulf y (broadcastInDim S4x8192x8x64 ![0, 1, 2, 3] bcast_S4x8192x8x1_S4x8192x8x64_0_1_2_3 (scale y)))

theorem result_eq (T : State Ideal) : R_main_v91 T x
    = shapeCast S32768x512 (finish x (shapeCast S4x8192x8x64 (read x T.main_v27_3) shapeCasts_S4x128x64x8x64_S4x8192x8x64)) shapeCasts_S4x8192x8x64_S32768x512 := by
  unfold R_main_v91 finish scale gates read
  rfl

/-! ## The states -/

theorem added_kept : ∀ k, (chunkStates s x k).main_v27_0 = added x
  | 0 => rfl
  | k + 1 => added_kept k

theorem current_step (k : ℕ) (T : State Ideal) (b : Fin 4) (h : Fin 8) (d e : Fin 64) (hk : k < 128) :
    (step k T).main_v27_2 (ix4 b h d e) = (chunkDecay (ix4 b h d e) * T.main_v27_2 (ix4 b h d e) + T.main_v27_0 (ix5 ⟨k, hk⟩ b h d e) : EReal) := by
  have hu : b5 k T (ix4 b h d e) = T.main_v27_0 (ix5 ⟨k, hk⟩ b h d e) := by
    unfold b5
    rw [shapeCast_apply _ _ (ix4 b h d e) (ix5 0 b h d e) (by
      rw [Shape.rowMajor_val_five, Shape.rowMajor_val_four]
      show (((0 * 4 + b.val) * 8 + h.val) * 64 + d.val) * 64 + e.val = ((b.val * 8 + h.val) * 64 + d.val) * 64 + e.val
      omega)]
    exact read_chunk T.main_v27_0 k hk b h d e
  rw [← hu]
  rfl

theorem saved_step (k : ℕ) (T : State Ideal) : (step k T).main_v27_3
    = Host.dynamicUpdateSlice T.main_v27_3 (broadcastInDim S1x4x8x64x64 ![1, 2, 3, 4] bcast_S4x8x64x64_S1x4x8x64x64_1_2_3_4 T.main_v27_2) (chunkAt k)
        updateFits_S128x4x8x64x64_S1x4x8x64x64 := by
  refine (step_main_v27_3 k T).trans ?_
  unfold b30 b25 b26 b27 b28 b29 chunkAt
  rfl

variable {x s}

theorem queries_at (b : Fin 4) (n : Fin 128) (i : Fin 64) (h : Fin 8) (d : Fin 64) :
    queries x (ix5 b n i h d) = sequence x 0 b h (64 * n.val + i.val) d := by
  refine (cut_apply 0 _ x b n i h d ⟨8192 * b.val + (64 * n.val + i.val), by omega⟩ ⟨0 + (64 * h.val + d.val), by omega⟩ rfl rfl).trans ?_
  exact sequence_at 0 b h d (64 * n.val + i.val) _ _ (by omega) rfl rfl

theorem keys_at (b : Fin 4) (n : Fin 128) (i : Fin 64) (h : Fin 8) (d : Fin 64) :
    keys x (ix5 b n i h d) = sequence x 1 b h (64 * n.val + i.val) d := by
  refine (cut_apply 512 _ x b n i h d ⟨8192 * b.val + (64 * n.val + i.val), by omega⟩ ⟨512 + (64 * h.val + d.val), by omega⟩ rfl rfl).trans ?_
  exact sequence_at 1 b h d (64 * n.val + i.val) _ _ (by omega) rfl rfl

theorem vals_at (b : Fin 4) (n : Fin 128) (i : Fin 64) (h : Fin 8) (e : Fin 64) :
    vals x (ix5 b n i h e) = values x b h e (64 * n.val + i.val) := by
  refine (cut_apply 1024 _ x b n i h e ⟨8192 * b.val + (64 * n.val + i.val), by omega⟩ ⟨1024 + (64 * h.val + e.val), by omega⟩ rfl rfl).trans ?_
  exact sequence_at 2 b h e (64 * n.val + i.val) _ _ (by omega) rfl rfl

/-- The state after `k` chunks is the recurrence's after `64 k` positions. -/
theorem current_at : ∀ k, k ≤ 128 → ∀ (b : Fin 4) (h : Fin 8) (d e : Fin 64),
    (chunkStates s x k).main_v27_2 (ix4 b h d e) = held x s b h e (64 * k) d
  | 0, _, b, h, d, e => rfl
  | k + 1, hk, b, h, d, e => by
    refine (current_step k (chunkStates s x k) b h d e (by omega)).trans ?_
    rw [added_kept]
    unfold added
    rw [updates_apply]
    exact later_state (rate_pos h.val).le (sequence x 1 b h) (values x b h e) (start s b h e) (64 * k) 64 d
      (fun j => keys x (ix5 b ⟨k, by omega⟩ j h d)) (fun j => vals x (ix5 b ⟨k, by omega⟩ j h e)) (fun j => powers left (ix5 b ⟨k, by omega⟩ j h d))
      (chunkDecay (ix4 b h d e)) ((chunkStates s x k).main_v27_2 (ix4 b h d e))
      (fun j => keys_at b _ j h d) (fun j => vals_at b _ j h e) (fun j => powers_apply left b _ j h d _ (left_apply j))
      (chunkDecay_apply b h d e) (current_at k (by omega) b h d e)

/-- The states saved are those before each chunk. -/
theorem saved_at : ∀ k, k ≤ 128 → ∀ n : Fin 128, n.val < k → ∀ (b : Fin 4) (h : Fin 8) (d e : Fin 64),
    (chunkStates s x k).main_v27_3 (ix5 n b h d e) = held x s b h e (64 * n.val) d
  | 0, _, n, hn, _, _, _, _ => absurd hn (Nat.not_lt_zero _)
  | k + 1, hk, n, hn, b, h, d, e => by
    refine (congrFun (saved_step k (chunkStates s x k)) (ix5 n b h d e)).trans ?_
    by_cases h' : n.val = k
    · subst h'
      refine (written_chunk _ _ n.val n.isLt b h d e).trans ?_
      refine Eq.trans ?_ (current_at n.val (by omega) b h d e)
      exact congrArg (chunkStates s x n.val).main_v27_2 (ext_ix4 _ b h d e rfl rfl rfl rfl)
    · refine (kept_chunk _ _ k (by omega) n (by omega) b h d e).trans ?_
      exact saved_at k (by omega) n (by omega) b h d e

/-! ## The results -/

theorem read_at (b : Fin 4) (n : Fin 128) (i : Fin 64) (h : Fin 8) (e : Fin 64) :
    read x (chunkStates s x 128).main_v27_3 (ix5 b n i h e) = reading x s b h (64 * n.val + i.val) e := by
  have hr : reading x s b h (64 * n.val + i.val) e
      = readAt (rate h.val) (sequence x 0 b h) (sequence x 1 b h) (values x b h e) (start s b h e) (64 * n.val) i.val := by
    unfold reading
    rw [show 64 * ((64 * n.val + i.val) / 64) = 64 * n.val by omega, show (64 * n.val + i.val) % 64 = i.val by omega]
  rw [hr]
  unfold read
  rw [addf_apply, turned_apply, turned_apply, inside_apply, across_apply]
  simp only [mulf_apply, scores_apply]
  exact chunk_read (rate h.val) (sequence x 0 b h) (sequence x 1 b h) (values x b h e) (start s b h e) (64 * n.val) i
    (fun d => queries x (ix5 b n i h d)) (fun j d => keys x (ix5 b n j h d)) (fun j => vals x (ix5 b n j h e)) (fun j => mask (ix5 b n h i j))
    (fun d => powers after (ix5 b n i h d)) (fun d => (chunkStates s x 128).main_v27_3 (ix5 n b h d e))
    (fun d => queries_at b n i h d) (fun j d => keys_at b n j h d) (fun j => vals_at b n j h e) (fun j => mask_apply b n h i j)
    (fun d => powers_apply after b n i h d _ (after_apply i)) (fun d => saved_at 128 le_rfl n n.isLt b h d e)

theorem final_at (b : Fin 4) (h : Fin 8) (d e : Fin 64) : (chunkStates s x 128).main_v27_2 (ix4 b h d e) = held x s b h e 8192 d :=
  current_at 128 le_rfl b h d e

theorem gates_apply (b : Fin 4) (p : ℕ) (hp : p < 8192) (h : Fin 8) (e : Fin 64) : gates x (ix4 b ⟨p, hp⟩ h e) = x (ix2 (rowAt b p hp) (colAt 3 h e)) := by
  unfold gates
  rw [shapeCast_apply _ _ (ix4 b ⟨p, hp⟩ h e) (ix2 (rowAt b p hp) (col h e)) (by
    rw [Shape.rowMajor_val_two, Shape.rowMajor_val_four]
    show (8192 * b.val + p) * 512 + (64 * h.val + e.val) = ((b.val * 8192 + p) * 8 + h.val) * 64 + e.val
    omega)]
  exact cols_apply 1536 _ x _ _ _ rfl

theorem scale_apply (y : FVec Ideal S4x8192x8x64 .f32) (b : Fin 4) (p : Fin 8192) (h : Fin 8) :
    scale y (ix4 b p h 0) = invRms 0x42800000#32 fun c => y (ix4 b p h c) := by
  have hs : broadcastInDim S4x8192x8x1 ![0, 1, 2] bcast_S4x8192x8_S4x8192x8x1_0_1_2
      (Host.reduceAdd (mulf y y) (constant S_ .f32 0x00000000#32) reducesTo_S4x8192x8x64_S4x8192x8_d3 h_S_) (ix4 b p h 0)
      = ∑ c : Fin 64, (y (ix4 b p h c) * y (ix4 b p h c) : EReal) := by
    simp only [Host.reduceAdd, Ideal.hostReduceAdd_def]
    refine (Ideal.hostReduceAdd_single reducesTo_S4x8192x8x64_S4x8192x8_d3 (by decide) _ _ _).trans ?_
    rw [constant_apply, Ideal.ofBits_zero_f32, zero_add]
    exact Finset.sum_congr rfl fun c _ => congrArg (fun i => (y i * y i : EReal)) (ext_ix4 _ b p h c rfl rfl rfl rfl)
  unfold invRms
  rw [← hs]
  rfl

theorem finish_apply (y : FVec Ideal S4x8192x8x64 .f32) (b : Fin 4) (p : ℕ) (hp : p < 8192) (h : Fin 8) (e : Fin 64) :
    finish x y (ix4 b ⟨p, hp⟩ h e) = gateOf (x (ix2 (rowAt b p hp) (colAt 3 h e)))
      * (y (ix4 b ⟨p, hp⟩ h e) * invRms 0x42800000#32 fun c => y (ix4 b ⟨p, hp⟩ h c)) := by
  rw [← gates_apply (x := x) b p hp h e, ← scale_apply]
  unfold gateOf
  rw [Ideal.ofBits_zero_f32, zero_sub]
  unfold finish
  exact congrArg (fun z => (gates x (ix4 b ⟨p, hp⟩ h e) * Ideal.div (Ideal.ofBits .f32 0x3F800000#32) (Ideal.ofBits .f32 0x3F800000#32 + Ideal.exp (-gates x (ix4 b ⟨p, hp⟩ h e)))
    * (y (ix4 b ⟨p, hp⟩ h e) * scale y z) : EReal)) (ext_ix4 _ b ⟨p, hp⟩ h 0 rfl rfl rfl rfl)

/-- The reference's output. -/
theorem out_at (b : Fin 4) (p : ℕ) (hp : p < 8192) (h : Fin 8) (e : Fin 64) :
    R_main_v91 (chunkStates s x 128) x (ix2 (rowAt b p hp) (col h e)) = output x s b h p hp e := by
  have hy : ∀ c : Fin 64, shapeCast S4x8192x8x64 (read x (chunkStates s x 128).main_v27_3) shapeCasts_S4x128x64x8x64_S4x8192x8x64 (ix4 b ⟨p, hp⟩ h c)
      = reading x s b h p c := by
    intro c
    rw [shapeCast_apply _ _ (ix4 b ⟨p, hp⟩ h c) (ix5 b (⟨p / 64, by omega⟩ : Fin 128) (⟨p % 64, by omega⟩ : Fin 64) h c) (by
      rw [Shape.rowMajor_val_five, Shape.rowMajor_val_four]
      show (((b.val * 128 + p / 64) * 64 + p % 64) * 8 + h.val) * 64 + c.val = ((b.val * 8192 + p) * 8 + h.val) * 64 + c.val
      omega)]
    refine (read_at b _ _ h c).trans (congrArg (fun q => reading x s b h q c) ?_)
    show 64 * (p / 64) + p % 64 = p
    omega
  rw [result_eq, shapeCast_apply _ _ (ix2 (rowAt b p hp) (col h e)) (ix4 b ⟨p, hp⟩ h e) (by
    rw [Shape.rowMajor_val_four, Shape.rowMajor_val_two]
    show ((b.val * 8192 + p) * 8 + h.val) * 64 + e.val = (8192 * b.val + p) * 512 + (64 * h.val + e.val)
    omega), finish_apply]
  simp only [hy]
  rfl

end Cert.Layer.RetRef

end
-- ==== Proof.Ret.Claim.lean ====
/- The value claim of the retention: both results of the kernel are the reference's, wherever the queries and the
   values are real numbers. -/
module

public import proofs.«01_k».proof.Defs
public import proofs.«01_k».proof.Proof.Ret.Array
public import proofs.«01_k».proof.Proof.Ret.Ref
public import proofs.«01_k».proof.Proof.Gen.Pre_finite

@[expose] public section

noncomputable section

namespace Cert.Layer

open Idealize.ShloMosaic Idealize.ShloMosaic.ValueIdx Idealize.ShloMosaic.TcCoe Idealize.SL.Sem
open Cert.Layer.Ret

/-! ## The precondition -/

theorem infinity_bits : Ideal.ofBits .f32 0x7F800000#32 = ⊤ := by
  simp [Ideal.ofBits, Ideal.ieee]

/-- A number whose absolute value lies below infinity is real. -/
theorem real_of_abs_lt (a : EReal) (h : Ideal.cmp .olt (max a (-a)) (Ideal.ofBits .f32 0x7F800000#32) = 1#1) : a = ((a.toReal : ℝ) : EReal) := by
  rw [infinity_bits] at h
  have hlt : max a (-a) < ⊤ := by
    by_contra hn
    unfold Ideal.cmp at h
    simp only [hn, decide_false] at h
    exact absurd h (by decide)
  refine (EReal.coe_toReal (fun ha => ?_) (fun ha => ?_)).symm
  · rw [ha] at hlt
    exact absurd (le_max_left ⊤ (-⊤ : EReal)) (not_le.2 hlt)
  · rw [ha] at hlt
    exact absurd (le_max_right ⊥ (-⊥ : EReal)) (not_le.2 (by rw [EReal.neg_bot]; rwa [EReal.neg_bot] at hlt))

theorem finite_of_pre (x : Input) (s : States)
    (h : (Cert.Pre_finite.fn (F := Ideal) x s).1 = (fun _ => 1#1) ∧ (Cert.Pre_finite.fn (F := Ideal) x s).2 = (fun _ => 1#1)) : Finite x where
  queries r c hc := by
    have e : extractStridedSlice Cert.Pre_finite.S32768x512 ![0, 0] x Cert.Pre_finite.Facts.slices_S32768x3072_S32768x512_0_0 (ix2 r (⟨c.val, hc⟩ : Fin 512)) = x (ix2 r c) :=
      extractStridedSlice_apply _ x _ _ (ix2 r c) fun a => match a with
        | ⟨0, _⟩ => (Nat.zero_add _).symm
        | ⟨1, _⟩ => (Nat.zero_add _).symm
    rw [← e]
    exact real_of_abs_lt _ (congrFun h.1 (ix2 r (⟨c.val, hc⟩ : Fin 512)))
  values r c hc hc' := by
    have e : extractStridedSlice Cert.Pre_finite.S32768x512 ![0, 1024] x Cert.Pre_finite.Facts.slices_S32768x3072_S32768x512_0_1024 (ix2 r (⟨c.val - 1024, by omega⟩ : Fin 512)) = x (ix2 r c) :=
      extractStridedSlice_apply _ x _ _ (ix2 r c) fun a => match a with
        | ⟨0, _⟩ => (Nat.zero_add _).symm
        | ⟨1, _⟩ => (Nat.add_sub_cancel' hc).symm
    rw [← e]
    exact real_of_abs_lt _ (congrFun h.2 (ix2 r (⟨c.val - 1024, by omega⟩ : Fin 512)))

/-! ## The results -/

/-- The place of a row and a column among sequences, positions, heads and components. -/
theorem place_eq (i : (⟨2, ![32768, 512]⟩ : Shape).Idx) : ∃ (b : Fin 4) (p : ℕ) (hp : p < 8192) (h : Fin 8) (e : Fin 64), i = ix2 (rowAt b p hp) (RetBlock.col h e) := by
  have h0 : (i 0).val < 32768 := (i 0).isLt
  have h1 : (i 1).val < 512 := (i 1).isLt
  refine ⟨⟨(i 0).val / 8192, by omega⟩, (i 0).val % 8192, by omega, ⟨(i 1).val / 64, by omega⟩, ⟨(i 1).val % 64, by omega⟩, ext_ix2 i _ _ ?_ ?_⟩
  · show (i 0).val = 8192 * ((i 0).val / 8192) + (i 0).val % 8192
    omega
  · show (i 1).val = 64 * ((i 1).val / 64) + (i 1).val % 64
    omega

variable (m : (ℓ : Loc Cert.KernelIdeal.nD Cert.KernelIdeal.τ Cert.KernelIdeal.sig) → Buf (Elt Ideal) ℓ) (c : Dev Cert.KernelIdeal.nD)

theorem ret_same_out (hX : Finite (RetArray.inputOf m c)) :
    Cert.ReferenceIdeal.Step.R_main_v91 (F := Ideal) (RetRun.chunkStates (RetArray.statesOf m c) (RetArray.inputOf m c) 128) (RetArray.inputOf m c)
      = (Cert.KernelIdeal.Gen.dats m 0 c).arrAt 8 Cert.KernelIdeal.cfg0.N := by
  funext i
  obtain ⟨b, p, hp, h, e, rfl⟩ := place_eq i
  exact (RetRef.out_at b p hp h e).trans (RetArray.out_result hX b p hp h e).symm

theorem ret_same_state :
    (RetRun.chunkStates (RetArray.statesOf m c) (RetArray.inputOf m c) 128).main_v27_2
      = (Cert.KernelIdeal.Gen.dats m 0 c).arrAt 9 Cert.KernelIdeal.cfg0.N := by
  funext i
  rw [eq_ix4 i]
  exact (RetRef.final_at _ _ _ _).trans (RetArray.final_result _ _ _ _).symm

theorem ret_algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hm
  refine ⟨fun c => (Cert.KernelIdeal.Gen.dats m 0 c).arrAt 8 Cert.KernelIdeal.cfg0.N, fun c => (Cert.KernelIdeal.Gen.dats m 0 c).arrAt 9 Cert.KernelIdeal.cfg0.N, ?_, ?_⟩
  · exact Cert.KernelIdeal.Value.run_blocks m g
  · refine (θ_run _ _ _).mono (fun r h c => ?_) (RetRun.run m' g')
    obtain ⟨h0, h1, k0, k1⟩ := h c
    obtain ⟨e0, e1⟩ := hm c
    rw [e0, e1] at h0 h1
    have hX : Finite (RetArray.inputOf m c) := finite_of_pre _ (RetArray.statesOf m c) (hpre c)
    exact ⟨h0.trans (ret_same_out m c hX), h1.trans (ret_same_state m c), k0, k1⟩

/-- The reference runs, leaves its arguments, and declares no semaphore. -/
theorem ret_reference_frame : Cert.quiescent_ReferenceIdeal (hReferenceIdeal := Cert.ReferenceIdeal.Gen.facts) := fun m g _ =>
  (θ_run _ _ _).mono (fun r h => ⟨fun c => (h c).2.2, sem_eq_zero_of_no_sems (by decide) r.2⟩)
    (Cert.ReferenceIdeal.Value.run (F := Ideal) m g)

/-- Each named constant of the idealized kernel is near the printed one: the decays over a block of 512 positions. -/
theorem ret_preserves : Cert.preserves_Kernel_KernelIdeal :=
  ⟨IdealRules.named_const.statement Cert.KernelIdeal.κ "g0" .f32 0x33BB35AB#32 _ rfl,
    IdealRules.named_const.statement Cert.KernelIdeal.κ "g1" .f32 0x39A51D40#32 _ rfl,
    IdealRules.named_const.statement Cert.KernelIdeal.κ "g2" .f32 0x3C93B415#32 _ rfl,
    IdealRules.named_const.statement Cert.KernelIdeal.κ "g3" .f32 0x3E0A0AA9#32 _ rfl,
    IdealRules.named_const.statement Cert.KernelIdeal.κ "g4" .f32 0x3EBC2B91#32 _ rfl,
    IdealRules.named_const.statement Cert.KernelIdeal.κ "g5" .f32 0x3F1B3BE2#32 _ rfl,
    IdealRules.named_const.statement Cert.KernelIdeal.κ "g6" .f32 0x3F475C5F#32 _ rfl,
    IdealRules.named_const.statement Cert.KernelIdeal.κ "g7" .f32 0x3F61EA6F#32 _ rfl⟩

end Cert.Layer

end
-- ==== Proof.RetSample.Block.lean ====
/- One sequence of the retention kernel for the second batch: the state written out is, for each of the eight heads, the one
   given times the head's decay over 16 frames, plus the decayed keys times the values. -/
module

public import proofs.«01_k».proof.Proof.Common.HeadStates
public import proofs.«01_k».proof.Proof.Ret.Head
public import proofs.«01_k».proof.Proof.Ret.Recurrence
public import proofs.«01_k».proof.Proof.Gen.RetSampleIdeal.Frame

@[expose] public section

noncomputable section

namespace Cert.Layer.RetSampleBlock

open Cert.RetSampleIdeal Cert.RetSampleIdeal.Gen Idealize.ShloMosaic Idealize.ShloMosaic.ValueIdx
open Cert.Layer
open Cert.Layer.RetBlock (col)
open scoped BigOperators

/-- The product of the keys and the values over the frames, accumulated onto zero, at an element. -/
theorem product_columns_apply {φ₁ φ₂ : FTy} (A : FVec Ideal S16x64 φ₁) (B : FVec Ideal S16x64 φ₂) (p q : Fin 64) :
    matmul dot_S16x64_S16x64_S64x64_0_0_1_1_n_n none A B (constant S64x64 .f32 0x00000000#32) (ix2 p q)
      = ∑ k : Fin 16, A (ix2 k p) * B (ix2 k q) := by
  show FloatOps.matmul dot_S16x64_S16x64_S64x64_0_0_1_1_n_n none A B _ (ix2 p q) = _
  rw [Ideal.matmul_apply, constant_apply, Ideal.ofBits_zero_f32,
    ← Equiv.sum_comp (contrEquiv1 dot_S16x64_S16x64_S64x64_0_0_1_1_n_n 16 rfl rfl).symm]
  refine (zero_add _).trans (Finset.sum_congr rfl fun k _ => ?_)
  have hk := contrEquiv1_symm_val dot_S16x64_S16x64_S64x64_0_0_1_1_n_n 16 rfl rfl k
  exact congrArg₂ (fun a b : EReal => a * b) (congrArg A (ext_ix2 _ k p hk rfl)) (congrArg B (ext_ix2 _ k q hk rfl))

/-- A head's columns lie within the block. -/
theorem head_slices (h : Fin 8) : S16x512.Slices ![0, 64 * h.val] S16x64 :=
  ⟨rfl, fun a => match a with
    | ⟨0, _⟩ => by show 0 + 16 ≤ 16; omega
    | ⟨1, _⟩ => by show 64 * h.val + 64 ≤ 512; omega⟩

/-- A head's columns of a block. -/
def part {φ : FTy} (h : Fin 8) (x : FVec Ideal S16x512 φ) : FVec Ideal S16x64 φ :=
  extractStridedSlice S16x64 ![0, 64 * h.val] x (head_slices h)

theorem part_apply {φ : FTy} (h : Fin 8) (x : FVec Ideal S16x512 φ) (p : Fin 16) (d : Fin 64) :
    part h x (ix2 p d) = x (ix2 p (col h d)) :=
  extractStridedSlice_apply _ x _ (ix2 p d) (ix2 p (col h d)) fun a => match a with
    | ⟨0, _⟩ => (Nat.zero_add _).symm
    | ⟨1, _⟩ => rfl

/-- The state a head hands on: the old one times `g`, and the decayed keys times the values. -/
def next (h : Fin 8) (g : EReal) (v ks : FVec Ideal S16x512 .bf16) (st : Vec Ideal S1x64x64 .f32) : FVec Ideal S1x64x64 .f32 :=
  shapeCast S1x64x64 (addf (mulf (broadcast S64x64 (g : Ideal .f32)) (shapeCast S64x64 st shapeCasts_S1x64x64_S64x64) : FVec Ideal S64x64 .f32)
    (matmul dot_S16x64_S16x64_S64x64_0_0_1_1_n_n none (part h ks) (part h v) (constant S64x64 .f32 0x00000000#32))) shapeCasts_S64x64_S1x64x64

theorem next_apply (h : Fin 8) (g : EReal) (v ks : FVec Ideal S16x512 .bf16) (st : Vec Ideal S1x64x64 .f32) (d e : Fin 64) :
    next h g v ks st (ix3 0 d e)
      = g * st (ix3 0 d e) + ∑ j : Fin 16, ks (ix2 j (col h d)) * v (ix2 j (col h e)) := by
  unfold next
  rw [shapeCast_ab_1ab_apply, addf_apply, product_columns_apply, mulf_apply, shapeCast_1ab_ab_apply]
  simp only [part_apply]
  rfl

/-- The decay of head `h` over 16 frames, as the kernel names it. -/
def blockDecay : Fin 8 → EReal :=
  ![Named.named (F := Ideal) (φ := .f32) κ "g0" 0x3F1A09B0#32, Named.named (F := Ideal) (φ := .f32) κ "g1" 0x3F46FADA#32,
    Named.named (F := Ideal) (φ := .f32) κ "g2" 0x3F61CEF0#32, Named.named (F := Ideal) (φ := .f32) κ "g3" 0x3F7075D7#32,
    Named.named (F := Ideal) (φ := .f32) κ "g4" 0x3F781DBA#32, Named.named (F := Ideal) (φ := .f32) κ "g5" 0x3F7C0777#32,
    Named.named (F := Ideal) (φ := .f32) κ "g6" 0x3F7E01DF#32, Named.named (F := Ideal) (φ := .f32) κ "g7" 0x3F7F0078#32]

/-- The named decays are the heads' rates over 16 frames. -/
theorem blockDecay_eq (h : Fin 8) : blockDecay h = ((rate h.val ^ 16 : ℝ) : EReal) := by
  unfold rate
  fin_cases h <;> refine (IdealRules.named_const.ideal_named_scalar _ _ _ _ rfl).trans (congrArg _ ?_) <;> norm_num

theorem kept_apply (k t : FVec Ideal S16x512 .f32) (j : S16x512.Idx) : (k0_pay7 (F := Ideal) k t j : EReal) = (k j * t j : EReal) := by
  unfold k0_pay7
  rw [shapeCast_self]
  rfl

/-- The state of head `h` handed on. -/
def nextOf (k v kd : FVec Ideal S16x512 .f32) (T : FVec Ideal S8x64x64 .f32) (h : Fin 8) : FVec Ideal S1x64x64 .f32 :=
  next h (blockDecay h) (k0_pay3 v) (k0_pay7 k kd) (slab h T)

theorem nextOf_apply (k v kd : FVec Ideal S16x512 .f32) (T : FVec Ideal S8x64x64 .f32) (h : Fin 8) (d e : Fin 64) :
    nextOf k v kd T h (ix3 0 d e) = ((rate h.val ^ 16 : ℝ) : EReal) * T (ix3 h d e)
      + ∑ j : Fin 16, (k (ix2 j (col h d)) * kd (ix2 j (col h d))) * v (ix2 j (col h e)) := by
  refine (next_apply h (blockDecay h) (k0_pay3 v) (k0_pay7 k kd) (slab h T) d e).trans ?_
  simp only [kept_apply, blockDecay_eq]
  rfl

/-- The eight stores of the states handed on, whatever was stored before. -/
theorem canon_state (k v kd : FVec Ideal S16x512 .f32) (T : FVec Ideal S8x64x64 .f32)
    (L : List (View.Piece (Elt Ideal) S8x64x64 .f32)) :
    View.canon (⟨Rect.unit (s := S8x64x64) ![7, 0, 0] ![1, 64, 64] inb_S8x64x64_S1x64x64_7_0_0, k0_pay42 (F := Ideal) (k0_pay3 v) (k0_pay7 k kd) (k0_pay38 (slab 7 T))⟩ ::
      ⟨Rect.unit (s := S8x64x64) ![6, 0, 0] ![1, 64, 64] inb_S8x64x64_S1x64x64_6_0_0, k0_pay36 (F := Ideal) (k0_pay3 v) (k0_pay7 k kd) (slab 6 T)⟩ ::
      ⟨Rect.unit (s := S8x64x64) ![5, 0, 0] ![1, 64, 64] inb_S8x64x64_S1x64x64_5_0_0, k0_pay32 (F := Ideal) (k0_pay3 v) (k0_pay7 k kd) (slab 5 T)⟩ ::
      ⟨Rect.unit (s := S8x64x64) ![4, 0, 0] ![1, 64, 64] inb_S8x64x64_S1x64x64_4_0_0, k0_pay28 (F := Ideal) (k0_pay3 v) (k0_pay7 k kd) (slab 4 T)⟩ ::
      ⟨Rect.unit (s := S8x64x64) ![3, 0, 0] ![1, 64, 64] inb_S8x64x64_S1x64x64_3_0_0, k0_pay24 (F := Ideal) (k0_pay3 v) (k0_pay7 k kd) (slab 3 T)⟩ ::
      ⟨Rect.unit (s := S8x64x64) ![2, 0, 0] ![1, 64, 64] inb_S8x64x64_S1x64x64_2_0_0, k0_pay19 (F := Ideal) (k0_pay3 v) (k0_pay7 k kd) (slab 2 T)⟩ ::
      ⟨Rect.unit (s := S8x64x64) ![1, 0, 0] ![1, 64, 64] inb_S8x64x64_S1x64x64_1_0_0, k0_pay15 (F := Ideal) (k0_pay14 (k0_pay3 v) (k0_pay7 k kd) (slab 1 T))⟩ ::
      ⟨Rect.unit (s := S8x64x64) ![0, 0, 0] ![1, 64, 64] inb_S8x64x64_S1x64x64_0_0_0, k0_pay10 (F := Ideal) (k0_pay3 v) (k0_pay7 k kd) (k0_pay8 (slab 0 T)) (blockDecay 0)⟩ :: L)
      = stacked (nextOf k v kd T) :=
  canon_stacked (nextOf k v kd T) L fun n => by
    fin_cases n
    exacts [inb_S8x64x64_S1x64x64_0_0_0, inb_S8x64x64_S1x64x64_1_0_0, inb_S8x64x64_S1x64x64_2_0_0, inb_S8x64x64_S1x64x64_3_0_0,
      inb_S8x64x64_S1x64x64_4_0_0, inb_S8x64x64_S1x64x64_5_0_0, inb_S8x64x64_S1x64x64_6_0_0, inb_S8x64x64_S1x64x64_7_0_0]

/-- The state written out. -/
theorem final_A (c : Dev nD) (i : grid0.Coords) (a0 : Memref sig .tc .vmem S16x512 .f32) (h0 : a0.IsWhole) (a1 : Memref sig .tc .vmem S16x512 .f32) (h1 : a1.IsWhole) (a2 : Memref sig .tc .vmem S16x512 .f32) (h2 : a2.IsWhole) (a3 : Memref sig .tc .vmem S16x512 .f32) (h3 : a3.IsWhole) (a4 : Memref sig .tc .vmem S8x16x16 .f32) (h4 : a4.IsWhole) (a5 : Memref sig .tc .vmem S16x512 .f32) (h5 : a5.IsWhole) (a6 : Memref sig .tc .vmem S16x512 .f32) (h6 : a6.IsWhole) (a7 : Memref sig .tc .vmem S1x8x64x64 .f32) (h7 : a7.IsWhole) (a8 : Memref sig .tc .vmem S16x512 .f32) (h8 : a8.IsWhole) (a9 : Memref sig .tc .vmem S1x8x64x64 .f32) (h9 : a9.IsWhole) (a10 : Memref sig .tc .vmem S8x64x64 .f32) (h10 : a10.IsWhole) (hc0 : cond0_0 i) (hc1 : cond0_1 i) (x0 : FVec Ideal S16x512 .f32) (x1 : FVec Ideal S16x512 .f32) (x2 : FVec Ideal S16x512 .f32) (x3 : FVec Ideal S16x512 .f32) (x4 : FVec Ideal S8x16x16 .f32) (x5 : FVec Ideal S16x512 .f32) (x6 : FVec Ideal S16x512 .f32) (x7 : FVec Ideal S1x8x64x64 .f32) :
    out0_A_9 (F := Ideal) c i a0 h0 a1 h1 a2 h2 a3 h3 a4 h4 a5 h5 a6 h6 a7 h7 a8 h8 a9 h9 a10 h10 hc0 hc1 x0 x1 x2 x3 x4 x5 x6 x7
      = k0_pay1 (F := Ideal) (stacked (nextOf x1 x2 x6 (k0_pay2 (F := Ideal) x7))) := by
  unfold out0_A_9
  rw [View.read_writes_junk_eq_canon]
  unfold kernelRun0_A
  dsimp only
  refine (View.canon_unit_zero (S := S1x8x64x64) (funext fun d => by fin_cases d <;> rfl) _ _).trans ?_
  refine congrArg (k0_pay1 (F := Ideal)) ?_
  unfold kernelRun0_A.sl.v304
  rw [View.readCov_eq_canon']
  simp (disch := decide) only [kernelRun0_A.sl.r, kernelRun0_A.sl.r_5, kernelRun0_A.sl.r_6, kernelRun0_A.sl.r_10, kernelRun0_A.sl.r_23, kernelRun0_A.sl.v25, kernelRun0_A.sl.v59, kernelRun0_A.sl.v93, kernelRun0_A.sl.v127, kernelRun0_A.sl.v161, kernelRun0_A.sl.v195, kernelRun0_A.sl.v229, kernelRun0_A.sl.v263, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, ↓View.readCov_skip, read_slab_of_fill 0 (by decide), read_slab_of_fill 1 (by decide), read_slab_of_fill 2 (by decide), read_slab_of_fill 3 (by decide), read_slab_of_fill 4 (by decide), read_slab_of_fill 5 (by decide), read_slab_of_fill 6 (by decide), read_slab_of_fill 7 (by decide)]
  simp only [read_block, read_given]
  funext j
  refine (congrFun (canon_state x1 x2 x6 (k0_pay2 (F := Ideal) x7) _) _).trans (congrArg (stacked (nextOf x1 x2 x6 (k0_pay2 (F := Ideal) x7))) ?_)
  exact (ext_ix3 _ (j 0) (j 1) (j 2) (by show 0 + 1 * (j 0).val = _; omega) (by show 0 + 1 * (j 1).val = _; omega)
    (by show 0 + 1 * (j 2).val = _; omega)).trans (ext_ix3 j _ _ _ rfl rfl rfl).symm

end Cert.Layer.RetSampleBlock

end
-- ==== Proof.RetSample.Spec.lean ====
/- The retention states of the second batch: sixteen sequences of 16 frames, each one step of the recurrence over all of its
   frames. -/
module

public import Idealize.ShloMosaic.Lib.ValueIdx
public import proofs.«01_k».proof.Proof.Ret.Recurrence

@[expose] public section

noncomputable section

namespace Cert.Layer.RetSample

open Idealize.ShloMosaic Idealize.ShloMosaic.ValueIdx
open scoped BigOperators

/-- The input, and the states of the sixteen sequences. -/
abbrev Input := (⟨2, ![256, 3072]⟩ : Shape).Idx → EReal
abbrev States := (⟨4, ![16, 8, 64, 64]⟩ : Shape).Idx → EReal

theorem last_bits : Ideal.ofBits .f32 0x41700000#32 = ((15 : ℝ) : EReal) := by
  simp [Ideal.ofBits, Ideal.ieee, -EReal.coe_mul]; norm_num

/-- Frame `j` of sequence `b`; component `d` of head `h` in part `n` of the input (1 the keys, 2 the values). -/
abbrev rowAt (b : Fin 16) (j : Fin 16) : Fin 256 := ⟨b.val * 16 + j.val, by omega⟩
abbrev colAt (n : Fin 3) (h : Fin 8) (d : Fin 64) : Fin 3072 := ⟨n.val * 512 + (64 * h.val + d.val), by omega⟩

/-- The state after a sequence: the one before it, decayed over 16 frames, and every frame's key times its value, the key
    decayed until the last frame. -/
def stateAfter (x : Input) (s : States) (b : Fin 16) (h : Fin 8) (d e : Fin 64) : EReal :=
  ((rate h.val ^ 16 : ℝ) : EReal) * s (ix4 b h d e)
    + ∑ j : Fin 16, (x (ix2 (rowAt b j) (colAt 1 h d)) * ((rate h.val ^ (16 - 1 - j.val) : ℝ) : EReal)) * x (ix2 (rowAt b j) (colAt 2 h e))

end Cert.Layer.RetSample

end
-- ==== Proof.RetSample.Array.lean ====
/- The states the idealized retention call leaves for the second batch, read at an element. Grid point `t` works on
   sequence `t`. -/
module

public import proofs.«01_k».proof.Proof.Common.Index
public import proofs.«01_k».proof.Proof.Ret.Host
public import proofs.«01_k».proof.Proof.RetSample.Block
public import proofs.«01_k».proof.Proof.RetSample.Spec
public import proofs.«01_k».proof.Proof.Gen.RetSampleIdeal.Value

@[expose] public section

noncomputable section

namespace Cert.Layer.RetSampleArray

open Cert.RetSampleIdeal Cert.RetSampleIdeal.Gen Cert.RetSampleIdeal.Value Idealize.ShloMosaic Idealize.ShloMosaic.ValueIdx Idealize.ShloMosaic.TcCoe
open Idealize.ShloMosaic.Pipeline (Dat Window)
open Cert.Layer Cert.Layer.RetSample Cert.Layer.RetSampleBlock
open Cert.Layer.RetBlock (col)

/-! ## The decay of a key until the last frame, as the host tabulates it -/

/-- The frames `0 … 15` of a sequence. -/
def places : IVec S16 32 := iotaInDim S16 32 0

/-- The logarithms of the eight heads' decays. -/
def logs : FVec Ideal S8 .f32 := Host.log (F := Ideal) (φ := .f32) fun i => FloatOps.ofBits (F := Ideal) .f32 (lit0 (S8.rowMajor i))

/-- One exponent for each frame, raised to by every head, each head's power in its 64 columns. -/
def powers (n : FVec Ideal S16 .f32) : FVec Ideal S16x512 .f32 :=
  shapeCast S16x512 (broadcastInDim S16x8x64 ![0, 1] bcast_S16x8_S16x8x64_0_1
    (Host.exp (F := Ideal) (φ := .f32) (mulf (broadcastInDim S16x8 ![0, 1] bcast_S1x8_S16x8_0_1 (broadcastInDim S1x8 ![1] bcast_S8_S1x8_1 logs))
      (broadcastInDim S16x8 ![0, 1] bcast_S16x1_S16x8_0_1 (broadcastInDim S16x1 ![0] bcast_S16_S16x1_0 n)))))
    shapeCasts_S16x8x64_S16x512

/-- How far each frame is from the last one. -/
def before : FVec Ideal S16 .f32 :=
  subf (broadcastInDim S16 ![] bcast_S_S16 (constant (F := Ideal) S_ .f32 0x41700000#32)) (sitofp (F := Ideal) .f32 places)

theorem logs_apply (h : Fin 8) : logs (ix1 h) = ((Real.log (rate h.val) : ℝ) : EReal) := by
  show Ideal.log (Ideal.ofBits .f32 (lit0 (S8.rowMajor (ix1 h)))) = _
  rw [show S8.rowMajor (ix1 h) = h from Fin.ext (Shape.rowMajor_val_one _),
    (by decide +kernel : ∀ h : Fin 8, lit0 h = Cert.KernelIdeal.lit0 h) h, RetHost.rate_bits]
  exact if_neg (not_le.2 (rate_pos h.val))

theorem places_toInt : ∀ i : Fin 16, (places (ix1 i)).toInt = (i.val : ℤ) := by
  decide +kernel

theorem before_apply (i : Fin 16) : before (ix1 i) = (((16 - 1 - i.val : ℕ) : ℝ) : EReal) := by
  show Ideal.ofBits .f32 0x41700000#32 - (((places (ix1 i)).toInt : ℝ) : EReal) = _
  rw [places_toInt, last_bits, ← EReal.coe_sub, Nat.cast_sub (by omega : i.val ≤ 16 - 1)]
  norm_num

theorem powers_apply (n : FVec Ideal S16 .f32) (i : Fin 16) (h : Fin 8) (d : Fin 64) (q : ℕ) (hn : n (ix1 i) = ((q : ℝ) : EReal)) :
    powers n (ix2 i (col h d)) = ((rate h.val ^ q : ℝ) : EReal) := by
  unfold powers
  rw [shapeCast_apply _ _ (ix2 i (col h d)) (ix3 i h d) (by
    rw [Shape.rowMajor_val_three, Shape.rowMajor_val_two]
    show (i.val * 8 + h.val) * 64 + d.val = i.val * 512 + (64 * h.val + d.val)
    omega)]
  rw [← exp_log_rate, ← Ideal.exp_coe, EReal.coe_mul, ← logs_apply, ← hn]
  exact congrArg Ideal.exp (congrArg₂ (fun a b : EReal => a * b) (congrArg logs (ext_ix1 _ h rfl)) (congrArg n (ext_ix1 _ i rfl)))

variable (m : (ℓ : Loc nD τ sig) → Buf (Elt Ideal) ℓ) (c : Dev nD)

theorem entry_before : (V m c main_v53 : S16x512.Idx → EReal) = powers before := by
  unfold V
  simp only [hostOps0, hostOps0_1, hostOps0_2, hostOps0_3, hostOps0_4, hostOps0_5, List.flatten_cons, List.flatten_nil, List.append_nil,
    List.cons_append, List.nil_append]
  after_results_simp <;> (try dsimp only [Matrix.cons_val]) <;> (try after_results_simp) <;> rfl

/-! ## What a grid point finds -/

/-- The input and the initial states of core `c`. -/
abbrev inputOf : Input := m ((c : Thread nD τ).loc main_arg0)
abbrev statesOf : States := m ((c : Thread nD τ).loc main_arg1)

theorem place_parts : ∀ t : Fin cfg0.N, (win0_1.index t 0 = t.val ∧ win0_1.index t 1 = 1) ∧ (win0_2.index t 0 = t.val ∧ win0_2.index t 1 = 2)
    ∧ (win0_6.index t 0 = 0 ∧ win0_6.index t 1 = 0) := by
  decide +kernel

theorem place_start : ∀ t : Fin cfg0.N, win0_7.index t 0 = t.val ∧ win0_7.index t 1 = 0 ∧ win0_7.index t 2 = 0 ∧ win0_7.index t 3 = 0 := by
  decide +kernel

theorem place_final : ∀ t : Fin cfg0.N, win0_9.index t 0 = t.val ∧ win0_9.index t 1 = 0 ∧ win0_9.index t 2 = 0 ∧ win0_9.index t 3 = 0 := by
  decide +kernel

/-- The sequence of a point. -/
abbrev seqAt (t : Fin cfg0.N) : Fin 16 := ⟨t.val, lt_of_lt_of_eq t.isLt N_0⟩

theorem at_origin (n k : ℕ) : 0 * n + k = k := (congrArg (· + k) (Nat.zero_mul n)).trans (Nat.zero_add k)

theorem block_k (t : Fin cfg0.N) (j : Fin 16) (h : Fin 8) (d : Fin 64) :
    iblk m c 1 t (ix2 j (col h d)) = inputOf m c (ix2 (rowAt (seqAt t) j) (colAt 1 h d)) := by
  unfold iblk
  rw [View.read_apply]
  show V m c main_arg0 _ = _
  rw [V_main_arg0]
  refine congrArg _ (ext_ix2 _ _ _ ?_ ?_)
  · exact (Window.rect_emb_val (cfg0.win 1) t (ix2 j (col h d)) 0).trans (by rw [show (cfg0.win 1).index t 0 = t.val from (place_parts t).1.1]; rfl)
  · exact (Window.rect_emb_val (cfg0.win 1) t (ix2 j (col h d)) 1).trans (by rw [show (cfg0.win 1).index t 1 = 1 from (place_parts t).1.2]; rfl)

theorem block_v (t : Fin cfg0.N) (j : Fin 16) (h : Fin 8) (e : Fin 64) :
    iblk m c 2 t (ix2 j (col h e)) = inputOf m c (ix2 (rowAt (seqAt t) j) (colAt 2 h e)) := by
  unfold iblk
  rw [View.read_apply]
  show V m c main_arg0 _ = _
  rw [V_main_arg0]
  refine congrArg _ (ext_ix2 _ _ _ ?_ ?_)
  · exact (Window.rect_emb_val (cfg0.win 2) t (ix2 j (col h e)) 0).trans (by rw [show (cfg0.win 2).index t 0 = t.val from (place_parts t).2.1.1]; rfl)
  · exact (Window.rect_emb_val (cfg0.win 2) t (ix2 j (col h e)) 1).trans (by rw [show (cfg0.win 2).index t 1 = 2 from (place_parts t).2.1.2]; rfl)

theorem block_before (t : Fin cfg0.N) (j : Fin 16) (h : Fin 8) (d : Fin 64) :
    iblk m c 6 t (ix2 j (col h d)) = ((rate h.val ^ (16 - 1 - j.val) : ℝ) : EReal) := by
  unfold iblk
  rw [View.read_apply]
  show V m c main_v53 _ = _
  refine (congrArg (V m c main_v53) (ext_ix2 _ j (col h d) ?_ ?_)).trans ((congrFun (entry_before m c) (ix2 j (col h d))).trans
    (powers_apply before j h d _ (before_apply j)))
  · exact (Window.rect_emb_val (cfg0.win 6) t (ix2 j (col h d)) 0).trans (by rw [show (cfg0.win 6).index t 0 = 0 from (place_parts t).2.2.1]; exact at_origin _ _)
  · exact (Window.rect_emb_val (cfg0.win 6) t (ix2 j (col h d)) 1).trans (by rw [show (cfg0.win 6).index t 1 = 0 from (place_parts t).2.2.2]; exact at_origin _ _)

theorem block_start (t : Fin cfg0.N) (h : Fin 8) (d e : Fin 64) : iblk m c 7 t (ix4 0 h d e) = statesOf m c (ix4 (seqAt t) h d e) := by
  unfold iblk
  rw [View.read_apply]
  show V m c main_arg1 _ = _
  rw [V_main_arg1]
  refine congrArg _ (ext_ix4 _ _ _ _ _ ?_ ?_ ?_ ?_)
  · exact (Window.rect_emb_val (cfg0.win 7) t (ix4 0 h d e) 0).trans (by rw [show (cfg0.win 7).index t 0 = t.val from (place_start t).1]; exact Nat.mul_one _)
  · exact (Window.rect_emb_val (cfg0.win 7) t (ix4 0 h d e) 1).trans (by rw [show (cfg0.win 7).index t 1 = 0 from (place_start t).2.1]; exact at_origin _ _)
  · exact (Window.rect_emb_val (cfg0.win 7) t (ix4 0 h d e) 2).trans (by rw [show (cfg0.win 7).index t 2 = 0 from (place_start t).2.2.1]; exact at_origin _ _)
  · exact (Window.rect_emb_val (cfg0.win 7) t (ix4 0 h d e) 3).trans (by rw [show (cfg0.win 7).index t 3 = 0 from (place_start t).2.2.2]; exact at_origin _ _)

theorem found_at (t : Fin cfg0.N) (h : Fin 8) (d e : Fin 64) :
    k0_pay2 (F := Ideal) (iblk m c 7 t) (ix3 h d e) = statesOf m c (ix4 (seqAt t) h d e) := by
  unfold k0_pay2
  rw [shapeCast_self]
  exact (shapeCast_1abc_abc_apply _ _ h d e).trans (block_start m c t h d e)

/-! ## The result -/

theorem place9 (t : Fin cfg0.N) (h : Fin 8) (d e : Fin 64) : ((cfg0.win 9).blk t).view.emb (ix4 0 h d e) = ix4 (seqAt t) h d e := by
  refine ext_ix4 _ (seqAt t) h d e ?_ ?_ ?_ ?_
  · exact (Window.rect_emb_val (cfg0.win 9) t (ix4 0 h d e) 0).trans (by rw [show (cfg0.win 9).index t 0 = t.val from (place_final t).1]; exact Nat.mul_one _)
  · exact (Window.rect_emb_val (cfg0.win 9) t (ix4 0 h d e) 1).trans (by rw [show (cfg0.win 9).index t 1 = 0 from (place_final t).2.1]; exact at_origin _ _)
  · exact (Window.rect_emb_val (cfg0.win 9) t (ix4 0 h d e) 2).trans (by rw [show (cfg0.win 9).index t 2 = 0 from (place_final t).2.2.1]; exact at_origin _ _)
  · exact (Window.rect_emb_val (cfg0.win 9) t (ix4 0 h d e) 3).trans (by rw [show (cfg0.win 9).index t 3 = 0 from (place_final t).2.2.2]; exact at_origin _ _)

/-- The block a grid point writes back. -/
theorem written_eq (t : Fin cfg0.N) : (dats m 0 c).flushed 9 t
    = k0_pay1 (F := Ideal) (stacked (nextOf (iblk m c 1 t) (iblk m c 2 t) (iblk m c 6 t) (k0_pay2 (F := Ideal) (iblk m c 7 t)))) :=
  (flushed9_A m c t).trans (congrArg (fun y => (cfg0.win 9).cut (grid0.coords t) y)
    (final_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
      scM0_0 (Memref.isWhole_whole _) (hcond0_0 t) (hcond0_1 t) (iblk m c 0 t) (iblk m c 1 t) (iblk m c 2 t) (iblk m c 3 t) (iblk m c 4 t) (iblk m c 5 t) (iblk m c 6 t) (iblk m c 7 t)))

/-- The state written back, at an element. -/
theorem written_apply (f : Fin 8 → FVec Ideal S1x64x64 .f32) (h : Fin 8) (d e : Fin 64) :
    k0_pay1 (F := Ideal) (stacked f) (ix4 0 h d e) = f h (ix3 0 d e) :=
  (shapeCast_abc_1abc_apply (stacked f) shapeCasts_S8x64x64_S1x8x64x64 0 h d e).trans rfl

/-- The state after each sequence. -/
theorem final_result (b : Fin 16) (h : Fin 8) (d e : Fin 64) :
    (dats m 0 c).arrAt 9 cfg0.N (ix4 b h d e) = stateAfter (inputOf m c) (statesOf m c) b h d e := by
  let t : Fin cfg0.N := ⟨b.val, lt_of_lt_of_eq b.isLt N_0.symm⟩
  have hf := (dats m 0 c).arrAt_emb_eq_flushed 9 disjoint9 t (flush0_9 t) (ix4 0 h d e)
  rw [place9, written_eq] at hf
  refine hf.trans ((cast_eq _ _).trans ((written_apply _ h d e).trans
    (nextOf_apply (iblk m c 1 t) (iblk m c 2 t) (iblk m c 6 t) (k0_pay2 (F := Ideal) (iblk m c 7 t)) h d e)) |>.trans ?_)
  rw [found_at]
  refine congrArg (fun y : EReal => ((rate h.val ^ 16 : ℝ) : EReal) * statesOf m c (ix4 b h d e) + y) (Finset.sum_congr rfl fun j _ => ?_)
  rw [block_k, block_v, block_before]

end Cert.Layer.RetSampleArray

end
-- ==== Proof.RetSample.Ref.lean ====
/- The reference's states of the second batch, read at an element. -/
module

public import proofs.«01_k».proof.Proof.Ret.RefParts
public import proofs.«01_k».proof.Proof.RetSample.Spec
public import proofs.«01_k».proof.Proof.Gen.RetSampleReferenceIdeal.Read

@[expose] public section

noncomputable section

namespace Cert.Layer.RetSampleRef

open Cert.RetSampleReferenceIdeal Cert.RetSampleReferenceIdeal.Gen Cert.RetSampleReferenceIdeal.Read Idealize.ShloMosaic Idealize.ShloMosaic.ValueIdx
open Cert.Layer Cert.Layer.RetSample
open scoped BigOperators

theorem frames_bits : Ideal.ofBits .f32 0x41800000#32 = ((16 : ℝ) : EReal) := by
  simp [Ideal.ofBits, Ideal.ieee, -EReal.coe_mul]; norm_num

theorem places_toInt : ∀ i : Fin 16, (iotaInDim S16 32 0 (ix1 i)).toInt = (i.val : ℤ) := by
  decide +kernel

/-- What is left of the sequence after a frame. -/
theorem left_apply (i : Fin 16) : val_main_v11 (F := Ideal) (ix1 i) = (((16 - 1 - i.val : ℕ) : ℝ) : EReal) := by
  show Ideal.ofBits .f32 0x41700000#32 - (((iotaInDim S16 32 0 (ix1 i)).toInt : ℝ) : EReal) = _
  rw [places_toInt, last_bits, ← EReal.coe_sub, Nat.cast_sub (by omega : i.val ≤ 16 - 1)]
  norm_num

/-- The decay of a key until the last frame. -/
theorem key_decay (b j : Fin 16) (h : Fin 8) (d : Fin 64) :
    val_main_v21 (F := Ideal) (ix5 b 0 j h d) = ((rate h.val ^ (16 - 1 - j.val) : ℝ) : EReal) := by
  rw [val_main_v21_apply, val_main_v20_apply, val_main_v19_apply, val_main_v16_apply, val_main_v15_apply, val_main_v13_apply, val_main_v9_apply,
    val_main_v14_apply, val_main_v12_apply]
  refine Eq.trans ?_ (RetRef.power h (val_main_v11 (F := Ideal) (ix1 j)) _ (left_apply j))
  exact congrArg Ideal.exp (congrArg₂ (fun a b : EReal => a * b) (congrArg (val_main_v8 (F := Ideal)) (ext_ix1 _ h rfl))
    (congrArg (val_main_v11 (F := Ideal)) (ext_ix1 _ j rfl)))

/-- The decay of a state over the sequence. -/
theorem state_decay (b : Fin 16) (h : Fin 8) (d e : Fin 64) : val_main_v38 (F := Ideal) (ix4 b h d e) = ((rate h.val ^ 16 : ℝ) : EReal) := by
  rw [val_main_v38_apply, val_main_v37_apply, val_main_v36_apply, val_main_v35_apply]
  refine Eq.trans ?_ (RetRef.power h (Ideal.ofBits .f32 0x41800000#32) 16 (by rw [frames_bits]; norm_num))
  exact congrArg Ideal.exp (congrArg₂ (fun a b : EReal => a * b) (congrArg (val_main_v33 (F := Ideal)) (ext_ix1 _ h rfl)) rfl)

theorem keys_at (x : Input) (b j : Fin 16) (h : Fin 8) (d : Fin 64) :
    val_main_v18 (F := Ideal) x (ix5 b 0 j h d) = x (ix2 (rowAt b j) (colAt 1 h d)) := by
  rw [val_main_v18_apply, val_main_v17_apply]
  refine congrArg x (ext_ix2 _ _ _ ?_ ?_)
  · show ((((b.val * 1 + 0) * 16 + j.val) * 8 + h.val) * 64 + d.val) / 512 = b.val * 16 + j.val
    omega
  · show 512 + ((((b.val * 1 + 0) * 16 + j.val) * 8 + h.val) * 64 + d.val) % 512 = 1 * 512 + (64 * h.val + d.val)
    omega

theorem values_at (x : Input) (b j : Fin 16) (h : Fin 8) (e : Fin 64) :
    val_main_v24 (F := Ideal) x (ix5 b 0 j h e) = x (ix2 (rowAt b j) (colAt 2 h e)) := by
  rw [val_main_v24_apply, val_main_v23_apply]
  refine congrArg x (ext_ix2 _ _ _ ?_ ?_)
  · show ((((b.val * 1 + 0) * 16 + j.val) * 8 + h.val) * 64 + e.val) / 512 = b.val * 16 + j.val
    omega
  · show 1024 + ((((b.val * 1 + 0) * 16 + j.val) * 8 + h.val) * 64 + e.val) % 512 = 2 * 512 + (64 * h.val + e.val)
    omega

theorem update_at (x : Input) (b : Fin 16) (h : Fin 8) (d e : Fin 64) :
    val_main_v40 (F := Ideal) x (ix4 b h d e) = val_main_v25 (F := Ideal) x (ix5 0 b h d e) := by
  unfold val_main_v40
  refine shapeCast_apply _ _ (ix4 b h d e) (ix5 0 b h d e) ?_
  rw [Shape.rowMajor_val_five, Shape.rowMajor_val_four]
  show (((0 * 16 + b.val) * 8 + h.val) * 64 + d.val) * 64 + e.val = ((b.val * 8 + h.val) * 64 + d.val) * 64 + e.val
  omega

/-- The reference's result. -/
theorem state_at (x : Input) (s : States) (b : Fin 16) (h : Fin 8) (d e : Fin 64) :
    val_main_v41 (F := Ideal) x s (ix4 b h d e) = stateAfter x s b h d e := by
  rw [val_main_v41_apply, update_at, val_main_v25_apply, val_main_v39_apply, state_decay]
  refine congrArg (fun y : EReal => ((rate h.val ^ 16 : ℝ) : EReal) * s (ix4 b h d e) + y) (Finset.sum_congr rfl fun j _ => ?_)
  rw [show lidx_main_v25 (ix5 0 b h d e) j = ix5 b 0 j h d from RetRef.ext_ix5 _ _ _ _ _ _ rfl rfl rfl rfl rfl,
    show ridx_main_v25 (ix5 0 b h d e) j = ix5 b 0 j h e from RetRef.ext_ix5 _ _ _ _ _ _ rfl rfl rfl rfl rfl,
    val_main_v22_apply, keys_at, key_decay, values_at]
  rfl

end Cert.Layer.RetSampleRef

end
-- ==== Proof.RetSample.Claim.lean ====
/- The value claim of the retention call for the second batch: the states of the kernel are the reference's. -/
module

public import proofs.«01_k».proof.Defs
public import proofs.«01_k».proof.Proof.RetSample.Array
public import proofs.«01_k».proof.Proof.RetSample.Ref
public import proofs.«01_k».proof.Proof.Gen.RetSampleReferenceIdeal.Run

@[expose] public section

noncomputable section

namespace Cert.Layer

open Idealize.ShloMosaic Idealize.ShloMosaic.ValueIdx Idealize.ShloMosaic.TcCoe Idealize.SL.Sem

theorem ret_sample_same (m : (ℓ : Loc Cert.RetSampleIdeal.nD Cert.RetSampleIdeal.τ Cert.RetSampleIdeal.sig) → Buf (Elt Ideal) ℓ) (c : Dev Cert.RetSampleIdeal.nD) :
    Cert.RetSampleReferenceIdeal.Read.val_main_v41 (F := Ideal) (m ((c.tc : Thread Cert.RetSampleIdeal.nD Cert.RetSampleIdeal.τ).loc Cert.RetSampleIdeal.main_arg0)) (m ((c.tc : Thread Cert.RetSampleIdeal.nD Cert.RetSampleIdeal.τ).loc Cert.RetSampleIdeal.main_arg1))
      = (Cert.RetSampleIdeal.Gen.dats m 0 c).arrAt 9 Cert.RetSampleIdeal.cfg0.N := by
  funext i
  rw [eq_ix4 i]
  exact (RetSampleRef.state_at _ _ _ _ _ _).trans (RetSampleArray.final_result m c _ _ _ _).symm

section

open Cert.RetSampleReferenceIdeal Cert.RetSampleReferenceIdeal.Read

/-- The reference's run, its result as the last stage of the computation. -/
theorem ret_sample_reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v41) = val_main_v41 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run _ _ _).mono (fun _ h c => ⟨(h c).1.trans (val_main_v41_eq _ _), (h c).2⟩) (Cert.RetSampleReferenceIdeal.Value.run (F := Ideal) m g)

end

theorem ret_sample_algebraic : Cert.algebraic_RetSampleIdeal_RetSampleReferenceIdeal (hRetSampleIdeal := Cert.RetSampleIdeal.Gen.facts)
    (hRetSampleReferenceIdeal := Cert.RetSampleReferenceIdeal.Gen.facts) := by
  intro m g m' g' _ hm
  refine ⟨fun c => (Cert.RetSampleIdeal.Gen.dats m 0 c).arrAt 9 Cert.RetSampleIdeal.cfg0.N, ?_, ?_⟩
  · exact (θ_run _ _ _).mono (fun r h c => (h c).2) (Cert.RetSampleIdeal.Value.run_blocks m g)
  · refine (θ_run _ _ _).mono (fun r h c => ?_) (ret_sample_reference_run m' g')
    obtain ⟨h0, kept⟩ := h c
    obtain ⟨e0, e1⟩ := hm c
    rw [e0, e1] at h0
    exact ⟨h0.trans (ret_sample_same m c), kept⟩

/-- The reference runs, leaves its arguments, and declares no semaphore. -/
theorem ret_sample_reference_frame : Cert.quiescent_RetSampleReferenceIdeal (hRetSampleReferenceIdeal := Cert.RetSampleReferenceIdeal.Gen.facts) := fun m g _ =>
  (θ_run _ _ _).mono (fun r h => ⟨fun c => (h c).2, sem_eq_zero_of_no_sems (by decide) r.2⟩)
    (Cert.RetSampleReferenceIdeal.Value.run (F := Ideal) m g)

/-- Each named constant of the idealized kernel is near the printed one: the decays over 16 frames. -/
theorem ret_sample_preserves : Cert.preserves_RetSample_RetSampleIdeal :=
  ⟨IdealRules.named_const.statement Cert.RetSampleIdeal.κ "g0" .f32 0x3F1A09B0#32 _ rfl,
    IdealRules.named_const.statement Cert.RetSampleIdeal.κ "g1" .f32 0x3F46FADA#32 _ rfl,
    IdealRules.named_const.statement Cert.RetSampleIdeal.κ "g2" .f32 0x3F61CEF0#32 _ rfl,
    IdealRules.named_const.statement Cert.RetSampleIdeal.κ "g3" .f32 0x3F7075D7#32 _ rfl,
    IdealRules.named_const.statement Cert.RetSampleIdeal.κ "g4" .f32 0x3F781DBA#32 _ rfl,
    IdealRules.named_const.statement Cert.RetSampleIdeal.κ "g5" .f32 0x3F7C0777#32 _ rfl,
    IdealRules.named_const.statement Cert.RetSampleIdeal.κ "g6" .f32 0x3F7E01DF#32 _ rfl,
    IdealRules.named_const.statement Cert.RetSampleIdeal.κ "g7" .f32 0x3F7F0078#32 _ rfl⟩

end Cert.Layer

end
-- ==== Proof.Sample.Array.lean ====
/- The keys, values and index keys that the idealized first call leaves for the second batch: 256 rows, which its one grid
   point works on whole, so that every window's block is its whole array. -/
module

public import proofs.«01_k».proof.Proof.InProj.Host
public import proofs.«01_k».proof.Proof.InProj.Block
public import proofs.«01_k».proof.Proof.Gen.InProjSampleIdeal.Value

@[expose] public section

noncomputable section

namespace Cert.Layer.SampleArray

open Cert.InProjSampleIdeal Cert.InProjSampleIdeal.Gen Cert.InProjSampleIdeal.Value Idealize.ShloMosaic Idealize.ShloMosaic.ValueIdx Idealize.ShloMosaic.TcCoe
open Idealize.ShloMosaic.Pipeline (Dat Window)
open Cert.Layer.InProjBlock (row)
open Cert.Layer.InProjHost (laidArr laidArr_apply)
open scoped BigOperators

/-! ## The last 384 columns of the product -/

section
variable (x0 : FVec Ideal S256x1024 .f32) (x1 : FVec Ideal S1x1024 .f32) (x2 : FVec Ideal S1024x3456 .bf16)

theorem normed_row (p : Fin 256) : row (k0_pay6 (F := Ideal) x0 x1) p = normRow (row x0 p) (row x1 0) := by
  funext q
  show k0_pay6 (F := Ideal) x0 x1 (ix2 p q) = _
  unfold k0_pay6
  dsimp only
  simp only [shapeCast_self]
  exact norm_block_apply _ _ _ _ _ _ _ _ _ p q

theorem product384 {φ₁ φ₂ : FTy} (A : FVec Ideal S256x1024 φ₁) (B : FVec Ideal S1024x384 φ₂) (p : Fin 256) (q : Fin 384) :
    matmul dot_S256x1024_S1024x384_S256x384_1_0_0_1_n_n none A B (constant S256x384 .f32 0x00000000#32) (ix2 p q)
      = dot (row A p) fun k => B (ix2 k q) := product_apply _ rfl A B p q

theorem tail_apply (p : Fin 256) (q : Fin 384) :
    k0_pay10 (F := Ideal) (View.ld x0 r0_0) (View.ld x1 r0_1) (View.ld x2 r0_3) (ix2 p q)
      = dot (normRow (row x0 p) (row x1 0)) fun k => x2 (ix2 k ⟨3072 + q.val, by omega⟩) := by
  unfold k0_pay10
  simp only [shapeCast_self]
  rw [product384, normed_row, load_whole (Val := Elt Ideal) (e := .f32) x0, load_whole (Val := Elt Ideal) (e := .f32) x1]
  exact congrArg (dot _) (funext fun k => load_cols (Val := Elt Ideal) (e := .bf16) x2 3072 _ k q (by omega))

variable (x3 x4 : FVec Ideal S256x128 .f32)

/-- Key head `h`, place `i`. -/
theorem keys_apply (p : Fin 256) (h : Fin 2) (i : Fin 64) : out0_6 (F := Ideal) x0 x1 x2 x3 x4 (ix3 p h i)
    = dot (normRow (row x0 p) (row x1 0)) fun k => x2 (ix2 k ⟨3072 + (h.val * 64 + i.val), by omega⟩) := by
  unfold out0_6
  refine (canon6_eq (F := Ideal) _ _ _ (ix3 p h i)).trans ?_
  show k0_pay10 (F := Ideal) (View.ld x0 r0_0) (View.ld x1 r0_1) (View.ld x2 r0_3) (ix6_0 (ix3 p h i)) = _
  rw [show ix6_0 (ix3 p h i) = ix2 p ⟨h.val * 64 + i.val, by omega⟩ from ext_ix2 _ _ _ rfl rfl]
  exact tail_apply x0 x1 x2 p ⟨h.val * 64 + i.val, by omega⟩

/-- Value head `h`, place `i`. -/
theorem values_apply (p : Fin 256) (h : Fin 2) (i : Fin 64) : out0_7 (F := Ideal) x0 x1 x2 x3 x4 (ix3 p h i)
    = dot (normRow (row x0 p) (row x1 0)) fun k => x2 (ix2 k ⟨3072 + (h.val * 64 + i.val + 128), by omega⟩) := by
  unfold out0_7
  refine (canon7_eq (F := Ideal) _ _ _ (ix3 p h i)).trans ?_
  show k0_pay10 (F := Ideal) (View.ld x0 r0_0) (View.ld x1 r0_1) (View.ld x2 r0_3) (ix7_0 (ix3 p h i)) = _
  rw [show ix7_0 (ix3 p h i) = ix2 p ⟨h.val * 64 + i.val + 128, by omega⟩ from ext_ix2 _ _ _ rfl rfl]
  exact tail_apply x0 x1 x2 p ⟨h.val * 64 + i.val + 128, by omega⟩

/-- The index keys. -/
theorem index_keys_apply (p : Fin 256) (i : Fin 64) : out0_8 (F := Ideal) x0 x1 x2 x3 x4 (ix2 p i)
    = dot (normRow (row x0 p) (row x1 0)) fun k => x2 (ix2 k ⟨3072 + (i.val + 256), by omega⟩) := by
  unfold out0_8
  refine (canon8_eq (F := Ideal) _ _ _ (ix2 p i)).trans ?_
  show k0_pay10 (F := Ideal) (View.ld x0 r0_0) (View.ld x1 r0_1) (View.ld x2 r0_3) (ix8_0 (ix2 p i)) = _
  rw [show ix8_0 (ix2 p i) = ix2 p ⟨i.val + 256, by omega⟩ from ext_ix2 _ _ _ rfl rfl]
  exact tail_apply x0 x1 x2 p ⟨i.val + 256, by omega⟩

end

/-! ## What the grid point finds -/

variable (m : (ℓ : Loc nD τ sig) → Buf (Elt Ideal) ℓ) (c : Dev nD) (t : Fin cfg0.N)

theorem entry_g : (V m c main_v26 : S1x1024.Idx → EReal) = shapeCast S1x1024 (m ((c : Thread nD τ).loc main_arg2)) shapeCasts_S1024_S1x1024 := by
  unfold V; after_results_simp <;> rfl

theorem entry_w : (V m c main_v39 : S1024x3456.Idx → EReal) = laidArr (m ((c : Thread nD τ).loc main_arg1)) := by
  unfold V; after_results_simp <;> (try dsimp only [Matrix.cons_val]) <;> (try after_results_simp) <;> rfl

/-- Every window stands at the start of its array. -/
theorem place : ∀ t : Fin cfg0.N, (∀ a, win0_0.index t a = 0) ∧ (∀ a, win0_1.index t a = 0) ∧ (∀ a, win0_2.index t a = 0)
    ∧ (∀ a, win0_6.index t a = 0) ∧ (∀ a, win0_7.index t a = 0) ∧ (∀ a, win0_8.index t a = 0) := by
  decide +kernel

theorem block_x (p : Fin 256) (k : Fin 1024) : iblk m c 0 t (ix2 p k) = m ((c : Thread nD τ).loc main_arg0) (ix2 p k) := by
  unfold iblk
  rw [View.read_apply]
  show V m c main_arg0 _ = _
  rw [V_main_arg0]
  exact congrArg _ (ext_ix2 _ p k ((cfg0.win 0).rect_emb_val_of_index_zero t 0 ((place t).1 0) (ix2 p k))
    ((cfg0.win 0).rect_emb_val_of_index_zero t 1 ((place t).1 1) (ix2 p k)))

theorem block_g (k : Fin 1024) : iblk m c 1 t (ix2 (0 : Fin 1) k) = m ((c : Thread nD τ).loc main_arg2) (ix1 k) := by
  unfold iblk
  rw [View.read_apply]
  show V m c main_v26 _ = _
  refine (congrArg (V m c main_v26) (ext_ix2 _ (0 : Fin 1) k ((cfg0.win 1).rect_emb_val_of_index_zero t 0 ((place t).2.1 0) (ix2 0 k))
    ((cfg0.win 1).rect_emb_val_of_index_zero t 1 ((place t).2.1 1) (ix2 0 k)))).trans ?_
  exact (congrFun (entry_g m c) (ix2 0 k)).trans (shapeCast_a_1a_apply _ _ 0 k)

theorem block_w (k : Fin 1024) (n : Fin 3456) : iblk m c 2 t (ix2 k n) = laid (row (m ((c : Thread nD τ).loc main_arg1)) k) n := by
  unfold iblk
  rw [View.read_apply]
  show V m c main_v39 _ = _
  refine (congrArg (V m c main_v39) (ext_ix2 _ k n ((cfg0.win 2).rect_emb_val_of_index_zero t 0 ((place t).2.2.1 0) (ix2 k n))
    ((cfg0.win 2).rect_emb_val_of_index_zero t 1 ((place t).2.2.1 1) (ix2 k n)))).trans ?_
  exact (congrFun (entry_w m c) (ix2 k n)).trans (laidArr_apply _ k n)

/-! ## The results -/

/-- Row `r` of the residual, normalised. -/
def normedRow (r : Fin 256) : Row 1024 :=
  normRow (row (m ((c : Thread nD τ).loc main_arg0)) r) fun k => m ((c : Thread nD τ).loc main_arg2) (ix1 k)

/-- The weight, row by row. -/
def weight : Fin 1024 → Row 3400 := fun k => row (m ((c : Thread nD τ).loc main_arg1)) k

/-- Row `r` against column `n` of the weight as given. -/
def column (r : Fin 256) (n : Fin 3400) : EReal := dot (normedRow m c r) fun k => weight m c k n

theorem normed_at (r : Fin 256) : normRow (row (iblk m c 0 t) r) (row (iblk m c 1 t) 0) = normedRow m c r :=
  congrArg₂ normRow (funext fun k => block_x m c t r k) (funext fun k => block_g m c t k)

theorem weight_col_at (n : Fin 3456) : (fun k => iblk m c 2 t (ix2 k n)) = fun k => laid (weight m c k) n :=
  funext fun k => block_w m c t k n

theorem written6 (r : Fin 256) (h : Fin 2) (i : Fin 64) : (dats m 0 c).flushed 6 t (ix3 r h i)
    = dot (normRow (row (iblk m c 0 t) r) (row (iblk m c 1 t) 0)) fun k => iblk m c 2 t (ix2 k ⟨3072 + (h.val * 64 + i.val), by omega⟩) := by
  rw [flushed6]
  exact keys_apply _ _ _ _ _ r h i

theorem keys_result (r : Fin 256) (h : Fin 2) (i : Fin 64) : (dats m 0 c).arrAt 6 cfg0.N (ix3 r h i) = column m c r ⟨2560 + (h.val * 64 + i.val), by omega⟩ := by
  have hf := (dats m 0 c).arrAt_emb_eq_flushed 6 disjoint6 t0_0 (flush0_6 t0_0) (ix3 r h i)
  rw [show ((cfg0.win 6).blk t0_0).view.emb (ix3 r h i) = ix3 r h i from
    ext_ix3 _ r h i ((cfg0.win 6).rect_emb_val_of_index_zero t0_0 0 ((place t0_0).2.2.2.1 0) (ix3 r h i))
      ((cfg0.win 6).rect_emb_val_of_index_zero t0_0 1 ((place t0_0).2.2.2.1 1) (ix3 r h i))
      ((cfg0.win 6).rect_emb_val_of_index_zero t0_0 2 ((place t0_0).2.2.2.1 2) (ix3 r h i)), written6, normed_at, weight_col_at] at hf
  exact hf.trans (dot_laid_keys _ _ (h.val * 64 + i.val) (by omega))

theorem written7 (r : Fin 256) (h : Fin 2) (i : Fin 64) : (dats m 0 c).flushed 7 t (ix3 r h i)
    = dot (normRow (row (iblk m c 0 t) r) (row (iblk m c 1 t) 0)) fun k => iblk m c 2 t (ix2 k ⟨3072 + (h.val * 64 + i.val + 128), by omega⟩) := by
  rw [flushed7]
  exact values_apply _ _ _ _ _ r h i

theorem values_result (r : Fin 256) (h : Fin 2) (i : Fin 64) : (dats m 0 c).arrAt 7 cfg0.N (ix3 r h i) = column m c r ⟨2560 + (h.val * 64 + i.val + 128), by omega⟩ := by
  have hf := (dats m 0 c).arrAt_emb_eq_flushed 7 disjoint7 t0_0 (flush0_7 t0_0) (ix3 r h i)
  rw [show ((cfg0.win 7).blk t0_0).view.emb (ix3 r h i) = ix3 r h i from
    ext_ix3 _ r h i ((cfg0.win 7).rect_emb_val_of_index_zero t0_0 0 ((place t0_0).2.2.2.2.1 0) (ix3 r h i))
      ((cfg0.win 7).rect_emb_val_of_index_zero t0_0 1 ((place t0_0).2.2.2.2.1 1) (ix3 r h i))
      ((cfg0.win 7).rect_emb_val_of_index_zero t0_0 2 ((place t0_0).2.2.2.2.1 2) (ix3 r h i)), written7, normed_at, weight_col_at] at hf
  exact hf.trans (dot_laid_keys _ _ (h.val * 64 + i.val + 128) (by omega))

theorem written8 (r : Fin 256) (i : Fin 64) : (dats m 0 c).flushed 8 t (ix2 r i)
    = dot (normRow (row (iblk m c 0 t) r) (row (iblk m c 1 t) 0)) fun k => iblk m c 2 t (ix2 k ⟨3072 + (i.val + 256), by omega⟩) := by
  rw [flushed8]
  exact index_keys_apply _ _ _ _ _ r i

theorem index_keys_result (r : Fin 256) (i : Fin 64) : (dats m 0 c).arrAt 8 cfg0.N (ix2 r i) = column m c r ⟨3328 + i.val, by omega⟩ := by
  have hf := (dats m 0 c).arrAt_emb_eq_flushed 8 disjoint8 t0_0 (flush0_8 t0_0) (ix2 r i)
  rw [show ((cfg0.win 8).blk t0_0).view.emb (ix2 r i) = ix2 r i from
    ext_ix2 _ r i ((cfg0.win 8).rect_emb_val_of_index_zero t0_0 0 ((place t0_0).2.2.2.2.2 0) (ix2 r i))
      ((cfg0.win 8).rect_emb_val_of_index_zero t0_0 1 ((place t0_0).2.2.2.2.2 1) (ix2 r i)), written8, normed_at, weight_col_at] at hf
  refine (hf.trans ?_).trans (dot_laid_index (normedRow m c r) (weight m c) i.val (by omega))
  exact congrArg (fun n => dot (normedRow m c r) fun k => laid (weight m c k) n) (Fin.ext (by show 3072 + (i.val + 256) = 3328 + i.val; omega))

end Cert.Layer.SampleArray

end
-- ==== Proof.Sample.Ref.lean ====
/- The reference of the first call for the second batch, read at an element of its results: the normalised row against a
   column of the weight. -/
module

public import proofs.«01_k».proof.Proof.Common.Index
public import proofs.«01_k».proof.Proof.InProj.Spec
public import proofs.«01_k».proof.Proof.InProj.Ref
public import proofs.«01_k».proof.Proof.Gen.InProjSampleReferenceIdeal.Read

@[expose] public section

noncomputable section

namespace Cert.Layer.SampleRef

open Cert.InProjSampleReferenceIdeal Cert.InProjSampleReferenceIdeal.Gen Cert.InProjSampleReferenceIdeal.Read Idealize.ShloMosaic Idealize.ShloMosaic.ValueIdx Idealize.ShloMosaic.TcCoe
open scoped BigOperators

/-- The contents of an array the reference is given. -/
abbrev Arr (S : Shape) : Type := (⟨S, .f32⟩ : BufTy).Contents (Elt Ideal)

variable (x0 : Arr S256x1024) (x1 : Arr S1024x3400) (x2 : Arr S1024) (r : Fin 256)

/-- The normalised row of the residual. -/
abbrev normed : Row 1024 := normRow (fun k => x0 (ix2 r k)) (fun k => x2 (ix1 k))

theorem normed_at (q : Fin 1024) : val_main_v12 (F := Ideal) x0 x2 (ix2 r q) = normed x0 x2 r q := by
  rw [val_main_v12_apply, val_main_v9_apply, val_main_v8_apply, val_main_v7_apply, val_main_v6_apply, val_main_v4_apply,
    val_main_v2_apply, val_main_v1_apply, val_main_cst_apply, val_main_v11_apply, val_main_v10_apply, val_main_v5_apply,
    val_main_cst_1_apply, val_main_v3_apply, val_main_cst_0_apply]
  have hs : (∑ k : Fin 1024, val_main_v0 (F := Ideal) x0 (idx_main_v1 (idx_main_v2 (idx_main_v8 (ix2 r q))) k) : EReal)
      = ∑ k : Fin 1024, x0 (ix2 r k) * x0 (ix2 r k) :=
    Finset.sum_congr rfl fun k _ => (val_main_v0_apply (F := Ideal) x0 _).trans
      (congrArg (fun i => (x0 i : EReal) * x0 i) (ext_ix2 _ r k rfl rfl))
  have hg : idx_main_v10 (idx_main_v11 (ix2 r q)) = ix1 q := ext_ix1 _ _ rfl
  rw [hg]
  refine Eq.trans ?_ (InProjRef.norm_spelled (fun k => x0 (ix2 r k)) (fun k => x2 (ix1 k)) q)
  exact congrArg (fun z : EReal => x0 (ix2 r q) * Ideal.rsqrt (Ideal.div (Ideal.ofBits .f32 0x00000000#32 + z)
    (Ideal.ofBits .f32 0x44800000#32) + Ideal.ofBits .f32 0x358637BD#32) * x2 (ix1 q)) hs

/-- A column of the projection. -/
abbrev column (n : Fin 3400) : EReal := dot (normed x0 x2 r) fun k => x1 (ix2 k n)

theorem proj_at (i : S256x3400.Idx) (n : Fin 3400) (h0 : (i 0).val = r.val) (h1 : (i 1).val = n.val) :
    val_main_v13 (F := Ideal) x0 x1 x2 i = column x0 x1 x2 r n := by
  rw [ext_ix2 i r n h0 h1, val_main_v13_apply]
  refine Finset.sum_congr rfl fun k _ => congrArg₂ (· * ·) ?_ (congrArg x1 (ext_ix2 _ _ _ rfl rfl))
  exact (congrArg (val_main_v12 (F := Ideal) x0 x2) (ext_ix2 _ r k rfl rfl)).trans (normed_at x0 x2 r k)

/-- Where an element of two heads lies in its row. -/
theorem by_two_heads (h : Fin 2) (i : Fin 64) : idx_main_v24 (ix3 r h i) = ix2 r ⟨h.val * 64 + i.val, by omega⟩ := by
  refine ext_ix2 _ _ _ ?_ ?_
  · show ((r.val * 2 + h.val) * 64 + i.val) / 128 = r.val
    omega
  · show ((r.val * 2 + h.val) * 64 + i.val) % 128 = h.val * 64 + i.val
    omega

theorem cache_keys_at (h : Fin 2) (i : Fin 64) : val_main_v24 (F := Ideal) x0 x1 x2 (ix3 r h i) = column x0 x1 x2 r ⟨2560 + (h.val * 64 + i.val), by omega⟩ := by
  rw [val_main_v24_apply, by_two_heads, val_main_v19_apply]
  exact proj_at x0 x1 x2 r _ _ rfl rfl

theorem cache_values_at (h : Fin 2) (i : Fin 64) : val_main_v25 (F := Ideal) x0 x1 x2 (ix3 r h i) = column x0 x1 x2 r ⟨2560 + (h.val * 64 + i.val + 128), by omega⟩ := by
  rw [val_main_v25_apply, show idx_main_v25 (ix3 r h i) = _ from by_two_heads r h i, val_main_v20_apply]
  exact proj_at x0 x1 x2 r _ _ rfl (by show 2688 + (h.val * 64 + i.val) = 2560 + (h.val * 64 + i.val + 128); omega)

theorem index_keys_at (i : Fin 64) : val_main_v22 (F := Ideal) x0 x1 x2 (ix2 r i) = column x0 x1 x2 r ⟨3328 + i.val, by omega⟩ :=
  (val_main_v22_apply ..).trans (proj_at x0 x1 x2 r _ _ rfl rfl)

end Cert.Layer.SampleRef

end
-- ==== Proof.Sample.Claim.lean ====
/- The value claim of the first call for the second batch: the keys, values and index keys of the kernel are the
   reference's. -/
module

public import proofs.«01_k».proof.Defs
public import proofs.«01_k».proof.Proof.Sample.Array
public import proofs.«01_k».proof.Proof.Sample.Ref
public import proofs.«01_k».proof.Proof.Gen.InProjSampleReferenceIdeal.Run

@[expose] public section

noncomputable section

namespace Cert.Layer

open Idealize.ShloMosaic Idealize.ShloMosaic.ValueIdx Idealize.ShloMosaic.TcCoe Idealize.SL.Sem

section

open Cert.InProjSampleReferenceIdeal.Read

variable (m : (ℓ : Loc Cert.InProjSampleIdeal.nD Cert.InProjSampleIdeal.τ Cert.InProjSampleIdeal.sig) → Buf (Elt Ideal) ℓ) (c : Dev Cert.InProjSampleIdeal.nD)

theorem sample_same6 : val_main_v24 (F := Ideal) (m ((c.tc : Thread Cert.InProjSampleIdeal.nD Cert.InProjSampleIdeal.τ).loc Cert.InProjSampleIdeal.main_arg0)) (m ((c.tc : Thread Cert.InProjSampleIdeal.nD Cert.InProjSampleIdeal.τ).loc Cert.InProjSampleIdeal.main_arg1)) (m ((c.tc : Thread Cert.InProjSampleIdeal.nD Cert.InProjSampleIdeal.τ).loc Cert.InProjSampleIdeal.main_arg2))
    = (Cert.InProjSampleIdeal.Gen.dats m 0 c).arrAt 6 Cert.InProjSampleIdeal.cfg0.N := by
  funext i
  rw [eq_ix3 i]
  exact (SampleRef.cache_keys_at _ _ _ _ _ _).trans (SampleArray.keys_result m c _ _ _).symm

theorem sample_same7 : val_main_v25 (F := Ideal) (m ((c.tc : Thread Cert.InProjSampleIdeal.nD Cert.InProjSampleIdeal.τ).loc Cert.InProjSampleIdeal.main_arg0)) (m ((c.tc : Thread Cert.InProjSampleIdeal.nD Cert.InProjSampleIdeal.τ).loc Cert.InProjSampleIdeal.main_arg1)) (m ((c.tc : Thread Cert.InProjSampleIdeal.nD Cert.InProjSampleIdeal.τ).loc Cert.InProjSampleIdeal.main_arg2))
    = (Cert.InProjSampleIdeal.Gen.dats m 0 c).arrAt 7 Cert.InProjSampleIdeal.cfg0.N := by
  funext i
  rw [eq_ix3 i]
  exact (SampleRef.cache_values_at _ _ _ _ _ _).trans (SampleArray.values_result m c _ _ _).symm

theorem sample_same8 : val_main_v22 (F := Ideal) (m ((c.tc : Thread Cert.InProjSampleIdeal.nD Cert.InProjSampleIdeal.τ).loc Cert.InProjSampleIdeal.main_arg0)) (m ((c.tc : Thread Cert.InProjSampleIdeal.nD Cert.InProjSampleIdeal.τ).loc Cert.InProjSampleIdeal.main_arg1)) (m ((c.tc : Thread Cert.InProjSampleIdeal.nD Cert.InProjSampleIdeal.τ).loc Cert.InProjSampleIdeal.main_arg2))
    = (Cert.InProjSampleIdeal.Gen.dats m 0 c).arrAt 8 Cert.InProjSampleIdeal.cfg0.N := by
  funext i
  rw [eq_ix2 i]
  exact (SampleRef.index_keys_at _ _ _ _ _).trans (SampleArray.index_keys_result m c _ _).symm

end

section

open Cert.InProjSampleReferenceIdeal Cert.InProjSampleReferenceIdeal.Read

/-- The reference's run, its three results as the stages of the computation. -/
theorem sample_reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v24) = val_main_v24 (F := Ideal) (m ((c.tc : Thread nD τ).loc main_arg0)) (m ((c.tc : Thread nD τ).loc main_arg1)) (m ((c.tc : Thread nD τ).loc main_arg2))
      ∧ r.2.mem ((c.tc : Thread nD τ).loc main_v25) = val_main_v25 (F := Ideal) (m ((c.tc : Thread nD τ).loc main_arg0)) (m ((c.tc : Thread nD τ).loc main_arg1)) (m ((c.tc : Thread nD τ).loc main_arg2))
      ∧ r.2.mem ((c.tc : Thread nD τ).loc main_v22) = val_main_v22 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run _ _ _).mono (fun _ h c => ⟨(h c).1.trans (val_main_v24_eq _ _ _), (h c).2.1.trans (val_main_v25_eq _ _ _),
    (h c).2.2.1.trans (val_main_v22_eq _ _ _), (h c).2.2.2⟩) (Cert.InProjSampleReferenceIdeal.Value.run (F := Ideal) m g)

end

theorem sample_algebraic : Cert.algebraic_InProjSampleIdeal_InProjSampleReferenceIdeal (hInProjSampleIdeal := Cert.InProjSampleIdeal.Gen.facts)
    (hInProjSampleReferenceIdeal := Cert.InProjSampleReferenceIdeal.Gen.facts) := by
  intro m g m' g' _ hm
  refine ⟨fun c => (Cert.InProjSampleIdeal.Gen.dats m 0 c).arrAt 6 Cert.InProjSampleIdeal.cfg0.N,
    fun c => (Cert.InProjSampleIdeal.Gen.dats m 0 c).arrAt 7 Cert.InProjSampleIdeal.cfg0.N,
    fun c => (Cert.InProjSampleIdeal.Gen.dats m 0 c).arrAt 8 Cert.InProjSampleIdeal.cfg0.N, ?_, ?_⟩
  · refine (θ_run _ _ _).mono (fun r h c => ?_) (Cert.InProjSampleIdeal.Value.run_blocks m g)
    obtain ⟨_, h6, h7, h8, _, kept⟩ := h c
    exact ⟨h6, h7, h8, kept⟩
  · refine (θ_run _ _ _).mono (fun r h c => ?_) (sample_reference_run m' g')
    obtain ⟨h6, h7, h8, kept⟩ := h c
    obtain ⟨e0, e1, e2⟩ := hm c
    rw [e0, e1, e2] at h6 h7 h8
    exact ⟨h6.trans (sample_same6 m c), h7.trans (sample_same7 m c), h8.trans (sample_same8 m c), kept⟩

/-- The reference runs, leaves its arguments, and declares no semaphore. -/
theorem sample_reference_frame : Cert.quiescent_InProjSampleReferenceIdeal (hInProjSampleReferenceIdeal := Cert.InProjSampleReferenceIdeal.Gen.facts) := fun m g _ =>
  (θ_run _ _ _).mono (fun r h => ⟨fun c => (h c).2.2.2, sem_eq_zero_of_no_sems (by decide) r.2⟩)
    (Cert.InProjSampleReferenceIdeal.Value.run (F := Ideal) m g)

end Cert.Layer

end
-- ==== Proof.lean ====
/- The certificate of the layer's calls: each claim is proved in the modules imported here and only put together below. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Step
public import proofs.«01_k».proof.Proof.Gen.ReferenceIdeal.Run
public import proofs.«01_k».proof.Proof.Gen.Pre_finite
public import proofs.«01_k».proof.Proof.Gen.Ffn.Frame
public import proofs.«01_k».proof.Proof.Gen.FfnIdeal.Frame
public import proofs.«01_k».proof.Proof.Gen.InProj.Frame
public import proofs.«01_k».proof.Proof.Gen.InProjIdeal.Frame
public import proofs.«01_k».proof.Proof.Gen.FfnIdeal.Value
public import proofs.«01_k».proof.Proof.Gen.InProjIdeal.Value
public import proofs.«01_k».proof.Proof.Gen.FfnReferenceIdeal.Run
public import proofs.«01_k».proof.Proof.Gen.FfnReferenceIdeal.Read
public import proofs.«01_k».proof.Proof.Gen.InProjReferenceIdeal.Run
public import proofs.«01_k».proof.Proof.Gen.InProjReferenceIdeal.Read
public import proofs.«01_k».proof.Proof.Gen.InProjSample.Frame
public import proofs.«01_k».proof.Proof.Gen.InProjSampleIdeal.Frame
public import proofs.«01_k».proof.Proof.Gen.InProjSampleIdeal.Value
public import proofs.«01_k».proof.Proof.Gen.InProjSampleReferenceIdeal.Run
public import proofs.«01_k».proof.Proof.Gen.InProjSampleReferenceIdeal.Read
public import proofs.«01_k».proof.Proof.Gen.FfnSample.Frame
public import proofs.«01_k».proof.Proof.Gen.FfnSampleIdeal.Frame
public import proofs.«01_k».proof.Proof.Gen.FfnSampleIdeal.Value
public import proofs.«01_k».proof.Proof.Gen.FfnSampleReferenceIdeal.Run
public import proofs.«01_k».proof.Proof.Gen.FfnSampleReferenceIdeal.Read
public import proofs.«01_k».proof.Proof.Gen.RetSample.Frame
public import proofs.«01_k».proof.Proof.Gen.RetSampleIdeal.Frame
public import proofs.«01_k».proof.Proof.Gen.RetSampleIdeal.Value
public import proofs.«01_k».proof.Proof.Gen.RetSampleReferenceIdeal.Run
public import proofs.«01_k».proof.Proof.Gen.RetSampleReferenceIdeal.Read
public import proofs.«01_k».proof.Proof.Ffn.Claim
public import proofs.«01_k».proof.Proof.FfnSample.Claim
public import proofs.«01_k».proof.Proof.InProj.Claim
public import proofs.«01_k».proof.Proof.Ret.Claim
public import proofs.«01_k».proof.Proof.RetSample.Claim
public import proofs.«01_k».proof.Proof.Sample.Claim

@[expose] public section

noncomputable section

namespace Cert.Proof

open Idealize.ShloMosaic

/-- THE CLAIM: for the retention call, for the feed-forward call, for the input projection call, and for the second batch
    for the feed-forward call, for the keys, values and index keys of the input projection call and for the states of the
    retention call, the frames of the kernel, of its ideal program and of the reference, that the ideal kernel is the kernel
    with its named constants, and that it computes what the reference computes (the retention: where queries and values are finite). -/
theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.InProj.Gen.facts, Cert.InProjIdeal.Gen.facts, Cert.InProjReferenceIdeal.Gen.facts,
  Cert.InProjSample.Gen.facts, Cert.InProjSampleIdeal.Gen.facts, Cert.InProjSampleReferenceIdeal.Gen.facts,
  Cert.FfnSample.Gen.facts, Cert.FfnSampleIdeal.Gen.facts, Cert.FfnSampleReferenceIdeal.Gen.facts,
  Cert.RetSample.Gen.facts, Cert.RetSampleIdeal.Gen.facts, Cert.RetSampleReferenceIdeal.Gen.facts, Cert.Pre_finite.Gen.facts,
  fun m ρ _ => Cert.Kernel.Gen.frame m ρ, fun m ρ _ => Cert.KernelIdeal.Gen.frame m ρ,
  fun m ρ _ => Cert.KernelIdeal.Gen.frame m ρ, Cert.Layer.ret_reference_frame,
  fun m ρ _ => Cert.Layer.ret_reference_frame m ρ trivial,
  fun m ρ _ => Cert.Ffn.Gen.frame m ρ, fun m ρ _ => Cert.FfnIdeal.Gen.frame m ρ, Cert.Layer.ffn_reference_frame,
  fun m ρ _ => Cert.InProj.Gen.frame m ρ, fun m ρ _ => Cert.InProjIdeal.Gen.frame m ρ, Cert.Layer.inproj_reference_frame,
  fun m ρ _ => Cert.InProjSample.Gen.frame m ρ, fun m ρ _ => Cert.InProjSampleIdeal.Gen.frame m ρ, Cert.Layer.sample_reference_frame,
  fun m ρ _ => Cert.FfnSample.Gen.frame m ρ, fun m ρ _ => Cert.FfnSampleIdeal.Gen.frame m ρ, Cert.Layer.ffn_sample_reference_frame,
  fun m ρ _ => Cert.RetSample.Gen.frame m ρ, fun m ρ _ => Cert.RetSampleIdeal.Gen.frame m ρ, Cert.Layer.ret_sample_reference_frame,
  Cert.Layer.ret_preserves, Cert.Layer.ret_algebraic,
  trivial, Cert.Layer.ffn_algebraic, trivial, Cert.Layer.inproj_algebraic, trivial, Cert.Layer.sample_algebraic, trivial, Cert.Layer.ffn_sample_algebraic,
  Cert.Layer.ret_sample_preserves, Cert.Layer.ret_sample_algebraic⟩

end Cert.Proof

end
